-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_scaled [hPre_scaled : Cert.Pre_scaled.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scaled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scaled [hPre_scaled : Cert.Pre_scaled.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scaled.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_scaled [hKernel2Ideal : Cert.Kernel2Ideal.Facts] [hPre_scaled : Cert.Pre_scaled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_scaled m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_scaled [hReference2Ideal : Cert.Reference2Ideal.Facts] [hPre_scaled : Cert.Pre_scaled.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scaled m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "inv448" .f32 0x3B124925#32 ((448⁻¹ : ℝ) : EReal)

def algebraic_Kernel2Ideal_Reference2Ideal_pre_scaled [hKernel2Ideal : Cert.Kernel2Ideal.Facts] [hReference2Ideal : Cert.Reference2Ideal.Facts] [hPre_scaled : Cert.Pre_scaled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_scaled m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_scaled : Cert.Pre_scaled.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_scaled (hKernel2Ideal := hKernel2Ideal) (hPre_scaled := hPre_scaled)
    ∧ quiescent_Reference2Ideal (hReference2Ideal := hReference2Ideal)
    ∧ quiescent_Reference2Ideal_pre_scaled (hReference2Ideal := hReference2Ideal) (hPre_scaled := hPre_scaled)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_scaled (hKernel2Ideal := hKernel2Ideal) (hReference2Ideal := hReference2Ideal) (hPre_scaled := hPre_scaled)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2x8192x6144 : Shape := ⟨3, ![2, 8192, 6144]⟩
abbrev S2x8192x128 : Shape := ⟨3, ![2, 8192, 128]⟩
abbrev S2x8192x3072 : Shape := ⟨3, ![2, 8192, 3072]⟩
abbrev S2x8192x8 : Shape := ⟨3, ![2, 8192, 8]⟩
abbrev S_ : Shape := ⟨0, ![]⟩

class Facts : Prop where
  slices_S2x8192x6144_S2x8192x3072_0_0_2048 : S2x8192x6144.Slices ![0, 0, 2048] S2x8192x3072
  bitsLt_bf16_f32 : FTy.bits .bf16 < FTy.bits .f32
  slices_S2x8192x128_S2x8192x8_0_0_0 : S2x8192x128.Slices ![0, 0, 0] S2x8192x8
  bcast_S_S2x8192x3072 : S_.BroadcastsInDim S2x8192x3072 (![] : Fin 0 → Fin S2x8192x3072.rank)
  reducesTo_S2x8192x3072_S_d0_1_2 : S2x8192x3072.ReducesTo [0, 1, 2] S_
  h_S_ : 0 < S_.numel
  bcast_S_S2x8192x8 : S_.BroadcastsInDim S2x8192x8 (![] : Fin 0 → Fin S2x8192x8.rank)
  reducesTo_S2x8192x8_S_d0_1_2 : S2x8192x8.ReducesTo [0, 1, 2] S_

variable [Facts]

def fn {F : FTy → Type} [FloatOps F] (main_arg0 : FVec F S2x8192x6144 .bf16) (main_arg1 : FVec F S2x8192x128 .f32) : IVec S_ 1 :=
  let main_v0 : FVec F S2x8192x3072 .bf16 := (extractStridedSlice S2x8192x3072 ![0, 0, 2048] · slices_S2x8192x6144_S2x8192x3072_0_0_2048) main_arg0
  let main_v1 : FVec F S2x8192x3072 .f32 := (extf .f32 · bitsLt_bf16_f32) main_v0
  let main_v2 : FVec F S2x8192x8 .f32 := (extractStridedSlice S2x8192x8 ![0, 0, 0] · slices_S2x8192x128_S2x8192x8_0_0_0) main_arg1
  let main_v3 : FVec F S2x8192x3072 .f32 := Host.absf main_v1
  let main_cst : FVec F S_ .f32 := constant S_ .f32 0x7F800000#32
  let main_v4 : FVec F S2x8192x3072 .f32 := broadcastInDim S2x8192x3072 ![] bcast_S_S2x8192x3072 main_cst
  let main_v5 : IVec S2x8192x3072 1 := cmpf .olt main_v3 main_v4
  let main_c : IVec S_ 1 := constantI S_ 1 1#1
  let main_v6 : IVec S_ 1 := (fun x v => Host.reduce IntOp.andi x v reducesTo_S2x8192x3072_S_d0_1_2 h_S_) main_v5 main_c
  let main_v7 : FVec F S2x8192x8 .f32 := Host.absf main_v2
  let main_cst_0 : FVec F S_ .f32 := constant S_ .f32 0x7F800000#32
  let main_v8 : FVec F S2x8192x8 .f32 := broadcastInDim S2x8192x8 ![] bcast_S_S2x8192x8 main_cst_0
  let main_v9 : IVec S2x8192x8 1 := cmpf .olt main_v7 main_v8
  let main_c_1 : IVec S_ 1 := constantI S_ 1 1#1
  let main_v10 : IVec S_ 1 := (fun x v => Host.reduce IntOp.andi x v reducesTo_S2x8192x8_S_d0_1_2 h_S_) main_v9 main_c_1
  let main_v11 : IVec S_ 1 := andi main_v6 main_v10
  main_v11
-- ==== Pre_scaled.lean ====
abbrev S2x8192x2048 : Shape := ⟨3, ![2, 8192, 2048]⟩
abbrev S2x2048 : Shape := ⟨2, ![2, 2048]⟩
abbrev S2x6x2048 : Shape := ⟨3, ![2, 6, 2048]⟩
abbrev S2x2048x5632 : Shape := ⟨3, ![2, 2048, 5632]⟩
abbrev S2x1x5632 : Shape := ⟨3, ![2, 1, 5632]⟩
abbrev S_ : Shape := ⟨0, ![]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel
  bcast_S_S2x6x2048 : S_.BroadcastsInDim S2x6x2048 (![] : Fin 0 → Fin S2x6x2048.rank)
  reducesTo_S2x6x2048_S_d0_1_2 : S2x6x2048.ReducesTo [0, 1, 2] S_
  bcast_S_S2x1x5632 : S_.BroadcastsInDim S2x1x5632 (![] : Fin 0 → Fin S2x1x5632.rank)
  reducesTo_S2x1x5632_S_d0_1_2 : S2x1x5632.ReducesTo [0, 1, 2] S_

variable [Facts]

def fn_part1 {F : FTy → Type} [FloatOps F] (main_arg6 : FVec F S2x1x5632 .f32) (main_v15 : IVec S_ 1) (main_cst_5 : FVec F S_ .f32) : IVec S_ 1 :=
  let main_v16 : FVec F S2x1x5632 .f32 := broadcastInDim S2x1x5632 ![] bcast_S_S2x1x5632 main_cst_5
  let main_v17 : IVec S2x1x5632 1 := cmpf .oge main_arg6 main_v16
  let main_cst_6 : FVec F S_ .f32 := constant S_ .f32 0x7F800000#32
  let main_v18 : FVec F S2x1x5632 .f32 := broadcastInDim S2x1x5632 ![] bcast_S_S2x1x5632 main_cst_6
  let main_v19 : IVec S2x1x5632 1 := cmpf .olt main_arg6 main_v18
  let main_v20 : IVec S2x1x5632 1 := andi main_v17 main_v19
  let main_c_7 : IVec S_ 1 := constantI S_ 1 1#1
  let main_v21 : IVec S_ 1 := (fun x v => Host.reduce IntOp.andi x v reducesTo_S2x1x5632_S_d0_1_2 h_S_) main_v20 main_c_7
  let main_v22 : IVec S_ 1 := andi main_v15 main_v21
  main_v22

def fn {F : FTy → Type} [FloatOps F] (main_arg0 : FVec F S2x8192x2048 .f32) (main_arg1 : FVec F S2x2048 .f32) (main_arg2 : FVec F S2x6x2048 .f32) (main_arg3 : FVec F S2x2048x5632 .fp8e4m3) (main_arg4 : FVec F S2x2048x5632 .fp8e4m3) (main_arg5 : FVec F S2x1x5632 .f32) (main_arg6 : FVec F S2x1x5632 .f32) : IVec S_ 1 :=
  let main_v0 : FVec F S2x2048 .f32 := Host.absf main_arg1
  let main_cst : FVec F S_ .f32 := constant S_ .f32 0x7F800000#32
  let main_v1 : FVec F S2x2048 .f32 := broadcastInDim S2x2048 ![] bcast_S_S2x2048 main_cst
  let main_v2 : IVec S2x2048 1 := cmpf .olt main_v0 main_v1
  let main_c : IVec S_ 1 := constantI S_ 1 1#1
  let main_v3 : IVec S_ 1 := (fun x v => Host.reduce IntOp.andi x v reducesTo_S2x2048_S_d0_1 h_S_) main_v2 main_c
  let main_v4 : FVec F S2x6x2048 .f32 := Host.absf main_arg2
  let main_cst_0 : FVec F S_ .f32 := constant S_ .f32 0x7F800000#32
  let main_v5 : FVec F S2x6x2048 .f32 := broadcastInDim S2x6x2048 ![] bcast_S_S2x6x2048 main_cst_0
  let main_v6 : IVec S2x6x2048 1 := cmpf .olt main_v4 main_v5
  let main_c_1 : IVec S_ 1 := constantI S_ 1 1#1
  let main_v7 : IVec S_ 1 := (fun x v => Host.reduce IntOp.andi x v reducesTo_S2x6x2048_S_d0_1_2 h_S_) main_v6 main_c_1
  let main_v8 : IVec S_ 1 := andi main_v3 main_v7
  let main_cst_2 : FVec F S_ .f32 := constant S_ .f32 0x00000000#32
  let main_v9 : FVec F S2x1x5632 .f32 := broadcastInDim S2x1x5632 ![] bcast_S_S2x1x5632 main_cst_2
  let main_v10 : IVec S2x1x5632 1 := cmpf .oge main_arg5 main_v9
  let main_cst_3 : FVec F S_ .f32 := constant S_ .f32 0x7F800000#32
  let main_v11 : FVec F S2x1x5632 .f32 := broadcastInDim S2x1x5632 ![] bcast_S_S2x1x5632 main_cst_3
  let main_v12 : IVec S2x1x5632 1 := cmpf .olt main_arg5 main_v11
  let main_v13 : IVec S2x1x5632 1 := andi main_v10 main_v12
  let main_c_4 : IVec S_ 1 := constantI S_ 1 1#1
  let main_v14 : IVec S_ 1 := (fun x v => Host.reduce IntOp.andi x v reducesTo_S2x1x5632_S_d0_1_2 h_S_) main_v13 main_c_4
  let main_v15 : IVec S_ 1 := andi main_v8 main_v14
  let main_cst_5 : FVec F S_ .f32 := constant S_ .f32 0x00000000#32
  fn_part1 (F := F) main_arg6 main_v15 main_cst_5
-- ==== Kernel.lean ====
abbrev S2x8192x6144 : Shape := ⟨3, ![2, 8192, 6144]⟩
abbrev S2x8192x128 : Shape := ⟨3, ![2, 8192, 128]⟩
abbrev S2x8192x1024 : Shape := ⟨3, ![2, 8192, 1024]⟩
abbrev S1x256x1024 : Shape := ⟨3, ![1, 256, 1024]⟩
abbrev S1x256x128 : Shape := ⟨3, ![1, 256, 128]⟩
abbrev S4x256x256 : Shape := ⟨3, ![4, 256, 256]⟩
abbrev S4x1x256 : Shape := ⟨3, ![4, 1, 256]⟩
abbrev S4x1x1 : Shape := ⟨3, ![4, 1, 1]⟩
abbrev S256x128 : Shape := ⟨2, ![256, 128]⟩
abbrev S8x128 : Shape := ⟨2, ![8, 128]⟩
abbrev S248x128 : Shape := ⟨2, ![248, 128]⟩
abbrev S16x128 : Shape := ⟨2, ![16, 128]⟩
abbrev S240x128 : Shape := ⟨2, ![240, 128]⟩
abbrev S32x128 : Shape := ⟨2, ![32, 128]⟩
abbrev S224x128 : Shape := ⟨2, ![224, 128]⟩
abbrev S64x128 : Shape := ⟨2, ![64, 128]⟩
abbrev S192x128 : Shape := ⟨2, ![192, 128]⟩
abbrev S128x128 : Shape := ⟨2, ![128, 128]⟩
abbrev S128x256 : Shape := ⟨2, ![128, 256]⟩
abbrev S256x256 : Shape := ⟨2, ![256, 256]⟩
abbrev S1x256x256 : Shape := ⟨3, ![1, 256, 256]⟩
abbrev S256x1 : Shape := ⟨2, ![256, 1]⟩
abbrev S1x256 : Shape := ⟨2, ![1, 256]⟩
abbrev S1x1x1 : Shape := ⟨3, ![1, 1, 1]⟩
abbrev S1x1 : Shape := ⟨2, ![1, 1]⟩
abbrev S256 : Shape := ⟨1, ![256]⟩
abbrev S1x1x256 : Shape := ⟨3, ![1, 1, 256]⟩
abbrev S1 : Shape := ⟨1, ![1]⟩

abbrev nBuf : Space → Nat
  | .hbm => 3
  | .vmem => 15
  | .smem => 0
  | _ => 0

abbrev bufTy : (tb : Table) → Fin (tcTables nBuf tb) → BufTy
  | .hbm, ⟨0, _⟩ => ⟨S2x8192x6144, .bf16⟩
  | .hbm, ⟨1, _⟩ => ⟨S2x8192x128, .f32⟩
  | .hbm, ⟨2, _⟩ => ⟨S2x8192x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x128, .f32⟩
  | .local _ .vmem, ⟨9, _⟩ => ⟨S1x256x128, .f32⟩
  | .local _ .vmem, ⟨10, _⟩ => ⟨S1x256x1024, .bf16⟩
  | .local _ .vmem, ⟨11, _⟩ => ⟨S1x256x1024, .bf16⟩
  | .local _ .vmem, ⟨12, _⟩ => ⟨S4x256x256, .f32⟩
  | .local _ .vmem, ⟨13, _⟩ => ⟨S4x1x256, .f32⟩
  | .local _ .vmem, ⟨14, _⟩ => ⟨S4x1x1, .f32⟩
  | _, _ => ⟨S2x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x6144 : Shape := ⟨3, ![2, 8192, 6144]⟩
abbrev S2x8192x128 : Shape := ⟨3, ![2, 8192, 128]⟩
abbrev S2x8192x1024 : Shape := ⟨3, ![2, 8192, 1024]⟩
abbrev S2x8192x4 : Shape := ⟨3, ![2, 8192, 4]⟩
abbrev S2x4x8192 : Shape := ⟨3, ![2, 4, 8192]⟩
abbrev S2x8192x4x256 : Shape := ⟨4, ![2, 8192, 4, 256]⟩
abbrev S2x4x8192x256 : Shape := ⟨4, ![2, 4, 8192, 256]⟩
abbrev S_ : Shape := ⟨0, ![]⟩
abbrev S64x64 : Shape := ⟨2, ![64, 64]⟩
abbrev S2x4x256x256 : Shape := ⟨4, ![2, 4, 256, 256]⟩
abbrev S2x4x256 : Shape := ⟨3, ![2, 4, 256]⟩
abbrev S2x4 : Shape := ⟨2, ![2, 4]⟩
abbrev S2x4x128x64x256 : Shape := ⟨5, ![2, 4, 128, 64, 256]⟩
abbrev S128x2x4x64x256 : Shape := ⟨5, ![128, 2, 4, 64, 256]⟩
abbrev S2x4x128x64 : Shape := ⟨4, ![2, 4, 128, 64]⟩
abbrev S128x2x4x64 : Shape := ⟨4, ![128, 2, 4, 64]⟩
abbrev S1x2x4x64x256 : Shape := ⟨5, ![1, 2, 4, 64, 256]⟩
abbrev S2x4x64x256 : Shape := ⟨4, ![2, 4, 64, 256]⟩
abbrev S1x2x4x64 : Shape := ⟨4, ![1, 2, 4, 64]⟩
abbrev S2x4x64 : Shape := ⟨3, ![2, 4, 64]⟩
abbrev S2x4x64x1 : Shape := ⟨4, ![2, 4, 64, 1]⟩
abbrev S2x4x1x64 : Shape := ⟨4, ![2, 4, 1, 64]⟩
abbrev S2x4x64x64 : Shape := ⟨4, ![2, 4, 64, 64]⟩
abbrev S2x4x1 : Shape := ⟨3, ![2, 4, 1]⟩
abbrev S2x4x1x1 : Shape := ⟨4, ![2, 4, 1, 1]⟩

abbrev nBuf : Space → Nat
  | .hbm => 204
  | .vmem => 0
  | .smem => 0
  | _ => 0

abbrev hbmTy0_0 (i : Nat) : BufTy := match i % 128 with
  | 0 => ⟨S2x8192x6144, .bf16⟩
  | 1 => ⟨S2x8192x128, .f32⟩
  | 2 => ⟨S2x8192x1024, .bf16⟩
  | 3 => ⟨S2x8192x1024, .bf16⟩
  | 4 => ⟨S2x8192x1024, .bf16⟩
  | 5 => ⟨S2x8192x4, .f32⟩
  | 6 => ⟨S2x4x8192, .f32⟩
  | 7 => ⟨S2x8192x4, .f32⟩
  | 8 => ⟨S2x4x8192, .f32⟩
  | 9 => ⟨S2x8192x4x256, .bf16⟩
  | 10 => ⟨S2x4x8192x256, .bf16⟩
  | 11 => ⟨S2x4x8192x256, .f32⟩
  | 12 => ⟨S2x8192x4x256, .bf16⟩
  | 13 => ⟨S2x4x8192x256, .bf16⟩
  | 14 => ⟨S2x4x8192x256, .f32⟩
  | 15 => ⟨S2x8192x4x256, .bf16⟩
  | 16 => ⟨S2x4x8192x256, .bf16⟩
  | 17 => ⟨S2x4x8192x256, .f32⟩
  | 18 => ⟨S_, .f32⟩
  | 19 => ⟨S2x4x8192x256, .f32⟩
  | 20 => ⟨S2x4x8192x256, .f32⟩
  | 21 => ⟨S2x4x8192, .f32⟩
  | 22 => ⟨S_, .f32⟩
  | 23 => ⟨S2x4x8192, .f32⟩
  | 24 => ⟨S2x4x8192, .f32⟩
  | 25 => ⟨S2x4x8192, .f32⟩
  | 26 => ⟨S2x4x8192, .f32⟩
  | 27 => ⟨S2x4x8192, .f32⟩
  | 28 => ⟨S2x4x8192, .f32⟩
  | 29 => ⟨S2x4x8192, .f32⟩
  | 30 => ⟨S2x4x8192, .f32⟩
  | 31 => ⟨S_, .i1⟩
  | 32 => ⟨S64x64, .i1⟩
  | 33 => ⟨S64x64, .i32⟩
  | 34 => ⟨S_, .i32⟩
  | 35 => ⟨S64x64, .i32⟩
  | 36 => ⟨S64x64, .i32⟩
  | 37 => ⟨S64x64, .i32⟩
  | 38 => ⟨S64x64, .i1⟩
  | 39 => ⟨S_, .i1⟩
  | 40 => ⟨S64x64, .i1⟩
  | 41 => ⟨S64x64, .i1⟩
  | 42 => ⟨S_, .f32⟩
  | 43 => ⟨S2x4x256x256, .f32⟩
  | 44 => ⟨S_, .f32⟩
  | 45 => ⟨S2x4x256, .f32⟩
  | 46 => ⟨S_, .f32⟩
  | 47 => ⟨S2x4, .f32⟩
  | 48 => ⟨S2x4x128x64x256, .f32⟩
  | 49 => ⟨S128x2x4x64x256, .f32⟩
  | 50 => ⟨S2x4x128x64x256, .f32⟩
  | 51 => ⟨S128x2x4x64x256, .f32⟩
  | 52 => ⟨S2x4x128x64x256, .f32⟩
  | 53 => ⟨S128x2x4x64x256, .f32⟩
  | 54 => ⟨S2x4x128x64, .f32⟩
  | 55 => ⟨S128x2x4x64, .f32⟩
  | 56 => ⟨S2x4x128x64, .f32⟩
  | 57 => ⟨S128x2x4x64, .f32⟩
  | 58 => ⟨S_, .f32⟩
  | 59 => ⟨S128x2x4x64x256, .f32⟩
  | 60 => ⟨S_, .i32⟩
  | 61 => ⟨S128x2x4x64x256, .f32⟩
  | 62 => ⟨S128x2x4x64x256, .f32⟩
  | 63 => ⟨S128x2x4x64x256, .f32⟩
  | 64 => ⟨S128x2x4x64, .f32⟩
  | 65 => ⟨S128x2x4x64, .f32⟩
  | 66 => ⟨S64x64, .i1⟩
  | 67 => ⟨S_, .i32⟩
  | 68 => ⟨S2x4x256x256, .f32⟩
  | 69 => ⟨S2x4x256, .f32⟩
  | 70 => ⟨S2x4, .f32⟩
  | 71 => ⟨S128x2x4x64x256, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S1x2x4x64x256, .f32⟩
  | 79 => ⟨S2x4x64x256, .f32⟩
  | 80 => ⟨S_, .i32⟩
  | 81 => ⟨S_, .i32⟩
  | 82 => ⟨S_, .i32⟩
  | 83 => ⟨S_, .i32⟩
  | 84 => ⟨S1x2x4x64x256, .f32⟩
  | 85 => ⟨S2x4x64x256, .f32⟩
  | 86 => ⟨S_, .i32⟩
  | 87 => ⟨S_, .i32⟩
  | 88 => ⟨S_, .i32⟩
  | 89 => ⟨S_, .i32⟩
  | 90 => ⟨S1x2x4x64x256, .f32⟩
  | 91 => ⟨S2x4x64x256, .f32⟩
  | 92 => ⟨S_, .i32⟩
  | 93 => ⟨S_, .i32⟩
  | 94 => ⟨S_, .i32⟩
  | 95 => ⟨S1x2x4x64, .f32⟩
  | 96 => ⟨S2x4x64, .f32⟩
  | 97 => ⟨S_, .i32⟩
  | 98 => ⟨S_, .i32⟩
  | 99 => ⟨S_, .i32⟩
  | 100 => ⟨S1x2x4x64, .f32⟩
  | 101 => ⟨S2x4x64, .f32⟩
  | 102 => ⟨S_, .f32⟩
  | 103 => ⟨S_, .f32⟩
  | 104 => ⟨S2x4x64, .f32⟩
  | 105 => ⟨S2x4x64x1, .f32⟩
  | 106 => ⟨S2x4x1x64, .f32⟩
  | 107 => ⟨S2x4x64x64, .f32⟩
  | 108 => ⟨S2x4x64x64, .f32⟩
  | 109 => ⟨S2x4x64x64, .f32⟩
  | 110 => ⟨S2x4x1x64, .f32⟩
  | 111 => ⟨S2x4x64x64, .f32⟩
  | 112 => ⟨S2x4x64x64, .f32⟩
  | 113 => ⟨S_, .f32⟩
  | 114 => ⟨S_, .f32⟩
  | 115 => ⟨S2x4x64x64, .i1⟩
  | 116 => ⟨S2x4x64x64, .f32⟩
  | 117 => ⟨S2x4x64x64, .f32⟩
  | 118 => ⟨S2x4x1, .f32⟩
  | 119 => ⟨S2x4x64, .f32⟩
  | 120 => ⟨S2x4x64, .f32⟩
  | 121 => ⟨S_, .f32⟩
  | 122 => ⟨S2x4x64, .f32⟩
  | 123 => ⟨S2x4x64, .f32⟩
  | 124 => ⟨S2x4x64x1, .f32⟩
  | 125 => ⟨S2x4x64x64, .f32⟩
  | 126 => ⟨S2x4x64x64, .f32⟩
  | 127 => ⟨S2x4x64x64, .f32⟩
  | _ => ⟨S2x8192x6144, .bf16⟩

abbrev hbmTy0_1 (i : Nat) : BufTy := match i % 128 with
  | 0 => ⟨S2x4x64, .f32⟩
  | 1 => ⟨S2x4x64, .f32⟩
  | 2 => ⟨S2x4x64x64, .f32⟩
  | 3 => ⟨S2x4x64x64, .f32⟩
  | 4 => ⟨S2x4x64x1, .f32⟩
  | 5 => ⟨S2x4x64x256, .f32⟩
  | 6 => ⟨S2x4x64x256, .f32⟩
  | 7 => ⟨S2x4x64x256, .f32⟩
  | 8 => ⟨S2x4x64x256, .f32⟩
  | 9 => ⟨S2x4x64x256, .f32⟩
  | 10 => ⟨S2x4x64, .f32⟩
  | 11 => ⟨S2x4x64, .f32⟩
  | 12 => ⟨S_, .f32⟩
  | 13 => ⟨S2x4x64, .f32⟩
  | 14 => ⟨S2x4x64, .f32⟩
  | 15 => ⟨S2x4x64, .f32⟩
  | 16 => ⟨S2x4x64, .f32⟩
  | 17 => ⟨S2x4x64, .f32⟩
  | 18 => ⟨S2x4x64, .f32⟩
  | 19 => ⟨S2x4x64x1, .f32⟩
  | 20 => ⟨S2x4x64x256, .f32⟩
  | 21 => ⟨S2x4x64x256, .f32⟩
  | 22 => ⟨S2x4x1, .f32⟩
  | 23 => ⟨S2x4, .f32⟩
  | 24 => ⟨S2x4x1, .f32⟩
  | 25 => ⟨S2x4x64, .f32⟩
  | 26 => ⟨S2x4x64, .f32⟩
  | 27 => ⟨S2x4x64, .f32⟩
  | 28 => ⟨S2x4, .f32⟩
  | 29 => ⟨S_, .f32⟩
  | 30 => ⟨S2x4, .f32⟩
  | 31 => ⟨S2x4, .f32⟩
  | 32 => ⟨S2x4, .f32⟩
  | 33 => ⟨S2x4, .f32⟩
  | 34 => ⟨S2x4, .f32⟩
  | 35 => ⟨S2x4x1, .f32⟩
  | 36 => ⟨S2x4x64, .f32⟩
  | 37 => ⟨S2x4x64, .f32⟩
  | 38 => ⟨S2x4x64, .f32⟩
  | 39 => ⟨S2x4x1x1, .f32⟩
  | 40 => ⟨S2x4x256x256, .f32⟩
  | 41 => ⟨S2x4x256x256, .f32⟩
  | 42 => ⟨S2x4x64x1, .f32⟩
  | 43 => ⟨S2x4x64x256, .f32⟩
  | 44 => ⟨S2x4x64x256, .f32⟩
  | 45 => ⟨S2x4x256x256, .f32⟩
  | 46 => ⟨S2x4x256x256, .f32⟩
  | 47 => ⟨S2x4x1, .f32⟩
  | 48 => ⟨S2x4x256, .f32⟩
  | 49 => ⟨S2x4x256, .f32⟩
  | 50 => ⟨S2x4x256, .f32⟩
  | 51 => ⟨S2x4x256, .f32⟩
  | 52 => ⟨S1x2x4x64x256, .f32⟩
  | 53 => ⟨S_, .i32⟩
  | 54 => ⟨S_, .i32⟩
  | 55 => ⟨S_, .i32⟩
  | 56 => ⟨S_, .i32⟩
  | 57 => ⟨S128x2x4x64x256, .f32⟩
  | 58 => ⟨S_, .i32⟩
  | 59 => ⟨S_, .i32⟩
  | 60 => ⟨S2x4x128x64x256, .f32⟩
  | 61 => ⟨S2x4x8192x256, .f32⟩
  | 62 => ⟨S2x8192x1024, .bf16⟩
  | 63 => ⟨S2x8192x4x256, .f32⟩
  | 64 => ⟨S2x8192x1024, .f32⟩
  | 65 => ⟨S2x8192x1024, .f32⟩
  | 66 => ⟨S2x8192x1024, .f32⟩
  | 67 => ⟨S2x8192x1024, .f32⟩
  | 68 => ⟨S_, .f32⟩
  | 69 => ⟨S2x8192x1024, .f32⟩
  | 70 => ⟨S2x8192x1024, .f32⟩
  | 71 => ⟨S_, .f32⟩
  | 72 => ⟨S2x8192x1024, .f32⟩
  | 73 => ⟨S2x8192x1024, .f32⟩
  | 74 => ⟨S2x8192x1024, .f32⟩
  | 75 => ⟨S2x8192x1024, .bf16⟩
  | _ => ⟨S2x8192x6144, .bf16⟩

abbrev hbmTy (i : Nat) : BufTy := match i / 128 with
  | 0 => hbmTy0_0 i
  | 1 => hbmTy0_1 i
  | _ => ⟨S2x8192x6144, .bf16⟩

abbrev bufTy : (tb : Table) → Fin (tcTables nBuf tb) → BufTy
  | .hbm, ⟨i, _⟩ => hbmTy i
  | _, _ => ⟨S2x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_c : Ref sig .tc := ⟨.hbm, 31, rfl⟩
abbrev main_v27 : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_0 : Ref sig .tc := ⟨.hbm, 39, rfl⟩
abbrev main_call0_v5 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_c_5 : Ref sig .tc := ⟨.hbm, 60, rfl⟩
abbrev main_v43_0 : Ref sig .tc := ⟨.hbm, 61, rfl⟩
abbrev main_v43_1 : Ref sig .tc := ⟨.hbm, 62, rfl⟩
abbrev main_v43_2 : Ref sig .tc := ⟨.hbm, 63, rfl⟩
abbrev main_v43_3 : Ref sig .tc := ⟨.hbm, 64, rfl⟩
abbrev main_v43_4 : Ref sig .tc := ⟨.hbm, 65, rfl⟩
abbrev main_v43_5 : Ref sig .tc := ⟨.hbm, 66, rfl⟩
abbrev main_v43_6 : Ref sig .tc := ⟨.hbm, 67, rfl⟩
abbrev main_v43_7 : Ref sig .tc := ⟨.hbm, 68, rfl⟩
abbrev main_v43_8 : Ref sig .tc := ⟨.hbm, 69, rfl⟩
abbrev main_v43_9 : Ref sig .tc := ⟨.hbm, 70, rfl⟩
abbrev main_v43_10 : Ref sig .tc := ⟨.hbm, 71, rfl⟩
abbrev main_while0c_c_18 : Ref sig .tc := ⟨.hbm, 72, rfl⟩
abbrev main_while0c_v58 : Ref sig .tc := ⟨.hbm, 73, rfl⟩
abbrev main_while0b_call1_c : Ref sig .tc := ⟨.hbm, 74, rfl⟩
abbrev main_while0b_call1_c_0 : Ref sig .tc := ⟨.hbm, 75, rfl⟩
abbrev main_while0b_call1_c_1 : Ref sig .tc := ⟨.hbm, 76, rfl⟩
abbrev main_while0b_call1_c_2 : Ref sig .tc := ⟨.hbm, 77, rfl⟩
abbrev main_while0b_call1_v0 : Ref sig .tc := ⟨.hbm, 78, rfl⟩
abbrev main_while0b_v58 : Ref sig .tc := ⟨.hbm, 79, rfl⟩
abbrev main_while0b_call2_c : Ref sig .tc := ⟨.hbm, 80, rfl⟩
abbrev main_while0b_call2_c_0 : Ref sig .tc := ⟨.hbm, 81, rfl⟩
abbrev main_while0b_call2_c_1 : Ref sig .tc := ⟨.hbm, 82, rfl⟩
abbrev main_while0b_call2_c_2 : Ref sig .tc := ⟨.hbm, 83, rfl⟩
abbrev main_while0b_call2_v0 : Ref sig .tc := ⟨.hbm, 84, rfl⟩
abbrev main_while0b_v59 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_c_2 : Ref sig .tc := ⟨.hbm, 89, rfl⟩
abbrev main_while0b_call3_v0 : Ref sig .tc := ⟨.hbm, 90, rfl⟩
abbrev main_while0b_v60 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_v0 : Ref sig .tc := ⟨.hbm, 95, rfl⟩
abbrev main_while0b_v61 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_call5_v0 : Ref sig .tc := ⟨.hbm, 100, rfl⟩
abbrev main_while0b_v62 : Ref sig .tc := ⟨.hbm, 101, rfl⟩
abbrev main_while0b_call6_call0_cst : Ref sig .tc := ⟨.hbm, 102, rfl⟩
abbrev main_while0b_call6_call0_v0 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_cst_18 : Ref sig .tc := ⟨.hbm, 113, rfl⟩
abbrev main_while0b_call7_v0 : Ref sig .tc := ⟨.hbm, 114, rfl⟩
abbrev main_while0b_call7_v1 : Ref sig .tc := ⟨.hbm, 115, rfl⟩
abbrev main_while0b_call7_v2 : Ref sig .tc := ⟨.hbm, 116, rfl⟩
abbrev main_while0b_v72 : Ref sig .tc := ⟨.hbm, 117, rfl⟩
abbrev main_while0b_v73 : Ref sig .tc := ⟨.hbm, 118, rfl⟩
abbrev main_while0b_v74 : Ref sig .tc := ⟨.hbm, 119, rfl⟩
abbrev main_while0b_v75 : Ref sig .tc := ⟨.hbm, 120, rfl⟩
abbrev main_while0b_cst_19 : Ref sig .tc := ⟨.hbm, 121, rfl⟩
abbrev main_while0b_v76 : Ref sig .tc := ⟨.hbm, 122, rfl⟩
abbrev main_while0b_v77 : Ref sig .tc := ⟨.hbm, 123, rfl⟩
abbrev main_while0b_v78 : Ref sig .tc := ⟨.hbm, 124, rfl⟩
abbrev main_while0b_v79 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_cst_20 : Ref sig .tc := ⟨.hbm, 140, rfl⟩
abbrev main_while0b_v94 : Ref sig .tc := ⟨.hbm, 141, rfl⟩
abbrev main_while0b_v95 : Ref sig .tc := ⟨.hbm, 142, rfl⟩
abbrev main_while0b_v96 : Ref sig .tc := ⟨.hbm, 143, rfl⟩
abbrev main_while0b_v97 : Ref sig .tc := ⟨.hbm, 144, rfl⟩
abbrev main_while0b_v98 : Ref sig .tc := ⟨.hbm, 145, rfl⟩
abbrev main_while0b_v99 : Ref sig .tc := ⟨.hbm, 146, rfl⟩
abbrev main_while0b_v100 : Ref sig .tc := ⟨.hbm, 147, rfl⟩
abbrev main_while0b_v101 : Ref sig .tc := ⟨.hbm, 148, rfl⟩
abbrev main_while0b_v102 : Ref sig .tc := ⟨.hbm, 149, rfl⟩
abbrev main_while0b_v103 : Ref sig .tc := ⟨.hbm, 150, rfl⟩
abbrev main_while0b_v104 : Ref sig .tc := ⟨.hbm, 151, rfl⟩
abbrev main_while0b_v105 : Ref sig .tc := ⟨.hbm, 152, rfl⟩
abbrev main_while0b_v106 : Ref sig .tc := ⟨.hbm, 153, rfl⟩
abbrev main_while0b_v107 : Ref sig .tc := ⟨.hbm, 154, rfl⟩
abbrev main_while0b_v108 : Ref sig .tc := ⟨.hbm, 155, rfl⟩
abbrev main_while0b_v109 : Ref sig .tc := ⟨.hbm, 156, rfl⟩
abbrev main_while0b_cst_21 : Ref sig .tc := ⟨.hbm, 157, rfl⟩
abbrev main_while0b_v110 : Ref sig .tc := ⟨.hbm, 158, rfl⟩
abbrev main_while0b_v111 : Ref sig .tc := ⟨.hbm, 159, rfl⟩
abbrev main_while0b_v112 : Ref sig .tc := ⟨.hbm, 160, rfl⟩
abbrev main_while0b_v113 : Ref sig .tc := ⟨.hbm, 161, rfl⟩
abbrev main_while0b_v114 : Ref sig .tc := ⟨.hbm, 162, rfl⟩
abbrev main_while0b_v115 : Ref sig .tc := ⟨.hbm, 163, rfl⟩
abbrev main_while0b_v116 : Ref sig .tc := ⟨.hbm, 164, rfl⟩
abbrev main_while0b_v117 : Ref sig .tc := ⟨.hbm, 165, rfl⟩
abbrev main_while0b_v118 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_v122 : Ref sig .tc := ⟨.hbm, 170, rfl⟩
abbrev main_while0b_v123 : Ref sig .tc := ⟨.hbm, 171, rfl⟩
abbrev main_while0b_v124 : Ref sig .tc := ⟨.hbm, 172, rfl⟩
abbrev main_while0b_v125 : Ref sig .tc := ⟨.hbm, 173, rfl⟩
abbrev main_while0b_v126 : Ref sig .tc := ⟨.hbm, 174, rfl⟩
abbrev main_while0b_v127 : Ref sig .tc := ⟨.hbm, 175, rfl⟩
abbrev main_while0b_v128 : Ref sig .tc := ⟨.hbm, 176, rfl⟩
abbrev main_while0b_v129 : Ref sig .tc := ⟨.hbm, 177, rfl⟩
abbrev main_while0b_v130 : Ref sig .tc := ⟨.hbm, 178, rfl⟩
abbrev main_while0b_v131 : Ref sig .tc := ⟨.hbm, 179, rfl⟩
abbrev main_while0b_call8_v0 : Ref sig .tc := ⟨.hbm, 180, rfl⟩
abbrev main_while0b_call8_c : Ref sig .tc := ⟨.hbm, 181, rfl⟩
abbrev main_while0b_call8_c_0 : Ref sig .tc := ⟨.hbm, 182, rfl⟩
abbrev main_while0b_call8_c_1 : Ref sig .tc := ⟨.hbm, 183, rfl⟩
abbrev main_while0b_call8_c_2 : Ref sig .tc := ⟨.hbm, 184, rfl⟩
abbrev main_while0b_v132 : Ref sig .tc := ⟨.hbm, 185, rfl⟩
abbrev main_while0b_c_22 : Ref sig .tc := ⟨.hbm, 186, rfl⟩
abbrev main_while0b_v133 : Ref sig .tc := ⟨.hbm, 187, rfl⟩
abbrev main_v44 : Ref sig .tc := ⟨.hbm, 188, rfl⟩
abbrev main_v45 : Ref sig .tc := ⟨.hbm, 189, rfl⟩
abbrev main_v46 : Ref sig .tc := ⟨.hbm, 190, rfl⟩
abbrev main_v47 : Ref sig .tc := ⟨.hbm, 191, rfl⟩
abbrev main_v48 : Ref sig .tc := ⟨.hbm, 192, rfl⟩
abbrev main_v49 : Ref sig .tc := ⟨.hbm, 193, rfl⟩
abbrev main_v50 : Ref sig .tc := ⟨.hbm, 194, rfl⟩
abbrev main_v51 : Ref sig .tc := ⟨.hbm, 195, rfl⟩
abbrev main_cst_6 : Ref sig .tc := ⟨.hbm, 196, rfl⟩
abbrev main_v52 : Ref sig .tc := ⟨.hbm, 197, rfl⟩
abbrev main_v53 : Ref sig .tc := ⟨.hbm, 198, rfl⟩
abbrev main_cst_7 : Ref sig .tc := ⟨.hbm, 199, rfl⟩
abbrev main_v54 : Ref sig .tc := ⟨.hbm, 200, rfl⟩
abbrev main_v55 : Ref sig .tc := ⟨.hbm, 201, rfl⟩
abbrev main_v56 : Ref sig .tc := ⟨.hbm, 202, rfl⟩
abbrev main_v57 : Ref sig .tc := ⟨.hbm, 203, rfl⟩

abbrev nD : Nat := 1
abbrev τ : Topo := Topo.v7x

variable {F : FTy → Type} [FloatOps F]

def κ : String → Option EReal := fun
  | "mask" => some ⊥
  | _ => none

abbrev main_while0_count : Scf.Loop 32 := ⟨0#32, 128#32, 1#32⟩
-- ==== Kernel2.lean ====
abbrev S2x8192x2048 : Shape := ⟨3, ![2, 8192, 2048]⟩
abbrev S2x2048 : Shape := ⟨2, ![2, 2048]⟩
abbrev S2x6x2048 : Shape := ⟨3, ![2, 6, 2048]⟩
abbrev S2x2048x5632 : Shape := ⟨3, ![2, 2048, 5632]⟩
abbrev S2x1x5632 : Shape := ⟨3, ![2, 1, 5632]⟩
abbrev S16384x2048 : Shape := ⟨2, ![16384, 2048]⟩
abbrev S1x2048 : Shape := ⟨2, ![1, 2048]⟩
abbrev S2048 : Shape := ⟨1, ![2048]⟩
abbrev S16384x5632 : Shape := ⟨2, ![16384, 5632]⟩
abbrev S1024x2048 : Shape := ⟨2, ![1024, 2048]⟩
abbrev S1x6x2048 : Shape := ⟨3, ![1, 6, 2048]⟩
abbrev S1x2048x512 : Shape := ⟨3, ![1, 2048, 512]⟩
abbrev S1x1x512 : Shape := ⟨3, ![1, 1, 512]⟩
abbrev S1024x512 : Shape := ⟨2, ![1024, 512]⟩
abbrev S1024x1 : Shape := ⟨2, ![1024, 1]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1x512 : Shape := ⟨2, ![1, 512]⟩

abbrev nBuf : Space → Nat
  | .hbm => 12
  | .vmem => 17
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x6x2048, .f32⟩
  | .hbm, ⟨3, _⟩ => ⟨S2x2048x5632, .fp8e4m3⟩
  | .hbm, ⟨4, _⟩ => ⟨S2x2048x5632, .fp8e4m3⟩
  | .hbm, ⟨5, _⟩ => ⟨S2x1x5632, .f32⟩
  | .hbm, ⟨6, _⟩ => ⟨S2x1x5632, .f32⟩
  | .hbm, ⟨7, _⟩ => ⟨S16384x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x512, .fp8e4m3⟩
  | .local _ .vmem, ⟨6, _⟩ => ⟨S1x2048x512, .fp8e4m3⟩
  | .local _ .vmem, ⟨7, _⟩ => ⟨S1x2048x512, .fp8e4m3⟩
  | .local _ .vmem, ⟨8, _⟩ => ⟨S1x2048x512, .fp8e4m3⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1024x512, .bf16⟩
  | .local _ .vmem, ⟨14, _⟩ => ⟨S1024x512, .bf16⟩
  | .local _ .vmem, ⟨15, _⟩ => ⟨S1024x2048, .fp8e4m3⟩
  | .local _ .vmem, ⟨16, _⟩ => ⟨S1024x1, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "inv448" => some ((448⁻¹ : ℝ) : EReal)
  | _ => none
-- ==== Reference2Ideal.lean ====
abbrev S2x8192x2048 : Shape := ⟨3, ![2, 8192, 2048]⟩
abbrev S2x2048 : Shape := ⟨2, ![2, 2048]⟩
abbrev S2x6x2048 : Shape := ⟨3, ![2, 6, 2048]⟩
abbrev S2x2048x5632 : Shape := ⟨3, ![2, 2048, 5632]⟩
abbrev S2x1x5632 : Shape := ⟨3, ![2, 1, 5632]⟩
abbrev S2x1x2048 : Shape := ⟨3, ![2, 1, 2048]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩
abbrev S1x2048x5632 : Shape := ⟨3, ![1, 2048, 5632]⟩
abbrev S2048x5632 : Shape := ⟨2, ![2048, 5632]⟩
abbrev S1x1x5632 : Shape := ⟨3, ![1, 1, 5632]⟩
abbrev S1x5632 : Shape := ⟨2, ![1, 5632]⟩
abbrev S16384x5632 : Shape := ⟨2, ![16384, 5632]⟩

abbrev nBuf : Space → Nat
  | .hbm => 44
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x6x2048, .f32⟩
  | .hbm, ⟨3, _⟩ => ⟨S2x2048x5632, .fp8e4m3⟩
  | .hbm, ⟨4, _⟩ => ⟨S2x2048x5632, .fp8e4m3⟩
  | .hbm, ⟨5, _⟩ => ⟨S2x1x5632, .f32⟩
  | .hbm, ⟨6, _⟩ => ⟨S2x1x5632, .f32⟩
  | .hbm, ⟨7, _⟩ => ⟨S2x1x2048, .f32⟩
  | .hbm, ⟨8, _⟩ => ⟨S2x1x2048, .f32⟩
  | .hbm, ⟨9, _⟩ => ⟨S1x2048, .f32⟩
  | .hbm, ⟨10, _⟩ => ⟨S2048, .f32⟩
  | .hbm, ⟨11, _⟩ => ⟨S2x8192x2048, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x2048, .f32⟩
  | .hbm, ⟨23, _⟩ => ⟨S2x8192x2048, .f32⟩
  | .hbm, ⟨24, _⟩ => ⟨S1x1x2048, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S16384x2048, .f32⟩
  | .hbm, ⟨35, _⟩ => ⟨S1x2048x5632, .fp8e4m3⟩
  | .hbm, ⟨36, _⟩ => ⟨S2048x5632, .fp8e4m3⟩
  | .hbm, ⟨37, _⟩ => ⟨S1x1x5632, .f32⟩
  | .hbm, ⟨38, _⟩ => ⟨S1x5632, .f32⟩
  | .hbm, ⟨39, _⟩ => ⟨S1x2048x5632, .fp8e4m3⟩
  | .hbm, ⟨40, _⟩ => ⟨S2048x5632, .fp8e4m3⟩
  | .hbm, ⟨41, _⟩ => ⟨S1x1x5632, .f32⟩
  | .hbm, ⟨42, _⟩ => ⟨S1x5632, .f32⟩
  | .hbm, ⟨43, _⟩ => ⟨S16384x5632, .bf16⟩
  | .local _ .vmem, ⟨0, _⟩ => ⟨S16384x2048, .f32⟩
  | .local _ .vmem, ⟨1, _⟩ => ⟨S2048x5632, .fp8e4m3⟩
  | .local _ .vmem, ⟨2, _⟩ => ⟨S1x5632, .f32⟩
  | .local _ .vmem, ⟨3, _⟩ => ⟨S2048x5632, .fp8e4m3⟩
  | .local _ .vmem, ⟨4, _⟩ => ⟨S1x5632, .f32⟩
  | .local _ .vmem, ⟨5, _⟩ => ⟨S16384x5632, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Kernel3.lean ====
abbrev S2x8192x2048 : Shape := ⟨3, ![2, 8192, 2048]⟩
abbrev S2x2048 : Shape := ⟨2, ![2, 2048]⟩
abbrev S2x6x2048 : Shape := ⟨3, ![2, 6, 2048]⟩
abbrev S1x2048x6144 : Shape := ⟨3, ![1, 2048, 6144]⟩
abbrev S16384x2048 : Shape := ⟨2, ![16384, 2048]⟩
abbrev S1x2048 : Shape := ⟨2, ![1, 2048]⟩
abbrev S2048 : Shape := ⟨1, ![2048]⟩
abbrev S16384x6144 : Shape := ⟨2, ![16384, 6144]⟩
abbrev S1024x2048 : Shape := ⟨2, ![1024, 2048]⟩
abbrev S1x6x2048 : Shape := ⟨3, ![1, 6, 2048]⟩
abbrev S1x2048x2048 : Shape := ⟨3, ![1, 2048, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048x2048 : Shape := ⟨2, ![2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x6x2048, .f32⟩
  | .hbm, ⟨3, _⟩ => ⟨S1x2048x6144, .f32⟩
  | .hbm, ⟨4, _⟩ => ⟨S16384x2048, .f32⟩
  | .hbm, ⟨5, _⟩ => ⟨S1x2048, .f32⟩
  | .hbm, ⟨6, _⟩ => ⟨S2048, .f32⟩
  | .hbm, ⟨7, _⟩ => ⟨S1x2048x6144, .bf16⟩
  | .hbm, ⟨8, _⟩ => ⟨S1x2048, .f32⟩
  | .hbm, ⟨9, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x2048, .bf16⟩
  | .local _ .vmem, ⟨6, _⟩ => ⟨S1x2048x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x8192x2048 : Shape := ⟨3, ![2, 8192, 2048]⟩
abbrev S2x2048 : Shape := ⟨2, ![2, 2048]⟩
abbrev S2x6x2048 : Shape := ⟨3, ![2, 6, 2048]⟩
abbrev S1x2048x6144 : Shape := ⟨3, ![1, 2048, 6144]⟩
abbrev S2x1x2048 : Shape := ⟨3, ![2, 1, 2048]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x6144 : Shape := ⟨2, ![2048, 6144]⟩
abbrev S2x8192x6144 : Shape := ⟨3, ![2, 8192, 6144]⟩
abbrev S16384x6144 : Shape := ⟨2, ![16384, 6144]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2x6x2048, .f32⟩
  | .hbm, ⟨3, _⟩ => ⟨S1x2048x6144, .f32⟩
  | .hbm, ⟨4, _⟩ => ⟨S2x1x2048, .f32⟩
  | .hbm, ⟨5, _⟩ => ⟨S2x1x2048, .f32⟩
  | .hbm, ⟨6, _⟩ => ⟨S1x2048, .f32⟩
  | .hbm, ⟨7, _⟩ => ⟨S2048, .f32⟩
  | .hbm, ⟨8, _⟩ => ⟨S2x8192x2048, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S1x1x2048, .f32⟩
  | .hbm, ⟨22, _⟩ => ⟨S2x8192x2048, .f32⟩
  | .hbm, ⟨23, _⟩ => ⟨S2x8192x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2048x6144, .f32⟩
  | .hbm, ⟨32, _⟩ => ⟨S2x8192x6144, .f32⟩
  | .hbm, ⟨33, _⟩ => ⟨S16384x6144, .f32⟩
  | .hbm, ⟨34, _⟩ => ⟨S16384x6144, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel5.lean ====
abbrev S2x8192x5632 : Shape := ⟨3, ![2, 8192, 5632]⟩
abbrev S2x8192x2048 : Shape := ⟨3, ![2, 8192, 2048]⟩
abbrev S2x6x2048 : Shape := ⟨3, ![2, 6, 2048]⟩
abbrev S2x5632x2048 : Shape := ⟨3, ![2, 5632, 2048]⟩
abbrev S16384x5632 : Shape := ⟨2, ![16384, 5632]⟩
abbrev S16384x2048 : Shape := ⟨2, ![16384, 2048]⟩
abbrev S512x5632 : Shape := ⟨2, ![512, 5632]⟩
abbrev S1x5632x2048 : Shape := ⟨3, ![1, 5632, 2048]⟩
abbrev S512x2048 : Shape := ⟨2, ![512, 2048]⟩
abbrev S1x6x2048 : Shape := ⟨3, ![1, 6, 2048]⟩
abbrev S1x1x2048 : Shape := ⟨3, ![1, 1, 2048]⟩
abbrev S1x2048 : Shape := ⟨2, ![1, 2048]⟩
abbrev S5632x2048 : Shape := ⟨2, ![5632, 2048]⟩

abbrev nBuf : Space → Nat
  | .hbm => 8
  | .vmem => 9
  | .smem => 0
  | _ => 0

abbrev bufTy : (tb : Table) → Fin (tcTables nBuf tb) → BufTy
  | .hbm, ⟨0, _⟩ => ⟨S2x8192x5632, .bf16⟩
  | .hbm, ⟨1, _⟩ => ⟨S2x8192x2048, .f32⟩
  | .hbm, ⟨2, _⟩ => ⟨S2x6x2048, .f32⟩
  | .hbm, ⟨3, _⟩ => ⟨S2x5632x2048, .f32⟩
  | .hbm, ⟨4, _⟩ => ⟨S16384x5632, .bf16⟩
  | .hbm, ⟨5, _⟩ => ⟨S16384x2048, .f32⟩
  | .hbm, ⟨6, _⟩ => ⟨S2x5632x2048, .bf16⟩
  | .hbm, ⟨7, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S512x2048, .f32⟩
  | .local _ .vmem, ⟨8, _⟩ => ⟨S512x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x8192x5632 : Shape := ⟨3, ![2, 8192, 5632]⟩
abbrev S2x8192x2048 : Shape := ⟨3, ![2, 8192, 2048]⟩
abbrev S2x6x2048 : Shape := ⟨3, ![2, 6, 2048]⟩
abbrev S2x5632x2048 : Shape := ⟨3, ![2, 5632, 2048]⟩
abbrev S2x1x2048 : Shape := ⟨3, ![2, 1, 2048]⟩
abbrev S1x5632x2048 : Shape := ⟨3, ![1, 5632, 2048]⟩
abbrev S5632x2048 : Shape := ⟨2, ![5632, 2048]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2x8192x2048, .f32⟩
  | .hbm, ⟨2, _⟩ => ⟨S2x6x2048, .f32⟩
  | .hbm, ⟨3, _⟩ => ⟨S2x5632x2048, .f32⟩
  | .hbm, ⟨4, _⟩ => ⟨S2x1x2048, .f32⟩
  | .hbm, ⟨5, _⟩ => ⟨S2x8192x5632, .f32⟩
  | .hbm, ⟨6, _⟩ => ⟨S1x5632x2048, .f32⟩
  | .hbm, ⟨7, _⟩ => ⟨S5632x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S16384x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel6.lean ====
abbrev S2x8192x5632 : Shape := ⟨3, ![2, 8192, 5632]⟩
abbrev S2x8192x2048 : Shape := ⟨3, ![2, 8192, 2048]⟩
abbrev S2x6x2048 : Shape := ⟨3, ![2, 6, 2048]⟩
abbrev S2x5632x2048 : Shape := ⟨3, ![2, 5632, 2048]⟩
abbrev S2048 : Shape := ⟨1, ![2048]⟩
abbrev S16384x5632 : Shape := ⟨2, ![16384, 5632]⟩
abbrev S16384x2048 : Shape := ⟨2, ![16384, 2048]⟩
abbrev S1x2048 : Shape := ⟨2, ![1, 2048]⟩
abbrev S512x5632 : Shape := ⟨2, ![512, 5632]⟩
abbrev S1x5632x2048 : Shape := ⟨3, ![1, 5632, 2048]⟩
abbrev S512x2048 : Shape := ⟨2, ![512, 2048]⟩
abbrev S1x6x2048 : Shape := ⟨3, ![1, 6, 2048]⟩
abbrev S1x1x2048 : Shape := ⟨3, ![1, 1, 2048]⟩
abbrev S5632x2048 : Shape := ⟨2, ![5632, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x5632, .bf16⟩
  | .hbm, ⟨1, _⟩ => ⟨S2x8192x2048, .f32⟩
  | .hbm, ⟨2, _⟩ => ⟨S2x6x2048, .f32⟩
  | .hbm, ⟨3, _⟩ => ⟨S2x5632x2048, .f32⟩
  | .hbm, ⟨4, _⟩ => ⟨S2048, .f32⟩
  | .hbm, ⟨5, _⟩ => ⟨S16384x5632, .bf16⟩
  | .hbm, ⟨6, _⟩ => ⟨S16384x2048, .f32⟩
  | .hbm, ⟨7, _⟩ => ⟨S2x5632x2048, .bf16⟩
  | .hbm, ⟨8, _⟩ => ⟨S1x2048, .f32⟩
  | .hbm, ⟨9, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S2x8192x5632 : Shape := ⟨3, ![2, 8192, 5632]⟩
abbrev S2x8192x2048 : Shape := ⟨3, ![2, 8192, 2048]⟩
abbrev S2x6x2048 : Shape := ⟨3, ![2, 6, 2048]⟩
abbrev S2x5632x2048 : Shape := ⟨3, ![2, 5632, 2048]⟩
abbrev S2048 : Shape := ⟨1, ![2048]⟩
abbrev S2x1x2048 : Shape := ⟨3, ![2, 1, 2048]⟩
abbrev S1x5632x2048 : Shape := ⟨3, ![1, 5632, 2048]⟩
abbrev S5632x2048 : Shape := ⟨2, ![5632, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2x8192x2048, .f32⟩
  | .hbm, ⟨2, _⟩ => ⟨S2x6x2048, .f32⟩
  | .hbm, ⟨3, _⟩ => ⟨S2x5632x2048, .f32⟩
  | .hbm, ⟨4, _⟩ => ⟨S2048, .f32⟩
  | .hbm, ⟨5, _⟩ => ⟨S2x1x2048, .f32⟩
  | .hbm, ⟨6, _⟩ => ⟨S2x8192x5632, .f32⟩
  | .hbm, ⟨7, _⟩ => ⟨S1x5632x2048, .f32⟩
  | .hbm, ⟨8, _⟩ => ⟨S5632x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S1x1x2048, .f32⟩
  | .hbm, ⟨27, _⟩ => ⟨S2x8192x2048, .f32⟩
  | .hbm, ⟨28, _⟩ => ⟨S2x8192x2048, .f32⟩
  | .hbm, ⟨29, _⟩ => ⟨S16384x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel7.lean ====
abbrev S2x8192x1024 : Shape := ⟨3, ![2, 8192, 1024]⟩
abbrev S2x8192x2048 : Shape := ⟨3, ![2, 8192, 2048]⟩
abbrev S2x6x2048 : Shape := ⟨3, ![2, 6, 2048]⟩
abbrev S1x2048x2048 : Shape := ⟨3, ![1, 2048, 2048]⟩
abbrev S16384x1024 : Shape := ⟨2, ![16384, 1024]⟩
abbrev S16384x2048 : Shape := ⟨2, ![16384, 2048]⟩
abbrev S512x1024 : Shape := ⟨2, ![512, 1024]⟩
abbrev S512x2048 : Shape := ⟨2, ![512, 2048]⟩
abbrev S1x6x2048 : Shape := ⟨3, ![1, 6, 2048]⟩
abbrev S1x1024x2048 : Shape := ⟨3, ![1, 1024, 2048]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 10
  | .vmem => 11
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x2048, .f32⟩
  | .hbm, ⟨3, _⟩ => ⟨S2x6x2048, .f32⟩
  | .hbm, ⟨4, _⟩ => ⟨S1x2048x2048, .f32⟩
  | .hbm, ⟨5, _⟩ => ⟨S16384x1024, .bf16⟩
  | .hbm, ⟨6, _⟩ => ⟨S16384x1024, .bf16⟩
  | .hbm, ⟨7, _⟩ => ⟨S1x2048x2048, .bf16⟩
  | .hbm, ⟨8, _⟩ => ⟨S16384x2048, .f32⟩
  | .hbm, ⟨9, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x6x2048, .f32⟩
  | .local _ .vmem, ⟨8, _⟩ => ⟨S1x6x2048, .f32⟩
  | .local _ .vmem, ⟨9, _⟩ => ⟨S512x2048, .f32⟩
  | .local _ .vmem, ⟨10, _⟩ => ⟨S512x2048, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S2x8192x1024 : Shape := ⟨3, ![2, 8192, 1024]⟩
abbrev S2x8192x2048 : Shape := ⟨3, ![2, 8192, 2048]⟩
abbrev S2x6x2048 : Shape := ⟨3, ![2, 6, 2048]⟩
abbrev S1x2048x2048 : Shape := ⟨3, ![1, 2048, 2048]⟩
abbrev S2x1x2048 : Shape := ⟨3, ![2, 1, 2048]⟩
abbrev S2048x2048 : Shape := ⟨2, ![2048, 2048]⟩
abbrev S16384x2048 : Shape := ⟨2, ![16384, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x2048, .f32⟩
  | .hbm, ⟨3, _⟩ => ⟨S2x6x2048, .f32⟩
  | .hbm, ⟨4, _⟩ => ⟨S1x2048x2048, .f32⟩
  | .hbm, ⟨5, _⟩ => ⟨S2x1x2048, .f32⟩
  | .hbm, ⟨6, _⟩ => ⟨S2x8192x2048, .bf16⟩
  | .hbm, ⟨7, _⟩ => ⟨S2x8192x2048, .f32⟩
  | .hbm, ⟨8, _⟩ => ⟨S2048x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S16384x2048, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel8.lean ====
abbrev S2x8192x1024 : Shape := ⟨3, ![2, 8192, 1024]⟩
abbrev S2x8192x6144 : Shape := ⟨3, ![2, 8192, 6144]⟩
abbrev S2x8192x2048 : Shape := ⟨3, ![2, 8192, 2048]⟩
abbrev S2x6x2048 : Shape := ⟨3, ![2, 6, 2048]⟩
abbrev S1x2048x2048 : Shape := ⟨3, ![1, 2048, 2048]⟩
abbrev S1x3x1024 : Shape := ⟨3, ![1, 3, 1024]⟩
abbrev S16384x1024 : Shape := ⟨2, ![16384, 1024]⟩
abbrev S16384x6144 : Shape := ⟨2, ![16384, 6144]⟩
abbrev S16384x2048 : Shape := ⟨2, ![16384, 2048]⟩
abbrev S3x1024 : Shape := ⟨2, ![3, 1024]⟩
abbrev S512x1024 : Shape := ⟨2, ![512, 1024]⟩
abbrev S8x1024 : Shape := ⟨2, ![8, 1024]⟩
abbrev S512x2048 : Shape := ⟨2, ![512, 2048]⟩
abbrev S1x6x2048 : Shape := ⟨3, ![1, 6, 2048]⟩
abbrev S520x1024 : Shape := ⟨2, ![520, 1024]⟩
abbrev S1x1024x2048 : Shape := ⟨3, ![1, 1024, 2048]⟩
abbrev S1024x2048 : Shape := ⟨2, ![1024, 2048]⟩
abbrev S1x1024 : Shape := ⟨2, ![1, 1024]⟩
abbrev S1x1x2048 : Shape := ⟨3, ![1, 1, 2048]⟩
abbrev S1x2048 : Shape := ⟨2, ![1, 2048]⟩

abbrev nBuf : Space → Nat
  | .hbm => 12
  | .vmem => 21
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x6144, .bf16⟩
  | .hbm, ⟨2, _⟩ => ⟨S2x8192x2048, .f32⟩
  | .hbm, ⟨3, _⟩ => ⟨S2x6x2048, .f32⟩
  | .hbm, ⟨4, _⟩ => ⟨S1x2048x2048, .f32⟩
  | .hbm, ⟨5, _⟩ => ⟨S1x3x1024, .f32⟩
  | .hbm, ⟨6, _⟩ => ⟨S16384x1024, .bf16⟩
  | .hbm, ⟨7, _⟩ => ⟨S16384x6144, .bf16⟩
  | .hbm, ⟨8, _⟩ => ⟨S1x2048x2048, .bf16⟩
  | .hbm, ⟨9, _⟩ => ⟨S16384x2048, .f32⟩
  | .hbm, ⟨10, _⟩ => ⟨S3x1024, .f32⟩
  | .hbm, ⟨11, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S8x1024, .bf16⟩
  | .local _ .vmem, ⟨9, _⟩ => ⟨S8x1024, .bf16⟩
  | .local _ .vmem, ⟨10, _⟩ => ⟨S8x1024, .bf16⟩
  | .local _ .vmem, ⟨11, _⟩ => ⟨S8x1024, .bf16⟩
  | .local _ .vmem, ⟨12, _⟩ => ⟨S3x1024, .f32⟩
  | .local _ .vmem, ⟨13, _⟩ => ⟨S1x2048x2048, .bf16⟩
  | .local _ .vmem, ⟨14, _⟩ => ⟨S512x2048, .f32⟩
  | .local _ .vmem, ⟨15, _⟩ => ⟨S512x2048, .f32⟩
  | .local _ .vmem, ⟨16, _⟩ => ⟨S1x6x2048, .f32⟩
  | .local _ .vmem, ⟨17, _⟩ => ⟨S1x6x2048, .f32⟩
  | .local _ .vmem, ⟨18, _⟩ => ⟨S512x2048, .f32⟩
  | .local _ .vmem, ⟨19, _⟩ => ⟨S512x2048, .f32⟩
  | .local _ .vmem, ⟨20, _⟩ => ⟨S520x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S2x8192x1024 : Shape := ⟨3, ![2, 8192, 1024]⟩
abbrev S2x8192x6144 : Shape := ⟨3, ![2, 8192, 6144]⟩
abbrev S2x8192x2048 : Shape := ⟨3, ![2, 8192, 2048]⟩
abbrev S2x6x2048 : Shape := ⟨3, ![2, 6, 2048]⟩
abbrev S1x2048x2048 : Shape := ⟨3, ![1, 2048, 2048]⟩
abbrev S1x3x1024 : Shape := ⟨3, ![1, 3, 1024]⟩
abbrev S2x1x2048 : Shape := ⟨3, ![2, 1, 2048]⟩
abbrev S_ : Shape := ⟨0, ![]⟩
abbrev S2x2x1024 : Shape := ⟨3, ![2, 2, 1024]⟩
abbrev S2x8194x1024 : Shape := ⟨3, ![2, 8194, 1024]⟩
abbrev S3x1024 : Shape := ⟨2, ![3, 1024]⟩
abbrev S1x1024 : Shape := ⟨2, ![1, 1024]⟩
abbrev S1024 : Shape := ⟨1, ![1024]⟩
abbrev S1x1x1024 : Shape := ⟨3, ![1, 1, 1024]⟩
abbrev S2048x2048 : Shape := ⟨2, ![2048, 2048]⟩
abbrev S16384x2048 : Shape := ⟨2, ![16384, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x6144, .bf16⟩
  | .hbm, ⟨2, _⟩ => ⟨S2x8192x2048, .f32⟩
  | .hbm, ⟨3, _⟩ => ⟨S2x6x2048, .f32⟩
  | .hbm, ⟨4, _⟩ => ⟨S1x2048x2048, .f32⟩
  | .hbm, ⟨5, _⟩ => ⟨S1x3x1024, .f32⟩
  | .hbm, ⟨6, _⟩ => ⟨S2x1x2048, .f32⟩
  | .hbm, ⟨7, _⟩ => ⟨S2x8192x1024, .bf16⟩
  | .hbm, ⟨8, _⟩ => ⟨S2x8192x1024, .f32⟩
  | .hbm, ⟨9, _⟩ => ⟨S2x8192x1024, .bf16⟩
  | .hbm, ⟨10, _⟩ => ⟨S2x8192x1024, .f32⟩
  | .hbm, ⟨11, _⟩ => ⟨S2x8192x1024, .bf16⟩
  | .hbm, ⟨12, _⟩ => ⟨S2x8192x1024, .f32⟩
  | .hbm, ⟨13, _⟩ => ⟨S_, .f32⟩
  | .hbm, ⟨14, _⟩ => ⟨S2x2x1024, .f32⟩
  | .hbm, ⟨15, _⟩ => ⟨S2x8192x1024, .f32⟩
  | .hbm, ⟨16, _⟩ => ⟨S2x8194x1024, .f32⟩
  | .hbm, ⟨17, _⟩ => ⟨S3x1024, .f32⟩
  | .hbm, ⟨18, _⟩ => ⟨S2x8192x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x2048, .f32⟩
  | .hbm, ⟨41, _⟩ => ⟨S2048x2048, .f32⟩
  | .hbm, ⟨42, _⟩ => ⟨S2x8192x2048, .f32⟩
  | .hbm, ⟨43, _⟩ => ⟨S2x8192x2048, .f32⟩
  | .hbm, ⟨44, _⟩ => ⟨S2x8192x2048, .f32⟩
  | .hbm, ⟨45, _⟩ => ⟨S2x8192x2048, .f32⟩
  | .hbm, ⟨46, _⟩ => ⟨S16384x2048, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== Kernel9.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 31
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S1x2048x12288, .f32⟩
  | .hbm, ⟨21, _⟩ => ⟨S2048x12288, .f32⟩
  | .hbm, ⟨22, _⟩ => ⟨S8x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S8x12288, .f32⟩
  | .hbm, ⟨27, _⟩ => ⟨S8x12288, .f32⟩
  | .hbm, ⟨28, _⟩ => ⟨S1x8x12288, .f32⟩
  | .hbm, ⟨29, _⟩ => ⟨S1x8x12288, .f32⟩
  | .hbm, ⟨30, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Proof.KernelHead.lean ====
/- One head of the chunkwise mLSTM kernel's body, in the body's own operations: every value the body computes between its
   loads and its stores, as a function of the head's inputs. The four heads of the body are the same text at four offsets,
   so each is an instance of the definitions below (KernelBody.lean says which). -/
module

public import proofs.«01_k».proof.Proof.Gen.KernelIdeal.Skeleton

@[expose] public section

noncomputable section

namespace Cert.Proof.Head

open Idealize.ShloMosaic Idealize.SL.Sem Cert.KernelIdeal Cert.KernelIdeal.Gen

variable {F : FTy → Type} [FloatOps F] [Named F]

/-- The logarithm of the sigmoid of a block of pre-activations: `-(max (-g) 0 + log1p (exp (-|g|)))`, with the test for a
    value that is not a number that the body makes. -/
def logSig (v4 : FVec F S256x128 .f32) : FVec F S256x128 .f32 :=
  have z : FVec F S256x128 .f32 := broadcast S256x128 (Scalar.ofBits .f32 0x00000000#32)
  have v6 : FVec F S256x128 .f32 := subf z v4
  have v10 : FVec F S256x128 .f32 := subf v6 z
  subf z (select (cmpf .one v10 v10) (addf v6 z)
    (addf (maximumf v6 z) (log1p (exp (subf z (absf v10))))))

/-- One doubling step of the prefix sum by a rotation of `d` rows, the rows that wrapped round replaced by zero. -/
def rotStep (d : BitVec 32) (x : FVec F S256x128 .f32) : FVec F S256x128 .f32 :=
  addf x (select (cmpi .slt (iota .tc S256x128 32 [0] iota_S256x128_d0_w32) (broadcast S256x128 d))
    (broadcast S256x128 (Scalar.ofBits .f32 0x00000000#32)) (dynamicRotate 0 d none x rotates_S256x128_d0))

/-- The doubling step by 8 rows: rows moved down by 8 under 8 rows of zeros. -/
def cat8 (x : FVec F S256x128 .f32) : FVec F S256x128 .f32 :=
  addf x (concatenate S256x128 0 [⟨S8x128, broadcast S8x128 (Scalar.ofBits .f32 0x00000000#32)⟩,
    ⟨S248x128, extractStridedSlice S248x128 ![0, 0] x slices_S256x128_o0_0_S248x128⟩] concatenates_S8x128_S248x128_S256x128_d0)

/-- The doubling step by 16 rows. -/
def cat16 (x : FVec F S256x128 .f32) : FVec F S256x128 .f32 :=
  addf x (concatenate S256x128 0 [⟨S16x128, broadcast S16x128 (Scalar.ofBits .f32 0x00000000#32)⟩,
    ⟨S240x128, extractStridedSlice S240x128 ![0, 0] x slices_S256x128_o0_0_S240x128⟩] concatenates_S16x128_S240x128_S256x128_d0)

/-- The doubling step by 32 rows. -/
def cat32 (x : FVec F S256x128 .f32) : FVec F S256x128 .f32 :=
  addf x (concatenate S256x128 0 [⟨S32x128, broadcast S32x128 (Scalar.ofBits .f32 0x00000000#32)⟩,
    ⟨S224x128, extractStridedSlice S224x128 ![0, 0] x slices_S256x128_o0_0_S224x128⟩] concatenates_S32x128_S224x128_S256x128_d0)

/-- The doubling step by 64 rows. -/
def cat64 (x : FVec F S256x128 .f32) : FVec F S256x128 .f32 :=
  addf x (concatenate S256x128 0 [⟨S64x128, broadcast S64x128 (Scalar.ofBits .f32 0x00000000#32)⟩,
    ⟨S192x128, extractStridedSlice S192x128 ![0, 0] x slices_S256x128_o0_0_S192x128⟩] concatenates_S64x128_S192x128_S256x128_d0)

/-- The doubling step by 128 rows. -/
def cat128 (x : FVec F S256x128 .f32) : FVec F S256x128 .f32 :=
  addf x (concatenate S256x128 0 [⟨S128x128, broadcast S128x128 (Scalar.ofBits .f32 0x00000000#32)⟩,
    ⟨S128x128, extractStridedSlice S128x128 ![0, 0] x slices_S256x128_o0_0_S128x128⟩] concatenates_S128x128_S128x128_S256x128_d0)

/-- The running sum down the rows, as the body takes it: eight doubling steps. -/
def cumRows (x : FVec F S256x128 .f32) : FVec F S256x128 .f32 :=
  cat128 (cat64 (cat32 (cat16 (cat8 (rotStep 4#32 (rotStep 2#32 (rotStep 1#32 x)))))))

/-- Input gates in the first four columns, running sums of the forget gates in the others, laid along rows. -/
def gateRows (v4 v63 : FVec F S256x128 .f32) : FVec F S128x256 .f32 :=
  transpose S128x256 [1, 0]
    (select (cmpi .slt (iota .tc S256x128 32 [1] iota_S256x128_d1_w32) (broadcast S256x128 4#32)) v4 v63)
    transposes_S256x128_p1_0_S128x256

/-- The causal mask of a chunk: column at most row. -/
def causal : IVec S256x256 1 :=
  cmpi .sle (iota .tc S256x256 32 [1] iota_S256x256_d1_w32) (iota .tc S256x256 32 [0] iota_S256x256_d0_w32)

/-- What one head reads: query, unscaled key, value and output gate of the chunk; the state `C`, `n`, `m` before it; the
    input gates and the running sum of the forget gates as a column and as a row. -/
structure HIn (F : FTy → Type) where
  /-- queries -/
  q : FVec F S256x256 .bf16
  /-- keys, before the scaling -/
  k0 : FVec F S256x256 .bf16
  /-- values -/
  v : FVec F S256x256 .bf16
  /-- output gates, before the sigmoid -/
  og : FVec F S256x256 .bf16
  /-- matrix state -/
  C : FVec F S256x256 .f32
  /-- normalizer state -/
  n : FVec F S1x256 .f32
  /-- stabilizer state -/
  m : FVec F S1x1 .f32
  /-- input gates, a column -/
  ic : FVec F S256x1 .f32
  /-- running sum of the forget gates, a column -/
  bc : FVec F S256x1 .f32
  /-- input gates, a row -/
  ir : FVec F S1x256 .f32
  /-- running sum of the forget gates, a row -/
  br : FVec F S1x256 .f32

variable (I : HIn F)

/-- The keys, scaled. -/
def kS : FVec F S256x256 .bf16 := mulf I.k0 (broadcast S256x256 (Scalar.ofBits .bf16 0x3D80#16))

/-- The decay matrix in the exponent, masked above the diagonal. -/
def dmat : FVec F S256x256 .f32 :=
  select causal
    (addf (subf (broadcastTo S256x256 I.bc broadcasts_S256x1_S256x256) (broadcastTo S256x256 I.br broadcasts_S1x256_S256x256))
      (broadcastTo S256x256 I.ir broadcasts_S1x256_S256x256))
    (broadcast S256x256 (Named.named κ "mask" 0xF149F2CA#32))

/-- The exponent of the state's share. -/
def inter : FVec F S256x1 .f32 := addf I.bc (broadcastTo S256x1 I.m broadcasts_S1x1_S256x1)

/-- The stabilizer of each row. -/
def mrow : FVec F S256x1 .f32 :=
  maximumf (inter I) (shapeCast S256x1
    (multiReduction .maximumf [1] S256 (dmat I) 0xFF800000#32 reduces_S256x256_S256 (.inl rfl) rfl) shapeCasts_S256_S256x1)

/-- The weight of the state in each row. -/
def winter : FVec F S256x1 .f32 := exp (subf (inter I) (mrow I))

/-- The weighted scores. -/
def sqk : FVec F S256x256 .f32 :=
  mulf (matmul dot_S256x256_S256x256_S256x256_1_1_0_0_n_n none I.q (kS I) (constant S256x256 .f32 0x00000000#32))
    (exp (subf (dmat I) (broadcastTo S256x256 (mrow I) broadcasts_S256x1_S256x256)))

/-- The denominator of each row. -/
def den : FVec F S256x1 .f32 :=
  addf (mulf (winter I) (shapeCast S256x1
      (multiReduction .add [1] S256 (mulf (extf .f32 I.q bitsLt_bf16_f32) (broadcastTo S256x256 I.n broadcasts_S1x256_S256x256))
        0x00000000#32 reduces_S256x256_S256 (.inl rfl) rfl) shapeCasts_S256_S256x1))
    (shapeCast S256x1 (multiReduction .add [1] S256 (sqk I) 0x00000000#32 reduces_S256x256_S256 (.inl rfl) rfl) shapeCasts_S256_S256x1)

/-- The running sum at the chunk's last row. -/
def blast : FVec F S1x1 .f32 := extractStridedSlice S1x1 ![255, 0] I.bc slices_S256x1_o255_0_S1x1

/-- The exponent of each row's contribution to the next state. -/
def wsrow : FVec F S256x1 .f32 :=
  addf (subf (broadcastTo S256x1 (blast I) broadcasts_S1x1_S256x1) I.bc) I.ic

/-- The stabilizer after the chunk. -/
def mnew : FVec F S1x1 .f32 :=
  maximumf (addf (blast I) I.m) (shapeCast S1x1
    (multiReduction .maximumf [0] S1 (wsrow I) 0xFF800000#32 reduces_S256x1_S1 (.inl rfl) rfl) shapeCasts_S1_S1x1)

/-- The decay of the state over the chunk. -/
def decay : FVec F S1x1 .f32 := exp (subf (addf (blast I) I.m) (mnew I))

/-- The keys weighted for the next state. -/
def kw : FVec F S256x256 .f32 :=
  mulf (broadcastTo S256x256 (exp (subf (wsrow I) (broadcastTo S256x1 (mnew I) broadcasts_S1x1_S256x1))) broadcasts_S256x1_S256x256)
    (extf .f32 (kS I) bitsLt_bf16_f32)

/-- The normalizer after the chunk. -/
def nnew : FVec F S1x256 .f32 :=
  addf (mulf (broadcastTo S1x256 (decay I) broadcasts_S1x1_S1x256) I.n)
    (shapeCast S1x256 (multiReduction .add [0] S256 (kw I) 0x00000000#32 reduces_S256x256_S256_2 (.inl rfl) rfl) shapeCasts_S256_S1x256)

/-- The matrix state after the chunk. -/
def cnew : FVec F S256x256 .f32 :=
  addf (mulf (broadcastTo S256x256 (decay I) broadcasts_S1x1_S256x256) I.C)
    (matmul dot_S256x256_S256x256_S256x256_0_0_1_1_n_n none (truncf .bf16 (kw I) bitsLt_bf16_f32) I.v (constant S256x256 .f32 0x00000000#32))

/-- The numerator of each row. -/
def num : FVec F S256x256 .f32 :=
  addf (mulf (broadcastTo S256x256 (winter I) broadcasts_S256x1_S256x256)
      (matmul dot_S256x256_S256x256_S256x256_1_0_0_1_n_n none I.q (truncf .bf16 I.C bitsLt_bf16_f32) (constant S256x256 .f32 0x00000000#32)))
    (matmul dot_S256x256_S256x256_S256x256_1_0_0_1_n_n none (truncf .bf16 (sqk I) bitsLt_bf16_f32) I.v (constant S256x256 .f32 0x00000000#32))

/-- The divisor of each row. -/
def divisor : FVec F S256x1 .f32 :=
  maximumf (absf (den I)) (exp (subf (broadcast S256x1 (Scalar.ofBits .f32 0x00000000#32)) (mrow I)))

/-- The gated hidden rows. -/
def hout : FVec F S256x256 .bf16 :=
  truncf .bf16 (mulf (divf (num I) (broadcastTo S256x256 (divisor I) broadcasts_S256x1_S256x256))
    (logistic (extf .f32 I.og bitsLt_bf16_f32))) bitsLt_bf16_f32

end Cert.Proof.Head

end
-- ==== Proof.KernelBody.lean ====
/- The chunkwise mLSTM kernel's body at a grid point: what it leaves in its output block and in the three carried state
   buffers, head by head, as KernelHead.lean's functions of what it loads. A point that starts a sequence fills the state
   with zeros first, so it is the other points' text over a state of zeros. -/
module

public import proofs.«01_k».proof.Proof.Gen.KernelIdeal.Value
public import proofs.«01_k».proof.Proof.KernelHead
public import Idealize.ShloMosaic.Lib.Pipeline.ValueKit
public import Idealize.ShloMosaic.Lib.Pipeline.ReadBack

@[expose] public section

set_option maxRecDepth 16384
set_option maxHeartbeats 2000000

noncomputable section

namespace Cert.Proof.Head

open Idealize.ShloMosaic Idealize.SL.Sem Cert.KernelIdeal Cert.KernelIdeal.Gen

variable {F : FTy → Type} [FloatOps F] [Named F]

/-- The block of gate pre-activations, its leading axis dropped. -/
def gatesOf (v3 : Vec F S1x256x128 .f32) : FVec F S256x128 .f32 := shapeCast S256x128 v3 shapeCasts_S1x256x128_S256x128

/-- A matrix state of zeros. -/
def zC : Vec F S4x256x256 .f32 := fun _ => Scalar.ofBits .f32 0x00000000#32
/-- A normalizer state of zeros. -/
def zN : Vec F S4x1x256 .f32 := fun _ => Scalar.ofBits .f32 0x00000000#32
/-- A stabilizer state of zeros. -/
def zM : Vec F S4x1x1 .f32 := fun _ => Scalar.ofBits .f32 0x00000000#32

/-- Head 0 of the body over what it loads. -/
def hin0 (q k v og : Vec F S1x256x256 .bf16) (g : Vec F S1x256x128 .f32) (C : Vec F S1x256x256 .f32) (n : Vec F S1x1x256 .f32)
    (m : Vec F S1x1x1 .f32) : HIn F where
  q := shapeCast S256x256 q shapeCasts_S1x256x256_S256x256
  k0 := shapeCast S256x256 k shapeCasts_S1x256x256_S256x256
  v := shapeCast S256x256 v shapeCasts_S1x256x256_S256x256
  og := shapeCast S256x256 og shapeCasts_S1x256x256_S256x256
  C := shapeCast S256x256 C shapeCasts_S1x256x256_S256x256
  n := shapeCast S1x256 n shapeCasts_S1x1x256_S1x256
  m := shapeCast S1x1 m shapeCasts_S1x1x1_S1x1
  ic := extractStridedSlice S256x1 ![0, 0] (gatesOf g) slices_S256x128_o0_0_S256x1
  bc := extractStridedSlice S256x1 ![0, 4] (cumRows (logSig (gatesOf g))) slices_S256x128_o0_4_S256x1
  ir := extractStridedSlice S1x256 ![0, 0] (gateRows (gatesOf g) (cumRows (logSig (gatesOf g)))) slices_S128x256_o0_0_S1x256
  br := extractStridedSlice S1x256 ![4, 0] (gateRows (gatesOf g) (cumRows (logSig (gatesOf g)))) slices_S128x256_o4_0_S1x256

/-- Head 0 over the blocks of a grid point and the state it finds. -/
def head0 (x0 x1 x2 x3 : Vec F S1x256x1024 .bf16) (x4 : Vec F S1x256x128 .f32) (s0 : Vec F S4x256x256 .f32) (s1 : Vec F S4x1x256 .f32) (s2 : Vec F S4x1x1 .f32) : HIn F :=
  hin0 (View.ld x0 (Rect.unit (s := S1x256x1024) ![0, 0, 0] S1x256x256.size inb_S1x256x1024_S1x256x256_0_0_0)) (View.ld x1 (Rect.unit (s := S1x256x1024) ![0, 0, 0] S1x256x256.size inb_S1x256x1024_S1x256x256_0_0_0)) (View.ld x2 (Rect.unit (s := S1x256x1024) ![0, 0, 0] S1x256x256.size inb_S1x256x1024_S1x256x256_0_0_0)) (View.ld x3 (Rect.unit (s := S1x256x1024) ![0, 0, 0] S1x256x256.size inb_S1x256x1024_S1x256x256_0_0_0)) (View.ld x4 (Rect.unit (s := S1x256x128) ![0, 0, 0] S1x256x128.size inb_S1x256x128_S1x256x128_0_0_0))
    (View.ld s0 (Rect.unit (s := S4x256x256) ![0, 0, 0] S1x256x256.size inb_S4x256x256_S1x256x256_0_0_0)) (View.ld s1 (Rect.unit (s := S4x1x256) ![0, 0, 0] S1x1x256.size inb_S4x1x256_S1x1x256_0_0_0)) (View.ld s2 (Rect.unit (s := S4x1x1) ![0, 0, 0] S1x1x1.size inb_S4x1x1_S1x1x1_0_0_0))

/-- Head 1 of the body over what it loads. -/
def hin1 (q k v og : Vec F S1x256x256 .bf16) (g : Vec F S1x256x128 .f32) (C : Vec F S1x256x256 .f32) (n : Vec F S1x1x256 .f32)
    (m : Vec F S1x1x1 .f32) : HIn F where
  q := shapeCast S256x256 q shapeCasts_S1x256x256_S256x256
  k0 := shapeCast S256x256 k shapeCasts_S1x256x256_S256x256
  v := shapeCast S256x256 v shapeCasts_S1x256x256_S256x256
  og := shapeCast S256x256 og shapeCasts_S1x256x256_S256x256
  C := shapeCast S256x256 C shapeCasts_S1x256x256_S256x256
  n := shapeCast S1x256 n shapeCasts_S1x1x256_S1x256
  m := shapeCast S1x1 m shapeCasts_S1x1x1_S1x1
  ic := extractStridedSlice S256x1 ![0, 1] (gatesOf g) slices_S256x128_o0_1_S256x1
  bc := extractStridedSlice S256x1 ![0, 5] (cumRows (logSig (gatesOf g))) slices_S256x128_o0_5_S256x1
  ir := extractStridedSlice S1x256 ![1, 0] (gateRows (gatesOf g) (cumRows (logSig (gatesOf g)))) slices_S128x256_o1_0_S1x256
  br := extractStridedSlice S1x256 ![5, 0] (gateRows (gatesOf g) (cumRows (logSig (gatesOf g)))) slices_S128x256_o5_0_S1x256

/-- Head 1 over the blocks of a grid point and the state it finds. -/
def head1 (x0 x1 x2 x3 : Vec F S1x256x1024 .bf16) (x4 : Vec F S1x256x128 .f32) (s0 : Vec F S4x256x256 .f32) (s1 : Vec F S4x1x256 .f32) (s2 : Vec F S4x1x1 .f32) : HIn F :=
  hin1 (View.ld x0 (Rect.unit (s := S1x256x1024) ![0, 0, 256] S1x256x256.size inb_S1x256x1024_S1x256x256_0_0_256)) (View.ld x1 (Rect.unit (s := S1x256x1024) ![0, 0, 256] S1x256x256.size inb_S1x256x1024_S1x256x256_0_0_256)) (View.ld x2 (Rect.unit (s := S1x256x1024) ![0, 0, 256] S1x256x256.size inb_S1x256x1024_S1x256x256_0_0_256)) (View.ld x3 (Rect.unit (s := S1x256x1024) ![0, 0, 256] S1x256x256.size inb_S1x256x1024_S1x256x256_0_0_256)) (View.ld x4 (Rect.unit (s := S1x256x128) ![0, 0, 0] S1x256x128.size inb_S1x256x128_S1x256x128_0_0_0))
    (View.ld s0 (Rect.unit (s := S4x256x256) ![1, 0, 0] S1x256x256.size inb_S4x256x256_S1x256x256_1_0_0)) (View.ld s1 (Rect.unit (s := S4x1x256) ![1, 0, 0] S1x1x256.size inb_S4x1x256_S1x1x256_1_0_0)) (View.ld s2 (Rect.unit (s := S4x1x1) ![1, 0, 0] S1x1x1.size inb_S4x1x1_S1x1x1_1_0_0))

/-- Head 2 of the body over what it loads. -/
def hin2 (q k v og : Vec F S1x256x256 .bf16) (g : Vec F S1x256x128 .f32) (C : Vec F S1x256x256 .f32) (n : Vec F S1x1x256 .f32)
    (m : Vec F S1x1x1 .f32) : HIn F where
  q := shapeCast S256x256 q shapeCasts_S1x256x256_S256x256
  k0 := shapeCast S256x256 k shapeCasts_S1x256x256_S256x256
  v := shapeCast S256x256 v shapeCasts_S1x256x256_S256x256
  og := shapeCast S256x256 og shapeCasts_S1x256x256_S256x256
  C := shapeCast S256x256 C shapeCasts_S1x256x256_S256x256
  n := shapeCast S1x256 n shapeCasts_S1x1x256_S1x256
  m := shapeCast S1x1 m shapeCasts_S1x1x1_S1x1
  ic := extractStridedSlice S256x1 ![0, 2] (gatesOf g) slices_S256x128_o0_2_S256x1
  bc := extractStridedSlice S256x1 ![0, 6] (cumRows (logSig (gatesOf g))) slices_S256x128_o0_6_S256x1
  ir := extractStridedSlice S1x256 ![2, 0] (gateRows (gatesOf g) (cumRows (logSig (gatesOf g)))) slices_S128x256_o2_0_S1x256
  br := extractStridedSlice S1x256 ![6, 0] (gateRows (gatesOf g) (cumRows (logSig (gatesOf g)))) slices_S128x256_o6_0_S1x256

/-- Head 2 over the blocks of a grid point and the state it finds. -/
def head2 (x0 x1 x2 x3 : Vec F S1x256x1024 .bf16) (x4 : Vec F S1x256x128 .f32) (s0 : Vec F S4x256x256 .f32) (s1 : Vec F S4x1x256 .f32) (s2 : Vec F S4x1x1 .f32) : HIn F :=
  hin2 (View.ld x0 (Rect.unit (s := S1x256x1024) ![0, 0, 512] S1x256x256.size inb_S1x256x1024_S1x256x256_0_0_512)) (View.ld x1 (Rect.unit (s := S1x256x1024) ![0, 0, 512] S1x256x256.size inb_S1x256x1024_S1x256x256_0_0_512)) (View.ld x2 (Rect.unit (s := S1x256x1024) ![0, 0, 512] S1x256x256.size inb_S1x256x1024_S1x256x256_0_0_512)) (View.ld x3 (Rect.unit (s := S1x256x1024) ![0, 0, 512] S1x256x256.size inb_S1x256x1024_S1x256x256_0_0_512)) (View.ld x4 (Rect.unit (s := S1x256x128) ![0, 0, 0] S1x256x128.size inb_S1x256x128_S1x256x128_0_0_0))
    (View.ld s0 (Rect.unit (s := S4x256x256) ![2, 0, 0] S1x256x256.size inb_S4x256x256_S1x256x256_2_0_0)) (View.ld s1 (Rect.unit (s := S4x1x256) ![2, 0, 0] S1x1x256.size inb_S4x1x256_S1x1x256_2_0_0)) (View.ld s2 (Rect.unit (s := S4x1x1) ![2, 0, 0] S1x1x1.size inb_S4x1x1_S1x1x1_2_0_0))

/-- Head 3 of the body over what it loads. -/
def hin3 (q k v og : Vec F S1x256x256 .bf16) (g : Vec F S1x256x128 .f32) (C : Vec F S1x256x256 .f32) (n : Vec F S1x1x256 .f32)
    (m : Vec F S1x1x1 .f32) : HIn F where
  q := shapeCast S256x256 q shapeCasts_S1x256x256_S256x256
  k0 := shapeCast S256x256 k shapeCasts_S1x256x256_S256x256
  v := shapeCast S256x256 v shapeCasts_S1x256x256_S256x256
  og := shapeCast S256x256 og shapeCasts_S1x256x256_S256x256
  C := shapeCast S256x256 C shapeCasts_S1x256x256_S256x256
  n := shapeCast S1x256 n shapeCasts_S1x1x256_S1x256
  m := shapeCast S1x1 m shapeCasts_S1x1x1_S1x1
  ic := extractStridedSlice S256x1 ![0, 3] (gatesOf g) slices_S256x128_o0_3_S256x1
  bc := extractStridedSlice S256x1 ![0, 7] (cumRows (logSig (gatesOf g))) slices_S256x128_o0_7_S256x1
  ir := extractStridedSlice S1x256 ![3, 0] (gateRows (gatesOf g) (cumRows (logSig (gatesOf g)))) slices_S128x256_o3_0_S1x256
  br := extractStridedSlice S1x256 ![7, 0] (gateRows (gatesOf g) (cumRows (logSig (gatesOf g)))) slices_S128x256_o7_0_S1x256

/-- Head 3 over the blocks of a grid point and the state it finds. -/
def head3 (x0 x1 x2 x3 : Vec F S1x256x1024 .bf16) (x4 : Vec F S1x256x128 .f32) (s0 : Vec F S4x256x256 .f32) (s1 : Vec F S4x1x256 .f32) (s2 : Vec F S4x1x1 .f32) : HIn F :=
  hin3 (View.ld x0 (Rect.unit (s := S1x256x1024) ![0, 0, 768] S1x256x256.size inb_S1x256x1024_S1x256x256_0_0_768)) (View.ld x1 (Rect.unit (s := S1x256x1024) ![0, 0, 768] S1x256x256.size inb_S1x256x1024_S1x256x256_0_0_768)) (View.ld x2 (Rect.unit (s := S1x256x1024) ![0, 0, 768] S1x256x256.size inb_S1x256x1024_S1x256x256_0_0_768)) (View.ld x3 (Rect.unit (s := S1x256x1024) ![0, 0, 768] S1x256x256.size inb_S1x256x1024_S1x256x256_0_0_768)) (View.ld x4 (Rect.unit (s := S1x256x128) ![0, 0, 0] S1x256x128.size inb_S1x256x128_S1x256x128_0_0_0))
    (View.ld s0 (Rect.unit (s := S4x256x256) ![3, 0, 0] S1x256x256.size inb_S4x256x256_S1x256x256_3_0_0)) (View.ld s1 (Rect.unit (s := S4x1x256) ![3, 0, 0] S1x1x256.size inb_S4x1x256_S1x1x256_3_0_0)) (View.ld s2 (Rect.unit (s := S4x1x1) ![3, 0, 0] S1x1x1.size inb_S4x1x1_S1x1x1_3_0_0))

/-- The four stores of the body into the output block, last first. -/
def piecesOut (x0 x1 x2 x3 : Vec F S1x256x1024 .bf16) (x4 : Vec F S1x256x128 .f32) (s0 : Vec F S4x256x256 .f32) (s1 : Vec F S4x1x256 .f32) (s2 : Vec F S4x1x1 .f32) : List (View.Piece (Elt F) S1x256x1024 .bf16) :=
  [⟨Rect.unit ![0, 0, 768] ![1, 256, 256] inb_S1x256x1024_S1x256x256_0_0_768, shapeCast S1x256x256 (hout (head3 x0 x1 x2 x3 x4 s0 s1 s2)) shapeCasts_S256x256_S1x256x256⟩,
      ⟨Rect.unit ![0, 0, 512] ![1, 256, 256] inb_S1x256x1024_S1x256x256_0_0_512, shapeCast S1x256x256 (hout (head2 x0 x1 x2 x3 x4 s0 s1 s2)) shapeCasts_S256x256_S1x256x256⟩,
      ⟨Rect.unit ![0, 0, 256] ![1, 256, 256] inb_S1x256x1024_S1x256x256_0_0_256, shapeCast S1x256x256 (hout (head1 x0 x1 x2 x3 x4 s0 s1 s2)) shapeCasts_S256x256_S1x256x256⟩,
      ⟨Rect.unit ![0, 0, 0] ![1, 256, 256] inb_S1x256x1024_S1x256x256_0_0_0, shapeCast S1x256x256 (hout (head0 x0 x1 x2 x3 x4 s0 s1 s2)) shapeCasts_S256x256_S1x256x256⟩]

/-- The four stores of the body into the matrix state, last first. -/
def piecesC (x0 x1 x2 x3 : Vec F S1x256x1024 .bf16) (x4 : Vec F S1x256x128 .f32) (s0 : Vec F S4x256x256 .f32) (s1 : Vec F S4x1x256 .f32) (s2 : Vec F S4x1x1 .f32) : List (View.Piece (Elt F) S4x256x256 .f32) :=
  [⟨Rect.unit ![3, 0, 0] ![1, 256, 256] inb_S4x256x256_S1x256x256_3_0_0, shapeCast S1x256x256 (cnew (head3 x0 x1 x2 x3 x4 s0 s1 s2)) shapeCasts_S256x256_S1x256x256⟩,
      ⟨Rect.unit ![2, 0, 0] ![1, 256, 256] inb_S4x256x256_S1x256x256_2_0_0, shapeCast S1x256x256 (cnew (head2 x0 x1 x2 x3 x4 s0 s1 s2)) shapeCasts_S256x256_S1x256x256⟩,
      ⟨Rect.unit ![1, 0, 0] ![1, 256, 256] inb_S4x256x256_S1x256x256_1_0_0, shapeCast S1x256x256 (cnew (head1 x0 x1 x2 x3 x4 s0 s1 s2)) shapeCasts_S256x256_S1x256x256⟩,
      ⟨Rect.unit ![0, 0, 0] ![1, 256, 256] inb_S4x256x256_S1x256x256_0_0_0, shapeCast S1x256x256 (cnew (head0 x0 x1 x2 x3 x4 s0 s1 s2)) shapeCasts_S256x256_S1x256x256⟩]

/-- The four stores of the body into the normalizer state, last first. -/
def piecesN (x0 x1 x2 x3 : Vec F S1x256x1024 .bf16) (x4 : Vec F S1x256x128 .f32) (s0 : Vec F S4x256x256 .f32) (s1 : Vec F S4x1x256 .f32) (s2 : Vec F S4x1x1 .f32) : List (View.Piece (Elt F) S4x1x256 .f32) :=
  [⟨Rect.unit ![3, 0, 0] ![1, 1, 256] inb_S4x1x256_S1x1x256_3_0_0, shapeCast S1x1x256 (nnew (head3 x0 x1 x2 x3 x4 s0 s1 s2)) shapeCasts_S1x256_S1x1x256⟩,
      ⟨Rect.unit ![2, 0, 0] ![1, 1, 256] inb_S4x1x256_S1x1x256_2_0_0, shapeCast S1x1x256 (nnew (head2 x0 x1 x2 x3 x4 s0 s1 s2)) shapeCasts_S1x256_S1x1x256⟩,
      ⟨Rect.unit ![1, 0, 0] ![1, 1, 256] inb_S4x1x256_S1x1x256_1_0_0, shapeCast S1x1x256 (nnew (head1 x0 x1 x2 x3 x4 s0 s1 s2)) shapeCasts_S1x256_S1x1x256⟩,
      ⟨Rect.unit ![0, 0, 0] ![1, 1, 256] inb_S4x1x256_S1x1x256_0_0_0, shapeCast S1x1x256 (nnew (head0 x0 x1 x2 x3 x4 s0 s1 s2)) shapeCasts_S1x256_S1x1x256⟩]

/-- The four stores of the body into the stabilizer state, last first. -/
def piecesM (x0 x1 x2 x3 : Vec F S1x256x1024 .bf16) (x4 : Vec F S1x256x128 .f32) (s0 : Vec F S4x256x256 .f32) (s1 : Vec F S4x1x256 .f32) (s2 : Vec F S4x1x1 .f32) : List (View.Piece (Elt F) S4x1x1 .f32) :=
  [⟨Rect.unit ![3, 0, 0] ![1, 1, 1] inb_S4x1x1_S1x1x1_3_0_0, shapeCast S1x1x1 (mnew (head3 x0 x1 x2 x3 x4 s0 s1 s2)) shapeCasts_S1x1_S1x1x1⟩,
      ⟨Rect.unit ![2, 0, 0] ![1, 1, 1] inb_S4x1x1_S1x1x1_2_0_0, shapeCast S1x1x1 (mnew (head2 x0 x1 x2 x3 x4 s0 s1 s2)) shapeCasts_S1x1_S1x1x1⟩,
      ⟨Rect.unit ![1, 0, 0] ![1, 1, 1] inb_S4x1x1_S1x1x1_1_0_0, shapeCast S1x1x1 (mnew (head1 x0 x1 x2 x3 x4 s0 s1 s2)) shapeCasts_S1x1_S1x1x1⟩,
      ⟨Rect.unit ![0, 0, 0] ![1, 1, 1] inb_S4x1x1_S1x1x1_0_0_0, shapeCast S1x1x1 (mnew (head0 x0 x1 x2 x3 x4 s0 s1 s2)) shapeCasts_S1x1_S1x1x1⟩]

/-- A point inside a sequence: the output block after the body, from the state it finds. -/
theorem out0_B_5_eq (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : ¬cond0_0 i) (x0 x1 x2 x3 : Vec F S1x256x1024 .bf16) (x4 : Vec F S1x256x128 .f32) (s0 : Vec F S4x256x256 .f32) (s1 : Vec F S4x1x256 .f32) (s2 : Vec F S4x1x1 .f32) :
    out0_B_5 c i arg2 harg2 arg3 harg3 arg4 harg4 arg5 harg5 arg6 harg6 arg7 harg7 arg8 harg8 arg9 harg9 arg10 harg10 hc0 x0 x1 x2 x3 x4 s0 s1 s2 = View.canon (piecesOut x0 x1 x2 x3 x4 s0 s1 s2) := by
  refine (View.read_writes_eq_canon _ _ _ (cover0_B_5 c i arg2 harg2 arg3 harg3 arg4 harg4 arg5 harg5 arg6 harg6 arg7 harg7 arg8 harg8 arg9 harg9 arg10 harg10 hc0 x0 x1 x2 x3 x4 s0 s1 s2)).trans ?_
  have key : (kernelRun0_B c i arg2 harg2 arg3 harg3 arg4 harg4 arg5 harg5 arg6 harg6 arg7 harg7 arg8 harg8 arg9 harg9 arg10 harg10 hc0 x0 x1 x2 x3 x4 s0 s1 s2).1 =
      [⟨Rect.unit ![0, 0, 768] ![1, 256, 256] inb_S1x256x1024_S1x256x256_0_0_768, shapeCast S1x256x256 (hout (hin3 (View.readAt (Elt F) arg2.view (Rect.unit (s := S1x256x1024) ![0, 0, 768] S1x256x256.size inb_S1x256x1024_S1x256x256_0_0_768).toLoadRect (harg2.unread x0)) (View.readAt (Elt F) arg3.view (Rect.unit (s := S1x256x1024) ![0, 0, 768] S1x256x256.size inb_S1x256x1024_S1x256x256_0_0_768).toLoadRect (harg3.unread x1)) (View.readAt (Elt F) arg4.view (Rect.unit (s := S1x256x1024) ![0, 0, 768] S1x256x256.size inb_S1x256x1024_S1x256x256_0_0_768).toLoadRect (harg4.unread x2)) (View.readAt (Elt F) arg5.view (Rect.unit (s := S1x256x1024) ![0, 0, 768] S1x256x256.size inb_S1x256x1024_S1x256x256_0_0_768).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![3, 0, 0] S1x256x256.size inb_S4x256x256_S1x256x256_3_0_0).toLoadRect (harg8.unread s0)) (View.readAt (Elt F) arg9.view (Rect.unit (s := S4x1x256) ![3, 0, 0] S1x1x256.size inb_S4x1x256_S1x1x256_3_0_0).toLoadRect (harg9.unread s1)) (View.readAt (Elt F) arg10.view (Rect.unit (s := S4x1x1) ![3, 0, 0] S1x1x1.size inb_S4x1x1_S1x1x1_3_0_0).toLoadRect (harg10.unread s2)))) shapeCasts_S256x256_S1x256x256⟩,
      ⟨Rect.unit ![0, 0, 512] ![1, 256, 256] inb_S1x256x1024_S1x256x256_0_0_512, shapeCast S1x256x256 (hout (hin2 (View.readAt (Elt F) arg2.view (Rect.unit (s := S1x256x1024) ![0, 0, 512] S1x256x256.size inb_S1x256x1024_S1x256x256_0_0_512).toLoadRect (harg2.unread x0)) (View.readAt (Elt F) arg3.view (Rect.unit (s := S1x256x1024) ![0, 0, 512] S1x256x256.size inb_S1x256x1024_S1x256x256_0_0_512).toLoadRect (harg3.unread x1)) (View.readAt (Elt F) arg4.view (Rect.unit (s := S1x256x1024) ![0, 0, 512] S1x256x256.size inb_S1x256x1024_S1x256x256_0_0_512).toLoadRect (harg4.unread x2)) (View.readAt (Elt F) arg5.view (Rect.unit (s := S1x256x1024) ![0, 0, 512] S1x256x256.size inb_S1x256x1024_S1x256x256_0_0_512).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![2, 0, 0] S1x256x256.size inb_S4x256x256_S1x256x256_2_0_0).toLoadRect (harg8.unread s0)) (View.readAt (Elt F) arg9.view (Rect.unit (s := S4x1x256) ![2, 0, 0] S1x1x256.size inb_S4x1x256_S1x1x256_2_0_0).toLoadRect (harg9.unread s1)) (View.readAt (Elt F) arg10.view (Rect.unit (s := S4x1x1) ![2, 0, 0] S1x1x1.size inb_S4x1x1_S1x1x1_2_0_0).toLoadRect (harg10.unread s2)))) shapeCasts_S256x256_S1x256x256⟩,
      ⟨Rect.unit ![0, 0, 256] ![1, 256, 256] inb_S1x256x1024_S1x256x256_0_0_256, shapeCast S1x256x256 (hout (hin1 (View.readAt (Elt F) arg2.view (Rect.unit (s := S1x256x1024) ![0, 0, 256] S1x256x256.size inb_S1x256x1024_S1x256x256_0_0_256).toLoadRect (harg2.unread x0)) (View.readAt (Elt F) arg3.view (Rect.unit (s := S1x256x1024) ![0, 0, 256] S1x256x256.size inb_S1x256x1024_S1x256x256_0_0_256).toLoadRect (harg3.unread x1)) (View.readAt (Elt F) arg4.view (Rect.unit (s := S1x256x1024) ![0, 0, 256] S1x256x256.size inb_S1x256x1024_S1x256x256_0_0_256).toLoadRect (harg4.unread x2)) (View.readAt (Elt F) arg5.view (Rect.unit (s := S1x256x1024) ![0, 0, 256] S1x256x256.size inb_S1x256x1024_S1x256x256_0_0_256).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![1, 0, 0] S1x256x256.size inb_S4x256x256_S1x256x256_1_0_0).toLoadRect (harg8.unread s0)) (View.readAt (Elt F) arg9.view (Rect.unit (s := S4x1x256) ![1, 0, 0] S1x1x256.size inb_S4x1x256_S1x1x256_1_0_0).toLoadRect (harg9.unread s1)) (View.readAt (Elt F) arg10.view (Rect.unit (s := S4x1x1) ![1, 0, 0] S1x1x1.size inb_S4x1x1_S1x1x1_1_0_0).toLoadRect (harg10.unread s2)))) shapeCasts_S256x256_S1x256x256⟩,
      ⟨Rect.unit ![0, 0, 0] ![1, 256, 256] inb_S1x256x1024_S1x256x256_0_0_0, shapeCast S1x256x256 (hout (hin0 (View.readAt (Elt F) arg2.view (Rect.unit (s := S1x256x1024) ![0, 0, 0] S1x256x256.size inb_S1x256x1024_S1x256x256_0_0_0).toLoadRect (harg2.unread x0)) (View.readAt (Elt F) arg3.view (Rect.unit (s := S1x256x1024) ![0, 0, 0] S1x256x256.size inb_S1x256x1024_S1x256x256_0_0_0).toLoadRect (harg3.unread x1)) (View.readAt (Elt F) arg4.view (Rect.unit (s := S1x256x1024) ![0, 0, 0] S1x256x256.size inb_S1x256x1024_S1x256x256_0_0_0).toLoadRect (harg4.unread x2)) (View.readAt (Elt F) arg5.view (Rect.unit (s := S1x256x1024) ![0, 0, 0] S1x256x256.size inb_S1x256x1024_S1x256x256_0_0_0).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![0, 0, 0] S1x256x256.size inb_S4x256x256_S1x256x256_0_0_0).toLoadRect (harg8.unread s0)) (View.readAt (Elt F) arg9.view (Rect.unit (s := S4x1x256) ![0, 0, 0] S1x1x256.size inb_S4x1x256_S1x1x256_0_0_0).toLoadRect (harg9.unread s1)) (View.readAt (Elt F) arg10.view (Rect.unit (s := S4x1x1) ![0, 0, 0] S1x1x1.size inb_S4x1x1_S1x1x1_0_0_0).toLoadRect (harg10.unread s2)))) shapeCasts_S256x256_S1x256x256⟩] := rfl
  rw [key]
  simp only [View.readAt_eq_ld, Memref.IsWhole.read_unread]
  rfl

/-- A point inside a sequence: the matrix state after the body, from the state it finds. -/
theorem sout0_B_0_eq (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : ¬cond0_0 i) (x0 x1 x2 x3 : Vec F S1x256x1024 .bf16) (x4 : Vec F S1x256x128 .f32) (s0 : Vec F S4x256x256 .f32) (s1 : Vec F S4x1x256 .f32) (s2 : Vec F S4x1x1 .f32) :
    sout0_B_0 c i arg2 harg2 arg3 harg3 arg4 harg4 arg5 harg5 arg6 harg6 arg7 harg7 arg8 harg8 arg9 harg9 arg10 harg10 hc0 x0 x1 x2 x3 x4 s0 s1 s2 = View.canon (piecesC x0 x1 x2 x3 x4 s0 s1 s2) := by
  refine (View.read_writes_eq_canon _ _ _ (scover0_B_0 c i arg2 harg2 arg3 harg3 arg4 harg4 arg5 harg5 arg6 harg6 arg7 harg7 arg8 harg8 arg9 harg9 arg10 harg10 hc0 x0 x1 x2 x3 x4 s0 s1 s2)).trans ?_
  have key : (kernelRun0_B c i arg2 harg2 arg3 harg3 arg4 harg4 arg5 harg5 arg6 harg6 arg7 harg7 arg8 harg8 arg9 harg9 arg10 harg10 hc0 x0 x1 x2 x3 x4 s0 s1 s2).2.1 =
      [⟨Rect.unit ![3, 0, 0] ![1, 256, 256] inb_S4x256x256_S1x256x256_3_0_0, shapeCast S1x256x256 (cnew (hin3 (View.readAt (Elt F) arg2.view (Rect.unit (s := S1x256x1024) ![0, 0, 768] S1x256x256.size inb_S1x256x1024_S1x256x256_0_0_768).toLoadRect (harg2.unread x0)) (View.readAt (Elt F) arg3.view (Rect.unit (s := S1x256x1024) ![0, 0, 768] S1x256x256.size inb_S1x256x1024_S1x256x256_0_0_768).toLoadRect (harg3.unread x1)) (View.readAt (Elt F) arg4.view (Rect.unit (s := S1x256x1024) ![0, 0, 768] S1x256x256.size inb_S1x256x1024_S1x256x256_0_0_768).toLoadRect (harg4.unread x2)) (View.readAt (Elt F) arg5.view (Rect.unit (s := S1x256x1024) ![0, 0, 768] S1x256x256.size inb_S1x256x1024_S1x256x256_0_0_768).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![3, 0, 0] S1x256x256.size inb_S4x256x256_S1x256x256_3_0_0).toLoadRect (harg8.unread s0)) (View.readAt (Elt F) arg9.view (Rect.unit (s := S4x1x256) ![3, 0, 0] S1x1x256.size inb_S4x1x256_S1x1x256_3_0_0).toLoadRect (harg9.unread s1)) (View.readAt (Elt F) arg10.view (Rect.unit (s := S4x1x1) ![3, 0, 0] S1x1x1.size inb_S4x1x1_S1x1x1_3_0_0).toLoadRect (harg10.unread s2)))) shapeCasts_S256x256_S1x256x256⟩,
      ⟨Rect.unit ![2, 0, 0] ![1, 256, 256] inb_S4x256x256_S1x256x256_2_0_0, shapeCast S1x256x256 (cnew (hin2 (View.readAt (Elt F) arg2.view (Rect.unit (s := S1x256x1024) ![0, 0, 512] S1x256x256.size inb_S1x256x1024_S1x256x256_0_0_512).toLoadRect (harg2.unread x0)) (View.readAt (Elt F) arg3.view (Rect.unit (s := S1x256x1024) ![0, 0, 512] S1x256x256.size inb_S1x256x1024_S1x256x256_0_0_512).toLoadRect (harg3.unread x1)) (View.readAt (Elt F) arg4.view (Rect.unit (s := S1x256x1024) ![0, 0, 512] S1x256x256.size inb_S1x256x1024_S1x256x256_0_0_512).toLoadRect (harg4.unread x2)) (View.readAt (Elt F) arg5.view (Rect.unit (s := S1x256x1024) ![0, 0, 512] S1x256x256.size inb_S1x256x1024_S1x256x256_0_0_512).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![2, 0, 0] S1x256x256.size inb_S4x256x256_S1x256x256_2_0_0).toLoadRect (harg8.unread s0)) (View.readAt (Elt F) arg9.view (Rect.unit (s := S4x1x256) ![2, 0, 0] S1x1x256.size inb_S4x1x256_S1x1x256_2_0_0).toLoadRect (harg9.unread s1)) (View.readAt (Elt F) arg10.view (Rect.unit (s := S4x1x1) ![2, 0, 0] S1x1x1.size inb_S4x1x1_S1x1x1_2_0_0).toLoadRect (harg10.unread s2)))) shapeCasts_S256x256_S1x256x256⟩,
      ⟨Rect.unit ![1, 0, 0] ![1, 256, 256] inb_S4x256x256_S1x256x256_1_0_0, shapeCast S1x256x256 (cnew (hin1 (View.readAt (Elt F) arg2.view (Rect.unit (s := S1x256x1024) ![0, 0, 256] S1x256x256.size inb_S1x256x1024_S1x256x256_0_0_256).toLoadRect (harg2.unread x0)) (View.readAt (Elt F) arg3.view (Rect.unit (s := S1x256x1024) ![0, 0, 256] S1x256x256.size inb_S1x256x1024_S1x256x256_0_0_256).toLoadRect (harg3.unread x1)) (View.readAt (Elt F) arg4.view (Rect.unit (s := S1x256x1024) ![0, 0, 256] S1x256x256.size inb_S1x256x1024_S1x256x256_0_0_256).toLoadRect (harg4.unread x2)) (View.readAt (Elt F) arg5.view (Rect.unit (s := S1x256x1024) ![0, 0, 256] S1x256x256.size inb_S1x256x1024_S1x256x256_0_0_256).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![1, 0, 0] S1x256x256.size inb_S4x256x256_S1x256x256_1_0_0).toLoadRect (harg8.unread s0)) (View.readAt (Elt F) arg9.view (Rect.unit (s := S4x1x256) ![1, 0, 0] S1x1x256.size inb_S4x1x256_S1x1x256_1_0_0).toLoadRect (harg9.unread s1)) (View.readAt (Elt F) arg10.view (Rect.unit (s := S4x1x1) ![1, 0, 0] S1x1x1.size inb_S4x1x1_S1x1x1_1_0_0).toLoadRect (harg10.unread s2)))) shapeCasts_S256x256_S1x256x256⟩,
      ⟨Rect.unit ![0, 0, 0] ![1, 256, 256] inb_S4x256x256_S1x256x256_0_0_0, shapeCast S1x256x256 (cnew (hin0 (View.readAt (Elt F) arg2.view (Rect.unit (s := S1x256x1024) ![0, 0, 0] S1x256x256.size inb_S1x256x1024_S1x256x256_0_0_0).toLoadRect (harg2.unread x0)) (View.readAt (Elt F) arg3.view (Rect.unit (s := S1x256x1024) ![0, 0, 0] S1x256x256.size inb_S1x256x1024_S1x256x256_0_0_0).toLoadRect (harg3.unread x1)) (View.readAt (Elt F) arg4.view (Rect.unit (s := S1x256x1024) ![0, 0, 0] S1x256x256.size inb_S1x256x1024_S1x256x256_0_0_0).toLoadRect (harg4.unread x2)) (View.readAt (Elt F) arg5.view (Rect.unit (s := S1x256x1024) ![0, 0, 0] S1x256x256.size inb_S1x256x1024_S1x256x256_0_0_0).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![0, 0, 0] S1x256x256.size inb_S4x256x256_S1x256x256_0_0_0).toLoadRect (harg8.unread s0)) (View.readAt (Elt F) arg9.view (Rect.unit (s := S4x1x256) ![0, 0, 0] S1x1x256.size inb_S4x1x256_S1x1x256_0_0_0).toLoadRect (harg9.unread s1)) (View.readAt (Elt F) arg10.view (Rect.unit (s := S4x1x1) ![0, 0, 0] S1x1x1.size inb_S4x1x1_S1x1x1_0_0_0).toLoadRect (harg10.unread s2)))) shapeCasts_S256x256_S1x256x256⟩] := rfl
  rw [key]
  simp only [View.readAt_eq_ld, Memref.IsWhole.read_unread]
  rfl

/-- A point inside a sequence: the normalizer state after the body, from the state it finds. -/
theorem sout0_B_1_eq (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : ¬cond0_0 i) (x0 x1 x2 x3 : Vec F S1x256x1024 .bf16) (x4 : Vec F S1x256x128 .f32) (s0 : Vec F S4x256x256 .f32) (s1 : Vec F S4x1x256 .f32) (s2 : Vec F S4x1x1 .f32) :
    sout0_B_1 c i arg2 harg2 arg3 harg3 arg4 harg4 arg5 harg5 arg6 harg6 arg7 harg7 arg8 harg8 arg9 harg9 arg10 harg10 hc0 x0 x1 x2 x3 x4 s0 s1 s2 = View.canon (piecesN x0 x1 x2 x3 x4 s0 s1 s2) := by
  refine (View.read_writes_eq_canon _ _ _ (scover0_B_1 c i arg2 harg2 arg3 harg3 arg4 harg4 arg5 harg5 arg6 harg6 arg7 harg7 arg8 harg8 arg9 harg9 arg10 harg10 hc0 x0 x1 x2 x3 x4 s0 s1 s2)).trans ?_
  have key : (kernelRun0_B c i arg2 harg2 arg3 harg3 arg4 harg4 arg5 harg5 arg6 harg6 arg7 harg7 arg8 harg8 arg9 harg9 arg10 harg10 hc0 x0 x1 x2 x3 x4 s0 s1 s2).2.2.1 =
      [⟨Rect.unit ![3, 0, 0] ![1, 1, 256] inb_S4x1x256_S1x1x256_3_0_0, shapeCast S1x1x256 (nnew (hin3 (View.readAt (Elt F) arg2.view (Rect.unit (s := S1x256x1024) ![0, 0, 768] S1x256x256.size inb_S1x256x1024_S1x256x256_0_0_768).toLoadRect (harg2.unread x0)) (View.readAt (Elt F) arg3.view (Rect.unit (s := S1x256x1024) ![0, 0, 768] S1x256x256.size inb_S1x256x1024_S1x256x256_0_0_768).toLoadRect (harg3.unread x1)) (View.readAt (Elt F) arg4.view (Rect.unit (s := S1x256x1024) ![0, 0, 768] S1x256x256.size inb_S1x256x1024_S1x256x256_0_0_768).toLoadRect (harg4.unread x2)) (View.readAt (Elt F) arg5.view (Rect.unit (s := S1x256x1024) ![0, 0, 768] S1x256x256.size inb_S1x256x1024_S1x256x256_0_0_768).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![3, 0, 0] S1x256x256.size inb_S4x256x256_S1x256x256_3_0_0).toLoadRect (harg8.unread s0)) (View.readAt (Elt F) arg9.view (Rect.unit (s := S4x1x256) ![3, 0, 0] S1x1x256.size inb_S4x1x256_S1x1x256_3_0_0).toLoadRect (harg9.unread s1)) (View.readAt (Elt F) arg10.view (Rect.unit (s := S4x1x1) ![3, 0, 0] S1x1x1.size inb_S4x1x1_S1x1x1_3_0_0).toLoadRect (harg10.unread s2)))) shapeCasts_S1x256_S1x1x256⟩,
      ⟨Rect.unit ![2, 0, 0] ![1, 1, 256] inb_S4x1x256_S1x1x256_2_0_0, shapeCast S1x1x256 (nnew (hin2 (View.readAt (Elt F) arg2.view (Rect.unit (s := S1x256x1024) ![0, 0, 512] S1x256x256.size inb_S1x256x1024_S1x256x256_0_0_512).toLoadRect (harg2.unread x0)) (View.readAt (Elt F) arg3.view (Rect.unit (s := S1x256x1024) ![0, 0, 512] S1x256x256.size inb_S1x256x1024_S1x256x256_0_0_512).toLoadRect (harg3.unread x1)) (View.readAt (Elt F) arg4.view (Rect.unit (s := S1x256x1024) ![0, 0, 512] S1x256x256.size inb_S1x256x1024_S1x256x256_0_0_512).toLoadRect (harg4.unread x2)) (View.readAt (Elt F) arg5.view (Rect.unit (s := S1x256x1024) ![0, 0, 512] S1x256x256.size inb_S1x256x1024_S1x256x256_0_0_512).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![2, 0, 0] S1x256x256.size inb_S4x256x256_S1x256x256_2_0_0).toLoadRect (harg8.unread s0)) (View.readAt (Elt F) arg9.view (Rect.unit (s := S4x1x256) ![2, 0, 0] S1x1x256.size inb_S4x1x256_S1x1x256_2_0_0).toLoadRect (harg9.unread s1)) (View.readAt (Elt F) arg10.view (Rect.unit (s := S4x1x1) ![2, 0, 0] S1x1x1.size inb_S4x1x1_S1x1x1_2_0_0).toLoadRect (harg10.unread s2)))) shapeCasts_S1x256_S1x1x256⟩,
      ⟨Rect.unit ![1, 0, 0] ![1, 1, 256] inb_S4x1x256_S1x1x256_1_0_0, shapeCast S1x1x256 (nnew (hin1 (View.readAt (Elt F) arg2.view (Rect.unit (s := S1x256x1024) ![0, 0, 256] S1x256x256.size inb_S1x256x1024_S1x256x256_0_0_256).toLoadRect (harg2.unread x0)) (View.readAt (Elt F) arg3.view (Rect.unit (s := S1x256x1024) ![0, 0, 256] S1x256x256.size inb_S1x256x1024_S1x256x256_0_0_256).toLoadRect (harg3.unread x1)) (View.readAt (Elt F) arg4.view (Rect.unit (s := S1x256x1024) ![0, 0, 256] S1x256x256.size inb_S1x256x1024_S1x256x256_0_0_256).toLoadRect (harg4.unread x2)) (View.readAt (Elt F) arg5.view (Rect.unit (s := S1x256x1024) ![0, 0, 256] S1x256x256.size inb_S1x256x1024_S1x256x256_0_0_256).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![1, 0, 0] S1x256x256.size inb_S4x256x256_S1x256x256_1_0_0).toLoadRect (harg8.unread s0)) (View.readAt (Elt F) arg9.view (Rect.unit (s := S4x1x256) ![1, 0, 0] S1x1x256.size inb_S4x1x256_S1x1x256_1_0_0).toLoadRect (harg9.unread s1)) (View.readAt (Elt F) arg10.view (Rect.unit (s := S4x1x1) ![1, 0, 0] S1x1x1.size inb_S4x1x1_S1x1x1_1_0_0).toLoadRect (harg10.unread s2)))) shapeCasts_S1x256_S1x1x256⟩,
      ⟨Rect.unit ![0, 0, 0] ![1, 1, 256] inb_S4x1x256_S1x1x256_0_0_0, shapeCast S1x1x256 (nnew (hin0 (View.readAt (Elt F) arg2.view (Rect.unit (s := S1x256x1024) ![0, 0, 0] S1x256x256.size inb_S1x256x1024_S1x256x256_0_0_0).toLoadRect (harg2.unread x0)) (View.readAt (Elt F) arg3.view (Rect.unit (s := S1x256x1024) ![0, 0, 0] S1x256x256.size inb_S1x256x1024_S1x256x256_0_0_0).toLoadRect (harg3.unread x1)) (View.readAt (Elt F) arg4.view (Rect.unit (s := S1x256x1024) ![0, 0, 0] S1x256x256.size inb_S1x256x1024_S1x256x256_0_0_0).toLoadRect (harg4.unread x2)) (View.readAt (Elt F) arg5.view (Rect.unit (s := S1x256x1024) ![0, 0, 0] S1x256x256.size inb_S1x256x1024_S1x256x256_0_0_0).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![0, 0, 0] S1x256x256.size inb_S4x256x256_S1x256x256_0_0_0).toLoadRect (harg8.unread s0)) (View.readAt (Elt F) arg9.view (Rect.unit (s := S4x1x256) ![0, 0, 0] S1x1x256.size inb_S4x1x256_S1x1x256_0_0_0).toLoadRect (harg9.unread s1)) (View.readAt (Elt F) arg10.view (Rect.unit (s := S4x1x1) ![0, 0, 0] S1x1x1.size inb_S4x1x1_S1x1x1_0_0_0).toLoadRect (harg10.unread s2)))) shapeCasts_S1x256_S1x1x256⟩] := rfl
  rw [key]
  simp only [View.readAt_eq_ld, Memref.IsWhole.read_unread]
  rfl

/-- A point inside a sequence: the stabilizer state after the body, from the state it finds. -/
theorem sout0_B_2_eq (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : ¬cond0_0 i) (x0 x1 x2 x3 : Vec F S1x256x1024 .bf16) (x4 : Vec F S1x256x128 .f32) (s0 : Vec F S4x256x256 .f32) (s1 : Vec F S4x1x256 .f32) (s2 : Vec F S4x1x1 .f32) :
    sout0_B_2 c i arg2 harg2 arg3 harg3 arg4 harg4 arg5 harg5 arg6 harg6 arg7 harg7 arg8 harg8 arg9 harg9 arg10 harg10 hc0 x0 x1 x2 x3 x4 s0 s1 s2 = View.canon (piecesM x0 x1 x2 x3 x4 s0 s1 s2) := by
  refine (View.read_writes_eq_canon _ _ _ (scover0_B_2 c i arg2 harg2 arg3 harg3 arg4 harg4 arg5 harg5 arg6 harg6 arg7 harg7 arg8 harg8 arg9 harg9 arg10 harg10 hc0 x0 x1 x2 x3 x4 s0 s1 s2)).trans ?_
  have key : (kernelRun0_B c i arg2 harg2 arg3 harg3 arg4 harg4 arg5 harg5 arg6 harg6 arg7 harg7 arg8 harg8 arg9 harg9 arg10 harg10 hc0 x0 x1 x2 x3 x4 s0 s1 s2).2.2.2.1 =
      [⟨Rect.unit ![3, 0, 0] ![1, 1, 1] inb_S4x1x1_S1x1x1_3_0_0, shapeCast S1x1x1 (mnew (hin3 (View.readAt (Elt F) arg2.view (Rect.unit (s := S1x256x1024) ![0, 0, 768] S1x256x256.size inb_S1x256x1024_S1x256x256_0_0_768).toLoadRect (harg2.unread x0)) (View.readAt (Elt F) arg3.view (Rect.unit (s := S1x256x1024) ![0, 0, 768] S1x256x256.size inb_S1x256x1024_S1x256x256_0_0_768).toLoadRect (harg3.unread x1)) (View.readAt (Elt F) arg4.view (Rect.unit (s := S1x256x1024) ![0, 0, 768] S1x256x256.size inb_S1x256x1024_S1x256x256_0_0_768).toLoadRect (harg4.unread x2)) (View.readAt (Elt F) arg5.view (Rect.unit (s := S1x256x1024) ![0, 0, 768] S1x256x256.size inb_S1x256x1024_S1x256x256_0_0_768).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![3, 0, 0] S1x256x256.size inb_S4x256x256_S1x256x256_3_0_0).toLoadRect (harg8.unread s0)) (View.readAt (Elt F) arg9.view (Rect.unit (s := S4x1x256) ![3, 0, 0] S1x1x256.size inb_S4x1x256_S1x1x256_3_0_0).toLoadRect (harg9.unread s1)) (View.readAt (Elt F) arg10.view (Rect.unit (s := S4x1x1) ![3, 0, 0] S1x1x1.size inb_S4x1x1_S1x1x1_3_0_0).toLoadRect (harg10.unread s2)))) shapeCasts_S1x1_S1x1x1⟩,
      ⟨Rect.unit ![2, 0, 0] ![1, 1, 1] inb_S4x1x1_S1x1x1_2_0_0, shapeCast S1x1x1 (mnew (hin2 (View.readAt (Elt F) arg2.view (Rect.unit (s := S1x256x1024) ![0, 0, 512] S1x256x256.size inb_S1x256x1024_S1x256x256_0_0_512).toLoadRect (harg2.unread x0)) (View.readAt (Elt F) arg3.view (Rect.unit (s := S1x256x1024) ![0, 0, 512] S1x256x256.size inb_S1x256x1024_S1x256x256_0_0_512).toLoadRect (harg3.unread x1)) (View.readAt (Elt F) arg4.view (Rect.unit (s := S1x256x1024) ![0, 0, 512] S1x256x256.size inb_S1x256x1024_S1x256x256_0_0_512).toLoadRect (harg4.unread x2)) (View.readAt (Elt F) arg5.view (Rect.unit (s := S1x256x1024) ![0, 0, 512] S1x256x256.size inb_S1x256x1024_S1x256x256_0_0_512).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![2, 0, 0] S1x256x256.size inb_S4x256x256_S1x256x256_2_0_0).toLoadRect (harg8.unread s0)) (View.readAt (Elt F) arg9.view (Rect.unit (s := S4x1x256) ![2, 0, 0] S1x1x256.size inb_S4x1x256_S1x1x256_2_0_0).toLoadRect (harg9.unread s1)) (View.readAt (Elt F) arg10.view (Rect.unit (s := S4x1x1) ![2, 0, 0] S1x1x1.size inb_S4x1x1_S1x1x1_2_0_0).toLoadRect (harg10.unread s2)))) shapeCasts_S1x1_S1x1x1⟩,
      ⟨Rect.unit ![1, 0, 0] ![1, 1, 1] inb_S4x1x1_S1x1x1_1_0_0, shapeCast S1x1x1 (mnew (hin1 (View.readAt (Elt F) arg2.view (Rect.unit (s := S1x256x1024) ![0, 0, 256] S1x256x256.size inb_S1x256x1024_S1x256x256_0_0_256).toLoadRect (harg2.unread x0)) (View.readAt (Elt F) arg3.view (Rect.unit (s := S1x256x1024) ![0, 0, 256] S1x256x256.size inb_S1x256x1024_S1x256x256_0_0_256).toLoadRect (harg3.unread x1)) (View.readAt (Elt F) arg4.view (Rect.unit (s := S1x256x1024) ![0, 0, 256] S1x256x256.size inb_S1x256x1024_S1x256x256_0_0_256).toLoadRect (harg4.unread x2)) (View.readAt (Elt F) arg5.view (Rect.unit (s := S1x256x1024) ![0, 0, 256] S1x256x256.size inb_S1x256x1024_S1x256x256_0_0_256).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![1, 0, 0] S1x256x256.size inb_S4x256x256_S1x256x256_1_0_0).toLoadRect (harg8.unread s0)) (View.readAt (Elt F) arg9.view (Rect.unit (s := S4x1x256) ![1, 0, 0] S1x1x256.size inb_S4x1x256_S1x1x256_1_0_0).toLoadRect (harg9.unread s1)) (View.readAt (Elt F) arg10.view (Rect.unit (s := S4x1x1) ![1, 0, 0] S1x1x1.size inb_S4x1x1_S1x1x1_1_0_0).toLoadRect (harg10.unread s2)))) shapeCasts_S1x1_S1x1x1⟩,
      ⟨Rect.unit ![0, 0, 0] ![1, 1, 1] inb_S4x1x1_S1x1x1_0_0_0, shapeCast S1x1x1 (mnew (hin0 (View.readAt (Elt F) arg2.view (Rect.unit (s := S1x256x1024) ![0, 0, 0] S1x256x256.size inb_S1x256x1024_S1x256x256_0_0_0).toLoadRect (harg2.unread x0)) (View.readAt (Elt F) arg3.view (Rect.unit (s := S1x256x1024) ![0, 0, 0] S1x256x256.size inb_S1x256x1024_S1x256x256_0_0_0).toLoadRect (harg3.unread x1)) (View.readAt (Elt F) arg4.view (Rect.unit (s := S1x256x1024) ![0, 0, 0] S1x256x256.size inb_S1x256x1024_S1x256x256_0_0_0).toLoadRect (harg4.unread x2)) (View.readAt (Elt F) arg5.view (Rect.unit (s := S1x256x1024) ![0, 0, 0] S1x256x256.size inb_S1x256x1024_S1x256x256_0_0_0).toLoadRect (harg5.unread x3)) (View.readAt (Elt F) arg6.view (Rect.unit (s := S1x256x128) ![0, 0, 0] S1x256x128.size inb_S1x256x128_S1x256x128_0_0_0).toLoadRect (harg6.unread x4)) (View.readAt (Elt F) arg8.view (Rect.unit (s := S4x256x256) ![0, 0, 0] S1x256x256.size inb_S4x256x256_S1x256x256_0_0_0).toLoadRect (harg8.unread s0)) (View.readAt (Elt F) arg9.view (Rect.unit (s := S4x1x256) ![0, 0, 0] S1x1x256.size inb_S4x1x256_S1x1x256_0_0_0).toLoadRect (harg9.unread s1)) (View.readAt (Elt F) arg10.view (Rect.unit (s := S4x1x1) ![0, 0, 0] S1x1x1.size inb_S4x1x1_S1x1x1_0_0_0).toLoadRect (harg10.unread s2)))) shapeCasts_S1x1_S1x1x1⟩] := rfl
  rw [key]
  simp only [View.readAt_eq_ld, Memref.IsWhole.read_unread]
  rfl

/-- At the start of a sequence head 0 finds zeros in its matrix state. -/
theorem start_zC_0 (c : Dev nD) (arg8 : Memref sig .tc .vmem S4x256x256 .f32) :
    kernelRun0_A.sl.v104 c arg8 = View.ld (zC (F := F)) (Rect.unit (s := S4x256x256) ![0, 0, 0] S1x256x256.size inb_S4x256x256_S1x256x256_0_0_0) := by
  unfold kernelRun0_A.sl.v104
  unfold kernelRun0_A.sl.HS0_1
  exact (View.readCov_fill _ _ _ _ _ (by decide)).trans rfl

/-- At the start of a sequence head 0 finds zeros in its normalizer state. -/
theorem start_zN_0 (c : Dev nD) (arg9 : Memref sig .tc .vmem S4x1x256 .f32) :
    kernelRun0_A.sl.v148 c arg9 = View.ld (zN (F := F)) (Rect.unit (s := S4x1x256) ![0, 0, 0] S1x1x256.size inb_S4x1x256_S1x1x256_0_0_0) := by
  unfold kernelRun0_A.sl.v148
  unfold kernelRun0_A.sl.HS1_1
  exact (View.readCov_fill _ _ _ _ _ (by decide)).trans rfl

/-- At the start of a sequence head 0 finds zeros in its stabilizer state. -/
theorem start_zM_0 (c : Dev nD) (arg10 : Memref sig .tc .vmem S4x1x1 .f32) :
    kernelRun0_A.sl.v128 c arg10 = View.ld (zM (F := F)) (Rect.unit (s := S4x1x1) ![0, 0, 0] S1x1x1.size inb_S4x1x1_S1x1x1_0_0_0) := by
  unfold kernelRun0_A.sl.v128
  unfold kernelRun0_A.sl.HS2_1
  exact (View.readCov_fill _ _ _ _ _ (by decide)).trans rfl

/-- At the start of a sequence head 1 finds zeros in its matrix state. -/
theorem start_zC_1 (c : Dev nD) (arg8 : Memref sig .tc .vmem S4x256x256 .f32) :
    kernelRun0_A.sl.v106 c arg8 = View.ld (zC (F := F)) (Rect.unit (s := S4x256x256) ![1, 0, 0] S1x256x256.size inb_S4x256x256_S1x256x256_1_0_0) := by
  unfold kernelRun0_A.sl.v106
  unfold kernelRun0_A.sl.HS0_1
  exact (View.readCov_fill _ _ _ _ _ (by decide)).trans rfl

/-- At the start of a sequence head 1 finds zeros in its normalizer state. -/
theorem start_zN_1 (c : Dev nD) (arg3 : Memref sig .tc .vmem S1x256x1024 .bf16) (harg3 : arg3.IsWhole) (arg6 : Memref sig .tc .vmem S1x256x128 .f32) (harg6 : arg6.IsWhole) (arg9 : Memref sig .tc .vmem S4x1x256 .f32) (arg10 : Memref sig .tc .vmem S4x1x1 .f32) (x1 : Vec F S1x256x1024 .bf16) (x4 : Vec F S1x256x128 .f32) :
    kernelRun0_A.sl.v213 c arg3 harg3 arg6 harg6 arg9 arg10 x1 x4 = View.ld (zN (F := F)) (Rect.unit (s := S4x1x256) ![1, 0, 0] S1x1x256.size inb_S4x1x256_S1x1x256_1_0_0) := by
  unfold kernelRun0_A.sl.v213
  unfold kernelRun0_A.sl.HS1_2
  rw [View.readCov_skip _ _ _ _ _ (by decide)]
  unfold kernelRun0_A.sl.HS1_1
  exact (View.readCov_fill _ _ _ _ _ (by decide)).trans rfl

/-- At the start of a sequence head 1 finds zeros in its stabilizer state. -/
theorem start_zM_1 (c : Dev nD) (arg6 : Memref sig .tc .vmem S1x256x128 .f32) (harg6 : arg6.IsWhole) (arg10 : Memref sig .tc .vmem S4x1x1 .f32) (x4 : Vec F S1x256x128 .f32) :
    kernelRun0_A.sl.v193 c arg6 harg6 arg10 x4 = View.ld (zM (F := F)) (Rect.unit (s := S4x1x1) ![1, 0, 0] S1x1x1.size inb_S4x1x1_S1x1x1_1_0_0) := by
  unfold kernelRun0_A.sl.v193
  unfold kernelRun0_A.sl.HS2_2
  rw [View.readCov_skip _ _ _ _ _ (by decide)]
  unfold kernelRun0_A.sl.HS2_1
  exact (View.readCov_fill _ _ _ _ _ (by decide)).trans rfl

/-- At the start of a sequence head 2 finds zeros in its matrix state. -/
theorem start_zC_2 (c : Dev nD) (arg8 : Memref sig .tc .vmem S4x256x256 .f32) :
    kernelRun0_A.sl.v108 c arg8 = View.ld (zC (F := F)) (Rect.unit (s := S4x256x256) ![2, 0, 0] S1x256x256.size inb_S4x256x256_S1x256x256_2_0_0) := by
  unfold kernelRun0_A.sl.v108
  unfold kernelRun0_A.sl.HS0_1
  exact (View.readCov_fill _ _ _ _ _ (by decide)).trans rfl

/-- At the start of a sequence head 2 finds zeros in its normalizer state. -/
theorem start_zN_2 (c : Dev nD) (arg3 : Memref sig .tc .vmem S1x256x1024 .bf16) (harg3 : arg3.IsWhole) (arg6 : Memref sig .tc .vmem S1x256x128 .f32) (harg6 : arg6.IsWhole) (arg9 : Memref sig .tc .vmem S4x1x256 .f32) (arg10 : Memref sig .tc .vmem S4x1x1 .f32) (x1 : Vec F S1x256x1024 .bf16) (x4 : Vec F S1x256x128 .f32) :
    kernelRun0_A.sl.v278 c arg3 harg3 arg6 harg6 arg9 arg10 x1 x4 = View.ld (zN (F := F)) (Rect.unit (s := S4x1x256) ![2, 0, 0] S1x1x256.size inb_S4x1x256_S1x1x256_2_0_0) := by
  unfold kernelRun0_A.sl.v278
  unfold kernelRun0_A.sl.HS1_3
  rw [View.readCov_skip _ _ _ _ _ (by decide)]
  unfold kernelRun0_A.sl.HS1_2
  rw [View.readCov_skip _ _ _ _ _ (by decide)]
  unfold kernelRun0_A.sl.HS1_1
  exact (View.readCov_fill _ _ _ _ _ (by decide)).trans rfl

/-- At the start of a sequence head 2 finds zeros in its stabilizer state. -/
theorem start_zM_2 (c : Dev nD) (arg6 : Memref sig .tc .vmem S1x256x128 .f32) (harg6 : arg6.IsWhole) (arg10 : Memref sig .tc .vmem S4x1x1 .f32) (x4 : Vec F S1x256x128 .f32) :
    kernelRun0_A.sl.v258 c arg6 harg6 arg10 x4 = View.ld (zM (F := F)) (Rect.unit (s := S4x1x1) ![2, 0, 0] S1x1x1.size inb_S4x1x1_S1x1x1_2_0_0) := by
  unfold kernelRun0_A.sl.v258
  unfold kernelRun0_A.sl.HS2_3
  rw [View.readCov_skip _ _ _ _ _ (by decide)]
  unfold kernelRun0_A.sl.HS2_2
  rw [View.readCov_skip _ _ _ _ _ (by decide)]
  unfold kernelRun0_A.sl.HS2_1
  exact (View.readCov_fill _ _ _ _ _ (by decide)).trans rfl

/-- At the start of a sequence head 3 finds zeros in its matrix state. -/
theorem start_zC_3 (c : Dev nD) (arg8 : Memref sig .tc .vmem S4x256x256 .f32) :
    kernelRun0_A.sl.v110 c arg8 = View.ld (zC (F := F)) (Rect.unit (s := S4x256x256) ![3, 0, 0] S1x256x256.size inb_S4x256x256_S1x256x256_3_0_0) := by
  unfold kernelRun0_A.sl.v110
  unfold kernelRun0_A.sl.HS0_1
  exact (View.readCov_fill _ _ _ _ _ (by decide)).trans rfl

/-- At the start of a sequence head 3 finds zeros in its normalizer state. -/
theorem start_zN_3 (c : Dev nD) (arg3 : Memref sig .tc .vmem S1x256x1024 .bf16) (harg3 : arg3.IsWhole) (arg6 : Memref sig .tc .vmem S1x256x128 .f32) (harg6 : arg6.IsWhole) (arg9 : Memref sig .tc .vmem S4x1x256 .f32) (arg10 : Memref sig .tc .vmem S4x1x1 .f32) (x1 : Vec F S1x256x1024 .bf16) (x4 : Vec F S1x256x128 .f32) :
    kernelRun0_A.sl.v343 c arg3 harg3 arg6 harg6 arg9 arg10 x1 x4 = View.ld (zN (F := F)) (Rect.unit (s := S4x1x256) ![3, 0, 0] S1x1x256.size inb_S4x1x256_S1x1x256_3_0_0) := by
  unfold kernelRun0_A.sl.v343
  unfold kernelRun0_A.sl.HS1_4
  rw [View.readCov_skip _ _ _ _ _ (by decide)]
  unfold kernelRun0_A.sl.HS1_3
  rw [View.readCov_skip _ _ _ _ _ (by decide)]
  unfold kernelRun0_A.sl.HS1_2
  rw [View.readCov_skip _ _ _ _ _ (by decide)]
  unfold kernelRun0_A.sl.HS1_1
  exact (View.readCov_fill _ _ _ _ _ (by decide)).trans rfl

/-- At the start of a sequence head 3 finds zeros in its stabilizer state. -/
theorem start_zM_3 (c : Dev nD) (arg6 : Memref sig .tc .vmem S1x256x128 .f32) (harg6 : arg6.IsWhole) (arg10 : Memref sig .tc .vmem S4x1x1 .f32) (x4 : Vec F S1x256x128 .f32) :
    kernelRun0_A.sl.v323 c arg6 harg6 arg10 x4 = View.ld (zM (F := F)) (Rect.unit (s := S4x1x1) ![3, 0, 0] S1x1x1.size inb_S4x1x1_S1x1x1_3_0_0) := by
  unfold kernelRun0_A.sl.v323
  unfold kernelRun0_A.sl.HS2_4
  rw [View.readCov_skip _ _ _ _ _ (by decide)]
  unfold kernelRun0_A.sl.HS2_3
  rw [View.readCov_skip _ _ _ _ _ (by decide)]
  unfold kernelRun0_A.sl.HS2_2
  rw [View.readCov_skip _ _ _ _ _ (by decide)]
  unfold kernelRun0_A.sl.HS2_1
  exact (View.readCov_fill _ _ _ _ _ (by decide)).trans rfl

/-- The first point of a sequence: the output block after the body, from a state of zeros. -/
theorem out0_A_5_eq (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : cond0_0 i) (x0 x1 x2 x3 : Vec F S1x256x1024 .bf16) (x4 : Vec F S1x256x128 .f32) :
    out0_A_5 c i arg2 harg2 arg3 harg3 arg4 harg4 arg5 harg5 arg6 harg6 arg7 harg7 arg8 harg8 arg9 harg9 arg10 harg10 hc0 x0 x1 x2 x3 x4 = View.canon (piecesOut x0 x1 x2 x3 x4 zC zN zM) := by
  refine (View.read_writes_eq_canon _ _ _ (cover0_A_5 c i arg2 harg2 arg3 harg3 arg4 harg4 arg5 harg5 arg6 harg6 arg7 harg7 arg8 harg8 arg9 harg9 arg10 harg10 hc0 x0 x1 x2 x3 x4)).trans ?_
  have key : (kernelRun0_A c i arg2 harg2 arg3 harg3 arg4 harg4 arg5 harg5 arg6 harg6 arg7 harg7 arg8 harg8 arg9 harg9 arg10 harg10 hc0 x0 x1 x2 x3 x4).1 =
      [⟨Rect.unit ![0, 0, 768] ![1, 256, 256] inb_S1x256x1024_S1x256x256_0_0_768, shapeCast S1x256x256 (hout (hin3 (View.readAt (Elt F) arg2.view (Rect.unit (s := S1x256x1024) ![0, 0, 768] S1x256x256.size inb_S1x256x1024_S1x256x256_0_0_768).toLoadRect (harg2.unread x0)) (View.readAt (Elt F) arg3.view (Rect.unit (s := S1x256x1024) ![0, 0, 768] S1x256x256.size inb_S1x256x1024_S1x256x256_0_0_768).toLoadRect (harg3.unread x1)) (View.readAt (Elt F) arg4.view (Rect.unit (s := S1x256x1024) ![0, 0, 768] S1x256x256.size inb_S1x256x1024_S1x256x256_0_0_768).toLoadRect (harg4.unread x2)) (View.readAt (Elt F) arg5.view (Rect.unit (s := S1x256x1024) ![0, 0, 768] S1x256x256.size inb_S1x256x1024_S1x256x256_0_0_768).toLoadRect (harg5.unread x3)) (View.readAt (Elt F) arg6.view (Rect.unit (s := S1x256x128) ![0, 0, 0] S1x256x128.size inb_S1x256x128_S1x256x128_0_0_0).toLoadRect (harg6.unread x4)) (kernelRun0_A.sl.v110 c arg8) (kernelRun0_A.sl.v343 c arg3 harg3 arg6 harg6 arg9 arg10 x1 x4) (kernelRun0_A.sl.v323 c arg6 harg6 arg10 x4))) shapeCasts_S256x256_S1x256x256⟩,
      ⟨Rect.unit ![0, 0, 512] ![1, 256, 256] inb_S1x256x1024_S1x256x256_0_0_512, shapeCast S1x256x256 (hout (hin2 (View.readAt (Elt F) arg2.view (Rect.unit (s := S1x256x1024) ![0, 0, 512] S1x256x256.size inb_S1x256x1024_S1x256x256_0_0_512).toLoadRect (harg2.unread x0)) (View.readAt (Elt F) arg3.view (Rect.unit (s := S1x256x1024) ![0, 0, 512] S1x256x256.size inb_S1x256x1024_S1x256x256_0_0_512).toLoadRect (harg3.unread x1)) (View.readAt (Elt F) arg4.view (Rect.unit (s := S1x256x1024) ![0, 0, 512] S1x256x256.size inb_S1x256x1024_S1x256x256_0_0_512).toLoadRect (harg4.unread x2)) (View.readAt (Elt F) arg5.view (Rect.unit (s := S1x256x1024) ![0, 0, 512] S1x256x256.size inb_S1x256x1024_S1x256x256_0_0_512).toLoadRect (harg5.unread x3)) (View.readAt (Elt F) arg6.view (Rect.unit (s := S1x256x128) ![0, 0, 0] S1x256x128.size inb_S1x256x128_S1x256x128_0_0_0).toLoadRect (harg6.unread x4)) (kernelRun0_A.sl.v108 c arg8) (kernelRun0_A.sl.v278 c arg3 harg3 arg6 harg6 arg9 arg10 x1 x4) (kernelRun0_A.sl.v258 c arg6 harg6 arg10 x4))) shapeCasts_S256x256_S1x256x256⟩,
      ⟨Rect.unit ![0, 0, 256] ![1, 256, 256] inb_S1x256x1024_S1x256x256_0_0_256, shapeCast S1x256x256 (hout (hin1 (View.readAt (Elt F) arg2.view (Rect.unit (s := S1x256x1024) ![0, 0, 256] S1x256x256.size inb_S1x256x1024_S1x256x256_0_0_256).toLoadRect (harg2.unread x0)) (View.readAt (Elt F) arg3.view (Rect.unit (s := S1x256x1024) ![0, 0, 256] S1x256x256.size inb_S1x256x1024_S1x256x256_0_0_256).toLoadRect (harg3.unread x1)) (View.readAt (Elt F) arg4.view (Rect.unit (s := S1x256x1024) ![0, 0, 256] S1x256x256.size inb_S1x256x1024_S1x256x256_0_0_256).toLoadRect (harg4.unread x2)) (View.readAt (Elt F) arg5.view (Rect.unit (s := S1x256x1024) ![0, 0, 256] S1x256x256.size inb_S1x256x1024_S1x256x256_0_0_256).toLoadRect (harg5.unread x3)) (View.readAt (Elt F) arg6.view (Rect.unit (s := S1x256x128) ![0, 0, 0] S1x256x128.size inb_S1x256x128_S1x256x128_0_0_0).toLoadRect (harg6.unread x4)) (kernelRun0_A.sl.v106 c arg8) (kernelRun0_A.sl.v213 c arg3 harg3 arg6 harg6 arg9 arg10 x1 x4) (kernelRun0_A.sl.v193 c arg6 harg6 arg10 x4))) shapeCasts_S256x256_S1x256x256⟩,
      ⟨Rect.unit ![0, 0, 0] ![1, 256, 256] inb_S1x256x1024_S1x256x256_0_0_0, shapeCast S1x256x256 (hout (hin0 (View.readAt (Elt F) arg2.view (Rect.unit (s := S1x256x1024) ![0, 0, 0] S1x256x256.size inb_S1x256x1024_S1x256x256_0_0_0).toLoadRect (harg2.unread x0)) (View.readAt (Elt F) arg3.view (Rect.unit (s := S1x256x1024) ![0, 0, 0] S1x256x256.size inb_S1x256x1024_S1x256x256_0_0_0).toLoadRect (harg3.unread x1)) (View.readAt (Elt F) arg4.view (Rect.unit (s := S1x256x1024) ![0, 0, 0] S1x256x256.size inb_S1x256x1024_S1x256x256_0_0_0).toLoadRect (harg4.unread x2)) (View.readAt (Elt F) arg5.view (Rect.unit (s := S1x256x1024) ![0, 0, 0] S1x256x256.size inb_S1x256x1024_S1x256x256_0_0_0).toLoadRect (harg5.unread x3)) (View.readAt (Elt F) arg6.view (Rect.unit (s := S1x256x128) ![0, 0, 0] S1x256x128.size inb_S1x256x128_S1x256x128_0_0_0).toLoadRect (harg6.unread x4)) (kernelRun0_A.sl.v104 c arg8) (kernelRun0_A.sl.v148 c arg9) (kernelRun0_A.sl.v128 c arg10))) shapeCasts_S256x256_S1x256x256⟩] := rfl
  rw [key]
  simp only [View.readAt_eq_ld, Memref.IsWhole.read_unread, start_zC_0, start_zC_1, start_zC_2, start_zC_3, start_zN_0, start_zN_1,
    start_zN_2, start_zN_3, start_zM_0, start_zM_1, start_zM_2, start_zM_3]
  rfl

/-- The first point of a sequence: the matrix state after the body, from a state of zeros. -/
theorem sout0_A_0_eq (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : cond0_0 i) (x0 x1 x2 x3 : Vec F S1x256x1024 .bf16) (x4 : Vec F S1x256x128 .f32) :
    sout0_A_0 c i arg2 harg2 arg3 harg3 arg4 harg4 arg5 harg5 arg6 harg6 arg7 harg7 arg8 harg8 arg9 harg9 arg10 harg10 hc0 x0 x1 x2 x3 x4 = View.canon (piecesC x0 x1 x2 x3 x4 zC zN zM ++ [⟨Rect.unit (s := S4x256x256) ![0, 0, 0] S4x256x256.size inb_S4x256x256_S4x256x256_0_0_0, zC⟩]) := by
  refine (View.read_writes_eq_canon _ _ _ (scover0_A_0 c i arg2 harg2 arg3 harg3 arg4 harg4 arg5 harg5 arg6 harg6 arg7 harg7 arg8 harg8 arg9 harg9 arg10 harg10 hc0 x0 x1 x2 x3 x4)).trans ?_
  have key : (kernelRun0_A c i arg2 harg2 arg3 harg3 arg4 harg4 arg5 harg5 arg6 harg6 arg7 harg7 arg8 harg8 arg9 harg9 arg10 harg10 hc0 x0 x1 x2 x3 x4).2.1 =
      [⟨Rect.unit ![3, 0, 0] ![1, 256, 256] inb_S4x256x256_S1x256x256_3_0_0, shapeCast S1x256x256 (cnew (hin3 (View.readAt (Elt F) arg2.view (Rect.unit (s := S1x256x1024) ![0, 0, 768] S1x256x256.size inb_S1x256x1024_S1x256x256_0_0_768).toLoadRect (harg2.unread x0)) (View.readAt (Elt F) arg3.view (Rect.unit (s := S1x256x1024) ![0, 0, 768] S1x256x256.size inb_S1x256x1024_S1x256x256_0_0_768).toLoadRect (harg3.unread x1)) (View.readAt (Elt F) arg4.view (Rect.unit (s := S1x256x1024) ![0, 0, 768] S1x256x256.size inb_S1x256x1024_S1x256x256_0_0_768).toLoadRect (harg4.unread x2)) (View.readAt (Elt F) arg5.view (Rect.unit (s := S1x256x1024) ![0, 0, 768] S1x256x256.size inb_S1x256x1024_S1x256x256_0_0_768).toLoadRect (harg5.unread x3)) (View.readAt (Elt F) arg6.view (Rect.unit (s := S1x256x128) ![0, 0, 0] S1x256x128.size inb_S1x256x128_S1x256x128_0_0_0).toLoadRect (harg6.unread x4)) (kernelRun0_A.sl.v110 c arg8) (kernelRun0_A.sl.v343 c arg3 harg3 arg6 harg6 arg9 arg10 x1 x4) (kernelRun0_A.sl.v323 c arg6 harg6 arg10 x4))) shapeCasts_S256x256_S1x256x256⟩,
      ⟨Rect.unit ![2, 0, 0] ![1, 256, 256] inb_S4x256x256_S1x256x256_2_0_0, shapeCast S1x256x256 (cnew (hin2 (View.readAt (Elt F) arg2.view (Rect.unit (s := S1x256x1024) ![0, 0, 512] S1x256x256.size inb_S1x256x1024_S1x256x256_0_0_512).toLoadRect (harg2.unread x0)) (View.readAt (Elt F) arg3.view (Rect.unit (s := S1x256x1024) ![0, 0, 512] S1x256x256.size inb_S1x256x1024_S1x256x256_0_0_512).toLoadRect (harg3.unread x1)) (View.readAt (Elt F) arg4.view (Rect.unit (s := S1x256x1024) ![0, 0, 512] S1x256x256.size inb_S1x256x1024_S1x256x256_0_0_512).toLoadRect (harg4.unread x2)) (View.readAt (Elt F) arg5.view (Rect.unit (s := S1x256x1024) ![0, 0, 512] S1x256x256.size inb_S1x256x1024_S1x256x256_0_0_512).toLoadRect (harg5.unread x3)) (View.readAt (Elt F) arg6.view (Rect.unit (s := S1x256x128) ![0, 0, 0] S1x256x128.size inb_S1x256x128_S1x256x128_0_0_0).toLoadRect (harg6.unread x4)) (kernelRun0_A.sl.v108 c arg8) (kernelRun0_A.sl.v278 c arg3 harg3 arg6 harg6 arg9 arg10 x1 x4) (kernelRun0_A.sl.v258 c arg6 harg6 arg10 x4))) shapeCasts_S256x256_S1x256x256⟩,
      ⟨Rect.unit ![1, 0, 0] ![1, 256, 256] inb_S4x256x256_S1x256x256_1_0_0, shapeCast S1x256x256 (cnew (hin1 (View.readAt (Elt F) arg2.view (Rect.unit (s := S1x256x1024) ![0, 0, 256] S1x256x256.size inb_S1x256x1024_S1x256x256_0_0_256).toLoadRect (harg2.unread x0)) (View.readAt (Elt F) arg3.view (Rect.unit (s := S1x256x1024) ![0, 0, 256] S1x256x256.size inb_S1x256x1024_S1x256x256_0_0_256).toLoadRect (harg3.unread x1)) (View.readAt (Elt F) arg4.view (Rect.unit (s := S1x256x1024) ![0, 0, 256] S1x256x256.size inb_S1x256x1024_S1x256x256_0_0_256).toLoadRect (harg4.unread x2)) (View.readAt (Elt F) arg5.view (Rect.unit (s := S1x256x1024) ![0, 0, 256] S1x256x256.size inb_S1x256x1024_S1x256x256_0_0_256).toLoadRect (harg5.unread x3)) (View.readAt (Elt F) arg6.view (Rect.unit (s := S1x256x128) ![0, 0, 0] S1x256x128.size inb_S1x256x128_S1x256x128_0_0_0).toLoadRect (harg6.unread x4)) (kernelRun0_A.sl.v106 c arg8) (kernelRun0_A.sl.v213 c arg3 harg3 arg6 harg6 arg9 arg10 x1 x4) (kernelRun0_A.sl.v193 c arg6 harg6 arg10 x4))) shapeCasts_S256x256_S1x256x256⟩,
      ⟨Rect.unit ![0, 0, 0] ![1, 256, 256] inb_S4x256x256_S1x256x256_0_0_0, shapeCast S1x256x256 (cnew (hin0 (View.readAt (Elt F) arg2.view (Rect.unit (s := S1x256x1024) ![0, 0, 0] S1x256x256.size inb_S1x256x1024_S1x256x256_0_0_0).toLoadRect (harg2.unread x0)) (View.readAt (Elt F) arg3.view (Rect.unit (s := S1x256x1024) ![0, 0, 0] S1x256x256.size inb_S1x256x1024_S1x256x256_0_0_0).toLoadRect (harg3.unread x1)) (View.readAt (Elt F) arg4.view (Rect.unit (s := S1x256x1024) ![0, 0, 0] S1x256x256.size inb_S1x256x1024_S1x256x256_0_0_0).toLoadRect (harg4.unread x2)) (View.readAt (Elt F) arg5.view (Rect.unit (s := S1x256x1024) ![0, 0, 0] S1x256x256.size inb_S1x256x1024_S1x256x256_0_0_0).toLoadRect (harg5.unread x3)) (View.readAt (Elt F) arg6.view (Rect.unit (s := S1x256x128) ![0, 0, 0] S1x256x128.size inb_S1x256x128_S1x256x128_0_0_0).toLoadRect (harg6.unread x4)) (kernelRun0_A.sl.v104 c arg8) (kernelRun0_A.sl.v148 c arg9) (kernelRun0_A.sl.v128 c arg10))) shapeCasts_S256x256_S1x256x256⟩] ++ [⟨Rect.unit (s := S4x256x256) ![0, 0, 0] S4x256x256.size inb_S4x256x256_S4x256x256_0_0_0, zC⟩] := rfl
  rw [key]
  simp only [View.readAt_eq_ld, Memref.IsWhole.read_unread, start_zC_0, start_zC_1, start_zC_2, start_zC_3, start_zN_0, start_zN_1,
    start_zN_2, start_zN_3, start_zM_0, start_zM_1, start_zM_2, start_zM_3]
  rfl

/-- The first point of a sequence: the normalizer state after the body, from a state of zeros. -/
theorem sout0_A_1_eq (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : cond0_0 i) (x0 x1 x2 x3 : Vec F S1x256x1024 .bf16) (x4 : Vec F S1x256x128 .f32) :
    sout0_A_1 c i arg2 harg2 arg3 harg3 arg4 harg4 arg5 harg5 arg6 harg6 arg7 harg7 arg8 harg8 arg9 harg9 arg10 harg10 hc0 x0 x1 x2 x3 x4 = View.canon (piecesN x0 x1 x2 x3 x4 zC zN zM ++ [⟨Rect.unit (s := S4x1x256) ![0, 0, 0] S4x1x256.size inb_S4x1x256_S4x1x256_0_0_0, zN⟩]) := by
  refine (View.read_writes_eq_canon _ _ _ (scover0_A_1 c i arg2 harg2 arg3 harg3 arg4 harg4 arg5 harg5 arg6 harg6 arg7 harg7 arg8 harg8 arg9 harg9 arg10 harg10 hc0 x0 x1 x2 x3 x4)).trans ?_
  have key : (kernelRun0_A c i arg2 harg2 arg3 harg3 arg4 harg4 arg5 harg5 arg6 harg6 arg7 harg7 arg8 harg8 arg9 harg9 arg10 harg10 hc0 x0 x1 x2 x3 x4).2.2.1 =
      [⟨Rect.unit ![3, 0, 0] ![1, 1, 256] inb_S4x1x256_S1x1x256_3_0_0, shapeCast S1x1x256 (nnew (hin3 (View.readAt (Elt F) arg2.view (Rect.unit (s := S1x256x1024) ![0, 0, 768] S1x256x256.size inb_S1x256x1024_S1x256x256_0_0_768).toLoadRect (harg2.unread x0)) (View.readAt (Elt F) arg3.view (Rect.unit (s := S1x256x1024) ![0, 0, 768] S1x256x256.size inb_S1x256x1024_S1x256x256_0_0_768).toLoadRect (harg3.unread x1)) (View.readAt (Elt F) arg4.view (Rect.unit (s := S1x256x1024) ![0, 0, 768] S1x256x256.size inb_S1x256x1024_S1x256x256_0_0_768).toLoadRect (harg4.unread x2)) (View.readAt (Elt F) arg5.view (Rect.unit (s := S1x256x1024) ![0, 0, 768] S1x256x256.size inb_S1x256x1024_S1x256x256_0_0_768).toLoadRect (harg5.unread x3)) (View.readAt (Elt F) arg6.view (Rect.unit (s := S1x256x128) ![0, 0, 0] S1x256x128.size inb_S1x256x128_S1x256x128_0_0_0).toLoadRect (harg6.unread x4)) (kernelRun0_A.sl.v110 c arg8) (kernelRun0_A.sl.v343 c arg3 harg3 arg6 harg6 arg9 arg10 x1 x4) (kernelRun0_A.sl.v323 c arg6 harg6 arg10 x4))) shapeCasts_S1x256_S1x1x256⟩,
      ⟨Rect.unit ![2, 0, 0] ![1, 1, 256] inb_S4x1x256_S1x1x256_2_0_0, shapeCast S1x1x256 (nnew (hin2 (View.readAt (Elt F) arg2.view (Rect.unit (s := S1x256x1024) ![0, 0, 512] S1x256x256.size inb_S1x256x1024_S1x256x256_0_0_512).toLoadRect (harg2.unread x0)) (View.readAt (Elt F) arg3.view (Rect.unit (s := S1x256x1024) ![0, 0, 512] S1x256x256.size inb_S1x256x1024_S1x256x256_0_0_512).toLoadRect (harg3.unread x1)) (View.readAt (Elt F) arg4.view (Rect.unit (s := S1x256x1024) ![0, 0, 512] S1x256x256.size inb_S1x256x1024_S1x256x256_0_0_512).toLoadRect (harg4.unread x2)) (View.readAt (Elt F) arg5.view (Rect.unit (s := S1x256x1024) ![0, 0, 512] S1x256x256.size inb_S1x256x1024_S1x256x256_0_0_512).toLoadRect (harg5.unread x3)) (View.readAt (Elt F) arg6.view (Rect.unit (s := S1x256x128) ![0, 0, 0] S1x256x128.size inb_S1x256x128_S1x256x128_0_0_0).toLoadRect (harg6.unread x4)) (kernelRun0_A.sl.v108 c arg8) (kernelRun0_A.sl.v278 c arg3 harg3 arg6 harg6 arg9 arg10 x1 x4) (kernelRun0_A.sl.v258 c arg6 harg6 arg10 x4))) shapeCasts_S1x256_S1x1x256⟩,
      ⟨Rect.unit ![1, 0, 0] ![1, 1, 256] inb_S4x1x256_S1x1x256_1_0_0, shapeCast S1x1x256 (nnew (hin1 (View.readAt (Elt F) arg2.view (Rect.unit (s := S1x256x1024) ![0, 0, 256] S1x256x256.size inb_S1x256x1024_S1x256x256_0_0_256).toLoadRect (harg2.unread x0)) (View.readAt (Elt F) arg3.view (Rect.unit (s := S1x256x1024) ![0, 0, 256] S1x256x256.size inb_S1x256x1024_S1x256x256_0_0_256).toLoadRect (harg3.unread x1)) (View.readAt (Elt F) arg4.view (Rect.unit (s := S1x256x1024) ![0, 0, 256] S1x256x256.size inb_S1x256x1024_S1x256x256_0_0_256).toLoadRect (harg4.unread x2)) (View.readAt (Elt F) arg5.view (Rect.unit (s := S1x256x1024) ![0, 0, 256] S1x256x256.size inb_S1x256x1024_S1x256x256_0_0_256).toLoadRect (harg5.unread x3)) (View.readAt (Elt F) arg6.view (Rect.unit (s := S1x256x128) ![0, 0, 0] S1x256x128.size inb_S1x256x128_S1x256x128_0_0_0).toLoadRect (harg6.unread x4)) (kernelRun0_A.sl.v106 c arg8) (kernelRun0_A.sl.v213 c arg3 harg3 arg6 harg6 arg9 arg10 x1 x4) (kernelRun0_A.sl.v193 c arg6 harg6 arg10 x4))) shapeCasts_S1x256_S1x1x256⟩,
      ⟨Rect.unit ![0, 0, 0] ![1, 1, 256] inb_S4x1x256_S1x1x256_0_0_0, shapeCast S1x1x256 (nnew (hin0 (View.readAt (Elt F) arg2.view (Rect.unit (s := S1x256x1024) ![0, 0, 0] S1x256x256.size inb_S1x256x1024_S1x256x256_0_0_0).toLoadRect (harg2.unread x0)) (View.readAt (Elt F) arg3.view (Rect.unit (s := S1x256x1024) ![0, 0, 0] S1x256x256.size inb_S1x256x1024_S1x256x256_0_0_0).toLoadRect (harg3.unread x1)) (View.readAt (Elt F) arg4.view (Rect.unit (s := S1x256x1024) ![0, 0, 0] S1x256x256.size inb_S1x256x1024_S1x256x256_0_0_0).toLoadRect (harg4.unread x2)) (View.readAt (Elt F) arg5.view (Rect.unit (s := S1x256x1024) ![0, 0, 0] S1x256x256.size inb_S1x256x1024_S1x256x256_0_0_0).toLoadRect (harg5.unread x3)) (View.readAt (Elt F) arg6.view (Rect.unit (s := S1x256x128) ![0, 0, 0] S1x256x128.size inb_S1x256x128_S1x256x128_0_0_0).toLoadRect (harg6.unread x4)) (kernelRun0_A.sl.v104 c arg8) (kernelRun0_A.sl.v148 c arg9) (kernelRun0_A.sl.v128 c arg10))) shapeCasts_S1x256_S1x1x256⟩] ++ [⟨Rect.unit (s := S4x1x256) ![0, 0, 0] S4x1x256.size inb_S4x1x256_S4x1x256_0_0_0, zN⟩] := rfl
  rw [key]
  simp only [View.readAt_eq_ld, Memref.IsWhole.read_unread, start_zC_0, start_zC_1, start_zC_2, start_zC_3, start_zN_0, start_zN_1,
    start_zN_2, start_zN_3, start_zM_0, start_zM_1, start_zM_2, start_zM_3]
  rfl

/-- The first point of a sequence: the stabilizer state after the body, from a state of zeros. -/
theorem sout0_A_2_eq (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : cond0_0 i) (x0 x1 x2 x3 : Vec F S1x256x1024 .bf16) (x4 : Vec F S1x256x128 .f32) :
    sout0_A_2 c i arg2 harg2 arg3 harg3 arg4 harg4 arg5 harg5 arg6 harg6 arg7 harg7 arg8 harg8 arg9 harg9 arg10 harg10 hc0 x0 x1 x2 x3 x4 = View.canon (piecesM x0 x1 x2 x3 x4 zC zN zM ++ [⟨Rect.unit (s := S4x1x1) ![0, 0, 0] S4x1x1.size inb_S4x1x1_S4x1x1_0_0_0, zM⟩]) := by
  refine (View.read_writes_eq_canon _ _ _ (scover0_A_2 c i arg2 harg2 arg3 harg3 arg4 harg4 arg5 harg5 arg6 harg6 arg7 harg7 arg8 harg8 arg9 harg9 arg10 harg10 hc0 x0 x1 x2 x3 x4)).trans ?_
  have key : (kernelRun0_A c i arg2 harg2 arg3 harg3 arg4 harg4 arg5 harg5 arg6 harg6 arg7 harg7 arg8 harg8 arg9 harg9 arg10 harg10 hc0 x0 x1 x2 x3 x4).2.2.2.1 =
      [⟨Rect.unit ![3, 0, 0] ![1, 1, 1] inb_S4x1x1_S1x1x1_3_0_0, shapeCast S1x1x1 (mnew (hin3 (View.readAt (Elt F) arg2.view (Rect.unit (s := S1x256x1024) ![0, 0, 768] S1x256x256.size inb_S1x256x1024_S1x256x256_0_0_768).toLoadRect (harg2.unread x0)) (View.readAt (Elt F) arg3.view (Rect.unit (s := S1x256x1024) ![0, 0, 768] S1x256x256.size inb_S1x256x1024_S1x256x256_0_0_768).toLoadRect (harg3.unread x1)) (View.readAt (Elt F) arg4.view (Rect.unit (s := S1x256x1024) ![0, 0, 768] S1x256x256.size inb_S1x256x1024_S1x256x256_0_0_768).toLoadRect (harg4.unread x2)) (View.readAt (Elt F) arg5.view (Rect.unit (s := S1x256x1024) ![0, 0, 768] S1x256x256.size inb_S1x256x1024_S1x256x256_0_0_768).toLoadRect (harg5.unread x3)) (View.readAt (Elt F) arg6.view (Rect.unit (s := S1x256x128) ![0, 0, 0] S1x256x128.size inb_S1x256x128_S1x256x128_0_0_0).toLoadRect (harg6.unread x4)) (kernelRun0_A.sl.v110 c arg8) (kernelRun0_A.sl.v343 c arg3 harg3 arg6 harg6 arg9 arg10 x1 x4) (kernelRun0_A.sl.v323 c arg6 harg6 arg10 x4))) shapeCasts_S1x1_S1x1x1⟩,
      ⟨Rect.unit ![2, 0, 0] ![1, 1, 1] inb_S4x1x1_S1x1x1_2_0_0, shapeCast S1x1x1 (mnew (hin2 (View.readAt (Elt F) arg2.view (Rect.unit (s := S1x256x1024) ![0, 0, 512] S1x256x256.size inb_S1x256x1024_S1x256x256_0_0_512).toLoadRect (harg2.unread x0)) (View.readAt (Elt F) arg3.view (Rect.unit (s := S1x256x1024) ![0, 0, 512] S1x256x256.size inb_S1x256x1024_S1x256x256_0_0_512).toLoadRect (harg3.unread x1)) (View.readAt (Elt F) arg4.view (Rect.unit (s := S1x256x1024) ![0, 0, 512] S1x256x256.size inb_S1x256x1024_S1x256x256_0_0_512).toLoadRect (harg4.unread x2)) (View.readAt (Elt F) arg5.view (Rect.unit (s := S1x256x1024) ![0, 0, 512] S1x256x256.size inb_S1x256x1024_S1x256x256_0_0_512).toLoadRect (harg5.unread x3)) (View.readAt (Elt F) arg6.view (Rect.unit (s := S1x256x128) ![0, 0, 0] S1x256x128.size inb_S1x256x128_S1x256x128_0_0_0).toLoadRect (harg6.unread x4)) (kernelRun0_A.sl.v108 c arg8) (kernelRun0_A.sl.v278 c arg3 harg3 arg6 harg6 arg9 arg10 x1 x4) (kernelRun0_A.sl.v258 c arg6 harg6 arg10 x4))) shapeCasts_S1x1_S1x1x1⟩,
      ⟨Rect.unit ![1, 0, 0] ![1, 1, 1] inb_S4x1x1_S1x1x1_1_0_0, shapeCast S1x1x1 (mnew (hin1 (View.readAt (Elt F) arg2.view (Rect.unit (s := S1x256x1024) ![0, 0, 256] S1x256x256.size inb_S1x256x1024_S1x256x256_0_0_256).toLoadRect (harg2.unread x0)) (View.readAt (Elt F) arg3.view (Rect.unit (s := S1x256x1024) ![0, 0, 256] S1x256x256.size inb_S1x256x1024_S1x256x256_0_0_256).toLoadRect (harg3.unread x1)) (View.readAt (Elt F) arg4.view (Rect.unit (s := S1x256x1024) ![0, 0, 256] S1x256x256.size inb_S1x256x1024_S1x256x256_0_0_256).toLoadRect (harg4.unread x2)) (View.readAt (Elt F) arg5.view (Rect.unit (s := S1x256x1024) ![0, 0, 256] S1x256x256.size inb_S1x256x1024_S1x256x256_0_0_256).toLoadRect (harg5.unread x3)) (View.readAt (Elt F) arg6.view (Rect.unit (s := S1x256x128) ![0, 0, 0] S1x256x128.size inb_S1x256x128_S1x256x128_0_0_0).toLoadRect (harg6.unread x4)) (kernelRun0_A.sl.v106 c arg8) (kernelRun0_A.sl.v213 c arg3 harg3 arg6 harg6 arg9 arg10 x1 x4) (kernelRun0_A.sl.v193 c arg6 harg6 arg10 x4))) shapeCasts_S1x1_S1x1x1⟩,
      ⟨Rect.unit ![0, 0, 0] ![1, 1, 1] inb_S4x1x1_S1x1x1_0_0_0, shapeCast S1x1x1 (mnew (hin0 (View.readAt (Elt F) arg2.view (Rect.unit (s := S1x256x1024) ![0, 0, 0] S1x256x256.size inb_S1x256x1024_S1x256x256_0_0_0).toLoadRect (harg2.unread x0)) (View.readAt (Elt F) arg3.view (Rect.unit (s := S1x256x1024) ![0, 0, 0] S1x256x256.size inb_S1x256x1024_S1x256x256_0_0_0).toLoadRect (harg3.unread x1)) (View.readAt (Elt F) arg4.view (Rect.unit (s := S1x256x1024) ![0, 0, 0] S1x256x256.size inb_S1x256x1024_S1x256x256_0_0_0).toLoadRect (harg4.unread x2)) (View.readAt (Elt F) arg5.view (Rect.unit (s := S1x256x1024) ![0, 0, 0] S1x256x256.size inb_S1x256x1024_S1x256x256_0_0_0).toLoadRect (harg5.unread x3)) (View.readAt (Elt F) arg6.view (Rect.unit (s := S1x256x128) ![0, 0, 0] S1x256x128.size inb_S1x256x128_S1x256x128_0_0_0).toLoadRect (harg6.unread x4)) (kernelRun0_A.sl.v104 c arg8) (kernelRun0_A.sl.v148 c arg9) (kernelRun0_A.sl.v128 c arg10))) shapeCasts_S1x1_S1x1x1⟩] ++ [⟨Rect.unit (s := S4x1x1) ![0, 0, 0] S4x1x1.size inb_S4x1x1_S4x1x1_0_0_0, zM⟩] := rfl
  rw [key]
  simp only [View.readAt_eq_ld, Memref.IsWhole.read_unread, start_zC_0, start_zC_1, start_zC_2, start_zC_3, start_zN_0, start_zN_1,
    start_zN_2, start_zN_3, start_zM_0, start_zM_1, start_zM_2, start_zM_3]
  rfl

end Cert.Proof.Head

end
-- ==== Proof.KernelBlock.lean ====
/- The chunkwise mLSTM kernel's body at an index: the block it writes and the state it carries on, each index falling to the
   head that covers it. -/
module

public import proofs.«01_k».proof.Proof.KernelBody
public import Idealize.ShloMosaic.Lib.Pointwise

@[expose] public section

set_option maxRecDepth 16384
set_option maxHeartbeats 1000000

noncomputable section

namespace Cert.Proof.Head

open Idealize.ShloMosaic Idealize.SL.Sem Cert.KernelIdeal Cert.KernelIdeal.Gen

variable {F : FTy → Type} [FloatOps F] [Named F]

/-- Head `h` over the blocks of a grid point and the state it finds, each input at an index. -/
def headAt (x0 x1 x2 x3 : Vec F S1x256x1024 .bf16) (x4 : Vec F S1x256x128 .f32) (s0 : Vec F S4x256x256 .f32)
    (s1 : Vec F S4x1x256 .f32) (s2 : Vec F S4x1x1 .f32) (h : Fin 4) : HIn F where
  q j := x0 (ix3 (0 : Fin 1) (j 0) (⟨256 * h.val + (j 1).val, by have h1 : (j 1).val < 256 := (j 1).isLt; have h2 := h.isLt; omega⟩ : Fin 1024))
  k0 j := x1 (ix3 (0 : Fin 1) (j 0) (⟨256 * h.val + (j 1).val, by have h1 : (j 1).val < 256 := (j 1).isLt; have h2 := h.isLt; omega⟩ : Fin 1024))
  v j := x2 (ix3 (0 : Fin 1) (j 0) (⟨256 * h.val + (j 1).val, by have h1 : (j 1).val < 256 := (j 1).isLt; have h2 := h.isLt; omega⟩ : Fin 1024))
  og j := x3 (ix3 (0 : Fin 1) (j 0) (⟨256 * h.val + (j 1).val, by have h1 : (j 1).val < 256 := (j 1).isLt; have h2 := h.isLt; omega⟩ : Fin 1024))
  C j := s0 (ix3 h (j 0) (j 1))
  n j := s1 (ix3 h (0 : Fin 1) (j 1))
  m j := s2 (ix3 h (0 : Fin 1) (0 : Fin 1))
  ic j := gatesOf x4 (ix2 (j 0) (⟨h.val, by omega⟩ : Fin 128))
  bc j := cumRows (logSig (gatesOf x4)) (ix2 (j 0) (⟨4 + h.val, by omega⟩ : Fin 128))
  ir j := gatesOf x4 (ix2 (j 1) (⟨h.val, by omega⟩ : Fin 128))
  br j := cumRows (logSig (gatesOf x4)) (ix2 (j 1) (⟨4 + h.val, by omega⟩ : Fin 128))

/-- Two heads that read the same are the same. -/
theorem HIn.ext' {I J : HIn F} (hq : I.q = J.q) (hk : I.k0 = J.k0) (hv : I.v = J.v) (ho : I.og = J.og) (hC : I.C = J.C) (hn : I.n = J.n)
    (hm : I.m = J.m) (h1 : I.ic = J.ic) (h2 : I.bc = J.bc) (h3 : I.ir = J.ir) (h4 : I.br = J.br) : I = J := by
  cases I; cases J; simp only at *; subst hq hk hv ho hC hn hm h1 h2 h3 h4; rfl

variable (x0 x1 x2 x3 : Vec F S1x256x1024 .bf16) (x4 : Vec F S1x256x128 .f32) (s0 : Vec F S4x256x256 .f32)
    (s1 : Vec F S4x1x256 .f32) (s2 : Vec F S4x1x1 .f32)

/-- Head 0 of the body is the head of that number. -/
theorem head0_eq : head0 x0 x1 x2 x3 x4 s0 s1 s2 = headAt x0 x1 x2 x3 x4 s0 s1 s2 0 := by
  unfold head0 hin0 headAt gateRows
  generalize hL : cumRows (logSig (gatesOf x4)) = L
  have hg : gatesOf (View.ld x4 (Rect.unit (s := S1x256x128) ![0, 0, 0] S1x256x128.size inb_S1x256x128_S1x256x128_0_0_0)) = gatesOf x4 := by
    rw [View.ld_unit_lit _ _ (by decide)]
  rw [hg, hL]
  generalize gatesOf x4 = g
  refine HIn.ext' ?_ ?_ ?_ ?_ ?_ ?_ ?_ ?_ ?_ ?_ ?_ <;> funext j <;> pointwise <;> rfl

/-- Head 1 of the body is the head of that number. -/
theorem head1_eq : head1 x0 x1 x2 x3 x4 s0 s1 s2 = headAt x0 x1 x2 x3 x4 s0 s1 s2 1 := by
  unfold head1 hin1 headAt gateRows
  generalize hL : cumRows (logSig (gatesOf x4)) = L
  have hg : gatesOf (View.ld x4 (Rect.unit (s := S1x256x128) ![0, 0, 0] S1x256x128.size inb_S1x256x128_S1x256x128_0_0_0)) = gatesOf x4 := by
    rw [View.ld_unit_lit _ _ (by decide)]
  rw [hg, hL]
  generalize gatesOf x4 = g
  refine HIn.ext' ?_ ?_ ?_ ?_ ?_ ?_ ?_ ?_ ?_ ?_ ?_ <;> funext j <;> pointwise <;> rfl

/-- Head 2 of the body is the head of that number. -/
theorem head2_eq : head2 x0 x1 x2 x3 x4 s0 s1 s2 = headAt x0 x1 x2 x3 x4 s0 s1 s2 2 := by
  unfold head2 hin2 headAt gateRows
  generalize hL : cumRows (logSig (gatesOf x4)) = L
  have hg : gatesOf (View.ld x4 (Rect.unit (s := S1x256x128) ![0, 0, 0] S1x256x128.size inb_S1x256x128_S1x256x128_0_0_0)) = gatesOf x4 := by
    rw [View.ld_unit_lit _ _ (by decide)]
  rw [hg, hL]
  generalize gatesOf x4 = g
  refine HIn.ext' ?_ ?_ ?_ ?_ ?_ ?_ ?_ ?_ ?_ ?_ ?_ <;> funext j <;> pointwise <;> rfl

/-- Head 3 of the body is the head of that number. -/
theorem head3_eq : head3 x0 x1 x2 x3 x4 s0 s1 s2 = headAt x0 x1 x2 x3 x4 s0 s1 s2 3 := by
  unfold head3 hin3 headAt gateRows
  generalize hL : cumRows (logSig (gatesOf x4)) = L
  have hg : gatesOf (View.ld x4 (Rect.unit (s := S1x256x128) ![0, 0, 0] S1x256x128.size inb_S1x256x128_S1x256x128_0_0_0)) = gatesOf x4 := by
    rw [View.ld_unit_lit _ _ (by decide)]
  rw [hg, hL]
  generalize gatesOf x4 = g
  refine HIn.ext' ?_ ?_ ?_ ?_ ?_ ?_ ?_ ?_ ?_ ?_ ?_ <;> funext j <;> pointwise <;> rfl

/-- The output block at an index: the head of column `c` is `c / 256`. -/
def outAt (y : S1x256x1024.Idx) : Elt F .bf16 :=
  hout (headAt x0 x1 x2 x3 x4 s0 s1 s2 ⟨(y 2).val / 256, by have h : (y 2).val < 1024 := (y 2).isLt; omega⟩)
    (ix2 (y 1) (⟨(y 2).val % 256, Nat.mod_lt _ (by omega)⟩ : Fin 256))

/-- The matrix state after the body at an index. -/
def cAt (y : S4x256x256.Idx) : Elt F .f32 := cnew (headAt x0 x1 x2 x3 x4 s0 s1 s2 (y 0)) (ix2 (y 1) (y 2))

/-- The normalizer state after the body at an index. -/
def nAt (y : S4x1x256.Idx) : Elt F .f32 := nnew (headAt x0 x1 x2 x3 x4 s0 s1 s2 (y 0)) (ix2 (0 : Fin 1) (y 2))

/-- The stabilizer state after the body at an index. -/
def mAt (y : S4x1x1.Idx) : Elt F .f32 := mnew (headAt x0 x1 x2 x3 x4 s0 s1 s2 (y 0)) (ix2 (0 : Fin 1) (0 : Fin 1))

/-- The block of outputs, at a head's row and column: the head's output. -/
theorem outAt_of (h : Fin 4) (y : S1x256x1024.Idx) (a b : Fin 256) (ha : (y 1).val = a.val) (hy : (y 2).val = 256 * h.val + b.val) :
    outAt x0 x1 x2 x3 x4 s0 s1 s2 y = hout (headAt x0 x1 x2 x3 x4 s0 s1 s2 h) (ix2 a b) := by
  unfold outAt
  have hb := b.isLt
  have e1 : (⟨(y 2).val / 256, by have h : (y 2).val < 1024 := (y 2).isLt; omega⟩ : Fin 4) = h := Fin.ext (by simp only; omega)
  have e2 : (⟨(y 2).val % 256, Nat.mod_lt _ (by omega)⟩ : Fin 256) = b := Fin.ext (by simp only; omega)
  rw [e1, e2, show y 1 = a from Fin.ext ha]

/-- The matrix states after a point, head by head. -/
theorem cAt_of (h : Fin 4) (y : S4x256x256.Idx) (a b : Fin 256) (h0 : (y 0).val = h.val) (h1 : (y 1).val = a.val) (h2 : (y 2).val = b.val) :
    cAt x0 x1 x2 x3 x4 s0 s1 s2 y = cnew (headAt x0 x1 x2 x3 x4 s0 s1 s2 h) (ix2 a b) := by
  unfold cAt
  rw [show y 0 = h from Fin.ext h0, show y 1 = a from Fin.ext h1, show y 2 = b from Fin.ext h2]

/-- The normalizers after a point, head by head. -/
theorem nAt_of (h : Fin 4) (y : S4x1x256.Idx) (b : Fin 256) (h0 : (y 0).val = h.val) (h2 : (y 2).val = b.val) :
    nAt x0 x1 x2 x3 x4 s0 s1 s2 y = nnew (headAt x0 x1 x2 x3 x4 s0 s1 s2 h) (ix2 (0 : Fin 1) b) := by
  unfold nAt
  rw [show y 0 = h from Fin.ext h0, show y 2 = b from Fin.ext h2]

/-- The stabilizers after a point, head by head. -/
theorem mAt_of (h : Fin 4) (y : S4x1x1.Idx) (h0 : (y 0).val = h.val) :
    mAt x0 x1 x2 x3 x4 s0 s1 s2 y = mnew (headAt x0 x1 x2 x3 x4 s0 s1 s2 h) (ix2 (0 : Fin 1) (0 : Fin 1)) := by
  unfold mAt
  rw [show y 0 = h from Fin.ext h0]

/-- Every store into the output block is a part of the function of the index above. -/
theorem piecesOut_of : View.PiecesOf (outAt x0 x1 x2 x3 x4 s0 s1 s2) (piecesOut x0 x1 x2 x3 x4 s0 s1 s2) := by
  unfold piecesOut
  rw [head0_eq, head1_eq, head2_eq, head3_eq]
  refine ⟨?_, ?_, ?_, ?_, trivial⟩ <;> intro x
  · rw [outAt_of _ _ _ _ _ _ _ _ (3 : Fin 4) _ (x 1) (x 2) (by rw [Rect.emb_apply]; show 0 + 1 * (x 1).val = (x 1).val; omega) (by rw [Rect.emb_apply]; show 768 + 1 * (x 2).val = 256 * 3 + (x 2).val; omega)]
    pointwise
  · rw [outAt_of _ _ _ _ _ _ _ _ (2 : Fin 4) _ (x 1) (x 2) (by rw [Rect.emb_apply]; show 0 + 1 * (x 1).val = (x 1).val; omega) (by rw [Rect.emb_apply]; show 512 + 1 * (x 2).val = 256 * 2 + (x 2).val; omega)]
    pointwise
  · rw [outAt_of _ _ _ _ _ _ _ _ (1 : Fin 4) _ (x 1) (x 2) (by rw [Rect.emb_apply]; show 0 + 1 * (x 1).val = (x 1).val; omega) (by rw [Rect.emb_apply]; show 256 + 1 * (x 2).val = 256 * 1 + (x 2).val; omega)]
    pointwise
  · rw [outAt_of _ _ _ _ _ _ _ _ (0 : Fin 4) _ (x 1) (x 2) (by rw [Rect.emb_apply]; show 0 + 1 * (x 1).val = (x 1).val; omega) (by rw [Rect.emb_apply]; show 0 + 1 * (x 2).val = 256 * 0 + (x 2).val; omega)]
    pointwise

/-- Every store into the matrix state is a part of the function of the index above. -/
theorem piecesC_of : View.PiecesOf (cAt x0 x1 x2 x3 x4 s0 s1 s2) (piecesC x0 x1 x2 x3 x4 s0 s1 s2) := by
  unfold piecesC
  rw [head0_eq, head1_eq, head2_eq, head3_eq]
  refine ⟨?_, ?_, ?_, ?_, trivial⟩ <;> intro x
  · rw [cAt_of _ _ _ _ _ _ _ _ (3 : Fin 4) _ (x 1) (x 2) (by rw [Rect.emb_apply]; have hx : (x 0).val < 1 := (x 0).isLt; show 3 + 1 * (x 0).val = 3; omega) (by rw [Rect.emb_apply]; show 0 + 1 * (x 1).val = (x 1).val; omega) (by rw [Rect.emb_apply]; show 0 + 1 * (x 2).val = (x 2).val; omega)]
    pointwise
  · rw [cAt_of _ _ _ _ _ _ _ _ (2 : Fin 4) _ (x 1) (x 2) (by rw [Rect.emb_apply]; have hx : (x 0).val < 1 := (x 0).isLt; show 2 + 1 * (x 0).val = 2; omega) (by rw [Rect.emb_apply]; show 0 + 1 * (x 1).val = (x 1).val; omega) (by rw [Rect.emb_apply]; show 0 + 1 * (x 2).val = (x 2).val; omega)]
    pointwise
  · rw [cAt_of _ _ _ _ _ _ _ _ (1 : Fin 4) _ (x 1) (x 2) (by rw [Rect.emb_apply]; have hx : (x 0).val < 1 := (x 0).isLt; show 1 + 1 * (x 0).val = 1; omega) (by rw [Rect.emb_apply]; show 0 + 1 * (x 1).val = (x 1).val; omega) (by rw [Rect.emb_apply]; show 0 + 1 * (x 2).val = (x 2).val; omega)]
    pointwise
  · rw [cAt_of _ _ _ _ _ _ _ _ (0 : Fin 4) _ (x 1) (x 2) (by rw [Rect.emb_apply]; have hx : (x 0).val < 1 := (x 0).isLt; show 0 + 1 * (x 0).val = 0; omega) (by rw [Rect.emb_apply]; show 0 + 1 * (x 1).val = (x 1).val; omega) (by rw [Rect.emb_apply]; show 0 + 1 * (x 2).val = (x 2).val; omega)]
    pointwise

/-- Every store into the normalizer state is a part of the function of the index above. -/
theorem piecesN_of : View.PiecesOf (nAt x0 x1 x2 x3 x4 s0 s1 s2) (piecesN x0 x1 x2 x3 x4 s0 s1 s2) := by
  unfold piecesN
  rw [head0_eq, head1_eq, head2_eq, head3_eq]
  refine ⟨?_, ?_, ?_, ?_, trivial⟩ <;> intro x
  · rw [nAt_of _ _ _ _ _ _ _ _ (3 : Fin 4) _ (x 2) (by rw [Rect.emb_apply]; have hx : (x 0).val < 1 := (x 0).isLt; show 3 + 1 * (x 0).val = 3; omega) (by rw [Rect.emb_apply]; show 0 + 1 * (x 2).val = (x 2).val; omega)]
    pointwise
  · rw [nAt_of _ _ _ _ _ _ _ _ (2 : Fin 4) _ (x 2) (by rw [Rect.emb_apply]; have hx : (x 0).val < 1 := (x 0).isLt; show 2 + 1 * (x 0).val = 2; omega) (by rw [Rect.emb_apply]; show 0 + 1 * (x 2).val = (x 2).val; omega)]
    pointwise
  · rw [nAt_of _ _ _ _ _ _ _ _ (1 : Fin 4) _ (x 2) (by rw [Rect.emb_apply]; have hx : (x 0).val < 1 := (x 0).isLt; show 1 + 1 * (x 0).val = 1; omega) (by rw [Rect.emb_apply]; show 0 + 1 * (x 2).val = (x 2).val; omega)]
    pointwise
  · rw [nAt_of _ _ _ _ _ _ _ _ (0 : Fin 4) _ (x 2) (by rw [Rect.emb_apply]; have hx : (x 0).val < 1 := (x 0).isLt; show 0 + 1 * (x 0).val = 0; omega) (by rw [Rect.emb_apply]; show 0 + 1 * (x 2).val = (x 2).val; omega)]
    pointwise

/-- Every store into the stabilizer state is a part of the function of the index above. -/
theorem piecesM_of : View.PiecesOf (mAt x0 x1 x2 x3 x4 s0 s1 s2) (piecesM x0 x1 x2 x3 x4 s0 s1 s2) := by
  unfold piecesM
  rw [head0_eq, head1_eq, head2_eq, head3_eq]
  refine ⟨?_, ?_, ?_, ?_, trivial⟩ <;> intro x
  · rw [mAt_of _ _ _ _ _ _ _ _ (3 : Fin 4) _ (by rw [Rect.emb_apply]; have hx : (x 0).val < 1 := (x 0).isLt; show 3 + 1 * (x 0).val = 3; omega)]
    pointwise
  · rw [mAt_of _ _ _ _ _ _ _ _ (2 : Fin 4) _ (by rw [Rect.emb_apply]; have hx : (x 0).val < 1 := (x 0).isLt; show 2 + 1 * (x 0).val = 2; omega)]
    pointwise
  · rw [mAt_of _ _ _ _ _ _ _ _ (1 : Fin 4) _ (by rw [Rect.emb_apply]; have hx : (x 0).val < 1 := (x 0).isLt; show 1 + 1 * (x 0).val = 1; omega)]
    pointwise
  · rw [mAt_of _ _ _ _ _ _ _ _ (0 : Fin 4) _ (by rw [Rect.emb_apply]; have hx : (x 0).val < 1 := (x 0).isLt; show 0 + 1 * (x 0).val = 0; omega)]
    pointwise

/-- The stores into the output block reach every index of it. -/
theorem coverOut (y : S1x256x1024.Idx) : ∃ p ∈ piecesOut x0 x1 x2 x3 x4 s0 s1 s2, y ∈ p.1.set :=
  View.cover_of_tiledL (piecesOut x0 x1 x2 x3 x4 s0 s1 s2) S1x256x256.size (by sl_kernel_rfl) y

/-- The stores into the matrix state reach every index of it. -/
theorem coverC (y : S4x256x256.Idx) : ∃ p ∈ piecesC x0 x1 x2 x3 x4 s0 s1 s2, y ∈ p.1.set :=
  View.cover_of_tiledL (piecesC x0 x1 x2 x3 x4 s0 s1 s2) S1x256x256.size (by sl_kernel_rfl) y

/-- The stores into the normalizer state reach every index of it. -/
theorem coverN (y : S4x1x256.Idx) : ∃ p ∈ piecesN x0 x1 x2 x3 x4 s0 s1 s2, y ∈ p.1.set :=
  View.cover_of_tiledL (piecesN x0 x1 x2 x3 x4 s0 s1 s2) S1x1x256.size (by sl_kernel_rfl) y

/-- The stores into the stabilizer state reach every index of it. -/
theorem coverM (y : S4x1x1.Idx) : ∃ p ∈ piecesM x0 x1 x2 x3 x4 s0 s1 s2, y ∈ p.1.set :=
  View.cover_of_tiledL (piecesM x0 x1 x2 x3 x4 s0 s1 s2) S1x1x1.size (by sl_kernel_rfl) y

/-- A point inside a sequence: the output block after the body. -/
theorem out0_B_5_at (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : ¬cond0_0 i) :
    out0_B_5 c i arg2 harg2 arg3 harg3 arg4 harg4 arg5 harg5 arg6 harg6 arg7 harg7 arg8 harg8 arg9 harg9 arg10 harg10 hc0 x0 x1 x2 x3 x4 s0 s1 s2 = outAt x0 x1 x2 x3 x4 s0 s1 s2 :=
  (out0_B_5_eq c i arg2 harg2 arg3 harg3 arg4 harg4 arg5 harg5 arg6 harg6 arg7 harg7 arg8 harg8 arg9 harg9 arg10 harg10 hc0 x0 x1 x2 x3 x4 s0 s1 s2).trans (funext fun y =>
    View.canon_apply_of_pieces _ _ (piecesOut_of x0 x1 x2 x3 x4 s0 s1 s2).mem y (coverOut x0 x1 x2 x3 x4 s0 s1 s2 y))

/-- A point inside a sequence: the matrix state after the body. -/
theorem sout0_B_0_at (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : ¬cond0_0 i) :
    sout0_B_0 c i arg2 harg2 arg3 harg3 arg4 harg4 arg5 harg5 arg6 harg6 arg7 harg7 arg8 harg8 arg9 harg9 arg10 harg10 hc0 x0 x1 x2 x3 x4 s0 s1 s2 = cAt x0 x1 x2 x3 x4 s0 s1 s2 :=
  (sout0_B_0_eq c i arg2 harg2 arg3 harg3 arg4 harg4 arg5 harg5 arg6 harg6 arg7 harg7 arg8 harg8 arg9 harg9 arg10 harg10 hc0 x0 x1 x2 x3 x4 s0 s1 s2).trans (funext fun y =>
    View.canon_apply_of_pieces _ _ (piecesC_of x0 x1 x2 x3 x4 s0 s1 s2).mem y (coverC x0 x1 x2 x3 x4 s0 s1 s2 y))

/-- A point inside a sequence: the normalizer state after the body. -/
theorem sout0_B_1_at (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : ¬cond0_0 i) :
    sout0_B_1 c i arg2 harg2 arg3 harg3 arg4 harg4 arg5 harg5 arg6 harg6 arg7 harg7 arg8 harg8 arg9 harg9 arg10 harg10 hc0 x0 x1 x2 x3 x4 s0 s1 s2 = nAt x0 x1 x2 x3 x4 s0 s1 s2 :=
  (sout0_B_1_eq c i arg2 harg2 arg3 harg3 arg4 harg4 arg5 harg5 arg6 harg6 arg7 harg7 arg8 harg8 arg9 harg9 arg10 harg10 hc0 x0 x1 x2 x3 x4 s0 s1 s2).trans (funext fun y =>
    View.canon_apply_of_pieces _ _ (piecesN_of x0 x1 x2 x3 x4 s0 s1 s2).mem y (coverN x0 x1 x2 x3 x4 s0 s1 s2 y))

/-- A point inside a sequence: the stabilizer state after the body. -/
theorem sout0_B_2_at (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : ¬cond0_0 i) :
    sout0_B_2 c i arg2 harg2 arg3 harg3 arg4 harg4 arg5 harg5 arg6 harg6 arg7 harg7 arg8 harg8 arg9 harg9 arg10 harg10 hc0 x0 x1 x2 x3 x4 s0 s1 s2 = mAt x0 x1 x2 x3 x4 s0 s1 s2 :=
  (sout0_B_2_eq c i arg2 harg2 arg3 harg3 arg4 harg4 arg5 harg5 arg6 harg6 arg7 harg7 arg8 harg8 arg9 harg9 arg10 harg10 hc0 x0 x1 x2 x3 x4 s0 s1 s2).trans (funext fun y =>
    View.canon_apply_of_pieces _ _ (piecesM_of x0 x1 x2 x3 x4 s0 s1 s2).mem y (coverM x0 x1 x2 x3 x4 s0 s1 s2 y))

/-- The first point of a sequence: the output block after the body, from a state of zeros. -/
theorem out0_A_5_at (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : cond0_0 i) :
    out0_A_5 c i arg2 harg2 arg3 harg3 arg4 harg4 arg5 harg5 arg6 harg6 arg7 harg7 arg8 harg8 arg9 harg9 arg10 harg10 hc0 x0 x1 x2 x3 x4 = outAt x0 x1 x2 x3 x4 zC zN zM :=
  (out0_A_5_eq c i arg2 harg2 arg3 harg3 arg4 harg4 arg5 harg5 arg6 harg6 arg7 harg7 arg8 harg8 arg9 harg9 arg10 harg10 hc0 x0 x1 x2 x3 x4).trans (funext fun y =>
    View.canon_apply_of_pieces _ _ (piecesOut_of x0 x1 x2 x3 x4 zC zN zM).mem y (coverOut x0 x1 x2 x3 x4 zC zN zM y))

/-- The first point of a sequence: the matrix state after the body, from a state of zeros. -/
theorem sout0_A_0_at (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : cond0_0 i) :
    sout0_A_0 c i arg2 harg2 arg3 harg3 arg4 harg4 arg5 harg5 arg6 harg6 arg7 harg7 arg8 harg8 arg9 harg9 arg10 harg10 hc0 x0 x1 x2 x3 x4 = cAt x0 x1 x2 x3 x4 zC zN zM :=
  (sout0_A_0_eq c i arg2 harg2 arg3 harg3 arg4 harg4 arg5 harg5 arg6 harg6 arg7 harg7 arg8 harg8 arg9 harg9 arg10 harg10 hc0 x0 x1 x2 x3 x4).trans (funext fun y =>
    View.canon_append_of_piecesOf _ _ _ (piecesC_of x0 x1 x2 x3 x4 zC zN zM) y (coverC x0 x1 x2 x3 x4 zC zN zM y))

/-- The first point of a sequence: the normalizer state after the body, from a state of zeros. -/
theorem sout0_A_1_at (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : cond0_0 i) :
    sout0_A_1 c i arg2 harg2 arg3 harg3 arg4 harg4 arg5 harg5 arg6 harg6 arg7 harg7 arg8 harg8 arg9 harg9 arg10 harg10 hc0 x0 x1 x2 x3 x4 = nAt x0 x1 x2 x3 x4 zC zN zM :=
  (sout0_A_1_eq c i arg2 harg2 arg3 harg3 arg4 harg4 arg5 harg5 arg6 harg6 arg7 harg7 arg8 harg8 arg9 harg9 arg10 harg10 hc0 x0 x1 x2 x3 x4).trans (funext fun y =>
    View.canon_append_of_piecesOf _ _ _ (piecesN_of x0 x1 x2 x3 x4 zC zN zM) y (coverN x0 x1 x2 x3 x4 zC zN zM y))

/-- The first point of a sequence: the stabilizer state after the body, from a state of zeros. -/
theorem sout0_A_2_at (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x1024 .bf16) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x1 .f32) (harg10 : arg10.IsWhole) (hc0 : cond0_0 i) :
    sout0_A_2 c i arg2 harg2 arg3 harg3 arg4 harg4 arg5 harg5 arg6 harg6 arg7 harg7 arg8 harg8 arg9 harg9 arg10 harg10 hc0 x0 x1 x2 x3 x4 = mAt x0 x1 x2 x3 x4 zC zN zM :=
  (sout0_A_2_eq c i arg2 harg2 arg3 harg3 arg4 harg4 arg5 harg5 arg6 harg6 arg7 harg7 arg8 harg8 arg9 harg9 arg10 harg10 hc0 x0 x1 x2 x3 x4).trans (funext fun y =>
    View.canon_append_of_piecesOf _ _ _ (piecesM_of x0 x1 x2 x3 x4 zC zN zM) y (coverM x0 x1 x2 x3 x4 zC zN zM y))

end Cert.Proof.Head

end
-- ==== Proof.MlstmReal.lean ====
/-
  The mLSTM over the real numbers, one head.  `lf` is the logarithm of the forget gate, `ig` the input gate's
  pre-activation, `k`, `v`, `q` the head's rows.  The recurrence keeps a stabilizer `M`, a matrix state `Cst` and a
  normalizer `Nst`; each is given here in closed form as a sum over the tokens before `t` with the weights `Wt t s`.
  The chunk lemmas say what one chunk of any length makes of the state before it.
-/
module

public import Mathlib.Analysis.SpecialFunctions.Exp
public import Mathlib.Data.EReal.Operations
public import Mathlib.Algebra.BigOperators.Fin
public import Mathlib.Algebra.BigOperators.Intervals

@[expose] public section

noncomputable section

namespace Cert.Proof.Mlstm

open Finset

/-- The sum of the log forget gates of the tokens before `t`. -/
def Fs (lf : ℕ → ℝ) (t : ℕ) : ℝ := ∑ s ∈ range t, lf s

/-- One more term of the running sum of log forget gates. -/
theorem Fs_succ (lf : ℕ → ℝ) (t : ℕ) : Fs lf (t + 1) = Fs lf t + lf t := sum_range_succ _ _

/-- The stabilizer after `t` tokens. -/
def Ms (lf ig : ℕ → ℝ) : ℕ → ℝ
  | 0 => 0
  | t + 1 => max (lf t + Ms lf ig t) (ig t)

/-- The weight of token `s` in the state after `t` tokens. -/
def Wt (lf ig : ℕ → ℝ) (t s : ℕ) : ℝ := Real.exp (Fs lf t - Fs lf (s + 1) + ig s - Ms lf ig t)

/-- The matrix state after `t` tokens. -/
def Cst {D E : Type} (lf ig : ℕ → ℝ) (k : ℕ → D → ℝ) (v : ℕ → E → ℝ) (t : ℕ) (d : D) (e : E) : ℝ :=
  ∑ s ∈ range t, Wt lf ig t s * k s d * v s e

/-- The normalizer after `t` tokens. -/
def Nst {D : Type} (lf ig : ℕ → ℝ) (k : ℕ → D → ℝ) (t : ℕ) (d : D) : ℝ :=
  ∑ s ∈ range t, Wt lf ig t s * k s d

/-- The product of query `t` and key `s`. -/
def qk {D : Type} [Fintype D] (q k : ℕ → D → ℝ) (t s : ℕ) : ℝ := ∑ d, q t d * k s d

/-- The numerator of token `t`'s output. -/
def Num {D E : Type} [Fintype D] (lf ig : ℕ → ℝ) (q k : ℕ → D → ℝ) (v : ℕ → E → ℝ) (t : ℕ) (e : E) : ℝ :=
  ∑ s ∈ range (t + 1), qk q k t s * Wt lf ig (t + 1) s * v s e

/-- The denominator of token `t`'s output before its floor. -/
def Den {D : Type} [Fintype D] (lf ig : ℕ → ℝ) (q k : ℕ → D → ℝ) (t : ℕ) : ℝ :=
  ∑ s ∈ range (t + 1), qk q k t s * Wt lf ig (t + 1) s

/-- The floor of the denominator, which is positive. -/
def Bot {D : Type} [Fintype D] (lf ig : ℕ → ℝ) (q k : ℕ → D → ℝ) (t : ℕ) : ℝ :=
  max |Den lf ig q k t| (Real.exp (-Ms lf ig (t + 1)))

/-- Token `t`'s output. -/
def Hid {D E : Type} [Fintype D] (lf ig : ℕ → ℝ) (q k : ℕ → D → ℝ) (v : ℕ → E → ℝ) (t : ℕ) (e : E) : ℝ :=
  Num lf ig q k v t e * (1 / Bot lf ig q k t)

/-- The divisor is positive. -/
theorem Bot_pos {D : Type} [Fintype D] (lf ig : ℕ → ℝ) (q k : ℕ → D → ℝ) (t : ℕ) : 0 < Bot lf ig q k t :=
  lt_max_of_lt_right (Real.exp_pos _)

/-- The stabilizer is at least the one carried to the chunk's start, moved on by the gates since. -/
theorem Ms_ge_inter (lf ig : ℕ → ℝ) (T : ℕ) : ∀ n, Fs lf (T + n) - Fs lf T + Ms lf ig T ≤ Ms lf ig (T + n)
  | 0 => by simp
  | n + 1 => by
    have h := Ms_ge_inter lf ig T n
    rw [← Nat.add_assoc, Fs_succ]
    exact le_max_of_le_left (by linarith)

/-- The stabilizer is at least every token's contribution. -/
theorem Ms_ge_intra (lf ig : ℕ → ℝ) (s : ℕ) : ∀ t, s < t → Fs lf t - Fs lf (s + 1) + ig s ≤ Ms lf ig t
  | 0, h => by omega
  | t + 1, h => by
    rcases Nat.lt_succ_iff_lt_or_eq.1 h with h' | rfl
    · have := Ms_ge_intra lf ig s t h'
      rw [Fs_succ]
      exact le_max_of_le_left (by linarith)
    · exact le_max_of_le_right (by linarith)

/-- The stabilizer is one of the values that bound it from below. -/
theorem Ms_attained (lf ig : ℕ → ℝ) (T : ℕ) : ∀ n, Ms lf ig (T + n) = Fs lf (T + n) - Fs lf T + Ms lf ig T ∨
    ∃ s, T ≤ s ∧ s < T + n ∧ Ms lf ig (T + n) = Fs lf (T + n) - Fs lf (s + 1) + ig s
  | 0 => by simp
  | n + 1 => by
    rw [← Nat.add_assoc, Fs_succ]
    have hM : Ms lf ig (T + n + 1) = max (lf (T + n) + Ms lf ig (T + n)) (ig (T + n)) := rfl
    rcases max_choice (lf (T + n) + Ms lf ig (T + n)) (ig (T + n)) with h | h
    · rcases Ms_attained lf ig T n with h' | ⟨s, h1, h2, h'⟩
      · left; rw [hM, h]; linarith
      · right; exact ⟨s, h1, by omega, by rw [hM, h]; linarith⟩
    · right; exact ⟨T + n, by omega, by omega, by rw [hM, h, Fs_succ]; ring⟩

/-- An earlier token's weight, carried from the state after `T` tokens to a later one. -/
theorem Wt_carry (lf ig : ℕ → ℝ) (T t s : ℕ) :
    Wt lf ig t s = Real.exp (Fs lf t - Fs lf T + Ms lf ig T - Ms lf ig t) * Wt lf ig T s := by
  unfold Wt; rw [← Real.exp_add]; congr 1; ring

/-- The matrix state `n` tokens on. -/
theorem Cst_add {D E : Type} (lf ig : ℕ → ℝ) (k : ℕ → D → ℝ) (v : ℕ → E → ℝ) (T n : ℕ) (d : D) (e : E) :
    Cst lf ig k v (T + n) d e = Real.exp (Fs lf (T + n) - Fs lf T + Ms lf ig T - Ms lf ig (T + n)) * Cst lf ig k v T d e
      + ∑ s : Fin n, Wt lf ig (T + n) (T + s) * k (T + s) d * v (T + s) e := by
  unfold Cst
  rw [sum_range_add, Finset.mul_sum, Finset.sum_range (fun s => Wt lf ig (T + n) (T + s) * k (T + s) d * v (T + s) e)]
  congr 1
  refine sum_congr rfl fun s _ => ?_
  rw [Wt_carry lf ig T (T + n) s]; ring

/-- The normalizer `n` tokens on. -/
theorem Nst_add {D : Type} (lf ig : ℕ → ℝ) (k : ℕ → D → ℝ) (T n : ℕ) (d : D) :
    Nst lf ig k (T + n) d = Real.exp (Fs lf (T + n) - Fs lf T + Ms lf ig T - Ms lf ig (T + n)) * Nst lf ig k T d
      + ∑ s : Fin n, Wt lf ig (T + n) (T + s) * k (T + s) d := by
  unfold Nst
  rw [sum_range_add, Finset.mul_sum, Finset.sum_range (fun s => Wt lf ig (T + n) (T + s) * k (T + s) d)]
  congr 1
  refine sum_congr rfl fun s _ => ?_
  rw [Wt_carry lf ig T (T + n) s]; ring

/-- A sum over the first `j + 1` of `L` positions, written over all of them with zeros after. -/
theorem sum_masked (L j : ℕ) (hj : j < L) (g : ℕ → ℝ) :
    ∑ s ∈ range (j + 1), g s = ∑ s : Fin L, if (s : ℕ) ≤ j then g s else 0 := by
  rw [Finset.sum_fin_eq_sum_range, ← Finset.sum_subset (s₁ := range (j + 1)) (s₂ := range L)]
  · refine sum_congr rfl fun s hs => ?_
    have := mem_range.1 hs
    have h1 : s < L := by omega
    have h2 : s ≤ j := by omega
    rw [dif_pos h1]
    exact (if_pos h2).symm
  · intro s hs; have := mem_range.1 hs; exact mem_range.2 (by omega)
  · intro s hs hs'
    have h1 := mem_range.1 hs
    have h2 : ¬ s < j + 1 := fun h => hs' (mem_range.2 h)
    have h3 : ¬ s ≤ j := by omega
    rw [dif_pos h1]
    exact if_neg h3

/-- A token's numerator from the state at its chunk's start and the chunk's own tokens up to it. -/
theorem Num_chunk {D E : Type} [Fintype D] (lf ig : ℕ → ℝ) (q k : ℕ → D → ℝ) (v : ℕ → E → ℝ) (T L j : ℕ) (hj : j < L)
    (e : E) :
    Num lf ig q k v (T + j) e
      = Real.exp (Fs lf (T + j + 1) - Fs lf T + Ms lf ig T - Ms lf ig (T + j + 1)) * (∑ d, q (T + j) d * Cst lf ig k v T d e)
        + ∑ s : Fin L, (if (s : ℕ) ≤ j then qk q k (T + j) (T + s) * Wt lf ig (T + j + 1) (T + s) else 0) * v (T + s) e := by
  unfold Num
  rw [Nat.add_assoc, sum_range_add, sum_masked L j hj (fun s => qk q k (T + j) (T + s) * Wt lf ig (T + (j + 1)) (T + s) * v (T + s) e)]
  congr 1
  · unfold Cst qk
    simp only [Finset.mul_sum, Finset.sum_mul]
    rw [Finset.sum_comm]
    refine sum_congr rfl fun d _ => sum_congr rfl fun s _ => ?_
    rw [Wt_carry lf ig T (T + (j + 1)) s]; ring
  · refine sum_congr rfl fun s _ => ?_
    split <;> simp

/-- A token's denominator from the state at its chunk's start and the chunk's own tokens up to it. -/
theorem Den_chunk {D : Type} [Fintype D] (lf ig : ℕ → ℝ) (q k : ℕ → D → ℝ) (T L j : ℕ) (hj : j < L) :
    Den lf ig q k (T + j)
      = Real.exp (Fs lf (T + j + 1) - Fs lf T + Ms lf ig T - Ms lf ig (T + j + 1)) * (∑ d, q (T + j) d * Nst lf ig k T d)
        + ∑ s : Fin L, (if (s : ℕ) ≤ j then qk q k (T + j) (T + s) * Wt lf ig (T + j + 1) (T + s) else 0) := by
  unfold Den
  rw [Nat.add_assoc, sum_range_add, sum_masked L j hj (fun s => qk q k (T + j) (T + s) * Wt lf ig (T + (j + 1)) (T + s))]
  congr 1
  unfold Nst qk
  simp only [Finset.mul_sum, Finset.sum_mul]
  rw [Finset.sum_comm]
  refine sum_congr rfl fun d _ => sum_congr rfl fun s _ => ?_
  rw [Wt_carry lf ig T (T + (j + 1)) s]; ring

/-! ## The same over the extended reals, as the programs compute it -/

/-- The running sum of the chunk's log forget gates, up to and with position `j`. -/
def bc (lf : ℕ → ℝ) (T j : ℕ) : ℝ := Fs lf (T + j + 1) - Fs lf T

/-- The maximum of a carried term and a masked row of terms, over the extended reals. -/
theorem max_fold_eq {L : ℕ} (a m : ℝ) (p : Fin L → Prop) [DecidablePred p] (g : Fin L → ℝ) (hm : a ≤ m)
    (hg : ∀ s, p s → g s ≤ m) (hatt : m = a ∨ ∃ s, p s ∧ m = g s) :
    max (a : EReal) (Finset.univ.fold max (⊥ : EReal) fun s => if p s then ((g s : ℝ) : EReal) else ⊥) = (m : EReal) := by
  apply le_antisymm
  · apply max_le (by exact_mod_cast hm)
    rw [Finset.fold_max_le]
    refine ⟨bot_le, fun s _ => ?_⟩
    split
    · next h => exact_mod_cast hg s h
    · exact bot_le
  · rcases hatt with rfl | ⟨s, hp, rfl⟩
    · exact le_max_left _ _
    · apply le_max_of_le_right
      rw [Finset.le_fold_max]
      exact Or.inr ⟨s, mem_univ _, by rw [if_pos hp]⟩

/-- The stabilizer of a token from its chunk: the carried one moved on, against the chunk's tokens up to it. -/
theorem Ms_chunk (lf ig : ℕ → ℝ) (T L j : ℕ) (hj : j < L) :
    max ((bc lf T j + Ms lf ig T : ℝ) : EReal) (Finset.univ.fold max (⊥ : EReal) fun s : Fin L =>
      if (s : ℕ) ≤ j then ((bc lf T j - bc lf T s + ig (T + s) : ℝ) : EReal) else ⊥) = (Ms lf ig (T + j + 1) : EReal) := by
  apply max_fold_eq
  · exact Ms_ge_inter lf ig T (j + 1)
  · intro s hs
    have := Ms_ge_intra lf ig (T + s) (T + j + 1) (by omega)
    unfold bc; linarith
  · rcases Ms_attained lf ig T (j + 1) with h | ⟨s, h1, h2, h⟩
    · left; exact h
    · right
      refine ⟨⟨s - T, by omega⟩, by simp; omega, ?_⟩
      have e : T + (s - T) = s := by omega
      simp only [e]
      rw [← Nat.add_assoc] at h
      unfold bc; rw [e, h]; ring

/-- The stabilizer after a whole chunk of `L` tokens. -/
theorem Ms_chunk_end (lf ig : ℕ → ℝ) (T L : ℕ) (hL : 0 < L) :
    max ((bc lf T (L - 1) + Ms lf ig T : ℝ) : EReal) (Finset.univ.fold max (⊥ : EReal) fun s : Fin L =>
      ((bc lf T (L - 1) - bc lf T s + ig (T + s) : ℝ) : EReal)) = (Ms lf ig (T + L) : EReal) := by
  have h := Ms_chunk lf ig T L (L - 1) (by omega)
  have e : T + (L - 1) + 1 = T + L := by omega
  rw [e] at h
  rw [← h]
  congr 2
  funext s
  rw [if_pos (by omega)]

end Cert.Proof.Mlstm

end
-- ==== Proof.Consts.lean ====
/- The constants of the two programs as real numbers, and sums and maxima of real numbers inside the extended reals. -/
module

public import Idealize.ShloMosaic.PureOps.Ideal
public import Idealize.ShloMosaic.PureOps.Ideal.Laws
public import Idealize.ShloMosaic.Lib.IdealHost
public import Idealize.ShloMosaic.Lib.WordCmp
public import Mathlib.Analysis.SpecialFunctions.Exp
public import Mathlib.Analysis.SpecialFunctions.Log.Basic
public import Mathlib.Data.EReal.Operations

@[expose] public section

noncomputable section

namespace Cert.Proof.Consts

open Idealize.ShloMosaic

/-- The `f32` pattern of infinity is infinity. -/
theorem ofBits_inf : Ideal.ofBits .f32 0x7F800000#32 = ⊤ := by
  simp [Ideal.ofBits, Ideal.ieee]

/-- The `f32` pattern of minus infinity is minus infinity. -/
theorem ofBits_neg_inf : Ideal.ofBits .f32 0xFF800000#32 = ⊥ := by
  simp [Ideal.ofBits, Ideal.ieee]

/-- The `f32` pattern of one sixteenth. -/
theorem ofBits_sixteenth : Ideal.ofBits .f32 0x3D800000#32 = ((1 / 16 : ℝ) : EReal) := by
  simp [Ideal.ofBits, Ideal.ieee, -EReal.coe_mul]; norm_num

/-- A sum of real numbers, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals. -/
theorem coe_max (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

/-- The absolute value of a real number, as the larger of the number and its negation. -/
theorem coe_abs (a : ℝ) : max (a : EReal) (-(a : EReal)) = ((|a| : ℝ) : EReal) := by
  rw [← EReal.coe_neg, coe_max]; rfl

/-- The logarithm of the sigmoid of a real number. -/
def lsig (g : ℝ) : ℝ := -(max (-g) 0 + Real.log (1 + Real.exp (-|g|)))

/-- `log1p (exp (-|g|))` of a real number. -/
theorem log1p_exp (a : ℝ) : Ideal.log1p (Ideal.exp (-((|a| : ℝ) : EReal))) = ((Real.log (1 + Real.exp (-|a|)) : ℝ) : EReal) := by
  rw [← EReal.coe_neg, Ideal.exp_coe, Ideal.log1p, ← EReal.coe_one, ← EReal.coe_add, Ideal.log_coe,
    if_neg (not_le.2 (by positivity))]

/-- A choice by a comparison of two small numbers, less-than. -/
theorem sel_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb, Scalar.select]
  by_cases h : a < b <;> simp [h]

/-- A choice by a comparison of two small numbers, at-most. -/
theorem sel_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb, Scalar.select]
  by_cases h : a ≤ b <;> simp [h]

end Cert.Proof.Consts

end
-- ==== Proof.KernelVal.lean ====
/- One head of the kernel's body over the extended reals, when what it reads is real: queries, keys, values and gates of
   the 256 tokens from `T` on, and the recurrence's state at `T`. Then every value it makes is the recurrence's. -/
module

public import proofs.«01_k».proof.Proof.KernelBlock
public import proofs.«01_k».proof.Proof.MlstmReal
public import proofs.«01_k».proof.Proof.Consts

@[expose] public section

set_option maxRecDepth 16384

noncomputable section

namespace Cert.Proof.Head

open Idealize.ShloMosaic Idealize.SL.Sem Cert.KernelIdeal Cert.KernelIdeal.Gen Cert.Proof.Mlstm Cert.Proof.Consts

/-- The sum of the last `w` of the terms up to and including `r`. -/
def W (a : ℕ → EReal) (w r : ℕ) : EReal := ∑ s ∈ Finset.Ico (r + 1 - w) (r + 1), a s

/-- One doubling step of a windowed sum. -/
theorem W_double (a : ℕ → EReal) (w r : ℕ) : W a w r + (if r < w then 0 else W a w (r - w)) = W a (w + w) r := by
  unfold W
  split
  · rename_i h
    rw [add_zero, show r + 1 - w = 0 by omega, show r + 1 - (w + w) = 0 by omega]
  · rename_i h
    rw [show r - w + 1 - w = r + 1 - (w + w) by omega, show r - w + 1 = r + 1 - w by omega, add_comm]
    exact Finset.sum_Ico_consecutive a (by omega) (by omega)

/-- One column of a block, as a sequence. -/
def col (x : FVec Ideal S256x128 .f32) (l : Fin 128) (s : ℕ) : EReal := if h : s < 256 then x (ix2 ⟨s, h⟩ l) else 0

/-- One doubling step of the running sum, at an entry. -/
theorem rotStep_at (d : ℕ) (hd : d < 256) (a : ℕ → EReal) (x : FVec Ideal S256x128 .f32) (l : Fin 128)
    (hx : ∀ r : Fin 256, x (ix2 r l) = W a d r) (r : Fin 256) :
    rotStep (BitVec.ofNat 32 d) x (ix2 r l) = W a (d + d) r := by
  unfold rotStep
  pointwise
  rw [← W_double, hx, hx]
  rw [sel_slt (by omega) (by omega)]
  congr 1
  split
  · rfl
  · rename_i h
    congr 1
    show ((r : ℕ) + 256 - (BitVec.ofNat 32 d).toNat % 256) % 256 = r - d
    rw [BitVec.toNat_ofNat]
    omega

/-- The running sum of a block, at an entry. -/
theorem cumRows_at (x : FVec Ideal S256x128 .f32) (r : Fin 256) (l : Fin 128) :
    cumRows x (ix2 r l) = ∑ s ∈ Finset.range (r + 1), col x l s := by
  have h0 : ∀ r : Fin 256, x (ix2 r l) = W (col x l) 1 r := fun r => by
    unfold W
    simp [col, r.2]
  have h1 := rotStep_at 1 (by omega) _ x l h0
  have h2 := rotStep_at 2 (by omega) _ _ l h1
  have h4 := rotStep_at 4 (by omega) _ _ l h2
  have c (w : ℕ) (y z : FVec Ideal S256x128 .f32) (hy : ∀ r : Fin 256, y (ix2 r l) = W (col x l) w r)
      (hz : ∀ r : Fin 256, z (ix2 r l) = y (ix2 r l) + if h : (r : ℕ) < w then 0 else y (ix2 ⟨r - w, by omega⟩ l))
      (r : Fin 256) : z (ix2 r l) = W (col x l) (w + w) r := by
    rw [hz, ← W_double, hy]
    congr 1
    split
    · rfl
    · rw [hy]
  have h8 := c 8 _ (cat8 _) h4 fun r => by unfold cat8; pointwise; rfl
  have h16 := c 16 _ (cat16 _) h8 fun r => by unfold cat16; pointwise; rfl
  have h32 := c 32 _ (cat32 _) h16 fun r => by unfold cat32; pointwise; rfl
  have h64 := c 64 _ (cat64 _) h32 fun r => by unfold cat64; pointwise; rfl
  have h128 := c 128 _ (cat128 _) h64 fun r => by unfold cat128; pointwise; rfl
  have := h128 r
  unfold cumRows
  refine this.trans ?_
  unfold W
  rw [show (r : ℕ) + 1 - (128 + 128) = 0 by omega, Finset.range_eq_Ico]

/-- The log-sigmoid of a block at a real entry. -/
theorem logSig_at (v : FVec Ideal S256x128 .f32) (r : Fin 256) (l : Fin 128) (g : ℝ) (h : v (ix2 r l) = (g : EReal)) :
    logSig v (ix2 r l) = ((lsig g : ℝ) : EReal) := by
  unfold logSig
  pointwise
  rw [h, if_neg (by simp), zero_sub, zero_sub, zero_sub, Ideal.absf_def, neg_neg, max_comm (-(g : EReal)) (g : EReal), coe_abs, log1p_exp,
    ← EReal.coe_neg, ← EReal.coe_zero, coe_max, ← EReal.coe_add, ← EReal.coe_neg]
  rfl

/-- What a head reads is real, and its state is the recurrence's at token `T`. -/
structure HReal (I : HIn Ideal) (T : ℕ) (lf ig : ℕ → ℝ) (q k v : ℕ → Fin 256 → ℝ) : Prop where
  /-- queries -/
  hq : ∀ r d : Fin 256, I.q (ix2 r d) = ((q (T + r) d : ℝ) : EReal)
  /-- keys -/
  hk : ∀ r d : Fin 256, kS I (ix2 r d) = ((k (T + r) d : ℝ) : EReal)
  /-- values -/
  hv : ∀ r d : Fin 256, I.v (ix2 r d) = ((v (T + r) d : ℝ) : EReal)
  /-- matrix state -/
  hC : ∀ d e : Fin 256, I.C (ix2 d e) = ((Cst lf ig k v T d e : ℝ) : EReal)
  /-- normalizer -/
  hn : ∀ d : Fin 256, I.n (ix2 0 d) = ((Nst lf ig k T d : ℝ) : EReal)
  /-- stabilizer -/
  hm : I.m (ix2 0 0) = ((Ms lf ig T : ℝ) : EReal)
  /-- input gates, a column -/
  hic : ∀ r : Fin 256, I.ic (ix2 r 0) = ((ig (T + r) : ℝ) : EReal)
  /-- running sums of the log forget gates, a column -/
  hbc : ∀ r : Fin 256, I.bc (ix2 r 0) = ((bc lf T r : ℝ) : EReal)
  /-- input gates, a row -/
  hir : ∀ r : Fin 256, I.ir (ix2 0 r) = ((ig (T + r) : ℝ) : EReal)
  /-- running sums of the log forget gates, a row -/
  hbr : ∀ r : Fin 256, I.br (ix2 0 r) = ((Mlstm.bc lf T r : ℝ) : EReal)

variable {I : HIn Ideal} {T : ℕ} {lf ig : ℕ → ℝ} {q k v : ℕ → Fin 256 → ℝ} (H : HReal I T lf ig q k v)
include H

/-- The decayed input gates, `⊥` after the diagonal. -/
theorem dmat_at (r s : Fin 256) : dmat I (ix2 r s) =
    if (s : ℕ) ≤ r then ((Mlstm.bc lf T r - Mlstm.bc lf T s + ig (T + s) : ℝ) : EReal) else ⊥ := by
  have hn : Named.named (F := Ideal) (φ := .f32) κ "mask" 4048155338#32 = (⊥ : EReal) :=
    IdealRules.named_const.ideal_named_scalar _ _ _ _ rfl
  unfold dmat causal
  pointwise
  rw [H.hbc, H.hbr, H.hir, hn, ← EReal.coe_sub, ← EReal.coe_add]
  exact sel_sle (by omega) (by omega) _ _

/-- The state's exponent for a row. -/
theorem inter_at (r : Fin 256) : inter I (ix2 r 0) = ((Mlstm.bc lf T r + Ms lf ig T : ℝ) : EReal) := by
  unfold inter
  pointwise
  rw [H.hbc, H.hm, ← EReal.coe_add]

/-- The row's stabilizer. -/
theorem mrow_at (r : Fin 256) : mrow I (ix2 r 0) = ((Ms lf ig (T + r + 1) : ℝ) : EReal) := by
  unfold mrow
  pointwise
  rw [inter_at H, ofBits_neg_inf]
  simp only [dmat_at H]
  exact Ms_chunk lf ig T 256 r r.2

/-- The weight of the state. -/
theorem winter_at (r : Fin 256) : winter I (ix2 r 0) =
    ((Real.exp (Fs lf (T + r + 1) - Fs lf T + Ms lf ig T - Ms lf ig (T + r + 1)) : ℝ) : EReal) := by
  unfold winter
  pointwise
  rw [inter_at H, mrow_at H, ← EReal.coe_sub, Ideal.exp_coe]
  rfl

/-- The weighted scores. -/
theorem sqk_at (r s : Fin 256) : sqk I (ix2 r s) =
    (((if (s : ℕ) ≤ r then qk q k (T + r) (T + s) * Wt lf ig (T + r + 1) (T + s) else 0) : ℝ) : EReal) := by
  unfold sqk
  pointwise
  simp only [H.hq, H.hk, dmat_at H, mrow_at H, ← EReal.coe_mul, coe_sum]
  split
  · rw [← EReal.coe_sub, Ideal.exp_coe, ← EReal.coe_mul]
    congr 2
    unfold Wt Mlstm.bc
    congr 1; ring_nf
  · rw [EReal.bot_sub, Ideal.exp_bot, mul_zero, EReal.coe_zero]

/-- The normalizer's product with the query. -/
theorem den_at (r : Fin 256) : den I (ix2 r 0) = ((Den lf ig q k (T + r) : ℝ) : EReal) := by
  unfold den
  pointwise
  simp only [winter_at H, H.hq, H.hn, sqk_at H, ← EReal.coe_mul, coe_sum, ← EReal.coe_add]
  rw [Den_chunk lf ig q k T 256 r r.2]

/-- The numerator. -/
theorem num_at (r e : Fin 256) : num I (ix2 r e) = ((Num lf ig q k v (T + r) e : ℝ) : EReal) := by
  unfold num
  pointwise
  simp only [winter_at H, H.hq, H.hC, H.hv, sqk_at H, ← EReal.coe_mul, coe_sum, ← EReal.coe_add]
  rw [Num_chunk lf ig q k v T 256 r r.2]

/-- The divisor. -/
theorem divisor_at (r : Fin 256) : divisor I (ix2 r 0) = ((Bot lf ig q k (T + r) : ℝ) : EReal) := by
  unfold divisor
  pointwise
  rw [den_at H, mrow_at H, zero_sub, ← EReal.coe_neg, Ideal.exp_coe, Ideal.absf_def, coe_abs, coe_max]
  rfl

/-- The head's output. -/
theorem hout_at (r e : Fin 256) : hout I (ix2 r e) =
    ((Hid lf ig q k v (T + r) e : ℝ) : EReal) * Ideal.logistic (I.og (ix2 r e)) := by
  unfold hout
  pointwise
  rw [num_at H, divisor_at H, Ideal.div_coe (Bot_pos lf ig q k (T + r)).ne', ← EReal.coe_mul]
  rfl

/-- The chunk's last running sum. -/
theorem blast_at : blast I (ix2 0 0) = ((Mlstm.bc lf T 255 : ℝ) : EReal) := by
  unfold blast
  pointwise
  exact H.hbc 255

/-- The gates' exponents at the chunk's end. -/
theorem wsrow_at (r : Fin 256) : wsrow I (ix2 r 0) =
    ((Mlstm.bc lf T 255 - Mlstm.bc lf T r + ig (T + r) : ℝ) : EReal) := by
  unfold wsrow
  pointwise
  rw [blast_at H, H.hbc, H.hic, ← EReal.coe_sub, ← EReal.coe_add]

/-- The stabilizer after the chunk. -/
theorem mnew_at : mnew I (ix2 0 0) = ((Ms lf ig (T + 256) : ℝ) : EReal) := by
  unfold mnew
  pointwise
  rw [blast_at H, H.hm, ofBits_neg_inf, ← EReal.coe_add]
  simp only [wsrow_at H]
  exact Ms_chunk_end lf ig T 256 (by omega)

/-- The state's decay over the chunk. -/
theorem decay_at : decay I (ix2 0 0) =
    ((Real.exp (Fs lf (T + 256) - Fs lf T + Ms lf ig T - Ms lf ig (T + 256)) : ℝ) : EReal) := by
  unfold decay
  pointwise
  rw [blast_at H, H.hm, mnew_at H, ← EReal.coe_add, ← EReal.coe_sub, Ideal.exp_coe]
  rfl

/-- The weighted keys. -/
theorem kw_at (r d : Fin 256) : kw I (ix2 r d) = ((Wt lf ig (T + 256) (T + r) * k (T + r) d : ℝ) : EReal) := by
  unfold kw
  pointwise
  rw [wsrow_at H, mnew_at H, H.hk, ← EReal.coe_sub, Ideal.exp_coe, ← EReal.coe_mul]
  congr 2
  unfold Wt Mlstm.bc
  congr 1
  rw [show T + 255 + 1 = T + 256 from rfl]
  ring

/-- The normalizer after the chunk. -/
theorem nnew_at (d : Fin 256) : nnew I (ix2 0 d) = ((Nst lf ig k (T + 256) d : ℝ) : EReal) := by
  unfold nnew
  pointwise
  simp only [decay_at H, H.hn, kw_at H, ← EReal.coe_mul, coe_sum, ← EReal.coe_add]
  rw [Nst_add]

/-- The matrix state after the chunk. -/
theorem cnew_at (d e : Fin 256) : cnew I (ix2 d e) = ((Cst lf ig k v (T + 256) d e : ℝ) : EReal) := by
  unfold cnew
  pointwise
  simp only [decay_at H, H.hC, H.hv, kw_at H, ← EReal.coe_mul, coe_sum, ← EReal.coe_add]
  rw [Cst_add]

end Cert.Proof.Head

end
-- ==== Proof.Seqs.lean ====
/- The sequences that one head of the mLSTM reads, as real numbers, from the projections `P` and the gates `g`: for batch
   entry `b` and head `h`, the query, scaled key and value of each token, its log forget gate and its input gate. And what
   the mLSTM's result is in these terms. -/
module

public import proofs.«01_k».proof.Proof.MlstmReal
public import proofs.«01_k».proof.Proof.Consts
public import Idealize.ShloMosaic.Lib.Pointwise
public import Idealize.ShloMosaic.PureOps

@[expose] public section

noncomputable section

namespace Cert.Proof.Seqs

open Idealize.ShloMosaic Cert.Proof.Mlstm Cert.Proof.Consts

/-- The projections. -/
abbrev Proj : Type := FVec Ideal ⟨3, ![2, 8192, 6144]⟩ .bf16
/-- The gates' pre-activations. -/
abbrev Gates : Type := FVec Ideal ⟨3, ![2, 8192, 128]⟩ .f32

variable (P : Proj) (g : Gates) (b : Fin 2) (h : Fin 4)

/-- A column of the projections as a sequence of real numbers. -/
def pcol (c : Fin 6144) (t : ℕ) : ℝ := if ht : t < 8192 then (P (ix3 b (⟨t, ht⟩ : Fin 8192) c)).toReal else 0
/-- A column of the gates as a sequence of real numbers. -/
def gcol (c : Fin 128) (t : ℕ) : ℝ := if ht : t < 8192 then (g (ix3 b (⟨t, ht⟩ : Fin 8192) c)).toReal else 0

/-- Queries. -/
def qq (t : ℕ) (d : Fin 256) : ℝ := pcol P b ⟨2048 + (256 * h.val + d.val), by omega⟩ t
/-- Keys, scaled by one sixteenth. -/
def kk (t : ℕ) (d : Fin 256) : ℝ := pcol P b ⟨3072 + (256 * h.val + d.val), by omega⟩ t * (1 / 16)
/-- Values. -/
def vv (t : ℕ) (d : Fin 256) : ℝ := pcol P b ⟨4096 + (256 * h.val + d.val), by omega⟩ t
/-- Input gates. -/
def ig (t : ℕ) : ℝ := gcol g b ⟨h.val, by omega⟩ t
/-- Logarithms of the forget gates. -/
def lf (t : ℕ) : ℝ := lsig (gcol g b ⟨4 + h.val, by omega⟩ t)

/-- What is read by the mLSTM is real. -/
structure IsReal : Prop where
  /-- queries, keys and values -/
  proj : ∀ (b : Fin 2) (t : Fin 8192) (c : Fin 6144), 2048 ≤ c.val → c.val < 5120 →
    P (ix3 b t c) = ((P (ix3 b t c)).toReal : EReal)
  /-- gates -/
  gate : ∀ (b : Fin 2) (t : Fin 8192) (c : Fin 128), c.val < 8 → g (ix3 b t c) = ((g (ix3 b t c)).toReal : EReal)

/-- The mLSTM's result: the recurrence's output times the sigmoid of the output gate. -/
def result (b : Fin 2) (t : Fin 8192) (h : Fin 4) (e : Fin 256) : EReal :=
  ((Hid (lf g b h) (ig g b h) (qq P b h) (kk P b h) (vv P b h) t.val e : ℝ) : EReal)
    * Ideal.logistic (P (ix3 b t (⟨5120 + (256 * h.val + e.val), by omega⟩ : Fin 6144)))

variable {P g}

/-- An entry of the queries, keys or values is its real number. -/
theorem pcol_eq (H : IsReal P g) (b : Fin 2) (t : ℕ) (ht : t < 8192) (c : Fin 6144) (h0 : 2048 ≤ c.val) (h1 : c.val < 5120) :
    P (ix3 b (⟨t, ht⟩ : Fin 8192) c) = ((pcol P b c t : ℝ) : EReal) := by
  rw [H.proj b ⟨t, ht⟩ c h0 h1, pcol, dif_pos ht]

/-- An entry of the gates is its real number. -/
theorem gcol_eq (H : IsReal P g) (b : Fin 2) (t : ℕ) (ht : t < 8192) (c : Fin 128) (h0 : c.val < 8) :
    g (ix3 b (⟨t, ht⟩ : Fin 8192) c) = ((gcol g b c t : ℝ) : EReal) := by
  rw [H.gate b ⟨t, ht⟩ c h0, gcol, dif_pos ht]

end Cert.Proof.Seqs

end
-- ==== Proof.KernelInv.lean ====
/- The kernel over its grid: after the point of batch entry `b` and chunk `j` the carried scratch holds the recurrence's
   state at token `256 * (j + 1)` of each head, and the output block holds the recurrence's outputs of the chunk's tokens
   times the sigmoids of their output gates. So the result array is the mLSTM's result. -/
module

public import proofs.«01_k».proof.Proof.KernelVal
public import proofs.«01_k».proof.Proof.Seqs
public import proofs.«01_k».proof.Proof.Gen.KernelIdeal.Value
public import Idealize.ShloMosaic.Lib.Pipeline.ValueKit

@[expose] public section

set_option maxRecDepth 16384

noncomputable section

namespace Cert.Proof.KInv

open Idealize.ShloMosaic Idealize.ShloMosaic.TcCoe Idealize.SL.Sem Cert.KernelIdeal Cert.KernelIdeal.Gen Cert.KernelIdeal.Value
open Cert.Proof Cert.Proof.Mlstm Cert.Proof.Consts Cert.Proof.Seqs Cert.Proof.Head

variable (m : (ℓ : Loc nD τ sig) → Buf (Elt Ideal) ℓ) (c : Dev nD)

/-- The projections, as the kernel finds them. -/
abbrev PP : Proj := m ((c : Thread nD τ).loc main_arg0)
/-- The gates, as the kernel finds them. -/
abbrev GG : Gates := m ((c : Thread nD τ).loc main_arg1)

/-- The batch entry of a grid point. -/
def bOf (t : Fin cfg0.N) : Fin 2 := ⟨t.val / 32, by have := lt_of_lt_of_eq t.isLt (show cfg0.N = 64 from N_0); omega⟩

/-- The block of queries at a point. -/
theorem idx0 : ∀ t : Fin grid0.N, win0_0.index t (0 : Fin 3) = t.val / 32 ∧ win0_0.index t (1 : Fin 3) = t.val % 32
    ∧ win0_0.index t (2 : Fin 3) = 2 := by decide +kernel
/-- The block of keys at a point. -/
theorem idx1 : ∀ t : Fin grid0.N, win0_1.index t (0 : Fin 3) = t.val / 32 ∧ win0_1.index t (1 : Fin 3) = t.val % 32
    ∧ win0_1.index t (2 : Fin 3) = 3 := by decide +kernel
/-- The block of values at a point. -/
theorem idx2 : ∀ t : Fin grid0.N, win0_2.index t (0 : Fin 3) = t.val / 32 ∧ win0_2.index t (1 : Fin 3) = t.val % 32
    ∧ win0_2.index t (2 : Fin 3) = 4 := by decide +kernel
/-- The block of output gates at a point. -/
theorem idx3 : ∀ t : Fin grid0.N, win0_3.index t (0 : Fin 3) = t.val / 32 ∧ win0_3.index t (1 : Fin 3) = t.val % 32
    ∧ win0_3.index t (2 : Fin 3) = 5 := by decide +kernel
/-- The block of gates at a point. -/
theorem idx4 : ∀ t : Fin grid0.N, win0_4.index t (0 : Fin 3) = t.val / 32 ∧ win0_4.index t (1 : Fin 3) = t.val % 32
    ∧ win0_4.index t (2 : Fin 3) = 0 := by decide +kernel

variable {m c}

/-- A row of a point's chunk is a token of the sequence. -/
theorem row_lt (t : Fin cfg0.N) (r : Fin 256) : 256 * (t.val % 32) + r.val < 8192 := by omega

/-- The block of queries that a grid point reads. -/
theorem blk0 (t : Fin cfg0.N) (r : Fin 256) (k : Fin 1024) : (iblk m c 0 t : Vec Ideal S1x256x1024 .bf16) (ix3 (0 : Fin 1) r k)
    = PP m c (ix3 (bOf t) (⟨256 * (t.val % 32) + r.val, row_lt t r⟩ : Fin 8192) (⟨2048 + k.val, by omega⟩ : Fin 6144)) := by
  obtain ⟨e0, e1, e2⟩ := idx0 t
  show PP m c (((cfg0.win 0).blk t).view.emb (ix3 (0 : Fin 1) r k)) = _
  congr 1
  funext a
  apply Fin.ext
  fin_cases a
  all_goals blk_simp [e0, e1, e2]
  · rfl
  · show t.val % 32 * 256 + r.val = 256 * (t.val % 32) + r.val
    omega
  · show 2 * 1024 + k.val = 2048 + k.val
    omega

/-- The block of keys that a grid point reads. -/
theorem blk1 (t : Fin cfg0.N) (r : Fin 256) (k : Fin 1024) : (iblk m c 1 t : Vec Ideal S1x256x1024 .bf16) (ix3 (0 : Fin 1) r k)
    = PP m c (ix3 (bOf t) (⟨256 * (t.val % 32) + r.val, row_lt t r⟩ : Fin 8192) (⟨3072 + k.val, by omega⟩ : Fin 6144)) := by
  obtain ⟨e0, e1, e2⟩ := idx1 t
  show PP m c (((cfg0.win 1).blk t).view.emb (ix3 (0 : Fin 1) r k)) = _
  congr 1
  funext a
  apply Fin.ext
  fin_cases a
  all_goals blk_simp [e0, e1, e2]
  · rfl
  · show t.val % 32 * 256 + r.val = 256 * (t.val % 32) + r.val
    omega
  · show 3 * 1024 + k.val = 3072 + k.val
    omega

/-- The block of values that a grid point reads. -/
theorem blk2 (t : Fin cfg0.N) (r : Fin 256) (k : Fin 1024) : (iblk m c 2 t : Vec Ideal S1x256x1024 .bf16) (ix3 (0 : Fin 1) r k)
    = PP m c (ix3 (bOf t) (⟨256 * (t.val % 32) + r.val, row_lt t r⟩ : Fin 8192) (⟨4096 + k.val, by omega⟩ : Fin 6144)) := by
  obtain ⟨e0, e1, e2⟩ := idx2 t
  show PP m c (((cfg0.win 2).blk t).view.emb (ix3 (0 : Fin 1) r k)) = _
  congr 1
  funext a
  apply Fin.ext
  fin_cases a
  all_goals blk_simp [e0, e1, e2]
  · rfl
  · show t.val % 32 * 256 + r.val = 256 * (t.val % 32) + r.val
    omega
  · show 4 * 1024 + k.val = 4096 + k.val
    omega

/-- The block of output gates that a grid point reads. -/
theorem blk3 (t : Fin cfg0.N) (r : Fin 256) (k : Fin 1024) : (iblk m c 3 t : Vec Ideal S1x256x1024 .bf16) (ix3 (0 : Fin 1) r k)
    = PP m c (ix3 (bOf t) (⟨256 * (t.val % 32) + r.val, row_lt t r⟩ : Fin 8192) (⟨5120 + k.val, by omega⟩ : Fin 6144)) := by
  obtain ⟨e0, e1, e2⟩ := idx3 t
  show PP m c (((cfg0.win 3).blk t).view.emb (ix3 (0 : Fin 1) r k)) = _
  congr 1
  funext a
  apply Fin.ext
  fin_cases a
  all_goals blk_simp [e0, e1, e2]
  · rfl
  · show t.val % 32 * 256 + r.val = 256 * (t.val % 32) + r.val
    omega
  · show 5 * 1024 + k.val = 5120 + k.val
    omega

/-- The block of gates that a grid point reads. -/
theorem blk4 (t : Fin cfg0.N) (r : Fin 256) (k : Fin 128) : (iblk m c 4 t : Vec Ideal S1x256x128 .f32) (ix3 (0 : Fin 1) r k)
    = GG m c (ix3 (bOf t) (⟨256 * (t.val % 32) + r.val, row_lt t r⟩ : Fin 8192) k) := by
  obtain ⟨e0, e1, e2⟩ := idx4 t
  show GG m c (((cfg0.win 4).blk t).view.emb (ix3 (0 : Fin 1) r k)) = _
  congr 1
  funext a
  apply Fin.ext
  fin_cases a
  all_goals blk_simp [e0, e1, e2]
  · rfl
  · show t.val % 32 * 256 + r.val = 256 * (t.val % 32) + r.val
    omega
  · rfl

section Point

variable {P : Proj} {g : Gates} (H : IsReal P g) (b : Fin 2) (T : ℕ) (hT : T + 256 ≤ 8192)
  (x0 x1 x2 x3 : Vec Ideal S1x256x1024 .bf16) (x4 : Vec Ideal S1x256x128 .f32)
  (s0 : Vec Ideal S4x256x256 .f32) (s1 : Vec Ideal S4x1x256 .f32) (s2 : Vec Ideal S4x1x1 .f32)
  (h0 : ∀ (r : Fin 256) (k : Fin 1024), x0 (ix3 (0 : Fin 1) r k) = P (ix3 b (⟨T + r.val, by omega⟩ : Fin 8192) (⟨2048 + k.val, by omega⟩ : Fin 6144)))
  (h1 : ∀ (r : Fin 256) (k : Fin 1024), x1 (ix3 (0 : Fin 1) r k) = P (ix3 b (⟨T + r.val, by omega⟩ : Fin 8192) (⟨3072 + k.val, by omega⟩ : Fin 6144)))
  (h2 : ∀ (r : Fin 256) (k : Fin 1024), x2 (ix3 (0 : Fin 1) r k) = P (ix3 b (⟨T + r.val, by omega⟩ : Fin 8192) (⟨4096 + k.val, by omega⟩ : Fin 6144)))
  (h4 : ∀ (r : Fin 256) (k : Fin 128), x4 (ix3 (0 : Fin 1) r k) = g (ix3 b (⟨T + r.val, by omega⟩ : Fin 8192) k))

include H h4 in
/-- The gates' block at an entry that the mLSTM reads. -/
theorem gates_at (r : Fin 256) (l : Fin 128) (hl : l.val < 8) :
    gatesOf x4 (ix2 r l) = ((gcol g b l (T + r.val) : ℝ) : EReal) := by
  unfold gatesOf
  pointwise
  rw [h4, gcol_eq H b _ _ l hl]

include H h4 in
/-- The running sum of the log forget gates within the chunk. -/
theorem run_at (h : Fin 4) (r : Fin 256) : cumRows (logSig (gatesOf x4)) (ix2 r (⟨4 + h.val, by omega⟩ : Fin 128))
    = ((Mlstm.bc (lf g b h) T r : ℝ) : EReal) := by
  rw [cumRows_at]
  have e : ∀ s ∈ Finset.range (r.val + 1), col (logSig (gatesOf x4)) (⟨4 + h.val, by omega⟩ : Fin 128) s = ((lf g b h (T + s) : ℝ) : EReal) := by
    intro s hs
    have hs' : s < 256 := by have := Finset.mem_range.1 hs; omega
    unfold col
    rw [dif_pos hs', logSig_at _ _ _ _ (gates_at H b T hT x4 h4 ⟨s, hs'⟩ ⟨4 + h.val, by omega⟩ (by show 4 + h.val < 8; omega))]
    rfl
  rw [Finset.sum_congr rfl e, coe_sum]
  unfold Mlstm.bc Fs
  rw [Nat.add_assoc, Finset.sum_range_add (fun s => lf g b h s) T (r.val + 1), add_sub_cancel_left]

include H h0 h1 h2 h4 in
/-- A head at a point whose blocks are the chunk at `T`, in the recurrence's state at `T`. -/
theorem headReal (h : Fin 4)
    (hC : ∀ d e : Fin 256, s0 (ix3 h d e) = ((Cst (lf g b h) (ig g b h) (kk P b h) (vv P b h) T d e : ℝ) : EReal))
    (hn : ∀ d : Fin 256, s1 (ix3 h (0 : Fin 1) d) = ((Nst (lf g b h) (ig g b h) (kk P b h) T d : ℝ) : EReal))
    (hm : s2 (ix3 h (0 : Fin 1) (0 : Fin 1)) = ((Ms (lf g b h) (ig g b h) T : ℝ) : EReal)) :
    HReal (headAt x0 x1 x2 x3 x4 s0 s1 s2 h) T (lf g b h) (ig g b h) (qq P b h) (kk P b h) (vv P b h) where
  hq r d := by
    show x0 (ix3 (0 : Fin 1) r (⟨256 * h.val + d.val, _⟩ : Fin 1024)) = _
    rw [h0, pcol_eq H b _ _ _ (by show 2048 ≤ 2048 + _; omega) (by show 2048 + (256 * h.val + d.val) < 5120; omega)]
    rfl
  hk r d := by
    unfold kS
    pointwise
    show x1 (ix3 (0 : Fin 1) r (⟨256 * h.val + d.val, _⟩ : Fin 1024)) * _ = _
    rw [h1, pcol_eq H b _ _ _ (by show 2048 ≤ 3072 + _; omega) (by show 3072 + (256 * h.val + d.val) < 5120; omega)]
    rw [Ideal.ofBits_sixteenth_bf16, ← EReal.coe_mul]
    rfl
  hv r d := by
    show x2 (ix3 (0 : Fin 1) r (⟨256 * h.val + d.val, _⟩ : Fin 1024)) = _
    rw [h2, pcol_eq H b _ _ _ (by show 2048 ≤ 4096 + _; omega) (by show 4096 + (256 * h.val + d.val) < 5120; omega)]
    rfl
  hC d e := hC d e
  hn d := hn d
  hm := hm
  hic r := gates_at H b T hT x4 h4 r ⟨h.val, by omega⟩ (by show h.val < 8; omega)
  hbc r := run_at H b T hT x4 h4 h r
  hir r := gates_at H b T hT x4 h4 r ⟨h.val, by omega⟩ (by show h.val < 8; omega)
  hbr r := run_at H b T hT x4 h4 h r

end Point

variable (m c)

/-- The recurrence's state at token `T` of batch entry `b`, in the scratch. -/
structure StateAt (b : Fin 2) (T : ℕ) (s0 : Vec Ideal S4x256x256 .f32) (s1 : Vec Ideal S4x1x256 .f32) (s2 : Vec Ideal S4x1x1 .f32) : Prop where
  /-- matrix states -/
  hC : ∀ (h : Fin 4) (d e : Fin 256), s0 (ix3 h d e)
    = ((Cst (lf (GG m c) b h) (ig (GG m c) b h) (kk (PP m c) b h) (vv (PP m c) b h) T d e : ℝ) : EReal)
  /-- normalizers -/
  hn : ∀ (h : Fin 4) (d : Fin 256), s1 (ix3 h (0 : Fin 1) d)
    = ((Nst (lf (GG m c) b h) (ig (GG m c) b h) (kk (PP m c) b h) T d : ℝ) : EReal)
  /-- stabilizers -/
  hm : ∀ h : Fin 4, s2 (ix3 h (0 : Fin 1) (0 : Fin 1)) = ((Ms (lf (GG m c) b h) (ig (GG m c) b h) T : ℝ) : EReal)

/-- A state of zeros is the recurrence's at the sequence's start. -/
theorem state_zero (b : Fin 2) : StateAt m c b 0 zC zN zM where
  hC h d e := by unfold zC Cst; simp
  hn h d := by unfold zN Nst; simp
  hm h := by unfold zM Ms; simp

variable {m c}

/-- The head of a point that finds the recurrence's state. -/
theorem head_point (H : IsReal (PP m c) (GG m c)) (t : Fin cfg0.N) (s0 : Vec Ideal S4x256x256 .f32) (s1 : Vec Ideal S4x1x256 .f32)
    (s2 : Vec Ideal S4x1x1 .f32) (S : StateAt m c (bOf t) (256 * (t.val % 32)) s0 s1 s2) (h : Fin 4) :
    HReal (headAt (iblk m c 0 t) (iblk m c 1 t) (iblk m c 2 t) (iblk m c 3 t) (iblk m c 4 t) s0 s1 s2 h) (256 * (t.val % 32))
      (lf (GG m c) (bOf t) h) (ig (GG m c) (bOf t) h) (qq (PP m c) (bOf t) h) (kk (PP m c) (bOf t) h) (vv (PP m c) (bOf t) h) :=
  headReal H (bOf t) (256 * (t.val % 32)) (by omega) _ _ _ _ _ _ _ _ (blk0 t) (blk1 t) (blk2 t) (blk4 t) h (S.hC h) (S.hn h) (S.hm h)

/-- What a point leaves in the output block. -/
def OutOf (t : Fin cfg0.N) (o : Vec Ideal S1x256x1024 .bf16) : Prop :=
  ∀ (h : Fin 4) (r e : Fin 256), o (ix3 (0 : Fin 1) r (⟨256 * h.val + e.val, by omega⟩ : Fin 1024))
    = result (PP m c) (GG m c) (bOf t) ⟨256 * (t.val % 32) + r.val, row_lt t r⟩ h e

/-- One point, from the recurrence's state at its chunk's start: the state at the chunk's end, and the chunk's outputs. -/
theorem point (H : IsReal (PP m c) (GG m c)) (t : Fin cfg0.N) (s0 : Vec Ideal S4x256x256 .f32) (s1 : Vec Ideal S4x1x256 .f32)
    (s2 : Vec Ideal S4x1x1 .f32) (S : StateAt m c (bOf t) (256 * (t.val % 32)) s0 s1 s2) :
    OutOf (m := m) (c := c) t (outAt (iblk m c 0 t) (iblk m c 1 t) (iblk m c 2 t) (iblk m c 3 t) (iblk m c 4 t) s0 s1 s2)
    ∧ StateAt m c (bOf t) (256 * (t.val % 32) + 256)
      (cAt (iblk m c 0 t) (iblk m c 1 t) (iblk m c 2 t) (iblk m c 3 t) (iblk m c 4 t) s0 s1 s2)
      (nAt (iblk m c 0 t) (iblk m c 1 t) (iblk m c 2 t) (iblk m c 3 t) (iblk m c 4 t) s0 s1 s2)
      (mAt (iblk m c 0 t) (iblk m c 1 t) (iblk m c 2 t) (iblk m c 3 t) (iblk m c 4 t) s0 s1 s2) := by
  refine ⟨fun h r e => ?_, ⟨fun h d e => ?_, fun h d => ?_, fun h => ?_⟩⟩
  · rw [outAt_of _ _ _ _ _ _ _ _ h _ r e rfl rfl, hout_at (head_point H t s0 s1 s2 S h)]
    unfold result
    congr 2
    exact blk3 t r ⟨256 * h.val + e.val, by omega⟩
  · exact cnew_at (head_point H t s0 s1 s2 S h) d e
  · exact nnew_at (head_point H t s0 s1 s2 S h) d
  · exact mnew_at (head_point H t s0 s1 s2 S h)

/-- After every point: the chunk's outputs, and the state at the chunk's end. -/
theorem after (H : IsReal (PP m c) (GG m c)) : ∀ (n : ℕ) (hn : n < cfg0.N),
    OutOf (m := m) (c := c) ⟨n, hn⟩ (outsAt0 m c n hn).1
    ∧ StateAt m c (bOf ⟨n, hn⟩) (256 * (n % 32) + 256) (outsAt0 m c n hn).2.1 (outsAt0 m c n hn).2.2.1 (outsAt0 m c n hn).2.2.2 := by
  intro n
  induction n with
  | zero =>
    intro hn
    rw [outsAt0_zero, stAt0_A m c ⟨0, hn⟩ _ (Nat.zero_mod _), out0_A_5_at, sout0_A_0_at, sout0_A_1_at, sout0_A_2_at]
    exact point H ⟨0, hn⟩ _ _ _ (state_zero m c _)
  | succ n ih =>
    intro hn
    obtain ⟨-, S⟩ := ih (Nat.lt_of_succ_lt hn)
    rw [outsAt0_succ]
    by_cases h0 : (n + 1) % 32 = 0
    · rw [stAt0_A m c ⟨n + 1, hn⟩ _ h0, out0_A_5_at, sout0_A_0_at, sout0_A_1_at, sout0_A_2_at]
      refine point H ⟨n + 1, hn⟩ _ _ _ ?_
      rw [show 256 * ((n + 1) % 32) = 0 by omega]
      exact state_zero m c _
    · rw [stAt0_B m c ⟨n + 1, hn⟩ _ h0, out0_B_5_at, sout0_B_0_at, sout0_B_1_at, sout0_B_2_at]
      refine point H ⟨n + 1, hn⟩ _ _ _ ?_
      rw [show 256 * ((n + 1) % 32) = 256 * (n % 32) + 256 by omega]
      have e : bOf ⟨n + 1, hn⟩ = bOf ⟨n, Nat.lt_of_succ_lt hn⟩ := Fin.ext (by show (n + 1) / 32 = n / 32; omega)
      rw [e]
      exact S

/-- The kernel's result is the mLSTM's. -/
theorem G5_at (H : IsReal (PP m c) (GG m c)) (b : Fin 2) (t : Fin 8192) (h : Fin 4) (e : Fin 256) :
    (G5 m c : FVec Ideal S2x8192x1024 .bf16) (ix3 b t (⟨256 * h.val + e.val, by omega⟩ : Fin 1024)) = result (PP m c) (GG m c) b t h e := by
  have hN : cfg0.N = 64 := N_0
  have hp : pt5Of (ix3 b t (⟨256 * h.val + e.val, by omega⟩ : Fin 1024)) = 32 * b.val + t.val / 256 := by
    show 32 * (b.val / 1 - 0) + 1 * (t.val / 256 - 0) + 1 * ((256 * h.val + e.val) / 1024 - 0) = _
    omega
  have hlt : 32 * b.val + t.val / 256 < cfg0.N := by rw [hN]; omega
  have hl : loc5Of (ix3 b t (⟨256 * h.val + e.val, by omega⟩ : Fin 1024))
      = ix3 (0 : Fin 1) (⟨t.val % 256, Nat.mod_lt _ (by omega)⟩ : Fin 256) (⟨256 * h.val + e.val, by omega⟩ : Fin 1024) := by
    funext a
    apply Fin.ext
    fin_cases a
    · show b.val % 1 = 0
      omega
    · rfl
    · show (256 * h.val + e.val) % 1024 = 256 * h.val + e.val
      omega
  unfold G5
  rw [dif_pos (by rw [hp]; exact hlt), ← outsAt0_sweep m c _ (by rw [hp]; exact hlt), hl]
  have hg : ∀ (p : ℕ) (hp' : p < cfg0.N), p = 32 * b.val + t.val / 256 →
      (outsAt0 m c p hp').1 (ix3 (0 : Fin 1) (⟨t.val % 256, Nat.mod_lt _ (by omega)⟩ : Fin 256) (⟨256 * h.val + e.val, by omega⟩ : Fin 1024))
        = result (PP m c) (GG m c) b t h e := by
    intro p hp' hpe
    rw [(after H p hp').1 h ⟨t.val % 256, Nat.mod_lt _ (by omega)⟩ e]
    congr 1
    · apply Fin.ext
      show p / 32 = b.val
      omega
    · apply Fin.ext
      show 256 * (p % 32) + t.val % 256 = t.val
      omega
  exact hg _ _ hp

end Cert.Proof.KInv

end
-- ==== Proof.RefRun.lean ====
/-
  The reference's run over one trip's standalone values: at a valuation that holds a state (the state at the carried
  buffers, the set-up values at the loop's constants, the trip's number at its counter) every value of one trip is the
  standalone one, so one trip keeps holding with `step` applied; what comes before the loop holds `init`; and the
  result is a function of the state after 128 trips of any sequence that starts at `init` and goes on by `step`.
-/
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v43_7) = s.main_v43_7
  f_8 : V0 (Proc.devRef .tc main_v43_8) = s.main_v43_8
  f_9 : V0 (Proc.devRef .tc main_v43_9) = s.main_v43_9
  f_10 : V0 (Proc.devRef .tc main_v43_10) = s.main_v43_10
  f_0 : V0 (Proc.devRef .tc main_v43_0) = s.main_v43_0
  f_1 : V0 (Proc.devRef .tc main_v43_1) = s.main_v43_1
  f_2 : V0 (Proc.devRef .tc main_v43_2) = s.main_v43_2
  f_3 : V0 (Proc.devRef .tc main_v43_3) = s.main_v43_3
  f_4 : V0 (Proc.devRef .tc main_v43_4) = s.main_v43_4
  n_6 : V0 (Proc.devRef .tc main_v43_6) = constantI S_ 32 (BitVec.ofNat 32 j)
  k_5 : V0 (Proc.devRef .tc main_v43_5) = Cert.ReferenceIdeal.Step.K_main_v28 (F := F)

variable {V0 s j}

set_option maxRecDepth 8192 in
/-- Value 0 of one trip. -/
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
/-- Value 1 of one trip. -/
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
/-- Value 2 of one trip. -/
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
/-- Value 3 of one trip. -/
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
/-- Value 4 of one trip. -/
theorem al_4 (h : Holds V0 s j) : (Host.dynamicSlice S1x2x4x64x256 (V0 (Proc.devRef .tc main_v43_0)) (fun k => (((![V0 (Proc.devRef .tc main_v43_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x256_S1x2x4x64x256 : (Proc.devRef .tc main_while0b_call1_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
/-- Value 5 of one trip. -/
theorem al_5 (h : Holds V0 s j) : (res_main_while0b_v58 V0 : (Proc.devRef .tc main_while0b_v58 : DevRef τ sig).ty.Contents (Elt F)) = Cert.ReferenceIdeal.Step.b5 j s := by
  unfold res_main_while0b_v58 Cert.ReferenceIdeal.Step.b5
  rw [← al_4 h]
  try rfl
set_option maxRecDepth 8192 in
/-- Value 6 of one trip. -/
theorem al_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
/-- Value 7 of one trip. -/
theorem al_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
/-- Value 8 of one trip. -/
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
/-- Value 9 of one trip. -/
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
/-- Value 10 of one trip. -/
theorem al_10 (h : Holds V0 s j) : (Host.dynamicSlice S1x2x4x64x256 (V0 (Proc.devRef .tc main_v43_1)) (fun k => (((![V0 (Proc.devRef .tc main_v43_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x256_S1x2x4x64x256 : (Proc.devRef .tc main_while0b_call2_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
/-- Value 11 of one trip. -/
theorem al_11 (h : Holds V0 s j) : (res_main_while0b_v59 V0 : (Proc.devRef .tc main_while0b_v59 : DevRef τ sig).ty.Contents (Elt F)) = Cert.ReferenceIdeal.Step.b11 j s := by
  unfold res_main_while0b_v59 Cert.ReferenceIdeal.Step.b11
  rw [← al_10 h]
  try rfl
set_option maxRecDepth 8192 in
/-- Value 12 of one trip. -/
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
/-- Value 13 of one trip. -/
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
/-- Value 14 of one trip. -/
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
/-- Value 15 of one trip. -/
theorem al_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
/-- Value 16 of one trip. -/
theorem al_16 (h : Holds V0 s j) : (Host.dynamicSlice S1x2x4x64x256 (V0 (Proc.devRef .tc main_v43_2)) (fun k => (((![V0 (Proc.devRef .tc main_v43_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x256_S1x2x4x64x256 : (Proc.devRef .tc main_while0b_call3_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
/-- Value 17 of one trip. -/
theorem al_17 (h : Holds V0 s j) : (res_main_while0b_v60 V0 : (Proc.devRef .tc main_while0b_v60 : DevRef τ sig).ty.Contents (Elt F)) = Cert.ReferenceIdeal.Step.b17 j s := by
  unfold res_main_while0b_v60 Cert.ReferenceIdeal.Step.b17
  rw [← al_16 h]
  try rfl
set_option maxRecDepth 8192 in
/-- Value 18 of one trip. -/
theorem al_18 (h : Holds V0 s j) : (constantI S_ 32 0#32 : (Proc.devRef .tc main_while0b_call4_c : DevRef τ sig).ty.Contents (Elt F)) = Cert.ReferenceIdeal.Step.b18 j s := by
  unfold Cert.ReferenceIdeal.Step.b18
  rfl
set_option maxRecDepth 8192 in
/-- Value 19 of one trip. -/
theorem al_19 (h : Holds V0 s j) : (constantI S_ 32 0#32 : (Proc.devRef .tc main_while0b_call4_c_0 : DevRef τ sig).ty.Contents (Elt F)) = Cert.ReferenceIdeal.Step.b19 j s := by
  unfold Cert.ReferenceIdeal.Step.b19
  rfl
set_option maxRecDepth 8192 in
/-- Value 20 of one trip. -/
theorem al_20 (h : Holds V0 s j) : (constantI S_ 32 0#32 : (Proc.devRef .tc main_while0b_call4_c_1 : DevRef τ sig).ty.Contents (Elt F)) = Cert.ReferenceIdeal.Step.b20 j s := by
  unfold Cert.ReferenceIdeal.Step.b20
  rfl
set_option maxRecDepth 8192 in
/-- Value 21 of one trip. -/
theorem al_21 (h : Holds V0 s j) : (Host.dynamicSlice S1x2x4x64 (V0 (Proc.devRef .tc main_v43_3)) (fun k => (((![V0 (Proc.devRef .tc main_v43_6), constantI S_ 32 0#32, constantI S_ 32 0#32, constantI S_ 32 0#32] : Fin 4 → (⟨S_, .i32⟩ : BufTy).Contents (Elt F))) k (Shape.Idx.first h_S_)).toInt) sliceFits_S128x2x4x64_S1x2x4x64 : (Proc.devRef .tc main_while0b_call4_v0 : DevRef τ sig).ty.Contents (Elt F)) = Cert.ReferenceIdeal.Step.b21 j s := by
  unfold Cert.ReferenceIdeal.Step.b21
  rw [← al_18 h, ← al_19 h, ← al_20 h, h.f_3, h.n_6]
  try rfl
set_option maxRecDepth 8192 in
/-- Value 22 of one trip. -/
theorem al_22 (h : Holds V0 s j) : (res_main_while0b_v61 V0 : (Proc.devRef .tc main_while0b_v61 : DevRef τ sig).ty.Contents (Elt F)) = Cert.ReferenceIdeal.Step.b22 j s := by
  unfold res_main_while0b_v61 Cert.ReferenceIdeal.Step.b22
  rw [← al_21 h]
  try rfl
set_option maxRecDepth 8192 in
/-- Value 23 of one trip. -/
theorem al_23 (h : Holds V0 s j) : (constantI S_ 32 0#32 : (Proc.devRef .tc main_while0b_call5_c : DevRef τ sig).ty.Contents (Elt F)) = Cert.ReferenceIdeal.Step.b23 j s := by
  unfold Cert.ReferenceIdeal.Step.b23
  rfl
set_option maxRecDepth 8192 in
/-- Value 24 of one trip. -/
theorem al_24 (h : Holds V0 s j) : (constantI S_ 32 0#32 : (Proc.devRef .tc main_while0b_call5_c_0 : DevRef τ sig).ty.Contents (Elt F)) = Cert.ReferenceIdeal.Step.b24 j s := by
  unfold Cert.ReferenceIdeal.Step.b24
  rfl
set_option maxRecDepth 8192 in
/-- Value 25 of one trip. -/
theorem al_25 (h : Holds V0 s j) : (constantI S_ 32 0#32 : (Proc.devRef .tc main_while0b_call5_c_1 : DevRef τ sig).ty.Contents (Elt F)) = Cert.ReferenceIdeal.Step.b25 j s := by
  unfold Cert.ReferenceIdeal.Step.b25
  rfl
set_option maxRecDepth 8192 in
/-- Value 26 of one trip. -/
theorem al_26 (h : Holds V0 s j) : (Host.dynamicSlice S1x2x4x64 (V0 (Proc.devRef .tc main_v43_4)) (fun k => (((![V0 (Proc.devRef .tc main_v43_6), constantI S_ 32 0#32, constantI S_ 32 0#32, constantI S_ 32 0#32] : Fin 4 → (⟨S_, .i32⟩ : BufTy).Contents (Elt F))) k (Shape.Idx.first h_S_)).toInt) sliceFits_S128x2x4x64_S1x2x4x64 : (Proc.devRef .tc main_while0b_call5_v0 : DevRef τ sig).ty.Contents (Elt F)) = Cert.ReferenceIdeal.Step.b26 j s := by
  unfold Cert.ReferenceIdeal.Step.b26
  rw [← al_23 h, ← al_24 h, ← al_25 h, h.f_4, h.n_6]
  try rfl
set_option maxRecDepth 8192 in
/-- Value 27 of one trip. -/
theorem al_27 (h : Holds V0 s j) : (shapeCast S2x4x64 (Host.dynamicSlice S1x2x4x64 (V0 (Proc.devRef .tc main_v43_4)) (fun k => (((![V0 (Proc.devRef .tc main_v43_6), constantI S_ 32 0#32, constantI S_ 32 0#32, constantI S_ 32 0#32] : Fin 4 → (⟨S_, .i32⟩ : BufTy).Contents (Elt F))) k (Shape.Idx.first h_S_)).toInt) sliceFits_S128x2x4x64_S1x2x4x64) shapeCasts_S1x2x4x64_S2x4x64 : (Proc.devRef .tc main_while0b_v62 : DevRef τ sig).ty.Contents (Elt F)) = Cert.ReferenceIdeal.Step.b27 j s := by
  unfold Cert.ReferenceIdeal.Step.b27
  rw [← al_26 h]
  try rfl
set_option maxRecDepth 8192 in
/-- Value 28 of one trip. -/
theorem al_28 (h : Holds V0 s j) : (constant S_ .f32 0x00000000#32 : (Proc.devRef .tc main_while0b_call6_call0_cst : DevRef τ sig).ty.Contents (Elt F)) = Cert.ReferenceIdeal.Step.b28 j s := by
  unfold Cert.ReferenceIdeal.Step.b28
  rfl
set_option maxRecDepth 8192 in
/-- Value 29 of one trip. -/
theorem al_29 (h : Holds V0 s j) : (broadcastInDim S_ ![] bcast_S_S_ (constant S_ .f32 0x00000000#32) : (Proc.devRef .tc main_while0b_call6_call0_v0 : DevRef τ sig).ty.Contents (Elt F)) = Cert.ReferenceIdeal.Step.b29 j s := by
  unfold Cert.ReferenceIdeal.Step.b29
  rw [← al_28 h]
  try rfl
set_option maxRecDepth 8192 in
/-- Value 30 of one trip. -/
theorem al_30 (h : Holds V0 s j) : (res_main_while0b_v63 V0 : (Proc.devRef .tc main_while0b_v63 : DevRef τ sig).ty.Contents (Elt F)) = Cert.ReferenceIdeal.Step.b30 j s := by
  unfold res_main_while0b_v63 Cert.ReferenceIdeal.Step.b30
  rw [← al_27 h, ← al_29 h]
  try rfl
set_option maxRecDepth 8192 in
/-- Value 31 of one trip. -/
theorem al_31 (h : Holds V0 s j) : (broadcastInDim S2x4x64x1 ![0, 1, 2] bcast_S2x4x64_S2x4x64x1_0_1_2 (res_main_while0b_v63 V0) : (Proc.devRef .tc main_while0b_v64 : DevRef τ sig).ty.Contents (Elt F)) = Cert.ReferenceIdeal.Step.b31 j s := by
  unfold Cert.ReferenceIdeal.Step.b31
  rw [← al_30 h]
  try rfl
set_option maxRecDepth 8192 in
/-- Value 32 of one trip. -/
theorem al_32 (h : Holds V0 s j) : (broadcastInDim S2x4x1x64 ![0, 1, 3] bcast_S2x4x64_S2x4x1x64_0_1_3 (res_main_while0b_v63 V0) : (Proc.devRef .tc main_while0b_v65 : DevRef τ sig).ty.Contents (Elt F)) = Cert.ReferenceIdeal.Step.b32 j s := by
  unfold Cert.ReferenceIdeal.Step.b32
  rw [← al_30 h]
  try rfl
set_option maxRecDepth 8192 in
/-- Value 33 of one trip. -/
theorem al_33 (h : Holds V0 s j) : (broadcastInDim S2x4x64x64 ![0, 1, 2, 3] bcast_S2x4x64x1_S2x4x64x64_0_1_2_3 (broadcastInDim S2x4x64x1 ![0, 1, 2] bcast_S2x4x64_S2x4x64x1_0_1_2 (res_main_while0b_v63 V0)) : (Proc.devRef .tc main_while0b_v66 : DevRef τ sig).ty.Contents (Elt F)) = Cert.ReferenceIdeal.Step.b33 j s := by
  unfold Cert.ReferenceIdeal.Step.b33
  rw [← al_31 h]
  try rfl
set_option maxRecDepth 8192 in
/-- Value 34 of one trip. -/
theorem al_34 (h : Holds V0 s j) : (broadcastInDim S2x4x64x64 ![0, 1, 2, 3] bcast_S2x4x1x64_S2x4x64x64_0_1_2_3 (broadcastInDim S2x4x1x64 ![0, 1, 3] bcast_S2x4x64_S2x4x1x64_0_1_3 (res_main_while0b_v63 V0)) : (Proc.devRef .tc main_while0b_v67 : DevRef τ sig).ty.Contents (Elt F)) = Cert.ReferenceIdeal.Step.b34 j s := by
  unfold Cert.ReferenceIdeal.Step.b34
  rw [← al_32 h]
  try rfl
set_option maxRecDepth 8192 in
/-- Value 35 of one trip. -/
theorem al_35 (h : Holds V0 s j) : (subf (broadcastInDim S2x4x64x64 ![0, 1, 2, 3] bcast_S2x4x64x1_S2x4x64x64_0_1_2_3 (broadcastInDim S2x4x64x1 ![0, 1, 2] bcast_S2x4x64_S2x4x64x1_0_1_2 (res_main_while0b_v63 V0))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v63 V0))) : (Proc.devRef .tc main_while0b_v68 : DevRef τ sig).ty.Contents (Elt F)) = Cert.ReferenceIdeal.Step.b35 j s := by
  unfold Cert.ReferenceIdeal.Step.b35
  rw [← al_33 h, ← al_34 h]
  try rfl
set_option maxRecDepth 8192 in
/-- Value 36 of one trip. -/
theorem al_36 (h : Holds V0 s j) : (broadcastInDim S2x4x1x64 ![0, 1, 3] bcast_S2x4x64_S2x4x1x64_0_1_3 (res_main_while0b_v61 V0) : (Proc.devRef .tc main_while0b_v69 : DevRef τ sig).ty.Contents (Elt F)) = Cert.ReferenceIdeal.Step.b36 j s := by
  unfold Cert.ReferenceIdeal.Step.b36
  rw [← al_22 h]
  try rfl
set_option maxRecDepth 8192 in
/-- Value 37 of one trip. -/
theorem al_37 (h : Holds V0 s j) : (broadcastInDim S2x4x64x64 ![0, 1, 2, 3] bcast_S2x4x1x64_S2x4x64x64_0_1_2_3 (broadcastInDim S2x4x1x64 ![0, 1, 3] bcast_S2x4x64_S2x4x1x64_0_1_3 (res_main_while0b_v61 V0)) : (Proc.devRef .tc main_while0b_v70 : DevRef τ sig).ty.Contents (Elt F)) = Cert.ReferenceIdeal.Step.b37 j s := by
  unfold Cert.ReferenceIdeal.Step.b37
  rw [← al_36 h]
  try rfl
set_option maxRecDepth 8192 in
/-- Value 38 of one trip. -/
theorem al_38 (h : Holds V0 s j) : (addf (subf (broadcastInDim S2x4x64x64 ![0, 1, 2, 3] bcast_S2x4x64x1_S2x4x64x64_0_1_2_3 (broadcastInDim S2x4x64x1 ![0, 1, 2] bcast_S2x4x64_S2x4x64x1_0_1_2 (res_main_while0b_v63 V0))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v63 V0)))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v61 V0))) : (Proc.devRef .tc main_while0b_v71 : DevRef τ sig).ty.Contents (Elt F)) = Cert.ReferenceIdeal.Step.b38 j s := by
  unfold Cert.ReferenceIdeal.Step.b38
  rw [← al_35 h, ← al_37 h]
  try rfl
set_option maxRecDepth 8192 in
/-- Value 39 of one trip. -/
theorem al_39 (h : Holds V0 s j) : (constant S_ .f32 0xFF800000#32 : (Proc.devRef .tc main_while0b_cst_18 : DevRef τ sig).ty.Contents (Elt F)) = Cert.ReferenceIdeal.Step.b39 j s := by
  unfold Cert.ReferenceIdeal.Step.b39
  rfl
set_option maxRecDepth 8192 in
/-- Value 40 of one trip. -/
theorem al_40 (h : Holds V0 s j) : (id (constant S_ .f32 0xFF800000#32) : (Proc.devRef .tc main_while0b_call7_v0 : DevRef τ sig).ty.Contents (Elt F)) = Cert.ReferenceIdeal.Step.b40 j s := by
  unfold Cert.ReferenceIdeal.Step.b40
  rw [← al_39 h]
  try rfl
set_option maxRecDepth 8192 in
/-- Value 41 of one trip. -/
theorem al_41 (h : Holds V0 s j) : (broadcastInDim S2x4x64x64 ![2, 3] bcast_S64x64_S2x4x64x64_2_3 (V0 (Proc.devRef .tc main_v43_5)) : (Proc.devRef .tc main_while0b_call7_v1 : DevRef τ sig).ty.Contents (Elt F)) = Cert.ReferenceIdeal.Step.b41 j s := by
  unfold Cert.ReferenceIdeal.Step.b41
  rw [h.k_5]
  try rfl
set_option maxRecDepth 8192 in
/-- Value 42 of one trip. -/
theorem al_42 (h : Holds V0 s j) : (broadcastInDim S2x4x64x64 ![] bcast_S_S2x4x64x64 (id (constant S_ .f32 0xFF800000#32)) : (Proc.devRef .tc main_while0b_call7_v2 : DevRef τ sig).ty.Contents (Elt F)) = Cert.ReferenceIdeal.Step.b42 j s := by
  unfold Cert.ReferenceIdeal.Step.b42
  rw [← al_40 h]
  try rfl
set_option maxRecDepth 8192 in
/-- Value 43 of one trip. -/
theorem al_43 (h : Holds V0 s j) : (res_main_while0b_v72 V0 : (Proc.devRef .tc main_while0b_v72 : DevRef τ sig).ty.Contents (Elt F)) = Cert.ReferenceIdeal.Step.b43 j s := by
  unfold res_main_while0b_v72 Cert.ReferenceIdeal.Step.b43
  rw [← al_41 h, ← al_38 h, ← al_42 h]
  try rfl
set_option maxRecDepth 8192 in
/-- Value 44 of one trip. -/
theorem al_44 (h : Holds V0 s j) : (broadcastInDim S2x4x1 ![0, 1] bcast_S2x4_S2x4x1_0_1 (V0 (Proc.devRef .tc main_v43_9)) : (Proc.devRef .tc main_while0b_v73 : DevRef τ sig).ty.Contents (Elt F)) = Cert.ReferenceIdeal.Step.b44 j s := by
  unfold Cert.ReferenceIdeal.Step.b44
  rw [h.f_9]
  try rfl
set_option maxRecDepth 8192 in
/-- Value 45 of one trip. -/
theorem al_45 (h : Holds V0 s j) : (broadcastInDim S2x4x64 ![0, 1, 2] bcast_S2x4x1_S2x4x64_0_1_2 (broadcastInDim S2x4x1 ![0, 1] bcast_S2x4_S2x4x1_0_1 (V0 (Proc.devRef .tc main_v43_9))) : (Proc.devRef .tc main_while0b_v74 : DevRef τ sig).ty.Contents (Elt F)) = Cert.ReferenceIdeal.Step.b45 j s := by
  unfold Cert.ReferenceIdeal.Step.b45
  rw [← al_44 h]
  try rfl
set_option maxRecDepth 8192 in
/-- Value 46 of one trip. -/
theorem al_46 (h : Holds V0 s j) : (res_main_while0b_v75 V0 : (Proc.devRef .tc main_while0b_v75 : DevRef τ sig).ty.Contents (Elt F)) = Cert.ReferenceIdeal.Step.b46 j s := by
  unfold res_main_while0b_v75 Cert.ReferenceIdeal.Step.b46
  rw [← al_30 h, ← al_45 h]
  try rfl
set_option maxRecDepth 8192 in
/-- Value 47 of one trip. -/
theorem al_47 (h : Holds V0 s j) : (constant S_ .f32 0xFF800000#32 : (Proc.devRef .tc main_while0b_cst_19 : DevRef τ sig).ty.Contents (Elt F)) = Cert.ReferenceIdeal.Step.b47 j s := by
  unfold Cert.ReferenceIdeal.Step.b47
  rfl
set_option maxRecDepth 8192 in
/-- Value 48 of one trip. -/
theorem al_48 (h : Holds V0 s j) : (Host.reduce FloatOps.maximumf (res_main_while0b_v72 V0) (constant S_ .f32 0xFF800000#32) reducesTo_S2x4x64x64_S2x4x64_d3 h_S_ : (Proc.devRef .tc main_while0b_v76 : DevRef τ sig).ty.Contents (Elt F)) = Cert.ReferenceIdeal.Step.b48 j s := by
  unfold Cert.ReferenceIdeal.Step.b48
  rw [← al_43 h, ← al_47 h]
  try rfl
set_option maxRecDepth 8192 in
/-- Value 49 of one trip. -/
theorem al_49 (h : Holds V0 s j) : (res_main_while0b_v77 V0 : (Proc.devRef .tc main_while0b_v77 : DevRef τ sig).ty.Contents (Elt F)) = Cert.ReferenceIdeal.Step.b49 j s := by
  unfold res_main_while0b_v77 Cert.ReferenceIdeal.Step.b49
  rw [← al_46 h, ← al_48 h]
  try rfl
set_option maxRecDepth 8192 in
/-- Value 50 of one trip. -/
theorem al_50 (h : Holds V0 s j) : (broadcastInDim S2x4x64x1 ![0, 1, 2] bcast_S2x4x64_S2x4x64x1_0_1_2 (res_main_while0b_v77 V0) : (Proc.devRef .tc main_while0b_v78 : DevRef τ sig).ty.Contents (Elt F)) = Cert.ReferenceIdeal.Step.b50 j s := by
  unfold Cert.ReferenceIdeal.Step.b50
  rw [← al_49 h]
  try rfl
set_option maxRecDepth 8192 in
/-- Value 51 of one trip. -/
theorem al_51 (h : Holds V0 s j) : (broadcastInDim S2x4x64x64 ![0, 1, 2, 3] bcast_S2x4x64x1_S2x4x64x64_0_1_2_3 (broadcastInDim S2x4x64x1 ![0, 1, 2] bcast_S2x4x64_S2x4x64x1_0_1_2 (res_main_while0b_v77 V0)) : (Proc.devRef .tc main_while0b_v79 : DevRef τ sig).ty.Contents (Elt F)) = Cert.ReferenceIdeal.Step.b51 j s := by
  unfold Cert.ReferenceIdeal.Step.b51
  rw [← al_50 h]
  try rfl
set_option maxRecDepth 8192 in
/-- Value 52 of one trip. -/
theorem al_52 (h : Holds V0 s j) : (subf (res_main_while0b_v72 V0) (broadcastInDim S2x4x64x64 ![0, 1, 2, 3] bcast_S2x4x64x1_S2x4x64x64_0_1_2_3 (broadcastInDim S2x4x64x1 ![0, 1, 2] bcast_S2x4x64_S2x4x64x1_0_1_2 (res_main_while0b_v77 V0))) : (Proc.devRef .tc main_while0b_v80 : DevRef τ sig).ty.Contents (Elt F)) = Cert.ReferenceIdeal.Step.b52 j s := by
  unfold Cert.ReferenceIdeal.Step.b52
  rw [← al_43 h, ← al_51 h]
  try rfl
set_option maxRecDepth 8192 in
/-- Value 53 of one trip. -/
theorem al_53 (h : Holds V0 s j) : (Host.exp (subf (res_main_while0b_v72 V0) (broadcastInDim S2x4x64x64 ![0, 1, 2, 3] bcast_S2x4x64x1_S2x4x64x64_0_1_2_3 (broadcastInDim S2x4x64x1 ![0, 1, 2] bcast_S2x4x64_S2x4x64x1_0_1_2 (res_main_while0b_v77 V0)))) : (Proc.devRef .tc main_while0b_v81 : DevRef τ sig).ty.Contents (Elt F)) = Cert.ReferenceIdeal.Step.b53 j s := by
  unfold Cert.ReferenceIdeal.Step.b53
  rw [← al_52 h]
  try rfl
set_option maxRecDepth 8192 in
/-- Value 54 of one trip. -/
theorem al_54 (h : Holds V0 s j) : (subf (res_main_while0b_v75 V0) (res_main_while0b_v77 V0) : (Proc.devRef .tc main_while0b_v82 : DevRef τ sig).ty.Contents (Elt F)) = Cert.ReferenceIdeal.Step.b54 j s := by
  unfold Cert.ReferenceIdeal.Step.b54
  rw [← al_46 h, ← al_49 h]
  try rfl
set_option maxRecDepth 8192 in
/-- Value 55 of one trip. -/
theorem al_55 (h : Holds V0 s j) : (res_main_while0b_v83 V0 : (Proc.devRef .tc main_while0b_v83 : DevRef τ sig).ty.Contents (Elt F)) = Cert.ReferenceIdeal.Step.b55 j s := by
  unfold res_main_while0b_v83 Cert.ReferenceIdeal.Step.b55
  rw [← al_54 h]
  try rfl
set_option maxRecDepth 8192 in
/-- Value 56 of one trip. -/
theorem al_56 (h : Holds V0 s j) : (Host.dotGeneral dot_S2x4x64x256_S2x4x64x256_S2x4x64x64_3_3_2_2_01_01 none (res_main_while0b_v58 V0) (res_main_while0b_v59 V0) : (Proc.devRef .tc main_while0b_v84 : DevRef τ sig).ty.Contents (Elt F)) = Cert.ReferenceIdeal.Step.b56 j s := by
  unfold Cert.ReferenceIdeal.Step.b56
  rw [← al_5 h, ← al_11 h]
  try rfl
set_option maxRecDepth 8192 in
/-- Value 57 of one trip. -/
theorem al_57 (h : Holds V0 s j) : (res_main_while0b_v85 V0 : (Proc.devRef .tc main_while0b_v85 : DevRef τ sig).ty.Contents (Elt F)) = Cert.ReferenceIdeal.Step.b57 j s := by
  unfold res_main_while0b_v85 Cert.ReferenceIdeal.Step.b57
  rw [← al_56 h, ← al_53 h]
  try rfl
set_option maxRecDepth 8192 in
/-- Value 58 of one trip. -/
theorem al_58 (h : Holds V0 s j) : (broadcastInDim S2x4x64x1 ![0, 1, 2] bcast_S2x4x64_S2x4x64x1_0_1_2 (res_main_while0b_v83 V0) : (Proc.devRef .tc main_while0b_v86 : DevRef τ sig).ty.Contents (Elt F)) = Cert.ReferenceIdeal.Step.b58 j s := by
  unfold Cert.ReferenceIdeal.Step.b58
  rw [← al_55 h]
  try rfl
set_option maxRecDepth 8192 in
/-- Value 59 of one trip. -/
theorem al_59 (h : Holds V0 s j) : (Host.dotGeneral dot_S2x4x64x256_S2x4x256x256_S2x4x64x256_3_2_2_3_01_01 none (res_main_while0b_v58 V0) (V0 (Proc.devRef .tc main_v43_7)) : (Proc.devRef .tc main_while0b_v87 : DevRef τ sig).ty.Contents (Elt F)) = Cert.ReferenceIdeal.Step.b59 j s := by
  unfold Cert.ReferenceIdeal.Step.b59
  rw [← al_5 h, h.f_7]
  try rfl
set_option maxRecDepth 8192 in
/-- Value 60 of one trip. -/
theorem al_60 (h : Holds V0 s j) : (broadcastInDim S2x4x64x256 ![0, 1, 2, 3] bcast_S2x4x64x1_S2x4x64x256_0_1_2_3 (broadcastInDim S2x4x64x1 ![0, 1, 2] bcast_S2x4x64_S2x4x64x1_0_1_2 (res_main_while0b_v83 V0)) : (Proc.devRef .tc main_while0b_v88 : DevRef τ sig).ty.Contents (Elt F)) = Cert.ReferenceIdeal.Step.b60 j s := by
  unfold Cert.ReferenceIdeal.Step.b60
  rw [← al_58 h]
  try rfl
set_option maxRecDepth 8192 in
/-- Value 61 of one trip. -/
theorem al_61 (h : Holds V0 s j) : (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v83 V0))) (Host.dotGeneral dot_S2x4x64x256_S2x4x256x256_S2x4x64x256_3_2_2_3_01_01 none (res_main_while0b_v58 V0) (V0 (Proc.devRef .tc main_v43_7))) : (Proc.devRef .tc main_while0b_v89 : DevRef τ sig).ty.Contents (Elt F)) = Cert.ReferenceIdeal.Step.b61 j s := by
  unfold Cert.ReferenceIdeal.Step.b61
  rw [← al_60 h, ← al_59 h]
  try rfl
set_option maxRecDepth 8192 in
/-- Value 62 of one trip. -/
theorem al_62 (h : Holds V0 s j) : (Host.dotGeneral dot_S2x4x64x64_S2x4x64x256_S2x4x64x256_3_2_2_3_01_01 none (res_main_while0b_v85 V0) (res_main_while0b_v60 V0) : (Proc.devRef .tc main_while0b_v90 : DevRef τ sig).ty.Contents (Elt F)) = Cert.ReferenceIdeal.Step.b62 j s := by
  unfold Cert.ReferenceIdeal.Step.b62
  rw [← al_57 h, ← al_17 h]
  try rfl
set_option maxRecDepth 8192 in
/-- Value 63 of one trip. -/
theorem al_63 (h : Holds V0 s j) : (addf (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v83 V0))) (Host.dotGeneral dot_S2x4x64x256_S2x4x256x256_S2x4x64x256_3_2_2_3_01_01 none (res_main_while0b_v58 V0) (V0 (Proc.devRef .tc main_v43_7)))) (Host.dotGeneral dot_S2x4x64x64_S2x4x64x256_S2x4x64x256_3_2_2_3_01_01 none (res_main_while0b_v85 V0) (res_main_while0b_v60 V0)) : (Proc.devRef .tc main_while0b_v91 : DevRef τ sig).ty.Contents (Elt F)) = Cert.ReferenceIdeal.Step.b63 j s := by
  unfold Cert.ReferenceIdeal.Step.b63
  rw [← al_61 h, ← al_62 h]
  try rfl
set_option maxRecDepth 8192 in
/-- Value 64 of one trip. -/
theorem al_64 (h : Holds V0 s j) : (Host.dotGeneral dot_S2x4x64x256_S2x4x256_S2x4x64_3_2_2_n_01_01 none (res_main_while0b_v58 V0) (V0 (Proc.devRef .tc main_v43_8)) : (Proc.devRef .tc main_while0b_v92 : DevRef τ sig).ty.Contents (Elt F)) = Cert.ReferenceIdeal.Step.b64 j s := by
  unfold Cert.ReferenceIdeal.Step.b64
  rw [← al_5 h, h.f_8]
  try rfl
set_option maxRecDepth 8192 in
/-- Value 65 of one trip. -/
theorem al_65 (h : Holds V0 s j) : (mulf (res_main_while0b_v83 V0) (Host.dotGeneral dot_S2x4x64x256_S2x4x256_S2x4x64_3_2_2_n_01_01 none (res_main_while0b_v58 V0) (V0 (Proc.devRef .tc main_v43_8))) : (Proc.devRef .tc main_while0b_v93 : DevRef τ sig).ty.Contents (Elt F)) = Cert.ReferenceIdeal.Step.b65 j s := by
  unfold Cert.ReferenceIdeal.Step.b65
  rw [← al_55 h, ← al_64 h]
  try rfl
set_option maxRecDepth 8192 in
/-- Value 66 of one trip. -/
theorem al_66 (h : Holds V0 s j) : (constant S_ .f32 0x00000000#32 : (Proc.devRef .tc main_while0b_cst_20 : DevRef τ sig).ty.Contents (Elt F)) = Cert.ReferenceIdeal.Step.b66 j s := by
  unfold Cert.ReferenceIdeal.Step.b66
  rfl
set_option maxRecDepth 8192 in
/-- Value 67 of one trip. -/
theorem al_67 (h : Holds V0 s j) : (Host.reduceAdd (res_main_while0b_v85 V0) (constant S_ .f32 0x00000000#32) reducesTo_S2x4x64x64_S2x4x64_d3 h_S_ : (Proc.devRef .tc main_while0b_v94 : DevRef τ sig).ty.Contents (Elt F)) = Cert.ReferenceIdeal.Step.b67 j s := by
  unfold Cert.ReferenceIdeal.Step.b67
  rw [← al_57 h, ← al_66 h]
  try rfl
set_option maxRecDepth 8192 in
/-- Value 68 of one trip. -/
theorem al_68 (h : Holds V0 s j) : (addf (mulf (res_main_while0b_v83 V0) (Host.dotGeneral dot_S2x4x64x256_S2x4x256_S2x4x64_3_2_2_n_01_01 none (res_main_while0b_v58 V0) (V0 (Proc.devRef .tc main_v43_8)))) (Host.reduceAdd (res_main_while0b_v85 V0) (constant S_ .f32 0x00000000#32) reducesTo_S2x4x64x64_S2x4x64_d3 h_S_) : (Proc.devRef .tc main_while0b_v95 : DevRef τ sig).ty.Contents (Elt F)) = Cert.ReferenceIdeal.Step.b68 j s := by
  unfold Cert.ReferenceIdeal.Step.b68
  rw [← al_65 h, ← al_67 h]
  try rfl
set_option maxRecDepth 8192 in
/-- Value 69 of one trip. -/
theorem al_69 (h : Holds V0 s j) : (Host.absf (addf (mulf (res_main_while0b_v83 V0) (Host.dotGeneral dot_S2x4x64x256_S2x4x256_S2x4x64_3_2_2_n_01_01 none (res_main_while0b_v58 V0) (V0 (Proc.devRef .tc main_v43_8)))) (Host.reduceAdd (res_main_while0b_v85 V0) (constant S_ .f32 0x00000000#32) reducesTo_S2x4x64x64_S2x4x64_d3 h_S_)) : (Proc.devRef .tc main_while0b_v96 : DevRef τ sig).ty.Contents (Elt F)) = Cert.ReferenceIdeal.Step.b69 j s := by
  unfold Cert.ReferenceIdeal.Step.b69
  rw [← al_68 h]
  try rfl
set_option maxRecDepth 8192 in
/-- Value 70 of one trip. -/
theorem al_70 (h : Holds V0 s j) : (Host.negf (res_main_while0b_v77 V0) : (Proc.devRef .tc main_while0b_v97 : DevRef τ sig).ty.Contents (Elt F)) = Cert.ReferenceIdeal.Step.b70 j s := by
  unfold Cert.ReferenceIdeal.Step.b70
  rw [← al_49 h]
  try rfl
set_option maxRecDepth 8192 in
/-- Value 71 of one trip. -/
theorem al_71 (h : Holds V0 s j) : (Host.exp (Host.negf (res_main_while0b_v77 V0)) : (Proc.devRef .tc main_while0b_v98 : DevRef τ sig).ty.Contents (Elt F)) = Cert.ReferenceIdeal.Step.b71 j s := by
  unfold Cert.ReferenceIdeal.Step.b71
  rw [← al_70 h]
  try rfl
set_option maxRecDepth 8192 in
/-- Value 72 of one trip. -/
theorem al_72 (h : Holds V0 s j) : (maximumf (Host.absf (addf (mulf (res_main_while0b_v83 V0) (Host.dotGeneral dot_S2x4x64x256_S2x4x256_S2x4x64_3_2_2_n_01_01 none (res_main_while0b_v58 V0) (V0 (Proc.devRef .tc main_v43_8)))) (Host.reduceAdd (res_main_while0b_v85 V0) (constant S_ .f32 0x00000000#32) reducesTo_S2x4x64x64_S2x4x64_d3 h_S_))) (Host.exp (Host.negf (res_main_while0b_v77 V0))) : (Proc.devRef .tc main_while0b_v99 : DevRef τ sig).ty.Contents (Elt F)) = Cert.ReferenceIdeal.Step.b72 j s := by
  unfold Cert.ReferenceIdeal.Step.b72
  rw [← al_69 h, ← al_71 h]
  try rfl
set_option maxRecDepth 8192 in
/-- Value 73 of one trip. -/
theorem al_73 (h : Holds V0 s j) : (broadcastInDim S2x4x64x1 ![0, 1, 2] bcast_S2x4x64_S2x4x64x1_0_1_2 (maximumf (Host.absf (addf (mulf (res_main_while0b_v83 V0) (Host.dotGeneral dot_S2x4x64x256_S2x4x256_S2x4x64_3_2_2_n_01_01 none (res_main_while0b_v58 V0) (V0 (Proc.devRef .tc main_v43_8)))) (Host.reduceAdd (res_main_while0b_v85 V0) (constant S_ .f32 0x00000000#32) reducesTo_S2x4x64x64_S2x4x64_d3 h_S_))) (Host.exp (Host.negf (res_main_while0b_v77 V0)))) : (Proc.devRef .tc main_while0b_v100 : DevRef τ sig).ty.Contents (Elt F)) = Cert.ReferenceIdeal.Step.b73 j s := by
  unfold Cert.ReferenceIdeal.Step.b73
  rw [← al_72 h]
  try rfl
set_option maxRecDepth 8192 in
/-- Value 74 of one trip. -/
theorem al_74 (h : Holds V0 s j) : (broadcastInDim S2x4x64x256 ![0, 1, 2, 3] bcast_S2x4x64x1_S2x4x64x256_0_1_2_3 (broadcastInDim S2x4x64x1 ![0, 1, 2] bcast_S2x4x64_S2x4x64x1_0_1_2 (maximumf (Host.absf (addf (mulf (res_main_while0b_v83 V0) (Host.dotGeneral dot_S2x4x64x256_S2x4x256_S2x4x64_3_2_2_n_01_01 none (res_main_while0b_v58 V0) (V0 (Proc.devRef .tc main_v43_8)))) (Host.reduceAdd (res_main_while0b_v85 V0) (constant S_ .f32 0x00000000#32) reducesTo_S2x4x64x64_S2x4x64_d3 h_S_))) (Host.exp (Host.negf (res_main_while0b_v77 V0))))) : (Proc.devRef .tc main_while0b_v101 : DevRef τ sig).ty.Contents (Elt F)) = Cert.ReferenceIdeal.Step.b74 j s := by
  unfold Cert.ReferenceIdeal.Step.b74
  rw [← al_73 h]
  try rfl
set_option maxRecDepth 8192 in
/-- Value 75 of one trip. -/
theorem al_75 (h : Holds V0 s j) : (Host.divf (addf (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v83 V0))) (Host.dotGeneral dot_S2x4x64x256_S2x4x256x256_S2x4x64x256_3_2_2_3_01_01 none (res_main_while0b_v58 V0) (V0 (Proc.devRef .tc main_v43_7)))) (Host.dotGeneral dot_S2x4x64x64_S2x4x64x256_S2x4x64x256_3_2_2_3_01_01 none (res_main_while0b_v85 V0) (res_main_while0b_v60 V0))) (broadcastInDim S2x4x64x256 ![0, 1, 2, 3] bcast_S2x4x64x1_S2x4x64x256_0_1_2_3 (broadcastInDim S2x4x64x1 ![0, 1, 2] bcast_S2x4x64_S2x4x64x1_0_1_2 (maximumf (Host.absf (addf (mulf (res_main_while0b_v83 V0) (Host.dotGeneral dot_S2x4x64x256_S2x4x256_S2x4x64_3_2_2_n_01_01 none (res_main_while0b_v58 V0) (V0 (Proc.devRef .tc main_v43_8)))) (Host.reduceAdd (res_main_while0b_v85 V0) (constant S_ .f32 0x00000000#32) reducesTo_S2x4x64x64_S2x4x64_d3 h_S_))) (Host.exp (Host.negf (res_main_while0b_v77 V0)))))) : (Proc.devRef .tc main_while0b_v102 : DevRef τ sig).ty.Contents (Elt F)) = Cert.ReferenceIdeal.Step.b75 j s := by
  unfold Cert.ReferenceIdeal.Step.b75
  rw [← al_63 h, ← al_74 h]
  try rfl
set_option maxRecDepth 8192 in
/-- Value 76 of one trip. -/
theorem al_76 (h : Holds V0 s j) : (extractStridedSlice S2x4x1 ![0, 0, 63] (res_main_while0b_v63 V0) slices_S2x4x64_S2x4x1_0_0_63 : (Proc.devRef .tc main_while0b_v103 : DevRef τ sig).ty.Contents (Elt F)) = Cert.ReferenceIdeal.Step.b76 j s := by
  unfold Cert.ReferenceIdeal.Step.b76
  rw [← al_30 h]
  try rfl
set_option maxRecDepth 8192 in
/-- Value 77 of one trip. -/
theorem al_77 (h : Holds V0 s j) : (res_main_while0b_v104 V0 : (Proc.devRef .tc main_while0b_v104 : DevRef τ sig).ty.Contents (Elt F)) = Cert.ReferenceIdeal.Step.b77 j s := by
  unfold res_main_while0b_v104 Cert.ReferenceIdeal.Step.b77
  rw [← al_76 h]
  try rfl
set_option maxRecDepth 8192 in
/-- Value 78 of one trip. -/
theorem al_78 (h : Holds V0 s j) : (broadcastInDim S2x4x1 ![0, 1] bcast_S2x4_S2x4x1_0_1 (res_main_while0b_v104 V0) : (Proc.devRef .tc main_while0b_v105 : DevRef τ sig).ty.Contents (Elt F)) = Cert.ReferenceIdeal.Step.b78 j s := by
  unfold Cert.ReferenceIdeal.Step.b78
  rw [← al_77 h]
  try rfl
set_option maxRecDepth 8192 in
/-- Value 79 of one trip. -/
theorem al_79 (h : Holds V0 s j) : (broadcastInDim S2x4x64 ![0, 1, 2] bcast_S2x4x1_S2x4x64_0_1_2 (broadcastInDim S2x4x1 ![0, 1] bcast_S2x4_S2x4x1_0_1 (res_main_while0b_v104 V0)) : (Proc.devRef .tc main_while0b_v106 : DevRef τ sig).ty.Contents (Elt F)) = Cert.ReferenceIdeal.Step.b79 j s := by
  unfold Cert.ReferenceIdeal.Step.b79
  rw [← al_78 h]
  try rfl
set_option maxRecDepth 8192 in
/-- Value 80 of one trip. -/
theorem al_80 (h : Holds V0 s j) : (subf (broadcastInDim S2x4x64 ![0, 1, 2] bcast_S2x4x1_S2x4x64_0_1_2 (broadcastInDim S2x4x1 ![0, 1] bcast_S2x4_S2x4x1_0_1 (res_main_while0b_v104 V0))) (res_main_while0b_v63 V0) : (Proc.devRef .tc main_while0b_v107 : DevRef τ sig).ty.Contents (Elt F)) = Cert.ReferenceIdeal.Step.b80 j s := by
  unfold Cert.ReferenceIdeal.Step.b80
  rw [← al_79 h, ← al_30 h]
  try rfl
set_option maxRecDepth 8192 in
/-- Value 81 of one trip. -/
theorem al_81 (h : Holds V0 s j) : (res_main_while0b_v108 V0 : (Proc.devRef .tc main_while0b_v108 : DevRef τ sig).ty.Contents (Elt F)) = Cert.ReferenceIdeal.Step.b81 j s := by
  unfold res_main_while0b_v108 Cert.ReferenceIdeal.Step.b81
  rw [← al_80 h, ← al_22 h]
  try rfl
set_option maxRecDepth 8192 in
/-- Value 82 of one trip. -/
theorem al_82 (h : Holds V0 s j) : (addf (res_main_while0b_v104 V0) (V0 (Proc.devRef .tc main_v43_9)) : (Proc.devRef .tc main_while0b_v109 : DevRef τ sig).ty.Contents (Elt F)) = Cert.ReferenceIdeal.Step.b82 j s := by
  unfold Cert.ReferenceIdeal.Step.b82
  rw [← al_77 h, h.f_9]
  try rfl
set_option maxRecDepth 8192 in
/-- Value 83 of one trip. -/
theorem al_83 (h : Holds V0 s j) : (constant S_ .f32 0xFF800000#32 : (Proc.devRef .tc main_while0b_cst_21 : DevRef τ sig).ty.Contents (Elt F)) = Cert.ReferenceIdeal.Step.b83 j s := by
  unfold Cert.ReferenceIdeal.Step.b83
  rfl
set_option maxRecDepth 8192 in
/-- Value 84 of one trip. -/
theorem al_84 (h : Holds V0 s j) : (Host.reduce FloatOps.maximumf (res_main_while0b_v108 V0) (constant S_ .f32 0xFF800000#32) reducesTo_S2x4x64_S2x4_d2 h_S_ : (Proc.devRef .tc main_while0b_v110 : DevRef τ sig).ty.Contents (Elt F)) = Cert.ReferenceIdeal.Step.b84 j s := by
  unfold Cert.ReferenceIdeal.Step.b84
  rw [← al_81 h, ← al_83 h]
  try rfl
set_option maxRecDepth 8192 in
/-- Value 85 of one trip. -/
theorem al_85 (h : Holds V0 s j) : (res_main_while0b_v111 V0 : (Proc.devRef .tc main_while0b_v111 : DevRef τ sig).ty.Contents (Elt F)) = Cert.ReferenceIdeal.Step.b85 j s := by
  unfold res_main_while0b_v111 Cert.ReferenceIdeal.Step.b85
  rw [← al_82 h, ← al_84 h]
  try rfl
set_option maxRecDepth 8192 in
/-- Value 86 of one trip. -/
theorem al_86 (h : Holds V0 s j) : (addf (res_main_while0b_v104 V0) (V0 (Proc.devRef .tc main_v43_9)) : (Proc.devRef .tc main_while0b_v112 : DevRef τ sig).ty.Contents (Elt F)) = Cert.ReferenceIdeal.Step.b86 j s := by
  unfold Cert.ReferenceIdeal.Step.b86
  rw [← al_77 h, h.f_9]
  try rfl
set_option maxRecDepth 8192 in
/-- Value 87 of one trip. -/
theorem al_87 (h : Holds V0 s j) : (subf (addf (res_main_while0b_v104 V0) (V0 (Proc.devRef .tc main_v43_9))) (res_main_while0b_v111 V0) : (Proc.devRef .tc main_while0b_v113 : DevRef τ sig).ty.Contents (Elt F)) = Cert.ReferenceIdeal.Step.b87 j s := by
  unfold Cert.ReferenceIdeal.Step.b87
  rw [← al_86 h, ← al_85 h]
  try rfl
set_option maxRecDepth 8192 in
/-- Value 88 of one trip. -/
theorem al_88 (h : Holds V0 s j) : (res_main_while0b_v114 V0 : (Proc.devRef .tc main_while0b_v114 : DevRef τ sig).ty.Contents (Elt F)) = Cert.ReferenceIdeal.Step.b88 j s := by
  unfold res_main_while0b_v114 Cert.ReferenceIdeal.Step.b88
  rw [← al_87 h]
  try rfl
set_option maxRecDepth 8192 in
/-- Value 89 of one trip. -/
theorem al_89 (h : Holds V0 s j) : (broadcastInDim S2x4x1 ![0, 1] bcast_S2x4_S2x4x1_0_1 (res_main_while0b_v111 V0) : (Proc.devRef .tc main_while0b_v115 : DevRef τ sig).ty.Contents (Elt F)) = Cert.ReferenceIdeal.Step.b89 j s := by
  unfold Cert.ReferenceIdeal.Step.b89
  rw [← al_85 h]
  try rfl
set_option maxRecDepth 8192 in
/-- Value 90 of one trip. -/
theorem al_90 (h : Holds V0 s j) : (broadcastInDim S2x4x64 ![0, 1, 2] bcast_S2x4x1_S2x4x64_0_1_2 (broadcastInDim S2x4x1 ![0, 1] bcast_S2x4_S2x4x1_0_1 (res_main_while0b_v111 V0)) : (Proc.devRef .tc main_while0b_v116 : DevRef τ sig).ty.Contents (Elt F)) = Cert.ReferenceIdeal.Step.b90 j s := by
  unfold Cert.ReferenceIdeal.Step.b90
  rw [← al_89 h]
  try rfl
set_option maxRecDepth 8192 in
/-- Value 91 of one trip. -/
theorem al_91 (h : Holds V0 s j) : (subf (res_main_while0b_v108 V0) (broadcastInDim S2x4x64 ![0, 1, 2] bcast_S2x4x1_S2x4x64_0_1_2 (broadcastInDim S2x4x1 ![0, 1] bcast_S2x4_S2x4x1_0_1 (res_main_while0b_v111 V0))) : (Proc.devRef .tc main_while0b_v117 : DevRef τ sig).ty.Contents (Elt F)) = Cert.ReferenceIdeal.Step.b91 j s := by
  unfold Cert.ReferenceIdeal.Step.b91
  rw [← al_81 h, ← al_90 h]
  try rfl
set_option maxRecDepth 8192 in
/-- Value 92 of one trip. -/
theorem al_92 (h : Holds V0 s j) : (res_main_while0b_v118 V0 : (Proc.devRef .tc main_while0b_v118 : DevRef τ sig).ty.Contents (Elt F)) = Cert.ReferenceIdeal.Step.b92 j s := by
  unfold res_main_while0b_v118 Cert.ReferenceIdeal.Step.b92
  rw [← al_91 h]
  try rfl
set_option maxRecDepth 8192 in
/-- Value 93 of one trip. -/
theorem al_93 (h : Holds V0 s j) : (broadcastInDim S2x4x1x1 ![0, 1] bcast_S2x4_S2x4x1x1_0_1 (res_main_while0b_v114 V0) : (Proc.devRef .tc main_while0b_v119 : DevRef τ sig).ty.Contents (Elt F)) = Cert.ReferenceIdeal.Step.b93 j s := by
  unfold Cert.ReferenceIdeal.Step.b93
  rw [← al_88 h]
  try rfl
set_option maxRecDepth 8192 in
/-- Value 94 of one trip. -/
theorem al_94 (h : Holds V0 s j) : (broadcastInDim S2x4x256x256 ![0, 1, 2, 3] bcast_S2x4x1x1_S2x4x256x256_0_1_2_3 (broadcastInDim S2x4x1x1 ![0, 1] bcast_S2x4_S2x4x1x1_0_1 (res_main_while0b_v114 V0)) : (Proc.devRef .tc main_while0b_v120 : DevRef τ sig).ty.Contents (Elt F)) = Cert.ReferenceIdeal.Step.b94 j s := by
  unfold Cert.ReferenceIdeal.Step.b94
  rw [← al_93 h]
  try rfl
set_option maxRecDepth 8192 in
/-- Value 95 of one trip. -/
theorem al_95 (h : Holds V0 s j) : (mulf (broadcastInDim S2x4x256x256 ![0, 1, 2, 3] bcast_S2x4x1x1_S2x4x256x256_0_1_2_3 (broadcastInDim S2x4x1x1 ![0, 1] bcast_S2x4_S2x4x1x1_0_1 (res_main_while0b_v114 V0))) (V0 (Proc.devRef .tc main_v43_7)) : (Proc.devRef .tc main_while0b_v121 : DevRef τ sig).ty.Contents (Elt F)) = Cert.ReferenceIdeal.Step.b95 j s := by
  unfold Cert.ReferenceIdeal.Step.b95
  rw [← al_94 h, h.f_7]
  try rfl
set_option maxRecDepth 8192 in
/-- Value 96 of one trip. -/
theorem al_96 (h : Holds V0 s j) : (broadcastInDim S2x4x64x1 ![0, 1, 2] bcast_S2x4x64_S2x4x64x1_0_1_2 (res_main_while0b_v118 V0) : (Proc.devRef .tc main_while0b_v122 : DevRef τ sig).ty.Contents (Elt F)) = Cert.ReferenceIdeal.Step.b96 j s := by
  unfold Cert.ReferenceIdeal.Step.b96
  rw [← al_92 h]
  try rfl
set_option maxRecDepth 8192 in
/-- Value 97 of one trip. -/
theorem al_97 (h : Holds V0 s j) : (broadcastInDim S2x4x64x256 ![0, 1, 2, 3] bcast_S2x4x64x1_S2x4x64x256_0_1_2_3 (broadcastInDim S2x4x64x1 ![0, 1, 2] bcast_S2x4x64_S2x4x64x1_0_1_2 (res_main_while0b_v118 V0)) : (Proc.devRef .tc main_while0b_v123 : DevRef τ sig).ty.Contents (Elt F)) = Cert.ReferenceIdeal.Step.b97 j s := by
  unfold Cert.ReferenceIdeal.Step.b97
  rw [← al_96 h]
  try rfl
set_option maxRecDepth 8192 in
/-- Value 98 of one trip. -/
theorem al_98 (h : Holds V0 s j) : (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v118 V0))) (res_main_while0b_v59 V0) : (Proc.devRef .tc main_while0b_v124 : DevRef τ sig).ty.Contents (Elt F)) = Cert.ReferenceIdeal.Step.b98 j s := by
  unfold Cert.ReferenceIdeal.Step.b98
  rw [← al_97 h, ← al_11 h]
  try rfl
set_option maxRecDepth 8192 in
/-- Value 99 of one trip. -/
theorem al_99 (h : Holds V0 s j) : (Host.dotGeneral dot_S2x4x64x256_S2x4x64x256_S2x4x256x256_2_2_3_3_01_01 none (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v118 V0))) (res_main_while0b_v59 V0)) (res_main_while0b_v60 V0) : (Proc.devRef .tc main_while0b_v125 : DevRef τ sig).ty.Contents (Elt F)) = Cert.ReferenceIdeal.Step.b99 j s := by
  unfold Cert.ReferenceIdeal.Step.b99
  rw [← al_98 h, ← al_17 h]
  try rfl
set_option maxRecDepth 8192 in
/-- Value 100 of one trip. -/
theorem al_100 (h : Holds V0 s j) : (addf (mulf (broadcastInDim S2x4x256x256 ![0, 1, 2, 3] bcast_S2x4x1x1_S2x4x256x256_0_1_2_3 (broadcastInDim S2x4x1x1 ![0, 1] bcast_S2x4_S2x4x1x1_0_1 (res_main_while0b_v114 V0))) (V0 (Proc.devRef .tc main_v43_7))) (Host.dotGeneral dot_S2x4x64x256_S2x4x64x256_S2x4x256x256_2_2_3_3_01_01 none (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v118 V0))) (res_main_while0b_v59 V0)) (res_main_while0b_v60 V0)) : (Proc.devRef .tc main_while0b_v126 : DevRef τ sig).ty.Contents (Elt F)) = Cert.ReferenceIdeal.Step.b100 j s := by
  unfold Cert.ReferenceIdeal.Step.b100
  rw [← al_95 h, ← al_99 h]
  try rfl
set_option maxRecDepth 8192 in
/-- Value 101 of one trip. -/
theorem al_101 (h : Holds V0 s j) : (broadcastInDim S2x4x1 ![0, 1] bcast_S2x4_S2x4x1_0_1 (res_main_while0b_v114 V0) : (Proc.devRef .tc main_while0b_v127 : DevRef τ sig).ty.Contents (Elt F)) = Cert.ReferenceIdeal.Step.b101 j s := by
  unfold Cert.ReferenceIdeal.Step.b101
  rw [← al_88 h]
  try rfl
set_option maxRecDepth 8192 in
/-- Value 102 of one trip. -/
theorem al_102 (h : Holds V0 s j) : (broadcastInDim S2x4x256 ![0, 1, 2] bcast_S2x4x1_S2x4x256_0_1_2 (broadcastInDim S2x4x1 ![0, 1] bcast_S2x4_S2x4x1_0_1 (res_main_while0b_v114 V0)) : (Proc.devRef .tc main_while0b_v128 : DevRef τ sig).ty.Contents (Elt F)) = Cert.ReferenceIdeal.Step.b102 j s := by
  unfold Cert.ReferenceIdeal.Step.b102
  rw [← al_101 h]
  try rfl
set_option maxRecDepth 8192 in
/-- Value 103 of one trip. -/
theorem al_103 (h : Holds V0 s j) : (mulf (broadcastInDim S2x4x256 ![0, 1, 2] bcast_S2x4x1_S2x4x256_0_1_2 (broadcastInDim S2x4x1 ![0, 1] bcast_S2x4_S2x4x1_0_1 (res_main_while0b_v114 V0))) (V0 (Proc.devRef .tc main_v43_8)) : (Proc.devRef .tc main_while0b_v129 : DevRef τ sig).ty.Contents (Elt F)) = Cert.ReferenceIdeal.Step.b103 j s := by
  unfold Cert.ReferenceIdeal.Step.b103
  rw [← al_102 h, h.f_8]
  try rfl
set_option maxRecDepth 8192 in
/-- Value 104 of one trip. -/
theorem al_104 (h : Holds V0 s j) : (Host.dotGeneral dot_S2x4x64_S2x4x64x256_S2x4x256_2_2_n_3_01_01 none (res_main_while0b_v118 V0) (res_main_while0b_v59 V0) : (Proc.devRef .tc main_while0b_v130 : DevRef τ sig).ty.Contents (Elt F)) = Cert.ReferenceIdeal.Step.b104 j s := by
  unfold Cert.ReferenceIdeal.Step.b104
  rw [← al_92 h, ← al_11 h]
  try rfl
set_option maxRecDepth 8192 in
/-- Value 105 of one trip. -/
theorem al_105 (h : Holds V0 s j) : (addf (mulf (broadcastInDim S2x4x256 ![0, 1, 2] bcast_S2x4x1_S2x4x256_0_1_2 (broadcastInDim S2x4x1 ![0, 1] bcast_S2x4_S2x4x1_0_1 (res_main_while0b_v114 V0))) (V0 (Proc.devRef .tc main_v43_8))) (Host.dotGeneral dot_S2x4x64_S2x4x64x256_S2x4x256_2_2_n_3_01_01 none (res_main_while0b_v118 V0) (res_main_while0b_v59 V0)) : (Proc.devRef .tc main_while0b_v131 : DevRef τ sig).ty.Contents (Elt F)) = Cert.ReferenceIdeal.Step.b105 j s := by
  unfold Cert.ReferenceIdeal.Step.b105
  rw [← al_103 h, ← al_104 h]
  try rfl
set_option maxRecDepth 8192 in
/-- Value 106 of one trip. -/
theorem al_106 (h : Holds V0 s j) : (broadcastInDim S1x2x4x64x256 ![1, 2, 3, 4] bcast_S2x4x64x256_S1x2x4x64x256_1_2_3_4 (Host.divf (addf (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v83 V0))) (Host.dotGeneral dot_S2x4x64x256_S2x4x256x256_S2x4x64x256_3_2_2_3_01_01 none (res_main_while0b_v58 V0) (V0 (Proc.devRef .tc main_v43_7)))) (Host.dotGeneral dot_S2x4x64x64_S2x4x64x256_S2x4x64x256_3_2_2_3_01_01 none (res_main_while0b_v85 V0) (res_main_while0b_v60 V0))) (broadcastInDim S2x4x64x256 ![0, 1, 2, 3] bcast_S2x4x64x1_S2x4x64x256_0_1_2_3 (broadcastInDim S2x4x64x1 ![0, 1, 2] bcast_S2x4x64_S2x4x64x1_0_1_2 (maximumf (Host.absf (addf (mulf (res_main_while0b_v83 V0) (Host.dotGeneral dot_S2x4x64x256_S2x4x256_S2x4x64_3_2_2_n_01_01 none (res_main_while0b_v58 V0) (V0 (Proc.devRef .tc main_v43_8)))) (Host.reduceAdd (res_main_while0b_v85 V0) (constant S_ .f32 0x00000000#32) reducesTo_S2x4x64x64_S2x4x64_d3 h_S_))) (Host.exp (Host.negf (res_main_while0b_v77 V0))))))) : (Proc.devRef .tc main_while0b_call8_v0 : DevRef τ sig).ty.Contents (Elt F)) = Cert.ReferenceIdeal.Step.b106 j s := by
  unfold Cert.ReferenceIdeal.Step.b106
  rw [← al_75 h]
  try rfl
set_option maxRecDepth 8192 in
/-- Value 107 of one trip. -/
theorem al_107 (h : Holds V0 s j) : (constantI S_ 32 0#32 : (Proc.devRef .tc main_while0b_call8_c : DevRef τ sig).ty.Contents (Elt F)) = Cert.ReferenceIdeal.Step.b107 j s := by
  unfold Cert.ReferenceIdeal.Step.b107
  rfl
set_option maxRecDepth 8192 in
/-- Value 108 of one trip. -/
theorem al_108 (h : Holds V0 s j) : (constantI S_ 32 0#32 : (Proc.devRef .tc main_while0b_call8_c_0 : DevRef τ sig).ty.Contents (Elt F)) = Cert.ReferenceIdeal.Step.b108 j s := by
  unfold Cert.ReferenceIdeal.Step.b108
  rfl
set_option maxRecDepth 8192 in
/-- Value 109 of one trip. -/
theorem al_109 (h : Holds V0 s j) : (constantI S_ 32 0#32 : (Proc.devRef .tc main_while0b_call8_c_1 : DevRef τ sig).ty.Contents (Elt F)) = Cert.ReferenceIdeal.Step.b109 j s := by
  unfold Cert.ReferenceIdeal.Step.b109
  rfl
set_option maxRecDepth 8192 in
/-- Value 110 of one trip. -/
theorem al_110 (h : Holds V0 s j) : (constantI S_ 32 0#32 : (Proc.devRef .tc main_while0b_call8_c_2 : DevRef τ sig).ty.Contents (Elt F)) = Cert.ReferenceIdeal.Step.b110 j s := by
  unfold Cert.ReferenceIdeal.Step.b110
  rfl
set_option maxRecDepth 8192 in
/-- Value 111 of one trip. -/
theorem al_111 (h : Holds V0 s j) : (Host.dynamicUpdateSlice (V0 (Proc.devRef .tc main_v43_10)) (broadcastInDim S1x2x4x64x256 ![1, 2, 3, 4] bcast_S2x4x64x256_S1x2x4x64x256_1_2_3_4 (Host.divf (addf (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v83 V0))) (Host.dotGeneral dot_S2x4x64x256_S2x4x256x256_S2x4x64x256_3_2_2_3_01_01 none (res_main_while0b_v58 V0) (V0 (Proc.devRef .tc main_v43_7)))) (Host.dotGeneral dot_S2x4x64x64_S2x4x64x256_S2x4x64x256_3_2_2_3_01_01 none (res_main_while0b_v85 V0) (res_main_while0b_v60 V0))) (broadcastInDim S2x4x64x256 ![0, 1, 2, 3] bcast_S2x4x64x1_S2x4x64x256_0_1_2_3 (broadcastInDim S2x4x64x1 ![0, 1, 2] bcast_S2x4x64_S2x4x64x1_0_1_2 (maximumf (Host.absf (addf (mulf (res_main_while0b_v83 V0) (Host.dotGeneral dot_S2x4x64x256_S2x4x256_S2x4x64_3_2_2_n_01_01 none (res_main_while0b_v58 V0) (V0 (Proc.devRef .tc main_v43_8)))) (Host.reduceAdd (res_main_while0b_v85 V0) (constant S_ .f32 0x00000000#32) reducesTo_S2x4x64x64_S2x4x64_d3 h_S_))) (Host.exp (Host.negf (res_main_while0b_v77 V0)))))))) (fun k => (((![V0 (Proc.devRef .tc main_v43_6), constantI S_ 32 0#32, constantI S_ 32 0#32, constantI S_ 32 0#32, constantI S_ 32 0#32] : Fin 5 → (⟨S_, .i32⟩ : BufTy).Contents (Elt F))) k (Shape.Idx.first h_S_)).toInt) updateFits_S128x2x4x64x256_S1x2x4x64x256 : (Proc.devRef .tc main_while0b_v132 : DevRef τ sig).ty.Contents (Elt F)) = Cert.ReferenceIdeal.Step.b111 j s := by
  unfold Cert.ReferenceIdeal.Step.b111
  rw [← al_106 h, ← al_107 h, ← al_108 h, ← al_109 h, ← al_110 h, h.f_10, h.n_6]
  try rfl

/-! One trip's step of the carried values is `step`, field by field; a counter steps to the next number. -/

/-- After a trip the memory is the decayed memory plus the chunk's weighted outer products. -/
theorem step_7 (h : Holds V0 s j) : step_main_v43_7 V0 = (step j s).main_v43_7 := by
  unfold step_main_v43_7 Cert.ReferenceIdeal.Step.step
  show id (addf (mulf (broadcastInDim S2x4x256x256 ![0, 1, 2, 3] bcast_S2x4x1x1_S2x4x256x256_0_1_2_3 (broadcastInDim S2x4x1x1 ![0, 1] bcast_S2x4_S2x4x1x1_0_1 (res_main_while0b_v114 V0))) (V0 (Proc.devRef .tc main_v43_7))) (Host.dotGeneral dot_S2x4x64x256_S2x4x64x256_S2x4x256x256_2_2_3_3_01_01 none (mulf (broadcastInDim S2x4x64x256 ![0, 1, 2, 3] bcast_S2x4x64x1_S2x4x64x256_0_1_2_3 (broadcastInDim S2x4x64x1 ![0, 1, 2] bcast_S2x4x64_S2x4x64x1_0_1_2 (res_main_while0b_v118 V0))) (res_main_while0b_v59 V0)) (res_main_while0b_v60 V0))) = _
  rw [al_100 h]
  try rfl
/-- After a trip the normaliser is the decayed normaliser plus the chunk's weighted keys. -/
theorem step_8 (h : Holds V0 s j) : step_main_v43_8 V0 = (step j s).main_v43_8 := by
  unfold step_main_v43_8 Cert.ReferenceIdeal.Step.step
  show id (addf (mulf (broadcastInDim S2x4x256 ![0, 1, 2] bcast_S2x4x1_S2x4x256_0_1_2 (broadcastInDim S2x4x1 ![0, 1] bcast_S2x4_S2x4x1_0_1 (res_main_while0b_v114 V0))) (V0 (Proc.devRef .tc main_v43_8))) (Host.dotGeneral dot_S2x4x64_S2x4x64x256_S2x4x256_2_2_n_3_01_01 none (res_main_while0b_v118 V0) (res_main_while0b_v59 V0))) = _
  rw [al_105 h]
  try rfl
/-- After a trip the stabiliser is the chunk's new running maximum. -/
theorem step_9 (h : Holds V0 s j) : step_main_v43_9 V0 = (step j s).main_v43_9 := by
  unfold step_main_v43_9 Cert.ReferenceIdeal.Step.step
  show id (res_main_while0b_v111 V0) = _
  rw [al_85 h]
  try rfl
/-- After a trip the outputs carry the chunk's rows, written at its place. -/
theorem step_10 (h : Holds V0 s j) : step_main_v43_10 V0 = (step j s).main_v43_10 := by
  unfold step_main_v43_10 Cert.ReferenceIdeal.Step.step
  exact al_111 h
/-- After trip `j` the counter holds `j + 1`. -/
theorem step_6 (h : Holds V0 s j) : step_main_v43_6 V0 = constantI S_ 32 (BitVec.ofNat 32 (j + 1)) := by
  unfold step_main_v43_6
  rw [h.n_6]
  funext i
  show BitVec.ofNat 32 j + 1#32 = BitVec.ofNat 32 (j + 1)
  simp only [BitVec.ofNat_add]

set_option maxRecDepth 8192 in
/-- The program's result, from what the loop leaves. -/
theorem out_main_v57_holds (h : Holds V0 s j) {x_main_arg0 : (⟨S2x8192x6144, .bf16⟩ : BufTy).Contents (Elt F)} (h_main_arg0 : V0 (Proc.devRef .tc main_arg0) = x_main_arg0) : out_main_v57 V0 = Cert.ReferenceIdeal.Step.R_main_v57 s x_main_arg0 := by
  unfold out_main_v57 Cert.ReferenceIdeal.Step.R_main_v57
  rw [h.f_10, h_main_arg0]
  try rfl

/-- One trip keeps the valuation holding: `step` of the state, the same set-up values, the next number. -/
theorem holds_step (h : Holds V0 s j) : Holds (STEP V0) (step j s) (j + 1) where
  f_7 := (STEP_main_v43_7 V0).trans (step_7 h)
  f_8 := (STEP_main_v43_8 V0).trans (step_8 h)
  f_9 := (STEP_main_v43_9 V0).trans (step_9 h)
  f_10 := (STEP_main_v43_10 V0).trans (step_10 h)
  n_6 := (STEP_main_v43_6 V0).trans (step_6 h)
  k_5 := (STEP_main_v43_5 V0).trans h.k_5
  f_0 := (STEP_main_v43_0 V0).trans h.f_0
  f_1 := (STEP_main_v43_1 V0).trans h.f_1
  f_2 := (STEP_main_v43_2 V0).trans h.f_2
  f_3 := (STEP_main_v43_3 V0).trans h.f_3
  f_4 := (STEP_main_v43_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v57) = Cert.ReferenceIdeal.Step.R_main_v57 (it c 128) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 128
    ⟨(h c).1.trans (out_main_v57_holds hk (iter_main_arg0 m c 128)), (h c).2.1, (h c).2.2⟩) (Value.run m ρ)

end Cert.Proof.RefRun

end
-- ==== Proof.RefConsts.lean ====
/- The reference's running sum over a chunk of 64 gates, printed as a window of 64 padded by 63: a plain sum of the
   entries up to and including the one asked for. -/
module

public import Idealize.ShloMosaic.Lib.Pointwise
public import Idealize.ShloMosaic.Lib.WordCmp
public import Idealize.ShloMosaic.PureOps.Ideal

@[expose] public section

set_option maxRecDepth 16384

noncomputable section

namespace Cert.Proof.RefConsts

open Idealize.ShloMosaic

/-- Folding an addition over a list is adding the sum of the list. -/
theorem foldl_add {ι : Type} (f : ι → EReal) (l : List ι) (z : EReal) : l.foldl (fun r n => r + f n) z = z + (l.map f).sum := by
  induction l generalizing z with
  | nil => simp
  | cons a l ih => rw [List.foldl_cons, ih, List.map_cons, List.sum_cons, add_assoc]

/-- A window of 64 terms ending at `r`, the terms before the first left out. -/
theorem window_sum (a : ℕ → EReal) (r : ℕ) (hr : r < 64) :
    ∑ k : Fin 64, (if 63 ≤ r + k.val then a (r + k.val - 63) else 0) = ∑ s ∈ Finset.range (r + 1), a s := by
  rw [← Finset.sum_range (fun k : ℕ => (if 63 ≤ r + k then a (r + k - 63) else 0 : EReal))]
  rw [← Finset.sum_subset (s₁ := Finset.Ico (63 - r) 64)]
  · rw [Finset.sum_Ico_eq_sum_range, show 64 - (63 - r) = r + 1 by omega]
    refine Finset.sum_congr rfl fun i hi => ?_
    rw [if_pos (by omega), show r + (63 - r + i) - 63 = i by omega]
  · intro k hk
    exact Finset.mem_range.2 (Finset.mem_Ico.1 hk).2
  · intro k hk hk'
    rw [if_neg]
    intro h
    exact hk' (Finset.mem_Ico.2 ⟨by omega, Finset.mem_range.1 hk⟩)

/-- The entry of a row of 64 that a row-major position names. -/
abbrev at64 (n : Fin (⟨3, ![1, 1, 64]⟩ : Shape).numel) : (⟨3, ![1, 1, 64]⟩ : Shape).Idx :=
  (Shape.rowMajor (⟨3, ![1, 1, 64]⟩ : Shape)).symm n

/-- The running sum along the last axis. -/
theorem cumsum_at (x : FVec Ideal ⟨3, ![2, 4, 64]⟩ .f32) (init : FVec Ideal ⟨0, ![]⟩ .f32) (hinit : ∀ i, init i = 0)
    (h : (⟨3, ![2, 4, 64]⟩ : Shape).ReduceWindows (![1, 1, 64] : Fin 3 → ℕ) ![1, 1, 1] ![0, 0, 63] ![0, 0, 0] ⟨3, ![2, 4, 64]⟩)
    (hu : 0 < (⟨0, ![]⟩ : Shape).numel) (b : Fin 2) (g : Fin 4) (r : Fin 64) :
    Host.reduceWindowAdd ![1, 1, 64] ![1, 1, 1] ![0, 0, 63] ![0, 0, 0] x init h hu (ix3 b g r)
      = ∑ s ∈ Finset.range (r.val + 1), (if hs : s < 64 then x (ix3 b g ⟨s, hs⟩) else 0) := by
  show Host.reduceWindow (· + ·) _ _ _ _ x _ h _ _ = _
  unfold Host.reduceWindow
  dsimp only
  rw [hinit]
  refine (foldl_add _ _ _).trans ?_
  rw [zero_add, ← window_sum _ _ r.2]
  refine (Fin.sum_univ_def (M := EReal) _).symm.trans ?_
  refine (Finset.sum_congr rfl fun n _ => ?_).trans ((Equiv.sum_comp (M := EReal)
    (Shape.rowMajor (⟨3, ![1, 1, 64]⟩ : Shape)).symm (fun w : (⟨3, ![1, 1, 64]⟩ : Shape).Idx =>
      if 63 ≤ r.val + (w 2).val then
        (if hs : r.val + (w 2).val - 63 < 64 then x (ix3 b g ⟨r.val + (w 2).val - 63, hs⟩) else 0)
      else 0)).trans ?_)
  · have w0 : (at64 n 0).val = 0 := by have := (at64 n 0).isLt; simp at this; omega
    have w1 : (at64 n 1).val = 0 := by have := (at64 n 1).isLt; simp at this; omega
    have w2 : (at64 n 2).val < 64 := (at64 n 2).isLt
    by_cases hr : 63 ≤ r.val + (at64 n 2).val
    · rw [if_pos (show 63 ≤ r.val + (at64 n 2).val from hr), dif_pos (show r.val + (at64 n 2).val - 63 < 64 by omega), dif_pos]
      · congr 1
        funext a
        fin_cases a
        · refine Fin.ext ?_; show b.val * 1 + (at64 n 0).val - 0 = b.val; omega
        · refine Fin.ext ?_; show g.val * 1 + (at64 n 1).val - 0 = g.val; omega
        · refine Fin.ext ?_; show r.val * 1 + (at64 n 2).val - 63 = r.val + (at64 n 2).val - 63; omega
      · intro a
        fin_cases a
        · show 0 ≤ b.val * 1 + (at64 n 0).val ∧ b.val * 1 + (at64 n 0).val - 0 < 2; omega
        · show 0 ≤ g.val * 1 + (at64 n 1).val ∧ g.val * 1 + (at64 n 1).val - 0 < 4; omega
        · show 63 ≤ r.val * 1 + (at64 n 2).val ∧ r.val * 1 + (at64 n 2).val - 63 < 64; omega
    · rw [if_neg hr, dif_neg]
      intro hin
      have h2 : 63 ≤ r.val * 1 + (at64 n 2).val := (hin 2).1
      omega
  · rw [sum_idx3]
    simp only [Finset.univ_unique, Finset.sum_singleton]
    rfl

/-- The mask's choice: the first operand on and below the diagonal. -/
theorem sel_causal {r t : ℕ} (hr : r < 64) (ht : t < 64) (x y : EReal) :
    Scalar.select (Scalar.select (IntOp.cmpi .sge (IntOp.addi (BitVec.ofNat 32 r) 0#32) (BitVec.ofNat 32 t)) 1#1 0#1) x y
      = if t ≤ r then x else y := by
  have e : IntOp.addi (BitVec.ofNat 32 r) 0#32 = BitVec.ofNat 32 r := BitVec.add_zero _
  rw [e, WordCmp.cmpi_sge_ofNat (by omega) (by omega)]
  by_cases h : t ≤ r <;> simp [h, Scalar.select]

end Cert.Proof.RefConsts

end
-- ==== Proof.RefVal.lean ====
/- One trip of the reference over the extended reals, for one batch entry and one head, when what it reads is real:
   queries, keys, values and gates of the 64 tokens from `T` on, and the recurrence's state at `T`. Then every value it
   makes is the recurrence's. -/
module

public import proofs.«01_k».proof.Proof.RefRun
public import proofs.«01_k».proof.Proof.MlstmReal
public import proofs.«01_k».proof.Proof.Consts
public import proofs.«01_k».proof.Proof.RefConsts

@[expose] public section

set_option maxRecDepth 16384

noncomputable section

namespace Cert.Proof.RefVal

open Idealize.ShloMosaic Idealize.SL.Sem Cert.ReferenceIdeal Cert.ReferenceIdeal.Gen Cert.ReferenceIdeal.Step
open Cert.Proof.Mlstm Cert.Proof.Consts Cert.Proof.RefConsts

/-- What a trip reads for a batch entry and a head is real, and its state is the recurrence's at token `T`. -/
structure SReal (s : State Ideal) (j : ℕ) (b : Fin 2) (h : Fin 4) (T : ℕ) (lf ig : ℕ → ℝ) (q k v : ℕ → Fin 256 → ℝ) : Prop where
  /-- queries -/
  hq : ∀ (r : Fin 64) (d : Fin 256), b5 j s (ix4 b h r d) = ((q (T + r) d : ℝ) : EReal)
  /-- keys -/
  hk : ∀ (r : Fin 64) (d : Fin 256), b11 j s (ix4 b h r d) = ((k (T + r) d : ℝ) : EReal)
  /-- values -/
  hv : ∀ (r : Fin 64) (d : Fin 256), b17 j s (ix4 b h r d) = ((v (T + r) d : ℝ) : EReal)
  /-- input gates -/
  hi : ∀ r : Fin 64, b22 j s (ix3 b h r) = ((ig (T + r) : ℝ) : EReal)
  /-- logarithms of the forget gates -/
  hf : ∀ r : Fin 64, b27 j s (ix3 b h r) = ((lf (T + r) : ℝ) : EReal)
  /-- matrix state -/
  hC : ∀ d e : Fin 256, s.main_v43_7 (ix4 b h d e) = ((Cst lf ig k v T d e : ℝ) : EReal)
  /-- normalizer -/
  hn : ∀ d : Fin 256, s.main_v43_8 (ix3 b h d) = ((Nst lf ig k T d : ℝ) : EReal)
  /-- stabilizer -/
  hm : s.main_v43_9 (ix2 b h) = ((Ms lf ig T : ℝ) : EReal)

variable {s : State Ideal} {j : ℕ} {b : Fin 2} {h : Fin 4} {T : ℕ} {lf ig : ℕ → ℝ} {q k v : ℕ → Fin 256 → ℝ}
  (H : SReal s j b h T lf ig q k v)
include H

/-- The running sums of the log forget gates. -/
theorem b30_at (r : Fin 64) : b30 j s (ix3 b h r) = ((Mlstm.bc lf T r : ℝ) : EReal) := by
  unfold b30
  refine (cumsum_at _ _ ?_ _ _ b h r).trans ?_
  · intro i
    unfold b29 b28
    pointwise
  · have e : ∀ x ∈ Finset.range (r.val + 1), (if hs : x < 64 then b27 j s (ix3 b h ⟨x, hs⟩) else 0) = ((lf (T + x) : ℝ) : EReal) := by
      intro x hx
      have hx' := Finset.mem_range.1 hx
      rw [dif_pos (by omega : x < 64)]
      exact H.hf ⟨x, by omega⟩
    rw [Finset.sum_congr rfl e, coe_sum]
    congr 1
    unfold Mlstm.bc Fs
    rw [Nat.add_assoc, Finset.sum_range_add (fun s => lf s) T (r.val + 1)]
    ring

/-- The decayed input gates, `⊥` after the diagonal. -/
theorem b43_at (r t : Fin 64) : b43 j s (ix4 b h r t) =
    if (t : ℕ) ≤ r then ((Mlstm.bc lf T r - Mlstm.bc lf T t + ig (T + t) : ℝ) : EReal) else ⊥ := by
  unfold b43 b41 b42 b38 b37 b36 b35 b34 b33 b32 b31 b40 b39 K_main_v28 K_main_call0_v4 K_main_v27 K_main_call0_v5
    K_main_call0_v2 K_main_call0_v0 K_main_call0_v1 K_main_call0_v3 K_main_call0_c K_main_c K_main_call0_c_0
  pointwise
  rw [b30_at H, b30_at H, H.hi, ofBits_neg_inf, ← EReal.coe_sub, ← EReal.coe_add]
  exact sel_causal (by omega) (by omega) _ _

/-- The row's stabilizer before the maximum with the state's. -/
theorem b46_at (r : Fin 64) : b46 j s (ix3 b h r) = ((Mlstm.bc lf T r + Ms lf ig T : ℝ) : EReal) := by
  unfold b46 b45 b44
  pointwise
  rw [b30_at H, H.hm, ← EReal.coe_add]

/-- The row's stabilizer. -/
theorem b49_at (r : Fin 64) : b49 j s (ix3 b h r) = ((Ms lf ig (T + r + 1) : ℝ) : EReal) := by
  unfold b49 b48 b47
  pointwise
  rw [b46_at H, ofBits_neg_inf]
  simp only [b43_at H]
  exact Ms_chunk lf ig T 64 r r.2

/-- The weight of the state. -/
theorem b55_at (r : Fin 64) : b55 j s (ix3 b h r) =
    ((Real.exp (Fs lf (T + r + 1) - Fs lf T + Ms lf ig T - Ms lf ig (T + r + 1)) : ℝ) : EReal) := by
  unfold b55 b54
  pointwise
  rw [b46_at H, b49_at H, ← EReal.coe_sub, Ideal.exp_coe]
  rfl

/-- The weighted scores. -/
theorem b57_at (r t : Fin 64) : b57 j s (ix4 b h r t) =
    (((if (t : ℕ) ≤ r then qk q k (T + r) (T + t) * Wt lf ig (T + r + 1) (T + t) else 0) : ℝ) : EReal) := by
  unfold b57 b56 b53 b52 b51 b50
  pointwise
  simp only [H.hq, H.hk, b43_at H, b49_at H, ← EReal.coe_mul, coe_sum]
  split
  · rw [← EReal.coe_sub, Ideal.exp_coe, ← EReal.coe_mul]
    congr 2
    unfold Wt Mlstm.bc
    congr 1; ring_nf
  · rw [EReal.bot_sub, Ideal.exp_bot, mul_zero, EReal.coe_zero]

/-- The numerator. -/
theorem b63_at (r : Fin 64) (e : Fin 256) : b63 j s (ix4 b h r e) = ((Num lf ig q k v (T + r) e : ℝ) : EReal) := by
  unfold b63 b62 b61 b60 b59 b58
  pointwise
  simp only [b55_at H, H.hq, H.hC, H.hv, b57_at H, ← EReal.coe_mul, coe_sum, ← EReal.coe_add]
  rw [Num_chunk lf ig q k v T 64 r r.2]

/-- The normalizer's product with the query. -/
theorem b68_at (r : Fin 64) : b68 j s (ix3 b h r) = ((Den lf ig q k (T + r) : ℝ) : EReal) := by
  unfold b68 b67 b66 b65 b64
  pointwise
  simp only [b55_at H, H.hq, H.hn, b57_at H, ← EReal.coe_mul, coe_sum, ← EReal.coe_add]
  rw [Den_chunk lf ig q k T 64 r r.2]

/-- The chunk's outputs. -/
theorem b75_at (r : Fin 64) (e : Fin 256) : b75 j s (ix4 b h r e) = ((Hid lf ig q k v (T + r) e : ℝ) : EReal) := by
  unfold b75 b74 b73 b72 b71 b70 b69
  pointwise
  rw [b63_at H, b68_at H, b49_at H, ← EReal.coe_neg, Ideal.exp_coe, Ideal.absf_def, coe_abs, coe_max]
  refine (Ideal.div_coe (Bot_pos lf ig q k (T + r)).ne' _).trans ?_
  rw [← EReal.coe_mul]
  rfl

/-- The chunk's last running sum. -/
theorem b77_at : b77 j s (ix2 b h) = ((Mlstm.bc lf T 63 : ℝ) : EReal) := by
  unfold b77 b76
  pointwise
  exact b30_at H 63

/-- The gates' exponents at the chunk's end. -/
theorem b81_at (r : Fin 64) : b81 j s (ix3 b h r) = ((Mlstm.bc lf T 63 - Mlstm.bc lf T r + ig (T + r) : ℝ) : EReal) := by
  unfold b81 b80 b79 b78
  pointwise
  rw [b77_at H, b30_at H, H.hi, ← EReal.coe_sub, ← EReal.coe_add]

/-- The state's stabilizer after the chunk. -/
theorem b85_at : b85 j s (ix2 b h) = ((Ms lf ig (T + 64) : ℝ) : EReal) := by
  unfold b85 b84 b83 b82
  pointwise
  rw [b77_at H, H.hm, ofBits_neg_inf, ← EReal.coe_add]
  simp only [b81_at H]
  exact Ms_chunk_end lf ig T 64 (by omega)

/-- The state's decay over the chunk. -/
theorem b88_at : b88 j s (ix2 b h) =
    ((Real.exp (Fs lf (T + 64) - Fs lf T + Ms lf ig T - Ms lf ig (T + 64)) : ℝ) : EReal) := by
  unfold b88 b87 b86
  pointwise
  rw [b77_at H, H.hm, b85_at H, ← EReal.coe_add, ← EReal.coe_sub, Ideal.exp_coe]
  rfl

/-- The weights of the chunk's tokens in the state. -/
theorem b92_at (r : Fin 64) : b92 j s (ix3 b h r) = ((Wt lf ig (T + 64) (T + r) : ℝ) : EReal) := by
  unfold b92 b91 b90 b89
  pointwise
  rw [b81_at H, b85_at H, ← EReal.coe_sub, Ideal.exp_coe]
  congr 1
  unfold Wt Mlstm.bc
  congr 1
  rw [show T + 63 + 1 = T + 64 from rfl]
  ring

/-- The matrix state after the chunk. -/
theorem b100_at (d e : Fin 256) : b100 j s (ix4 b h d e) = ((Cst lf ig k v (T + 64) d e : ℝ) : EReal) := by
  unfold b100 b99 b98 b97 b96 b95 b94 b93
  pointwise
  simp only [b88_at H, H.hC, H.hv, H.hk, b92_at H, ← EReal.coe_mul, coe_sum, ← EReal.coe_add]
  rw [Cst_add]

/-- The normalizer after the chunk. -/
theorem b105_at (d : Fin 256) : b105 j s (ix3 b h d) = ((Nst lf ig k (T + 64) d : ℝ) : EReal) := by
  unfold b105 b104 b103 b102 b101
  pointwise
  simp only [b88_at H, H.hn, H.hk, b92_at H, ← EReal.coe_mul, coe_sum, ← EReal.coe_add]
  rw [Nst_add]

end Cert.Proof.RefVal

end
-- ==== Proof.RefIn.lean ====
/- What one trip of the reference reads: the chunk's rows of the projections and of the gates. -/
module

public import proofs.«01_k».proof.Proof.RefVal
public import proofs.«01_k».proof.Proof.Seqs

@[expose] public section

set_option maxRecDepth 16384

noncomputable section

namespace Cert.Proof.RefIn

open Idealize.ShloMosaic Idealize.SL.Sem Cert.ReferenceIdeal Cert.ReferenceIdeal.Gen Cert.ReferenceIdeal.Step
open Cert.Proof.Mlstm Cert.Proof.Consts Cert.Proof.Seqs

/-- A small number read back from its word as an integer. -/
theorem toInt_small (j : ℕ) (hj : j < 128) : (BitVec.ofNat 32 j).toInt = (j : ℤ) := by
  rw [BitVec.toInt_ofNat', Int.bmod_eq_of_le] <;> omega

/-- The first coordinate of a chunk's start. -/
theorem start5_0 (hr : S1x2x4x64x256.rank = S128x2x4x64x256.rank) (f : Fin 5 → ℤ) (j : ℕ) (hj : j < 128) (hf : f 0 = j) :
    Host.clampedStart S128x2x4x64x256 S1x2x4x64x256 hr f 0 = j :=
  Host.clampedStart_of_le hr f 0 j hf (by show j + 1 ≤ 128; omega)

/-- The other coordinates of a chunk's start. -/
theorem start5_1 (hr : S1x2x4x64x256.rank = S128x2x4x64x256.rank) (f : Fin 5 → ℤ) (a : Fin 5) (ha : a ≠ 0) :
    Host.clampedStart S128x2x4x64x256 S1x2x4x64x256 hr f a = 0 := by
  have e : S1x2x4x64x256.size (a.cast hr.symm) = S128x2x4x64x256.size a := by
    fin_cases a
    · exact absurd rfl ha
    all_goals rfl
  have := Host.clampedStart_le hr f a e.le
  omega

/-- The first coordinate of a chunk's start, gates. -/
theorem start4_0 (hr : S1x2x4x64.rank = S128x2x4x64.rank) (f : Fin 4 → ℤ) (j : ℕ) (hj : j < 128) (hf : f 0 = j) :
    Host.clampedStart S128x2x4x64 S1x2x4x64 hr f 0 = j :=
  Host.clampedStart_of_le hr f 0 j hf (by show j + 1 ≤ 128; omega)

/-- The other coordinates of a chunk's start, gates. -/
theorem start4_1 (hr : S1x2x4x64.rank = S128x2x4x64.rank) (f : Fin 4 → ℤ) (a : Fin 4) (ha : a ≠ 0) :
    Host.clampedStart S128x2x4x64 S1x2x4x64 hr f a = 0 := by
  have e : S1x2x4x64.size (a.cast hr.symm) = S128x2x4x64.size a := by
    fin_cases a
    · exact absurd rfl ha
    all_goals rfl
  have := Host.clampedStart_le hr f a e.le
  omega

/-- An entry of a chunk: the array's at the chunk's start plus the index. -/
theorem chunk5 (x : FVec Ideal S128x2x4x64x256 .f32) (j : ℕ) (hj : j < 128) (b : Fin 2) (h : Fin 4) (r : Fin 64) (d : Fin 256)
    (c0 c1 c2 c3 c4 : ℕ) {p0 : c0 < 128} {p1 : c1 + b.val < 2} {p2 : c2 + h.val < 4} {p3 : c3 + r.val < 64} {p4 : c4 + d.val < 256}
    (h0 : c0 = j) (h1 : c1 = 0) (h2 : c2 = 0) (h3 : c3 = 0) (h4 : c4 = 0) :
    x (ix5 ⟨c0, p0⟩ ⟨c1 + b.val, p1⟩ ⟨c2 + h.val, p2⟩ ⟨c3 + r.val, p3⟩ ⟨c4 + d.val, p4⟩) = x (ix5 (⟨j, hj⟩ : Fin 128) b h r d) := by
  subst h0 h1 h2 h3 h4
  simp only [Nat.zero_add]

/-- An entry of a chunk of gates. -/
theorem chunk4 (x : FVec Ideal S128x2x4x64 .f32) (j : ℕ) (hj : j < 128) (b : Fin 2) (h : Fin 4) (r : Fin 64)
    (c0 c1 c2 c3 : ℕ) {p0 : c0 < 128} {p1 : c1 + b.val < 2} {p2 : c2 + h.val < 4} {p3 : c3 + r.val < 64}
    (h0 : c0 = j) (h1 : c1 = 0) (h2 : c2 = 0) (h3 : c3 = 0) :
    x (ix4 ⟨c0, p0⟩ ⟨c1 + b.val, p1⟩ ⟨c2 + h.val, p2⟩ ⟨c3 + r.val, p3⟩) = x (ix4 (⟨j, hj⟩ : Fin 128) b h r) := by
  subst h0 h1 h2 h3
  simp only [Nat.zero_add]

/-- An array with one chunk replaced, at an entry. -/
theorem upd5 (u : FVec Ideal S2x4x64x256 .f32) (y : EReal) (j k : ℕ) (b : Fin 2) (h : Fin 4) (r : Fin 64) (d : Fin 256)
    (c0 c1 c2 c3 c4 : ℕ)
    (p1 : (c0 ≤ k ∧ k < c0 + 1) ∧ c1 ≤ b.val ∧ c2 ≤ h.val ∧ c3 ≤ r.val ∧ c4 ≤ d.val → b.val - c1 < 2)
    (p2 : (c0 ≤ k ∧ k < c0 + 1) ∧ c1 ≤ b.val ∧ c2 ≤ h.val ∧ c3 ≤ r.val ∧ c4 ≤ d.val → h.val - c2 < 4)
    (p3 : (c0 ≤ k ∧ k < c0 + 1) ∧ c1 ≤ b.val ∧ c2 ≤ h.val ∧ c3 ≤ r.val ∧ c4 ≤ d.val → r.val - c3 < 64)
    (p4 : (c0 ≤ k ∧ k < c0 + 1) ∧ c1 ≤ b.val ∧ c2 ≤ h.val ∧ c3 ≤ r.val ∧ c4 ≤ d.val → d.val - c4 < 256)
    (h0 : c0 = j) (h1 : c1 = 0) (h2 : c2 = 0) (h3 : c3 = 0) (h4 : c4 = 0) :
    (if w : (c0 ≤ k ∧ k < c0 + 1) ∧ c1 ≤ b.val ∧ c2 ≤ h.val ∧ c3 ≤ r.val ∧ c4 ≤ d.val then
      u (ix4 ⟨b.val - c1, p1 w⟩ ⟨h.val - c2, p2 w⟩ ⟨r.val - c3, p3 w⟩ ⟨d.val - c4, p4 w⟩) else y)
      = if k = j then u (ix4 b h r d) else y := by
  subst h0 h1 h2 h3 h4
  by_cases hk : k = c0
  · rw [if_pos hk, dif_pos (by omega)]
    simp only [Nat.sub_zero]
  · rw [if_neg hk, dif_neg (by omega)]

section

variable (s : State Ideal) (j : ℕ) (hj : j < 128) (b : Fin 2) (h : Fin 4) (r : Fin 64) (d : Fin 256)

/-- The trip's queries. -/
theorem b5_at : b5 j s (ix4 b h r d) = s.main_v43_0 (ix5 (⟨j, hj⟩ : Fin 128) b h r d) := by
  unfold b5 b4
  pointwise
  exact chunk5 _ _ _ _ _ _ _ _ _ _ _ _ (start5_0 _ _ j hj (toInt_small j hj)) (start5_1 _ _ 1 (by decide)) (start5_1 _ _ 2 (by decide))
    (start5_1 _ _ 3 (by decide)) (start5_1 _ _ 4 (by decide))

/-- The trip's keys. -/
theorem b11_at : b11 j s (ix4 b h r d) = s.main_v43_1 (ix5 (⟨j, hj⟩ : Fin 128) b h r d) := by
  unfold b11 b10
  pointwise
  exact chunk5 _ _ _ _ _ _ _ _ _ _ _ _ (start5_0 _ _ j hj (toInt_small j hj)) (start5_1 _ _ 1 (by decide)) (start5_1 _ _ 2 (by decide))
    (start5_1 _ _ 3 (by decide)) (start5_1 _ _ 4 (by decide))

/-- The trip's values. -/
theorem b17_at : b17 j s (ix4 b h r d) = s.main_v43_2 (ix5 (⟨j, hj⟩ : Fin 128) b h r d) := by
  unfold b17 b16
  pointwise
  exact chunk5 _ _ _ _ _ _ _ _ _ _ _ _ (start5_0 _ _ j hj (toInt_small j hj)) (start5_1 _ _ 1 (by decide)) (start5_1 _ _ 2 (by decide))
    (start5_1 _ _ 3 (by decide)) (start5_1 _ _ 4 (by decide))

/-- The trip's input gates. -/
theorem b22_at : b22 j s (ix3 b h r) = s.main_v43_3 (ix4 (⟨j, hj⟩ : Fin 128) b h r) := by
  unfold b22 b21
  pointwise
  exact chunk4 _ _ _ _ _ _ _ _ _ _ (start4_0 _ _ j hj (toInt_small j hj)) (start4_1 _ _ 1 (by decide)) (start4_1 _ _ 2 (by decide))
    (start4_1 _ _ 3 (by decide))

/-- The trip's log forget gates. -/
theorem b27_at : b27 j s (ix3 b h r) = s.main_v43_4 (ix4 (⟨j, hj⟩ : Fin 128) b h r) := by
  unfold b27 b26
  pointwise
  exact chunk4 _ _ _ _ _ _ _ _ _ _ (start4_0 _ _ j hj (toInt_small j hj)) (start4_1 _ _ 1 (by decide)) (start4_1 _ _ 2 (by decide))
    (start4_1 _ _ 3 (by decide))

include hj in
/-- The outputs after a trip: the trip's chunk, and the others as before. -/
theorem b111_at (k : Fin 128) : b111 j s (ix5 k b h r d)
    = if k.val = j then b75 j s (ix4 b h r d) else s.main_v43_10 (ix5 k b h r d) := by
  unfold b111 b106
  pointwise
  exact upd5 _ _ _ _ _ _ _ _ _ _ _ _ _ _ _ _ _ (start5_0 _ _ j hj (toInt_small j hj)) (start5_1 _ _ 1 (by decide))
    (start5_1 _ _ 2 (by decide)) (start5_1 _ _ 3 (by decide)) (start5_1 _ _ 4 (by decide))

end

variable (P : Proj) (g : Gates) (b : Fin 2) (h : Fin 4) (r : Fin 64) (d : Fin 256)

/-- The queries, chunk by chunk. -/
theorem v33_at (k : Fin 128) : A_main_v33 (F := Ideal) P g (ix5 k b h r d)
    = P (ix3 b (⟨64 * k.val + r.val, by omega⟩ : Fin 8192) (⟨2048 + (256 * h.val + d.val), by omega⟩ : Fin 6144)) := by
  unfold A_main_v33 A_main_v32 A_main_v9 A_main_v8 A_main_v7 A_main_v0
  pointwise
  congr 2
  · exact Fin.ext (by show k.val * 64 + r.val = 64 * k.val + r.val; omega)
  · exact Fin.ext (by show 2048 + (h.val * 256 + d.val) = 2048 + (256 * h.val + d.val); omega)

/-- The keys, chunk by chunk. -/
theorem v35_at (k : Fin 128) : A_main_v35 (F := Ideal) P g (ix5 k b h r d)
    = P (ix3 b (⟨64 * k.val + r.val, by omega⟩ : Fin 8192) (⟨3072 + (256 * h.val + d.val), by omega⟩ : Fin 6144)) * ((1 / 16 : ℝ) : EReal) := by
  unfold A_main_v35 A_main_v34 A_main_v17 A_main_v12 A_main_v11 A_main_v10 A_main_v1 K_main_v16 K_main_cst
  pointwise
  rw [ofBits_sixteenth]
  congr 3
  · exact Fin.ext (by show k.val * 64 + r.val = 64 * k.val + r.val; omega)
  · exact Fin.ext (by show 3072 + (h.val * 256 + d.val) = 3072 + (256 * h.val + d.val); omega)

/-- The values, chunk by chunk. -/
theorem v37_at (k : Fin 128) : A_main_v37 (F := Ideal) P g (ix5 k b h r d)
    = P (ix3 b (⟨64 * k.val + r.val, by omega⟩ : Fin 8192) (⟨4096 + (256 * h.val + d.val), by omega⟩ : Fin 6144)) := by
  unfold A_main_v37 A_main_v36 A_main_v15 A_main_v14 A_main_v13 A_main_v2
  pointwise
  congr 2
  · exact Fin.ext (by show k.val * 64 + r.val = 64 * k.val + r.val; omega)
  · exact Fin.ext (by show 4096 + (h.val * 256 + d.val) = 4096 + (256 * h.val + d.val); omega)

/-- The input gates, chunk by chunk. -/
theorem v39_at (k : Fin 128) : A_main_v39 (F := Ideal) P g (ix4 k b h r)
    = g (ix3 b (⟨64 * k.val + r.val, by omega⟩ : Fin 8192) (⟨h.val, by omega⟩ : Fin 128)) := by
  unfold A_main_v39 A_main_v38 A_main_v4 A_main_v3
  pointwise
  congr 2
  exact Fin.ext (by show k.val * 64 + r.val = 64 * k.val + r.val; omega)

/-- The log forget gates, chunk by chunk, where the gate is real. -/
theorem v41_at (k : Fin 128) (x : ℝ)
    (hx : g (ix3 b (⟨64 * k.val + r.val, by omega⟩ : Fin 8192) (⟨4 + h.val, by omega⟩ : Fin 128)) = (x : EReal)) :
    A_main_v41 (F := Ideal) P g (ix4 k b h r) = ((lsig x : ℝ) : EReal) := by
  have e : (ix3 b (⟨k.val * 64 + r.val, by omega⟩ : Fin 8192) (⟨4 + h.val, by omega⟩ : Fin 128))
      = ix3 b (⟨64 * k.val + r.val, by omega⟩ : Fin 8192) (⟨4 + h.val, by omega⟩ : Fin 128) := by
    congr 1
    exact Fin.ext (by show k.val * 64 + r.val = 64 * k.val + r.val; omega)
  unfold A_main_v41 A_main_v40 A_main_v26 A_main_v25 A_main_v24 A_main_v23 A_main_v22 A_main_v21 A_main_v20 A_main_v18 A_main_v6 A_main_v5 K_main_v19 K_main_cst_0
  pointwise
  rw [e, hx, Ideal.absf_def, coe_abs, log1p_exp, ← EReal.coe_neg, ← EReal.coe_zero, coe_max, ← EReal.coe_add, ← EReal.coe_neg]
  rfl

end Cert.Proof.RefIn

end
-- ==== Proof.RefInv.lean ====
/- The reference's loop over the extended reals: after `n` trips its state is the recurrence's at token `64 n` and the
   outputs of the first `n` chunks are the recurrence's; so its result is the mLSTM's. -/
module

public import proofs.«01_k».proof.Proof.RefIn

@[expose] public section

set_option maxRecDepth 16384

noncomputable section

namespace Cert.Proof.RefInv

open Idealize.ShloMosaic Idealize.SL.Sem Cert.ReferenceIdeal Cert.ReferenceIdeal.Gen Cert.ReferenceIdeal.Step
open Cert.Proof.Mlstm Cert.Proof.Consts Cert.Proof.Seqs Cert.Proof.RefVal Cert.Proof.RefIn

variable (P : Proj) (g : Gates)

/-- The loop's state after `n` trips. -/
structure After (n : ℕ) (s : State Ideal) : Prop where
  /-- queries -/
  e0 : s.main_v43_0 = A_main_v33 P g
  /-- keys -/
  e1 : s.main_v43_1 = A_main_v35 P g
  /-- values -/
  e2 : s.main_v43_2 = A_main_v37 P g
  /-- input gates -/
  e3 : s.main_v43_3 = A_main_v39 P g
  /-- log forget gates -/
  e4 : s.main_v43_4 = A_main_v41 P g
  /-- matrix states -/
  hC : ∀ (b : Fin 2) (h : Fin 4) (d e : Fin 256), s.main_v43_7 (ix4 b h d e)
    = ((Cst (lf g b h) (ig g b h) (kk P b h) (vv P b h) (64 * n) d e : ℝ) : EReal)
  /-- normalizers -/
  hn : ∀ (b : Fin 2) (h : Fin 4) (d : Fin 256), s.main_v43_8 (ix3 b h d)
    = ((Nst (lf g b h) (ig g b h) (kk P b h) (64 * n) d : ℝ) : EReal)
  /-- stabilizers -/
  hm : ∀ (b : Fin 2) (h : Fin 4), s.main_v43_9 (ix2 b h) = ((Ms (lf g b h) (ig g b h) (64 * n) : ℝ) : EReal)
  /-- outputs so far -/
  hy : ∀ (k : Fin 128) (b : Fin 2) (h : Fin 4) (r : Fin 64) (e : Fin 256), k.val < n → s.main_v43_10 (ix5 k b h r e)
    = ((Hid (lf g b h) (ig g b h) (qq P b h) (kk P b h) (vv P b h) (64 * k.val + r.val) e : ℝ) : EReal)

/-- Before the loop. -/
theorem after_zero : After P g 0 (init P g) where
  e0 := rfl
  e1 := rfl
  e2 := rfl
  e3 := rfl
  e4 := rfl
  hC b h d e := by
    show K_main_v29 (F := Ideal) (ix4 b h d e) = _
    unfold K_main_v29 K_main_cst_1 Cst
    pointwise
    simp
  hn b h d := by
    show K_main_v30 (F := Ideal) (ix3 b h d) = _
    unfold K_main_v30 K_main_cst_2 Nst
    pointwise
    simp
  hm b h := by
    show K_main_v31 (F := Ideal) (ix2 b h) = _
    unfold K_main_v31 K_main_cst_3 Ms
    pointwise
    simp
  hy k b h r e hk := absurd hk (Nat.not_lt_zero _)

variable {P g}

/-- What a trip reads is real and its state is the recurrence's. -/
theorem sreal (H : IsReal P g) (n : ℕ) (hn : n < 128) (s : State Ideal) (A : After P g n s) (b : Fin 2) (h : Fin 4) :
    SReal s n b h (64 * n) (lf g b h) (ig g b h) (qq P b h) (kk P b h) (vv P b h) where
  hq r d := by
    rw [b5_at s n hn, A.e0, v33_at,
      pcol_eq H b _ _ _ (by show 2048 ≤ 2048 + _; omega) (by show 2048 + (256 * h.val + d.val) < 5120; omega)]
    rfl
  hk r d := by
    rw [b11_at s n hn, A.e1, v35_at,
      pcol_eq H b _ _ _ (by show 2048 ≤ 3072 + _; omega) (by show 3072 + (256 * h.val + d.val) < 5120; omega), ← EReal.coe_mul]
    rfl
  hv r d := by
    rw [b17_at s n hn, A.e2, v37_at,
      pcol_eq H b _ _ _ (by show 2048 ≤ 4096 + _; omega) (by show 4096 + (256 * h.val + d.val) < 5120; omega)]
    rfl
  hi r := by
    rw [b22_at s n hn, A.e3, v39_at, gcol_eq H b _ _ _ (by show h.val < 8; omega)]
    rfl
  hf r := by
    rw [b27_at s n hn, A.e4, v41_at _ _ _ _ _ _ _ (gcol_eq H b _ _ _ (by show 4 + h.val < 8; omega))]
    rfl
  hC d e := A.hC b h d e
  hn d := A.hn b h d
  hm := A.hm b h

/-- One trip. -/
theorem after_succ (H : IsReal P g) (n : ℕ) (hn : n < 128) (s : State Ideal) (A : After P g n s) : After P g (n + 1) (step n s) where
  e0 := A.e0
  e1 := A.e1
  e2 := A.e2
  e3 := A.e3
  e4 := A.e4
  hC b h d e := by
    rw [step_main_v43_7, b100_at (sreal H n hn s A b h)]
    rfl
  hn b h d := by
    rw [step_main_v43_8, b105_at (sreal H n hn s A b h)]
    rfl
  hm b h := by
    rw [step_main_v43_9, b85_at (sreal H n hn s A b h)]
    rfl
  hy k b h r e hk := by
    rw [step_main_v43_10, b111_at s n hn]
    split
    · rename_i hkn
      rw [b75_at (sreal H n hn s A b h), hkn]
    · exact A.hy k b h r e (by omega)

/-- After every number of trips. -/
theorem after_all (H : IsReal P g) (it : ℕ → State Ideal) (h0 : it 0 = init P g) (hs : ∀ n, it (n + 1) = step n (it n)) :
    ∀ n, n ≤ 128 → After P g n (it n)
  | 0, _ => h0 ▸ after_zero P g
  | n + 1, hn => by
    rw [hs]
    exact after_succ H n (by omega) _ (after_all H it h0 hs n (by omega))

/-- The reference's result is the mLSTM's. -/
theorem result_at (H : IsReal P g) (s : State Ideal) (A : After P g 128 s) (b : Fin 2) (t : Fin 8192) (h : Fin 4) (e : Fin 256) :
    R_main_v57 s P (ix3 b t (⟨256 * h.val + e.val, by omega⟩ : Fin 1024)) = result P g b t h e := by
  unfold R_main_v57
  pointwise
  rw [A.hy _ b h _ e (by show t.val / 64 < 128; omega)]
  unfold result
  congr 1
  refine congrArg (fun x => ((Hid (lf g b h) (ig g b h) (qq P b h) (kk P b h) (vv P b h) x e : ℝ) : EReal)) ?_
  show 64 * (t.val / 64) + t.val % 64 = t.val
  omega

end Cert.Proof.RefInv

end
-- ==== Proof.PreFinite.lean ====
/- The precondition read back: where the predicate holds, the queries, keys, values and gates are real numbers. -/
module

public import proofs.«01_k».proof.Pre_finite
public import proofs.«01_k».proof.Proof.Seqs
public import Idealize.ShloMosaic.Lib.Pointwise
public import Idealize.ShloMosaic.Lib.ReduceAll

@[expose] public section

set_option maxRecDepth 16384

noncomputable section

namespace Cert.Proof.PreFinite

open Idealize.ShloMosaic Cert.Proof.Seqs Cert.Proof.Consts

/-- The predicate's side conditions. -/
theorem facts : Cert.Pre_finite.Facts where
  slices_S2x8192x6144_S2x8192x3072_0_0_2048 := by decide
  bitsLt_bf16_f32 := by decide
  slices_S2x8192x128_S2x8192x8_0_0_0 := by decide
  bcast_S_S2x8192x3072 := by decide
  reducesTo_S2x8192x3072_S_d0_1_2 := by decide
  h_S_ := by decide
  bcast_S_S2x8192x8 := by decide
  reducesTo_S2x8192x8_S_d0_1_2 := by decide

/-- An extended real whose absolute value is below infinity is real. -/
theorem real_of_abs_lt (x : EReal) (h : Ideal.cmp .olt (max x (-x)) ⊤ = 1#1) : x = (x.toReal : EReal) := by
  have h' : max x (-x) < ⊤ := by
    by_contra hn
    simp [Ideal.cmp, hn] at h
  refine (EReal.coe_toReal ?_ ?_).symm
  · rintro rfl
    simp at h'
  · rintro rfl
    simp at h'

variable [Cert.Pre_finite.Facts] {P : Proj} {g : Gates}

open Cert.Pre_finite Cert.Pre_finite.Facts in
/-- Where the predicate holds, what the mLSTM reads is real. -/
theorem isReal (h : Cert.Pre_finite.fn (F := Ideal) P g = fun _ => 1#1) : IsReal P g := by
  have h0 := congrFun h (fun a => a.elim0)
  obtain ⟨h1, h2⟩ := IntOp.andi_eq_one.1 h0
  haveI : Subsingleton Cert.Pre_finite.S_.Idx := ⟨fun a b => funext fun i => i.elim0⟩
  have e1 := Host.reduce_andi_all _ _ _ _ _ h1
  have e2 := Host.reduce_andi_all _ _ _ _ _ h2
  constructor
  · intro b t c hc0 hc1
    have e := e1 (ix3 b t (⟨c.val - 2048, by omega⟩ : Fin 3072))
    revert e
    pointwise
    rw [ofBits_inf]
    intro e
    have ec : (⟨2048 + (c.val - 2048), by omega⟩ : Fin 6144) = c := Fin.ext (by show 2048 + (c.val - 2048) = c.val; omega)
    have e' := real_of_abs_lt _ e
    rw [ec] at e'
    exact e'
  · intro b t c hc
    have e := e2 (ix3 b t (⟨c.val, hc⟩ : Fin 8))
    revert e
    pointwise
    rw [ofBits_inf]
    intro e
    exact real_of_abs_lt _ e

end Cert.Proof.PreFinite

end
-- ==== Proof.PreScaled.lean ====
/- The feed-forward's precondition read back: where the predicate holds, the gains and the modulation are real and the weights'
   scales are nonnegative and finite. -/
module

public import proofs.«01_k».proof.Pre_scaled
public import proofs.«01_k».proof.Proof.PreFinite
public import Idealize.ShloMosaic.Lib.Pointwise
public import Idealize.ShloMosaic.Lib.ReduceAll

@[expose] public section

set_option maxRecDepth 16384

noncomputable section

namespace Cert.Proof.PreScaled

open Idealize.ShloMosaic Cert.Proof.Consts Cert.Pre_scaled

/-- The predicate's side conditions. -/
theorem facts : Cert.Pre_scaled.Facts where
  bcast_S_S2x2048 := by decide
  reducesTo_S2x2048_S_d0_1 := by decide
  h_S_ := by decide
  bcast_S_S2x6x2048 := by decide
  reducesTo_S2x6x2048_S_d0_1_2 := by decide
  bcast_S_S2x1x5632 := by decide
  reducesTo_S2x1x5632_S_d0_1_2 := by decide

/-- What the feed-forward's first half needs of its arguments. -/
structure Scaled (G : FVec Ideal S2x2048 .f32) (M : FVec Ideal S2x6x2048 .f32) (s1 s3 : FVec Ideal S2x1x5632 .f32) : Prop where
  /-- The gains are real. -/
  gain : ∀ i, G i = ((G i).toReal : EReal)
  /-- The modulation is real. -/
  mod : ∀ i, M i = ((M i).toReal : EReal)
  /-- The first weights' scales are nonnegative and finite. -/
  one : ∀ i, 0 ≤ s1 i ∧ s1 i < ⊤
  /-- The second weights' scales are nonnegative and finite. -/
  three : ∀ i, 0 ≤ s3 i ∧ s3 i < ⊤

/-- A scale that passes the predicate's two comparisons. -/
theorem range_of (x : EReal) (h : IntOp.andi (Ideal.cmp .oge x 0) (Ideal.cmp .olt x ⊤) = 1#1) : 0 ≤ x ∧ x < ⊤ := by
  obtain ⟨h1, h2⟩ := IntOp.andi_eq_one.1 h
  constructor
  · by_contra hn
    simp [Ideal.cmp, hn] at h1
  · by_contra hn
    simp [Ideal.cmp, hn] at h2

variable [Cert.Pre_scaled.Facts] {X : FVec Ideal S2x8192x2048 .f32} {G : FVec Ideal S2x2048 .f32} {M : FVec Ideal S2x6x2048 .f32}
  {w1 w3 : FVec Ideal S2x2048x5632 .fp8e4m3} {s1 s3 : FVec Ideal S2x1x5632 .f32}

open Cert.Pre_scaled.Facts in
/-- Where the predicate holds, the arguments are as needed. -/
theorem scaled (h : Cert.Pre_scaled.fn (F := Ideal) X G M w1 w3 s1 s3 = fun _ => 1#1) : Scaled G M s1 s3 := by
  have h0 := congrFun h (fun a => a.elim0)
  obtain ⟨h012, h3⟩ := IntOp.andi_eq_one.1 h0
  obtain ⟨h01, h2⟩ := IntOp.andi_eq_one.1 h012
  obtain ⟨h00, h1⟩ := IntOp.andi_eq_one.1 h01
  haveI : Subsingleton S_.Idx := ⟨fun a b => funext fun i => i.elim0⟩
  have e0 := Host.reduce_andi_all _ _ _ _ _ h00
  have e1 := Host.reduce_andi_all _ _ _ _ _ h1
  have e2 := Host.reduce_andi_all _ _ _ _ _ h2
  have e3 := Host.reduce_andi_all _ _ _ _ _ h3
  constructor
  · intro i
    have e := e0 i
    rw [eq_ix2 i] at e ⊢
    revert e
    pointwise
    rw [ofBits_inf]
    exact PreFinite.real_of_abs_lt _
  · intro i
    have e := e1 i
    rw [eq_ix3 i] at e ⊢
    revert e
    pointwise
    rw [ofBits_inf]
    exact PreFinite.real_of_abs_lt _
  · intro i
    have e := e2 i
    rw [eq_ix3 i] at e ⊢
    revert e
    pointwise
    rw [ofBits_inf]
    exact range_of _
  · intro i
    have e := e3 i
    rw [eq_ix3 i] at e ⊢
    revert e
    pointwise
    rw [ofBits_inf]
    exact range_of _

end Cert.Proof.PreScaled

end
-- ==== Proof.Rows.lean ====
/- Tokens by batch entry and position, and the same tokens in one row of rows: row `r` is position `r % 8192` of batch
   entry `r / 8192`. The calls of the feed-forward and of the projections work on rows, their references on tokens. -/
module

public import Idealize.ShloMosaic.Lib.ValueIdx
public import Idealize.ShloMosaic.Lib.Pipeline.ValueKit

@[expose] public section

set_option maxRecDepth 16384

noncomputable section

namespace Cert.Proof.Rows

open Idealize.ShloMosaic

/-- The batch entry of a row. -/
def rb (r : Fin 16384) : Fin 2 := ⟨r.val / 8192, by omega⟩

/-- The position of a row. -/
def rs (r : Fin 16384) : Fin 8192 := ⟨r.val % 8192, by omega⟩

/-- Tokens laid out as rows: what a row reads. -/
theorem merge_at {α : Type} {n : ℕ} (x : (⟨3, ![2, 8192, n]⟩ : Shape).Idx → α)
    (h : (⟨3, ![2, 8192, n]⟩ : Shape).ShapeCasts ⟨2, ![16384, n]⟩) (r : Fin 16384) (e : Fin n) :
    shapeCast ⟨2, ![16384, n]⟩ x h (ix2 r e) = x (ix3 (rb r) (rs r) e) :=
  shapeCast_apply x h _ _ (by
    rw [Shape.rowMajor_val_three, Shape.rowMajor_val_two]
    show (r.val / 8192 * 8192 + r.val % 8192) * n + e.val = r.val * n + e.val
    rw [Nat.div_add_mod'])

/-- Two arrays of rows that agree at every row and column are equal. -/
theorem rows_ext {α : Type} {n : ℕ} (x y : (⟨2, ![16384, n]⟩ : Shape).Idx → α)
    (h : ∀ (r : Fin 16384) (e : Fin n), x (ix2 r e) = y (ix2 r e)) : x = y := by
  funext i
  rw [eq_ix2 i]
  exact h _ _

end Cert.Proof.Rows

end
-- ==== Proof.Norm.lean ====
/- A row's root-mean-square norm with gain and modulation, and the product of a normed row with a column of weights: the
   functions that the projections' kernels and references share. -/
module

public import Idealize.ShloMosaic.Lib.Pointwise
public import Idealize.ShloMosaic.Lib.Pipeline.ValueKit
public import proofs.«01_k».proof.Proof.Rows

@[expose] public section

noncomputable section

namespace Cert.Proof.Norm

open Idealize.ShloMosaic

/-- The reciprocal root of a row's mean square plus a small constant. -/
def root (x : Fin 2048 → EReal) : EReal :=
  Ideal.rsqrt (Ideal.div (∑ e : Fin 2048, x e * x e) (Ideal.ofBits .f32 0x45000000#32) + Ideal.ofBits .f32 0x358637BD#32)

/-- The normed row at a column: gain `g`, scale `sc` on top of one, shift `sh`. -/
def hval (x g sc sh : Fin 2048 → EReal) (e : Fin 2048) : EReal :=
  x e * root x * g e * (1 + sc e) + sh e

/-- A block of two axes read from its start. -/
theorem off2 : (![0, 0] : Fin 2 → ℕ) = fun _ => 0 := by funext a; fin_cases a <;> rfl

/-- A block of three axes read from its start. -/
theorem off3 : (![0, 0, 0] : Fin 3 → ℕ) = fun _ => 0 := by funext a; fin_cases a <;> rfl

/-- The place of an index of a chunk of rows in the tile. -/
theorem emb_row {n w d : ℕ} (o : ℕ) (hb : ∀ a, (![o, 0] : Fin 2 → ℕ) a + (![w, d] : Fin 2 → ℕ) a ≤ (⟨2, ![n, d]⟩ : Shape).size a)
    (y : (⟨2, ![w, d]⟩ : Shape).Idx) :
    (Rect.unit (s := (⟨2, ![n, d]⟩ : Shape)) ![o, 0] ![w, d] hb).emb y
      = ix2 (⟨o + (y 0).val, lt_of_lt_of_le (Nat.add_lt_add_left (y 0).isLt o) (hb 0)⟩ : Fin n) (⟨(y 1).val, (y 1).isLt⟩ : Fin d) := by
  funext a
  apply Fin.ext
  match a with
  | ⟨0, _⟩ => show o + 1 * (y 0).val = o + (y 0).val; omega
  | ⟨1, _⟩ => show 0 + 1 * (y 1).val = (y 1).val; omega

/-- Tokens laid out as rows in the narrow format: what a row reads. -/
theorem merge_trunc_at {n : ℕ} (x : FVec Ideal (⟨3, ![2, 8192, n]⟩ : Shape) .f32)
    (h : (⟨3, ![2, 8192, n]⟩ : Shape).ShapeCasts ⟨2, ![16384, n]⟩) (hb : FTy.bf16.bits < FTy.f32.bits) (r : Fin 16384) (e : Fin n) :
    (truncf .bf16 (shapeCast ⟨2, ![16384, n]⟩ x h : FVec Ideal (⟨2, ![16384, n]⟩ : Shape) .f32) hb : FVec Ideal (⟨2, ![16384, n]⟩ : Shape) .bf16) (ix2 r e)
      = x (ix3 (Rows.rb r) (Rows.rs r) e) :=
  Rows.merge_at x h r e

end Cert.Proof.Norm

end
-- ==== Proof.UpTile.lean ====
/- The feed-forward's first half, one tile of rows: the kernel's norm, each row's scaling to the narrow format, and the two
   products with their gate, as functions of the blocks it loads. The kernel does the first point of a tile in four quarters. -/
module

public import proofs.«01_k».proof.Defs
public import proofs.«01_k».proof.Proof.Gen.Kernel2Ideal
public import proofs.«01_k».proof.Proof.Norm
public import proofs.«01_k».proof.Proof.Gen.Kernel2Ideal.Value
public import Idealize.ShloMosaic.Lib.Pointwise
public import Idealize.ShloMosaic.Lib.Pipeline.ReadBack

@[expose] public section

set_option maxRecDepth 16384

noncomputable section

namespace Cert.Proof.UpTile

open Idealize.ShloMosaic Idealize.ShloMosaic.TcCoe Idealize.SL.Sem Cert.Kernel2Ideal Cert.Kernel2Ideal.Gen Cert.Kernel2Ideal.Value
open Cert.Proof.Norm

/-- A row's largest magnitude, no smaller than a tiny constant. -/
def amax (H : Fin 2048 → EReal) : EReal :=
  max (Finset.fold max (Ideal.ofBits .f32 0xFF800000#32) (fun e => FloatOps.absf (F := Ideal) (φ := .f32) (H e)) Finset.univ)
    (Ideal.ofBits .f32 0x0DA24260#32)

/-- A row scaled so that its largest magnitude is 448. -/
def h8val (H : Fin 2048 → EReal) (e : Fin 2048) : EReal := H e * Ideal.div (Ideal.ofBits .f32 0x43E00000#32) (amax H)

/-- What undoes the scaling: a row's largest magnitude over 448. -/
def rsval (H : Fin 2048 → EReal) : EReal := amax H * Named.named (F := Ideal) (φ := .f32) κ "inv448" 0x3B124925#32

/-- A column of a scaled product, both scales undone. -/
def prod (h : Fin 2048 → EReal) (r : EReal) (w : Fin 2048 → EReal) (s : EReal) : EReal := (∑ k, h k * w k) * r * s

/-- The gate: `a * logistic a * b`. -/
def gate (a b : EReal) : EReal := a * Ideal.logistic a * b

section Body

variable (x0 : Vec Ideal S1024x2048 .f32) (x1 : Vec Ideal S1x2048 .f32) (x2 : Vec Ideal S1x6x2048 .f32)

/-- A row of the normed tile. -/
def nRow (y : Fin 1024) (e : Fin 2048) : EReal :=
  hval (fun e => x0 (ix2 y e)) (fun e => x1 (ix2 (0 : Fin 1) e)) (fun e => x2 (ix3 (0 : Fin 1) (4 : Fin 6) e))
    (fun e => x2 (ix3 (0 : Fin 1) (3 : Fin 6) e)) e

/-- The scaled tile. -/
def h8Tile : Vec Ideal S1024x2048 .fp8e4m3 := fun i => h8val (nRow x0 x1 x2 (i 0)) (i 1)

/-- The tile's row scales. -/
def rsTile : Vec Ideal S1024x1 .f32 := fun i => rsval (nRow x0 x1 x2 (i 0))

/-- The gated products of a scaled tile with a block of each of the two weights. -/
def oTile (h : Vec Ideal S1024x2048 .fp8e4m3) (r : Vec Ideal S1024x1 .f32) (w1 w3 : Vec Ideal S1x2048x512 .fp8e4m3)
    (s1 s3 : Vec Ideal S1x1x512 .f32) : Vec Ideal S1024x512 .bf16 := fun i =>
  gate (prod (fun k => h (ix2 (i 0) k)) (r (ix2 (i 0) (0 : Fin 1))) (fun k => w1 (ix3 (0 : Fin 1) k (i 1))) (s1 (ix3 (0 : Fin 1) (0 : Fin 1) (i 1))))
    (prod (fun k => h (ix2 (i 0) k)) (r (ix2 (i 0) (0 : Fin 1))) (fun k => w3 (ix3 (0 : Fin 1) k (i 1))) (s3 (ix3 (0 : Fin 1) (0 : Fin 1) (i 1))))

/-- The gated products over a whole tile, at a later point. -/
theorem pay2_at (h : Vec Ideal S1024x2048 .fp8e4m3) (r : Vec Ideal S1024x1 .f32) (w1 w3 : Vec Ideal S1x2048x512 .fp8e4m3)
    (s1 s3 : Vec Ideal S1x1x512 .f32) : k0_pay2 h r w1 s1 w3 s3 = oTile h r w1 w3 s1 s3 := by
  funext i
  rw [eq_ix2 i]
  unfold k0_pay2 oTile gate prod
  pointwise

/-- The gated products of a quarter. -/
theorem pay9_at (h : Vec Ideal S256x2048 .fp8e4m3) (r : Vec Ideal S256x1 .f32) (w1 w3 : Vec Ideal S1x2048x512 .fp8e4m3)
    (s1 s3 : Vec Ideal S1x1x512 .f32) (y : Fin 256) (e : Fin 512) : k0_pay9 h r w1 s1 w3 s3 (ix2 y e)
      = gate (prod (fun k => h (ix2 y k)) (r (ix2 y (0 : Fin 1))) (fun k => w1 (ix3 (0 : Fin 1) k e)) (s1 (ix3 (0 : Fin 1) (0 : Fin 1) e)))
        (prod (fun k => h (ix2 y k)) (r (ix2 y (0 : Fin 1))) (fun k => w3 (ix3 (0 : Fin 1) k e)) (s3 (ix3 (0 : Fin 1) (0 : Fin 1) e))) := by
  unfold k0_pay9 gate prod
  pointwise

section Quarter

variable (a : Vec Ideal S256x2048 .f32) (g : Vec Ideal S1x2048 .f32) (u v : Vec Ideal S1x1x2048 .f32) (y : Fin 256)

/-- A quarter's normed rows. -/
theorem pay3_at (e : Fin 2048) : k0_pay3 a g u v (ix2 y e)
    = hval (fun e => a (ix2 y e)) (fun e => g (ix2 (0 : Fin 1) e)) (fun e => u (ix3 (0 : Fin 1) (0 : Fin 1) e))
        (fun e => v (ix3 (0 : Fin 1) (0 : Fin 1) e)) e := by
  unfold k0_pay3 hval root
  pointwise

/-- A quarter's largest magnitudes. -/
theorem pay4_at : k0_pay4 a g u v (ix2 y (0 : Fin 1)) = amax fun e => k0_pay3 a g u v (ix2 y e) := by
  unfold k0_pay4 amax
  generalize k0_pay3 a g u v = H
  pointwise

/-- A quarter's scaled rows. -/
theorem pay5_at (e : Fin 2048) : k0_pay5 a g u v (ix2 y e) = h8val (fun e => k0_pay3 a g u v (ix2 y e)) e := by
  unfold h8val
  rw [← pay4_at]
  unfold k0_pay5
  generalize k0_pay4 a g u v = A
  generalize k0_pay3 a g u v = H
  pointwise

/-- A quarter's row scales. -/
theorem pay6_at : k0_pay6 a g u v (ix2 y (0 : Fin 1)) = rsval fun e => k0_pay3 a g u v (ix2 y e) := by
  unfold rsval
  rw [← pay4_at]
  unfold k0_pay6
  generalize k0_pay4 a g u v = A
  pointwise

end Quarter

/-- A quarter's normed rows are the tile's. -/
theorem quarter_row (o : ℕ) (hb : ∀ a, (![o, 0] : Fin 2 → ℕ) a + (![256, 2048] : Fin 2 → ℕ) a ≤ S1024x2048.size a) (y : Fin 256)
    (ho : o + y.val < 1024) :
    (fun e => k0_pay3 (View.ld x0 (Rect.unit (s := S1024x2048) ![o, 0] ![256, 2048] hb))
      (View.ld x1 (Rect.unit (s := S1x2048) ![0, 0] ![1, 2048] inb_S1x2048_S1x2048_0_0))
      (View.ld x2 (Rect.unit (s := S1x6x2048) ![0, 4, 0] ![1, 1, 2048] inb_S1x6x2048_S1x1x2048_0_4_0))
      (View.ld x2 (Rect.unit (s := S1x6x2048) ![0, 3, 0] ![1, 1, 2048] inb_S1x6x2048_S1x1x2048_0_3_0)) (ix2 y e))
      = nRow x0 x1 x2 (⟨o + y.val, ho⟩ : Fin 1024) := by
  funext e
  rw [pay3_at]
  unfold nRow hval root
  pointwise

/-- The scaled rows as they are stored. -/
theorem pay7_at (v : Vec Ideal S256x2048 .fp8e4m3) (y : S256x2048.Idx) : k0_pay7 (F := Ideal) v y = v y := by
  rw [eq_ix2 y]
  unfold k0_pay7
  pointwise

/-- The row scales as they are stored. -/
theorem pay8_at (v : Vec Ideal S256x1 .f32) (y : S256x1.Idx) : k0_pay8 (F := Ideal) v y = v y := by
  rw [eq_ix2 y]
  unfold k0_pay8
  pointwise

/-- A quarter's scaled rows are the tile's. -/
theorem quarter_h (o : ℕ) (hb : ∀ a, (![o, 0] : Fin 2 → ℕ) a + (![256, 2048] : Fin 2 → ℕ) a ≤ S1024x2048.size a) (y : Fin 256)
    (ho : o + y.val < 1024) (e : Fin 2048) :
    k0_pay5 (View.ld x0 (Rect.unit (s := S1024x2048) ![o, 0] ![256, 2048] hb))
      (View.ld x1 (Rect.unit (s := S1x2048) ![0, 0] ![1, 2048] inb_S1x2048_S1x2048_0_0))
      (View.ld x2 (Rect.unit (s := S1x6x2048) ![0, 4, 0] ![1, 1, 2048] inb_S1x6x2048_S1x1x2048_0_4_0))
      (View.ld x2 (Rect.unit (s := S1x6x2048) ![0, 3, 0] ![1, 1, 2048] inb_S1x6x2048_S1x1x2048_0_3_0)) (ix2 y e)
      = h8val (nRow x0 x1 x2 (⟨o + y.val, ho⟩ : Fin 1024)) e :=
  (pay5_at _ _ _ _ y e).trans (congrArg (fun H => h8val H e) (quarter_row x0 x1 x2 o hb y ho))

/-- A quarter's row scales are the tile's. -/
theorem quarter_r (o : ℕ) (hb : ∀ a, (![o, 0] : Fin 2 → ℕ) a + (![256, 2048] : Fin 2 → ℕ) a ≤ S1024x2048.size a) (y : Fin 256)
    (ho : o + y.val < 1024) :
    k0_pay6 (View.ld x0 (Rect.unit (s := S1024x2048) ![o, 0] ![256, 2048] hb))
      (View.ld x1 (Rect.unit (s := S1x2048) ![0, 0] ![1, 2048] inb_S1x2048_S1x2048_0_0))
      (View.ld x2 (Rect.unit (s := S1x6x2048) ![0, 4, 0] ![1, 1, 2048] inb_S1x6x2048_S1x1x2048_0_4_0))
      (View.ld x2 (Rect.unit (s := S1x6x2048) ![0, 3, 0] ![1, 1, 2048] inb_S1x6x2048_S1x1x2048_0_3_0)) (ix2 y (0 : Fin 1))
      = rsval (nRow x0 x1 x2 (⟨o + y.val, ho⟩ : Fin 1024)) :=
  (pay6_at _ _ _ _ y).trans (congrArg rsval (quarter_row x0 x1 x2 o hb y ho))

/-- A quarter of the scaled tile. -/
theorem piece_h (o : ℕ) (hb : ∀ a, (![o, 0] : Fin 2 → ℕ) a + (![256, 2048] : Fin 2 → ℕ) a ≤ S1024x2048.size a) (y : S256x2048.Idx) :
    k0_pay7 (k0_pay5 (View.ld x0 (Rect.unit (s := S1024x2048) ![o, 0] ![256, 2048] hb))
      (View.ld x1 (Rect.unit (s := S1x2048) ![0, 0] ![1, 2048] inb_S1x2048_S1x2048_0_0))
      (View.ld x2 (Rect.unit (s := S1x6x2048) ![0, 4, 0] ![1, 1, 2048] inb_S1x6x2048_S1x1x2048_0_4_0))
      (View.ld x2 (Rect.unit (s := S1x6x2048) ![0, 3, 0] ![1, 1, 2048] inb_S1x6x2048_S1x1x2048_0_3_0))) y
      = h8Tile x0 x1 x2 ((Rect.unit (s := S1024x2048) ![o, 0] ![256, 2048] hb).emb y) := by
  rw [pay7_at, emb_row, eq_ix2 y]
  exact quarter_h x0 x1 x2 o hb (y 0) (lt_of_lt_of_le (Nat.add_lt_add_left (y 0).isLt o) (hb 0)) (y 1)

/-- A quarter of the row scales. -/
theorem piece_r (o : ℕ) (hb : ∀ a, (![o, 0] : Fin 2 → ℕ) a + (![256, 2048] : Fin 2 → ℕ) a ≤ S1024x2048.size a)
    (hr : ∀ a, (![o, 0] : Fin 2 → ℕ) a + (![256, 1] : Fin 2 → ℕ) a ≤ S1024x1.size a) (y : S256x1.Idx) :
    k0_pay8 (k0_pay6 (View.ld x0 (Rect.unit (s := S1024x2048) ![o, 0] ![256, 2048] hb))
      (View.ld x1 (Rect.unit (s := S1x2048) ![0, 0] ![1, 2048] inb_S1x2048_S1x2048_0_0))
      (View.ld x2 (Rect.unit (s := S1x6x2048) ![0, 4, 0] ![1, 1, 2048] inb_S1x6x2048_S1x1x2048_0_4_0))
      (View.ld x2 (Rect.unit (s := S1x6x2048) ![0, 3, 0] ![1, 1, 2048] inb_S1x6x2048_S1x1x2048_0_3_0))) y
      = rsTile x0 x1 x2 ((Rect.unit (s := S1024x1) ![o, 0] ![256, 1] hr).emb y) := by
  have h1 : y 1 = (0 : Fin 1) := Fin.ext (Nat.lt_one_iff.mp (y 1).isLt)
  rw [pay8_at, emb_row, eq_ix2 y, h1]
  exact quarter_r x0 x1 x2 o hb (y 0) (lt_of_lt_of_le (Nat.add_lt_add_left (y 0).isLt o) (hb 0))

/-- A quarter of the gated products. -/
theorem piece_o (w1 w3 : Vec Ideal S1x2048x512 .fp8e4m3) (s1 s3 : Vec Ideal S1x1x512 .f32) (o : ℕ)
    (hb : ∀ a, (![o, 0] : Fin 2 → ℕ) a + (![256, 2048] : Fin 2 → ℕ) a ≤ S1024x2048.size a)
    (hr : ∀ a, (![o, 0] : Fin 2 → ℕ) a + (![256, 512] : Fin 2 → ℕ) a ≤ S1024x512.size a) (y : S256x512.Idx) :
    k0_pay9 (k0_pay5 (View.ld x0 (Rect.unit (s := S1024x2048) ![o, 0] ![256, 2048] hb))
      (View.ld x1 (Rect.unit (s := S1x2048) ![0, 0] ![1, 2048] inb_S1x2048_S1x2048_0_0))
      (View.ld x2 (Rect.unit (s := S1x6x2048) ![0, 4, 0] ![1, 1, 2048] inb_S1x6x2048_S1x1x2048_0_4_0))
      (View.ld x2 (Rect.unit (s := S1x6x2048) ![0, 3, 0] ![1, 1, 2048] inb_S1x6x2048_S1x1x2048_0_3_0)))
      (k0_pay6 (View.ld x0 (Rect.unit (s := S1024x2048) ![o, 0] ![256, 2048] hb))
      (View.ld x1 (Rect.unit (s := S1x2048) ![0, 0] ![1, 2048] inb_S1x2048_S1x2048_0_0))
      (View.ld x2 (Rect.unit (s := S1x6x2048) ![0, 4, 0] ![1, 1, 2048] inb_S1x6x2048_S1x1x2048_0_4_0))
      (View.ld x2 (Rect.unit (s := S1x6x2048) ![0, 3, 0] ![1, 1, 2048] inb_S1x6x2048_S1x1x2048_0_3_0))) w1 s1 w3 s3 y
      = oTile (h8Tile x0 x1 x2) (rsTile x0 x1 x2) w1 w3 s1 s3 ((Rect.unit (s := S1024x512) ![o, 0] ![256, 512] hr).emb y) := by
  rw [emb_row, eq_ix2 y]
  refine (pay9_at _ _ w1 w3 s1 s3 (y 0) (y 1)).trans ?_
  exact congrArg₂ (fun (H : Fin 2048 → EReal) (r : EReal) =>
      gate (prod H r (fun k => w1 (ix3 (0 : Fin 1) k (y 1))) (s1 (ix3 (0 : Fin 1) (0 : Fin 1) (y 1))))
        (prod H r (fun k => w3 (ix3 (0 : Fin 1) k (y 1))) (s3 (ix3 (0 : Fin 1) (0 : Fin 1) (y 1)))))
    (funext fun k => quarter_h x0 x1 x2 o hb (y 0) (lt_of_lt_of_le (Nat.add_lt_add_left (y 0).isLt o) (hb 0)) k)
    (quarter_r x0 x1 x2 o hb (y 0) (lt_of_lt_of_le (Nat.add_lt_add_left (y 0).isLt o) (hb 0)))

/-- The four stores into the scratch of scaled rows, last first, over the loaded quarters. -/
def piecesH (a0 a1 a2 a3 : Vec Ideal S256x2048 .f32) (g : Vec Ideal S1x2048 .f32) (u v : Vec Ideal S1x1x2048 .f32) :
    List (View.Piece (Elt Ideal) S1024x2048 .fp8e4m3) :=
  [⟨Rect.unit (s := S1024x2048) ![768, 0] S256x2048.size inb_S1024x2048_S256x2048_768_0, k0_pay7 (k0_pay5 a3 g u v)⟩,
   ⟨Rect.unit (s := S1024x2048) ![512, 0] S256x2048.size inb_S1024x2048_S256x2048_512_0, k0_pay7 (k0_pay5 a2 g u v)⟩,
   ⟨Rect.unit (s := S1024x2048) ![256, 0] S256x2048.size inb_S1024x2048_S256x2048_256_0, k0_pay7 (k0_pay5 a1 g u v)⟩,
   ⟨Rect.unit (s := S1024x2048) ![0, 0] S256x2048.size inb_S1024x2048_S256x2048_0_0, k0_pay7 (k0_pay5 a0 g u v)⟩]

/-- The four stores into the scratch of row scales, last first, over the loaded quarters. -/
def piecesR (a0 a1 a2 a3 : Vec Ideal S256x2048 .f32) (g : Vec Ideal S1x2048 .f32) (u v : Vec Ideal S1x1x2048 .f32) :
    List (View.Piece (Elt Ideal) S1024x1 .f32) :=
  [⟨Rect.unit (s := S1024x1) ![768, 0] S256x1.size inb_S1024x1_S256x1_768_0, k0_pay8 (k0_pay6 a3 g u v)⟩,
   ⟨Rect.unit (s := S1024x1) ![512, 0] S256x1.size inb_S1024x1_S256x1_512_0, k0_pay8 (k0_pay6 a2 g u v)⟩,
   ⟨Rect.unit (s := S1024x1) ![256, 0] S256x1.size inb_S1024x1_S256x1_256_0, k0_pay8 (k0_pay6 a1 g u v)⟩,
   ⟨Rect.unit (s := S1024x1) ![0, 0] S256x1.size inb_S1024x1_S256x1_0_0, k0_pay8 (k0_pay6 a0 g u v)⟩]

/-- The four stores into the output block, last first, over the loaded quarters. -/
def piecesO (a0 a1 a2 a3 : Vec Ideal S256x2048 .f32) (g : Vec Ideal S1x2048 .f32) (u v : Vec Ideal S1x1x2048 .f32)
    (w1 w3 : Vec Ideal S1x2048x512 .fp8e4m3) (s1 s3 : Vec Ideal S1x1x512 .f32) : List (View.Piece (Elt Ideal) S1024x512 .bf16) :=
  [⟨Rect.unit (s := S1024x512) ![768, 0] S256x512.size inb_S1024x512_S256x512_768_0,
      k0_pay9 (k0_pay5 a3 g u v) (k0_pay6 a3 g u v) w1 s1 w3 s3⟩,
   ⟨Rect.unit (s := S1024x512) ![512, 0] S256x512.size inb_S1024x512_S256x512_512_0,
      k0_pay9 (k0_pay5 a2 g u v) (k0_pay6 a2 g u v) w1 s1 w3 s3⟩,
   ⟨Rect.unit (s := S1024x512) ![256, 0] S256x512.size inb_S1024x512_S256x512_256_0,
      k0_pay9 (k0_pay5 a1 g u v) (k0_pay6 a1 g u v) w1 s1 w3 s3⟩,
   ⟨Rect.unit (s := S1024x512) ![0, 0] S256x512.size inb_S1024x512_S256x512_0_0,
      k0_pay9 (k0_pay5 a0 g u v) (k0_pay6 a0 g u v) w1 s1 w3 s3⟩]

/-- The stores into the scratch of scaled rows hold their quarters of the tile. -/
theorem piecesH_of : View.PiecesOf (h8Tile x0 x1 x2) (piecesH
      (View.ld x0 (Rect.unit (s := S1024x2048) ![0, 0] S256x2048.size inb_S1024x2048_S256x2048_0_0))
      (View.ld x0 (Rect.unit (s := S1024x2048) ![256, 0] S256x2048.size inb_S1024x2048_S256x2048_256_0))
      (View.ld x0 (Rect.unit (s := S1024x2048) ![512, 0] S256x2048.size inb_S1024x2048_S256x2048_512_0))
      (View.ld x0 (Rect.unit (s := S1024x2048) ![768, 0] S256x2048.size inb_S1024x2048_S256x2048_768_0))
      (View.ld x1 (Rect.unit (s := S1x2048) ![0, 0] S1x2048.size inb_S1x2048_S1x2048_0_0))
      (View.ld x2 (Rect.unit (s := S1x6x2048) ![0, 4, 0] S1x1x2048.size inb_S1x6x2048_S1x1x2048_0_4_0))
      (View.ld x2 (Rect.unit (s := S1x6x2048) ![0, 3, 0] S1x1x2048.size inb_S1x6x2048_S1x1x2048_0_3_0))) := by
  refine ⟨fun (y : S256x2048.Idx) => ?_, fun (y : S256x2048.Idx) => ?_, fun (y : S256x2048.Idx) => ?_, fun (y : S256x2048.Idx) => ?_, trivial⟩
  · exact piece_h x0 x1 x2 768 inb_S1024x2048_S256x2048_768_0 y
  · exact piece_h x0 x1 x2 512 inb_S1024x2048_S256x2048_512_0 y
  · exact piece_h x0 x1 x2 256 inb_S1024x2048_S256x2048_256_0 y
  · exact piece_h x0 x1 x2 0 inb_S1024x2048_S256x2048_0_0 y

/-- The stores into the scratch of row scales hold their quarters of the tile. -/
theorem piecesR_of : View.PiecesOf (rsTile x0 x1 x2) (piecesR
      (View.ld x0 (Rect.unit (s := S1024x2048) ![0, 0] S256x2048.size inb_S1024x2048_S256x2048_0_0))
      (View.ld x0 (Rect.unit (s := S1024x2048) ![256, 0] S256x2048.size inb_S1024x2048_S256x2048_256_0))
      (View.ld x0 (Rect.unit (s := S1024x2048) ![512, 0] S256x2048.size inb_S1024x2048_S256x2048_512_0))
      (View.ld x0 (Rect.unit (s := S1024x2048) ![768, 0] S256x2048.size inb_S1024x2048_S256x2048_768_0))
      (View.ld x1 (Rect.unit (s := S1x2048) ![0, 0] S1x2048.size inb_S1x2048_S1x2048_0_0))
      (View.ld x2 (Rect.unit (s := S1x6x2048) ![0, 4, 0] S1x1x2048.size inb_S1x6x2048_S1x1x2048_0_4_0))
      (View.ld x2 (Rect.unit (s := S1x6x2048) ![0, 3, 0] S1x1x2048.size inb_S1x6x2048_S1x1x2048_0_3_0))) := by
  refine ⟨fun (y : S256x1.Idx) => ?_, fun (y : S256x1.Idx) => ?_, fun (y : S256x1.Idx) => ?_, fun (y : S256x1.Idx) => ?_, trivial⟩
  · exact piece_r x0 x1 x2 768 inb_S1024x2048_S256x2048_768_0 inb_S1024x1_S256x1_768_0 y
  · exact piece_r x0 x1 x2 512 inb_S1024x2048_S256x2048_512_0 inb_S1024x1_S256x1_512_0 y
  · exact piece_r x0 x1 x2 256 inb_S1024x2048_S256x2048_256_0 inb_S1024x1_S256x1_256_0 y
  · exact piece_r x0 x1 x2 0 inb_S1024x2048_S256x2048_0_0 inb_S1024x1_S256x1_0_0 y

/-- The stores into the output block hold their quarters of the tile. -/
theorem piecesO_of (w1 w3 : Vec Ideal S1x2048x512 .fp8e4m3) (s1 s3 : Vec Ideal S1x1x512 .f32) : View.PiecesOf (oTile (h8Tile x0 x1 x2) (rsTile x0 x1 x2) w1 w3 s1 s3) (piecesO
      (View.ld x0 (Rect.unit (s := S1024x2048) ![0, 0] S256x2048.size inb_S1024x2048_S256x2048_0_0))
      (View.ld x0 (Rect.unit (s := S1024x2048) ![256, 0] S256x2048.size inb_S1024x2048_S256x2048_256_0))
      (View.ld x0 (Rect.unit (s := S1024x2048) ![512, 0] S256x2048.size inb_S1024x2048_S256x2048_512_0))
      (View.ld x0 (Rect.unit (s := S1024x2048) ![768, 0] S256x2048.size inb_S1024x2048_S256x2048_768_0))
      (View.ld x1 (Rect.unit (s := S1x2048) ![0, 0] S1x2048.size inb_S1x2048_S1x2048_0_0))
      (View.ld x2 (Rect.unit (s := S1x6x2048) ![0, 4, 0] S1x1x2048.size inb_S1x6x2048_S1x1x2048_0_4_0))
      (View.ld x2 (Rect.unit (s := S1x6x2048) ![0, 3, 0] S1x1x2048.size inb_S1x6x2048_S1x1x2048_0_3_0)) w1 w3 s1 s3) := by
  refine ⟨fun (y : S256x512.Idx) => ?_, fun (y : S256x512.Idx) => ?_, fun (y : S256x512.Idx) => ?_, fun (y : S256x512.Idx) => ?_, trivial⟩
  · exact piece_o x0 x1 x2 w1 w3 s1 s3 768 inb_S1024x2048_S256x2048_768_0 inb_S1024x512_S256x512_768_0 y
  · exact piece_o x0 x1 x2 w1 w3 s1 s3 512 inb_S1024x2048_S256x2048_512_0 inb_S1024x512_S256x512_512_0 y
  · exact piece_o x0 x1 x2 w1 w3 s1 s3 256 inb_S1024x2048_S256x2048_256_0 inb_S1024x512_S256x512_256_0 y
  · exact piece_o x0 x1 x2 w1 w3 s1 s3 0 inb_S1024x2048_S256x2048_0_0 inb_S1024x512_S256x512_0_0 y

end Body

end Cert.Proof.UpTile

end
-- ==== Proof.UpBody.lean ====
/- The feed-forward's first half, one grid point: what the kernel's body leaves in the output block and in its two scratches. -/
module

public import proofs.«01_k».proof.Proof.UpTile

@[expose] public section

set_option maxRecDepth 16384

noncomputable section

namespace Cert.Proof.UpBody

open Idealize.ShloMosaic Idealize.ShloMosaic.TcCoe Idealize.SL.Sem Cert.Kernel2Ideal Cert.Kernel2Ideal.Gen Cert.Kernel2Ideal.Value
open Cert.Proof.Norm Cert.Proof.UpTile

variable (x0 : Vec Ideal S1024x2048 .f32) (x1 : Vec Ideal S1x2048 .f32) (x2 : Vec Ideal S1x6x2048 .f32)
  (x3 x4 : Vec Ideal S1x2048x512 .fp8e4m3) (x5 x6 : Vec Ideal S1x1x512 .f32)

/-- The first point of a tile: the scratch of scaled rows after the body. -/
theorem sout0_A_0_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x512 .fp8e4m3) (harg5 : arg5.IsWhole) (arg6 : Memref sig .tc .vmem S1x2048x512 .fp8e4m3) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1024x512 .bf16) (harg9 : arg9.IsWhole) (arg10 : Memref sig .tc .vmem S1024x2048 .fp8e4m3) (harg10 : arg10.IsWhole) (arg11 : Memref sig .tc .vmem S1024x1 .f32) (harg11 : arg11.IsWhole) (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6 = h8Tile x0 x1 x2 := by
  refine (View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)).trans ?_
  have key : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6).2.1 = piecesH
      (View.readAt (Elt Ideal) arg2.view (Rect.unit (s := S1024x2048) ![0, 0] S256x2048.size inb_S1024x2048_S256x2048_0_0).toLoadRect (harg2.unread x0))
      (View.readAt (Elt Ideal) arg2.view (Rect.unit (s := S1024x2048) ![256, 0] S256x2048.size inb_S1024x2048_S256x2048_256_0).toLoadRect (harg2.unread x0))
      (View.readAt (Elt Ideal) arg2.view (Rect.unit (s := S1024x2048) ![512, 0] S256x2048.size inb_S1024x2048_S256x2048_512_0).toLoadRect (harg2.unread x0))
      (View.readAt (Elt Ideal) arg2.view (Rect.unit (s := S1024x2048) ![768, 0] S256x2048.size inb_S1024x2048_S256x2048_768_0).toLoadRect (harg2.unread x0))
      (View.readAt (Elt Ideal) arg3.view (Rect.unit (s := S1x2048) ![0, 0] S1x2048.size inb_S1x2048_S1x2048_0_0).toLoadRect (harg3.unread x1))
      (View.readAt (Elt Ideal) arg4.view (Rect.unit (s := S1x6x2048) ![0, 4, 0] S1x1x2048.size inb_S1x6x2048_S1x1x2048_0_4_0).toLoadRect (harg4.unread x2))
      (View.readAt (Elt Ideal) arg4.view (Rect.unit (s := S1x6x2048) ![0, 3, 0] S1x1x2048.size inb_S1x6x2048_S1x1x2048_0_3_0).toLoadRect (harg4.unread x2)) := rfl
  funext y
  refine View.canon_apply_of_pieces _ _ ?_ y (scover0_A_0 c i arg2 harg2 arg3 harg3 arg4 harg4 arg5 harg5 arg6 harg6 arg7 harg7 arg8 harg8 arg9 harg9 arg10 harg10 arg11 harg11 hc0 hc1 x0 x1 x2 x3 x4 x5 x6 y)
  rw [key]
  simp only [View.readAt_eq_ld, Memref.IsWhole.read_unread]
  exact (piecesH_of x0 x1 x2).mem

/-- The first point of a tile: the scratch of row scales after the body. -/
theorem sout0_A_1_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x512 .fp8e4m3) (harg5 : arg5.IsWhole) (arg6 : Memref sig .tc .vmem S1x2048x512 .fp8e4m3) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1024x512 .bf16) (harg9 : arg9.IsWhole) (arg10 : Memref sig .tc .vmem S1024x2048 .fp8e4m3) (harg10 : arg10.IsWhole) (arg11 : Memref sig .tc .vmem S1024x1 .f32) (harg11 : arg11.IsWhole) (hc0 : cond0_0 i) (hc1 : ¬cond0_1 i) :
    sout0_A_1 c i arg2 harg2 arg3 harg3 arg4 harg4 arg5 harg5 arg6 harg6 arg7 harg7 arg8 harg8 arg9 harg9 arg10 harg10 arg11 harg11 hc0 hc1 x0 x1 x2 x3 x4 x5 x6 = rsTile x0 x1 x2 := by
  refine (View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)).trans ?_
  have key : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6).2.2.1 = piecesR
      (View.readAt (Elt Ideal) arg2.view (Rect.unit (s := S1024x2048) ![0, 0] S256x2048.size inb_S1024x2048_S256x2048_0_0).toLoadRect (harg2.unread x0))
      (View.readAt (Elt Ideal) arg2.view (Rect.unit (s := S1024x2048) ![256, 0] S256x2048.size inb_S1024x2048_S256x2048_256_0).toLoadRect (harg2.unread x0))
      (View.readAt (Elt Ideal) arg2.view (Rect.unit (s := S1024x2048) ![512, 0] S256x2048.size inb_S1024x2048_S256x2048_512_0).toLoadRect (harg2.unread x0))
      (View.readAt (Elt Ideal) arg2.view (Rect.unit (s := S1024x2048) ![768, 0] S256x2048.size inb_S1024x2048_S256x2048_768_0).toLoadRect (harg2.unread x0))
      (View.readAt (Elt Ideal) arg3.view (Rect.unit (s := S1x2048) ![0, 0] S1x2048.size inb_S1x2048_S1x2048_0_0).toLoadRect (harg3.unread x1))
      (View.readAt (Elt Ideal) arg4.view (Rect.unit (s := S1x6x2048) ![0, 4, 0] S1x1x2048.size inb_S1x6x2048_S1x1x2048_0_4_0).toLoadRect (harg4.unread x2))
      (View.readAt (Elt Ideal) arg4.view (Rect.unit (s := S1x6x2048) ![0, 3, 0] S1x1x2048.size inb_S1x6x2048_S1x1x2048_0_3_0).toLoadRect (harg4.unread x2)) := rfl
  funext y
  refine View.canon_apply_of_pieces _ _ ?_ y (scover0_A_1 c i arg2 harg2 arg3 harg3 arg4 harg4 arg5 harg5 arg6 harg6 arg7 harg7 arg8 harg8 arg9 harg9 arg10 harg10 arg11 harg11 hc0 hc1 x0 x1 x2 x3 x4 x5 x6 y)
  rw [key]
  simp only [View.readAt_eq_ld, Memref.IsWhole.read_unread]
  exact (piecesR_of x0 x1 x2).mem

/-- The first point of a tile: the output block after the body. -/
theorem out0_A_7_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x512 .fp8e4m3) (harg5 : arg5.IsWhole) (arg6 : Memref sig .tc .vmem S1x2048x512 .fp8e4m3) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1024x512 .bf16) (harg9 : arg9.IsWhole) (arg10 : Memref sig .tc .vmem S1024x2048 .fp8e4m3) (harg10 : arg10.IsWhole) (arg11 : Memref sig .tc .vmem S1024x1 .f32) (harg11 : arg11.IsWhole) (hc0 : cond0_0 i) (hc1 : ¬cond0_1 i) :
    out0_A_7 c i arg2 harg2 arg3 harg3 arg4 harg4 arg5 harg5 arg6 harg6 arg7 harg7 arg8 harg8 arg9 harg9 arg10 harg10 arg11 harg11 hc0 hc1 x0 x1 x2 x3 x4 x5 x6 = oTile (h8Tile x0 x1 x2) (rsTile x0 x1 x2) x3 x4 x5 x6 := by
  refine (View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5 x6)).trans ?_
  have key : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6).1 = piecesO
      (View.readAt (Elt Ideal) arg2.view (Rect.unit (s := S1024x2048) ![0, 0] S256x2048.size inb_S1024x2048_S256x2048_0_0).toLoadRect (harg2.unread x0))
      (View.readAt (Elt Ideal) arg2.view (Rect.unit (s := S1024x2048) ![256, 0] S256x2048.size inb_S1024x2048_S256x2048_256_0).toLoadRect (harg2.unread x0))
      (View.readAt (Elt Ideal) arg2.view (Rect.unit (s := S1024x2048) ![512, 0] S256x2048.size inb_S1024x2048_S256x2048_512_0).toLoadRect (harg2.unread x0))
      (View.readAt (Elt Ideal) arg2.view (Rect.unit (s := S1024x2048) ![768, 0] S256x2048.size inb_S1024x2048_S256x2048_768_0).toLoadRect (harg2.unread x0))
      (View.readAt (Elt Ideal) arg3.view (Rect.unit (s := S1x2048) ![0, 0] S1x2048.size inb_S1x2048_S1x2048_0_0).toLoadRect (harg3.unread x1))
      (View.readAt (Elt Ideal) arg4.view (Rect.unit (s := S1x6x2048) ![0, 4, 0] S1x1x2048.size inb_S1x6x2048_S1x1x2048_0_4_0).toLoadRect (harg4.unread x2))
      (View.readAt (Elt Ideal) arg4.view (Rect.unit (s := S1x6x2048) ![0, 3, 0] S1x1x2048.size inb_S1x6x2048_S1x1x2048_0_3_0).toLoadRect (harg4.unread x2))
      (View.readAt (Elt Ideal) arg5.view (Rect.unit (s := S1x2048x512) ![0, 0, 0] S1x2048x512.size inb_S1x2048x512_S1x2048x512_0_0_0).toLoadRect (harg5.unread x3))
      (View.readAt (Elt Ideal) arg6.view (Rect.unit (s := S1x2048x512) ![0, 0, 0] S1x2048x512.size inb_S1x2048x512_S1x2048x512_0_0_0).toLoadRect (harg6.unread x4))
      (View.readAt (Elt Ideal) arg7.view (Rect.unit (s := S1x1x512) ![0, 0, 0] S1x1x512.size inb_S1x1x512_S1x1x512_0_0_0).toLoadRect (harg7.unread x5))
      (View.readAt (Elt Ideal) arg8.view (Rect.unit (s := S1x1x512) ![0, 0, 0] S1x1x512.size inb_S1x1x512_S1x1x512_0_0_0).toLoadRect (harg8.unread x6)) := rfl
  funext y
  refine View.canon_apply_of_pieces _ _ ?_ y (cover0_A_7 c i arg2 harg2 arg3 harg3 arg4 harg4 arg5 harg5 arg6 harg6 arg7 harg7 arg8 harg8 arg9 harg9 arg10 harg10 arg11 harg11 hc0 hc1 x0 x1 x2 x3 x4 x5 x6 y)
  rw [key]
  simp only [View.readAt_eq_ld, Memref.IsWhole.read_unread]
  rw [View.ld_unit_zero (S := S1x2048x512) off3 _ x3, View.ld_unit_zero (S := S1x2048x512) off3 _ x4, View.ld_unit_zero (S := S1x1x512) off3 _ x5,
    View.ld_unit_zero (S := S1x1x512) off3 _ x6]
  exact (piecesO_of x0 x1 x2 x3 x4 x5 x6).mem

/-- A later point of a tile: the output block after the body. -/
theorem out0_B_7_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x512 .fp8e4m3) (harg5 : arg5.IsWhole) (arg6 : Memref sig .tc .vmem S1x2048x512 .fp8e4m3) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1024x512 .bf16) (harg9 : arg9.IsWhole) (arg10 : Memref sig .tc .vmem S1024x2048 .fp8e4m3) (harg10 : arg10.IsWhole) (arg11 : Memref sig .tc .vmem S1024x1 .f32) (harg11 : arg11.IsWhole) (hc0 : ¬cond0_0 i) (hc1 : cond0_1 i) (h : Vec Ideal S1024x2048 .fp8e4m3) (r : Vec Ideal S1024x1 .f32) :
    out0_B_7 c i arg2 harg2 arg3 harg3 arg4 harg4 arg5 harg5 arg6 harg6 arg7 harg7 arg8 harg8 arg9 harg9 arg10 harg10 arg11 harg11 hc0 hc1 x0 x1 x2 x3 x4 x5 x6 h r = oTile h r x3 x4 x5 x6 := by
  refine (View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 x5 x6 h r)).trans ?_
  have key : (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 x6 h r).1
      = [⟨Rect.unit (s := S1024x512) ![0, 0] S1024x512.size inb_S1024x512_S1024x512_0_0,
          k0_pay2 (View.readAt (Elt Ideal) arg10.view (Rect.unit (s := S1024x2048) ![0, 0] S1024x2048.size inb_S1024x2048_S1024x2048_0_0).toLoadRect (harg10.unread h))
            (View.readAt (Elt Ideal) arg11.view (Rect.unit (s := S1024x1) ![0, 0] S1024x1.size inb_S1024x1_S1024x1_0_0).toLoadRect (harg11.unread r))
            (View.readAt (Elt Ideal) arg5.view (Rect.unit (s := S1x2048x512) ![0, 0, 0] S1x2048x512.size inb_S1x2048x512_S1x2048x512_0_0_0).toLoadRect (harg5.unread x3))
            (View.readAt (Elt Ideal) arg7.view (Rect.unit (s := S1x1x512) ![0, 0, 0] S1x1x512.size inb_S1x1x512_S1x1x512_0_0_0).toLoadRect (harg7.unread x5))
            (View.readAt (Elt Ideal) arg6.view (Rect.unit (s := S1x2048x512) ![0, 0, 0] S1x2048x512.size inb_S1x2048x512_S1x2048x512_0_0_0).toLoadRect (harg6.unread x4))
            (View.readAt (Elt Ideal) arg8.view (Rect.unit (s := S1x1x512) ![0, 0, 0] S1x1x512.size inb_S1x1x512_S1x1x512_0_0_0).toLoadRect (harg8.unread x6))⟩] := rfl
  rw [key, View.canon_unit_zero (by funext a; fin_cases a <;> rfl)]
  simp only [View.readAt_eq_ld, Memref.IsWhole.read_unread]
  rw [View.ld_unit_zero (S := S1024x2048) off2 _ h, View.ld_unit_zero (S := S1024x1) off2 _ r, View.ld_unit_zero (S := S1x2048x512) off3 _ x3,
    View.ld_unit_zero (S := S1x2048x512) off3 _ x4, View.ld_unit_zero (S := S1x1x512) off3 _ x5, View.ld_unit_zero (S := S1x1x512) off3 _ x6, pay2_at]

end Cert.Proof.UpBody

end
-- ==== Proof.UpReal.lean ====
/- The feed-forward's first half over the extended reals: a normed row is real whatever the row, its largest magnitude is a
   positive real number, and scaling a row to the narrow format and back leaves its products as they were. -/
module

public import proofs.«01_k».proof.Proof.UpTile
public import proofs.«01_k».proof.Proof.Consts

@[expose] public section

noncomputable section

namespace Cert.Proof.UpReal

open Idealize.ShloMosaic Cert.Kernel2Ideal Cert.Proof.Norm Cert.Proof.UpTile Cert.Proof.Consts

/-- The `f32` pattern of the tiny constant. -/
theorem ofBits_tiny : Ideal.ofBits .f32 0x0DA24260#32 = ((10633824 / 2 ^ 123 : ℝ) : EReal) := by
  simp [Ideal.ofBits, Ideal.ieee, -EReal.coe_mul]; norm_num

/-- The `f32` pattern of 448. -/
theorem ofBits_448 : Ideal.ofBits .f32 0x43E00000#32 = ((448 : ℝ) : EReal) := by
  simp [Ideal.ofBits, Ideal.ieee, -EReal.coe_mul]; norm_num

/-- The `f32` pattern of 2048. -/
theorem ofBits_2048 : Ideal.ofBits .f32 0x45000000#32 = ((2048 : ℝ) : EReal) := by
  simp [Ideal.ofBits, Ideal.ieee, -EReal.coe_mul]; norm_num

/-- The `f32` pattern of the norm's small constant. -/
theorem ofBits_eps : Ideal.ofBits .f32 0x358637BD#32 = ((8796093 / 2 ^ 43 : ℝ) : EReal) := by
  simp [Ideal.ofBits, Ideal.ieee, -EReal.coe_mul]; norm_num

/-- A nonnegative real factor distributes over any sum. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A square of an extended real is nonnegative. -/
theorem sq_nonneg (x : EReal) : 0 ≤ x * x := by
  rcases le_total 0 x with h | h
  · exact EReal.mul_nonneg h h
  · have := EReal.mul_nonneg (EReal.neg_nonneg.2 h) (EReal.neg_nonneg.2 h)
    rwa [neg_mul_neg] at this

/-- An extended real whose square is not infinite is real. -/
theorem real_of_sq (x : EReal) (h : x * x ≠ ⊤) : x = (x.toReal : EReal) := by
  refine (EReal.coe_toReal ?_ ?_).symm
  · rintro rfl
    exact h (by simp)
  · rintro rfl
    exact h (by simp)

/-- An entry of a row times the row's reciprocal root mean square is real. -/
theorem root_real (x : Fin 2048 → EReal) (e : Fin 2048) : ∃ r : ℝ, x e * root x = r := by
  have h0 : ∀ k, 0 ≤ x k * x k := fun k => sq_nonneg _
  by_cases hS : ∑ k, x k * x k = ⊤
  · refine ⟨0, ?_⟩
    have hd : Ideal.div (⊤ : EReal) ((2048 : ℝ) : EReal) = ⊤ := by
      rw [Ideal.div, if_neg (by exact_mod_cast (by norm_num : (2048 : ℝ) ≠ 0)), ← EReal.coe_inv]
      exact EReal.top_mul_coe_of_pos (by norm_num)
    rw [root, hS, ofBits_2048, ofBits_eps, hd, EReal.top_add_coe]
    show x e * 0 = _
    simp
  · have hx : ∀ k, x k = ((x k).toReal : EReal) := fun k => real_of_sq _ fun hk => hS (by
      refine top_le_iff.1 (hk ▸ ?_)
      exact Finset.single_le_sum (f := fun k => x k * x k) (fun k _ => h0 k) (Finset.mem_univ k))
    have hsum : ∑ k, x k * x k = ((∑ k, (x k).toReal * (x k).toReal : ℝ) : EReal) := by
      rw [← coe_sum]
      exact Finset.sum_congr rfl fun k _ => by rw [EReal.coe_mul, ← hx k]
    have hn : 0 ≤ ∑ k, (x k).toReal * (x k).toReal := Finset.sum_nonneg fun k _ => mul_self_nonneg _
    have hpos : 0 < (∑ k, (x k).toReal * (x k).toReal) * (2048 : ℝ)⁻¹ + 8796093 / 2 ^ 43 := by positivity
    refine ⟨(x e).toReal * (Real.sqrt ((∑ k, (x k).toReal * (x k).toReal) * (2048 : ℝ)⁻¹ + 8796093 / 2 ^ 43))⁻¹, ?_⟩
    rw [root, hsum, ofBits_2048, ofBits_eps, Ideal.div, if_neg (by exact_mod_cast (by norm_num : (2048 : ℝ) ≠ 0)), ← EReal.coe_inv,
      ← EReal.coe_mul, ← EReal.coe_add, EReal.coe_mul, ← hx e]
    congr 1
    show (if _ then (⊥ : EReal) else if _ then ⊤ else _) = _
    rw [if_neg (not_lt.2 hpos.le), if_neg hpos.ne']

/-- A normed row with real gain, scale and shift is real. -/
theorem hval_real (x g sc sh : Fin 2048 → EReal) (hg : ∀ e, g e = ((g e).toReal : EReal)) (hsc : ∀ e, sc e = ((sc e).toReal : EReal))
    (hsh : ∀ e, sh e = ((sh e).toReal : EReal)) : ∃ H : Fin 2048 → ℝ, hval x g sc sh = fun e => (H e : EReal) := by
  choose r hr using root_real x
  refine ⟨fun e => r e * (g e).toReal * (1 + (sc e).toReal) + (sh e).toReal, funext fun e => ?_⟩
  rw [hval, hr e, hg e, hsc e, hsh e]
  simp only [EReal.toReal_coe]
  push_cast
  rfl

/-- A real row's largest magnitude is a positive real number. -/
theorem amax_real (H : Fin 2048 → ℝ) : ∃ A : ℝ, 0 < A ∧ amax (fun e => (H e : EReal)) = A := by
  have hlt : amax (fun e => (H e : EReal)) < ⊤ := by
    rw [amax, ofBits_neg_inf, ofBits_tiny]
    refine max_lt ((Finset.fold_max_lt _).2 ⟨bot_lt_top, fun e _ => ?_⟩) (EReal.coe_lt_top _)
    show max (H e : EReal) (-(H e : EReal)) < ⊤
    rw [coe_abs]
    exact EReal.coe_lt_top _
  have hpos : (0 : EReal) < amax (fun e => (H e : EReal)) := by
    rw [amax, ofBits_tiny]
    exact lt_max_of_lt_right (by exact_mod_cast (by positivity : (0 : ℝ) < 10633824 / 2 ^ 123))
  have hb : amax (fun e => (H e : EReal)) ≠ ⊥ := fun h => by rw [h] at hpos; simp at hpos
  refine ⟨(amax fun e => (H e : EReal)).toReal, EReal.toReal_pos hpos hlt.ne, (EReal.coe_toReal hlt.ne hb).symm⟩

/-- What undoes the scaling, as a product of real numbers. -/
theorem rsval_real (H : Fin 2048 → EReal) : rsval H = amax H * ((448⁻¹ : ℝ) : EReal) := by
  have hn : Named.named (F := Ideal) (φ := .f32) κ "inv448" 0x3B124925#32 = ((448⁻¹ : ℝ) : EReal) := rfl
  rw [rsval, hn]

/-- A row scaled by `a` and unscaled by `b`, its inverse, has the products with scaled weights that the row has. -/
theorem scale_back (H : Fin 2048 → ℝ) (w : Fin 2048 → EReal) (a b s : ℝ) (hb : 0 ≤ b) (hs : 0 ≤ s) (hab : a * b = 1) :
    prod (fun k => (H k : EReal) * (a : EReal)) (b : EReal) w (s : EReal) = ∑ k, (H k : EReal) * (w k * (s : EReal)) := by
  have hone : (a : EReal) * (b : EReal) = 1 := by rw [← EReal.coe_mul, hab, EReal.coe_one]
  rw [prod, mul_assoc, ← EReal.coe_mul, sum_mul_real _ _ _ (mul_nonneg hb hs)]
  refine Finset.sum_congr rfl fun k _ => ?_
  rw [EReal.coe_mul]
  calc (H k : EReal) * (a : EReal) * w k * ((b : EReal) * (s : EReal))
      = (a : EReal) * (b : EReal) * ((H k : EReal) * (w k * (s : EReal))) := by ac_rfl
    _ = _ := by rw [hone, one_mul]

/-- The two factors of a row's scaling undo each other. -/
theorem factors (A c : ℝ) (hA : 0 < A) (hc : 0 < c) : c * A⁻¹ * (A * c⁻¹) = 1 := by
  field_simp

/-- Scaling a real row to the narrow format and undoing it leaves its products with scaled weights as they were. -/
theorem prod_real (H : Fin 2048 → ℝ) (w : Fin 2048 → EReal) (s : EReal) (hs0 : 0 ≤ s) (hs : s < ⊤) :
    prod (h8val fun e => (H e : EReal)) (rsval fun e => (H e : EReal)) w s = ∑ k, (H k : EReal) * (w k * s) := by
  obtain ⟨A, hA, eA⟩ := amax_real H
  have es : s = (s.toReal : EReal) := (EReal.coe_toReal hs.ne (fun h => by rw [h] at hs0; simp at hs0)).symm
  have h448 : (0 : ℝ) < 448 := by norm_num
  have hdiv : Ideal.div ((448 : ℝ) : EReal) (A : EReal) = ((448 * A⁻¹ : ℝ) : EReal) := by
    rw [Ideal.div, if_neg (by exact_mod_cast hA.ne'), ← EReal.coe_inv, ← EReal.coe_mul]
  have h8 : (h8val fun e => (H e : EReal)) = fun k => (H k : EReal) * ((448 * A⁻¹ : ℝ) : EReal) :=
    funext fun k => by rw [h8val, eA, ofBits_448, hdiv]
  rw [h8, rsval_real, eA, es, ← EReal.coe_mul]
  exact scale_back H w _ _ _ (mul_nonneg hA.le (inv_nonneg.2 h448.le)) (EReal.toReal_nonneg hs0) (factors A 448 hA h448)

end Cert.Proof.UpReal

end
-- ==== Proof.UpVal.lean ====
/- The feed-forward's first half, as what both programs compute at a row and a column: the gated product of the normed token with
   the two weights, each weight times its column's scale. -/
module

public import proofs.«01_k».proof.Proof.UpTile
public import proofs.«01_k».proof.Proof.Rows

@[expose] public section

noncomputable section

namespace Cert.Proof.UpVal

open Idealize.ShloMosaic Cert.Kernel2Ideal Cert.Proof.Rows Cert.Proof.Norm Cert.Proof.UpTile

/-- The normed and modulated token of a row. -/
def hRow (X : FVec Ideal S2x8192x2048 .f32) (G : FVec Ideal S2x2048 .f32) (M : FVec Ideal S2x6x2048 .f32) (r : Fin 16384) : Fin 2048 → EReal :=
  hval (fun e => X (ix3 (rb r) (rs r) e)) (fun e => G (ix2 (0 : Fin 2) e)) (fun e => M (ix3 (rb r) (4 : Fin 6) e))
    (fun e => M (ix3 (rb r) (3 : Fin 6) e))

/-- The result of a row and a column. -/
def val (X : FVec Ideal S2x8192x2048 .f32) (G : FVec Ideal S2x2048 .f32) (M : FVec Ideal S2x6x2048 .f32)
    (W1 W3 : FVec Ideal S2x2048x5632 .fp8e4m3) (S1 S3 : FVec Ideal S2x1x5632 .f32) (r : Fin 16384) (e : Fin 5632) : EReal :=
  gate (∑ k : Fin 2048, hRow X G M r k * (W1 (ix3 (0 : Fin 2) k e) * S1 (ix3 (0 : Fin 2) (0 : Fin 1) e)))
    (∑ k : Fin 2048, hRow X G M r k * (W3 (ix3 (0 : Fin 2) k e) * S3 (ix3 (0 : Fin 2) (0 : Fin 1) e)))

end Cert.Proof.UpVal

end
-- ==== Proof.UpRef.lean ====
/- The feed-forward's first half in the reference: the norm on the host, then one call that dequantises the two weights, multiplies
   them with every token and gates the products. -/
module

public import proofs.«01_k».proof.Defs
public import proofs.«01_k».proof.Proof.Gen.Reference2Ideal
public import proofs.«01_k».proof.Proof.Gen.Reference2Ideal.Value
public import proofs.«01_k».proof.Proof.UpVal
public import Idealize.ShloMosaic.Lib.Pointwise
public import Idealize.ShloMosaic.Lib.Pipeline.ReadBack
public import Idealize.ShloMosaic.Lib.Claim

@[expose] public section

set_option maxRecDepth 16384

noncomputable section

namespace Cert.Proof.UpRef

open Idealize.ShloMosaic Idealize.ShloMosaic.TcCoe Idealize.SL.Sem Cert.Reference2Ideal Cert.Reference2Ideal.Gen Cert.Reference2Ideal.Value
open Cert.Proof.Rows Cert.Proof.Norm Cert.Proof.UpTile Cert.Proof.UpVal

/-- The gated products over all rows. -/
theorem pay1_at (h : Vec Ideal S16384x2048 .f32) (w1 w3 : Vec Ideal S2048x5632 .fp8e4m3) (s1 s3 : Vec Ideal S1x5632 .f32)
    (r : Fin 16384) (e : Fin 5632) : k0_pay1 h w1 s1 h w3 s3 (ix2 r e)
      = gate (∑ k : Fin 2048, h (ix2 r k) * (w1 (ix2 k e) * s1 (ix2 (0 : Fin 1) e))) (∑ k : Fin 2048, h (ix2 r k) * (w3 (ix2 k e) * s3 (ix2 (0 : Fin 1) e))) := by
  unfold k0_pay1 gate
  pointwise

/-- The gated products, over what the operands hold. -/
theorem pay1_of (h : Vec Ideal S16384x2048 .f32) (w1 w3 : Vec Ideal S2048x5632 .fp8e4m3) (s1 s3 : Vec Ideal S1x5632 .f32)
    (r : Fin 16384) (e : Fin 5632) (H V1 V3 : Fin 2048 → EReal) (A1 A3 : EReal) (hh : ∀ k, h (ix2 r k) = H k) (h1 : ∀ k, w1 (ix2 k e) = V1 k)
    (h3 : ∀ k, w3 (ix2 k e) = V3 k) (a1 : s1 (ix2 (0 : Fin 1) e) = A1) (a3 : s3 (ix2 (0 : Fin 1) e) = A3) :
    k0_pay1 h w1 s1 h w3 s3 (ix2 r e) = gate (∑ k, H k * (V1 k * A1)) (∑ k, H k * (V3 k * A3)) := by
  obtain rfl : (fun k => h (ix2 r k)) = H := funext hh
  obtain rfl : (fun k => w1 (ix2 k e)) = V1 := funext h1
  obtain rfl : (fun k => w3 (ix2 k e)) = V3 := funext h3
  subst a1 a3
  exact pay1_at h w1 w3 s1 s3 r e

/-- The reference's normed and modulated tokens. -/
def hostH (X : FVec Ideal S2x8192x2048 .f32) (G : FVec Ideal S2x2048 .f32) (M : FVec Ideal S2x6x2048 .f32) : FVec Ideal S2x8192x2048 .f32 :=
  addf (mulf (mulf (mulf X (broadcastInDim S2x8192x2048 ![0, 1, 2] bcast_S2x8192x1_S2x8192x2048_0_1_2
        (Host.rsqrt (addf (Host.divf (broadcastInDim S2x8192x1 ![0, 1] bcast_S2x8192_S2x8192x1_0_1
            (Host.reduceAdd (mulf X X) (constant S_ .f32 0x00000000#32) reducesTo_S2x8192x2048_S2x8192_d2 h_S_))
            (broadcastInDim S2x8192x1 ![] bcast_S_S2x8192x1 (constant S_ .f32 0x45000000#32)))
          (broadcastInDim S2x8192x1 ![] bcast_S_S2x8192x1 (constant S_ .f32 0x358637BD#32))))))
        (broadcastInDim S2x8192x2048 ![0, 1, 2] bcast_S1x1x2048_S2x8192x2048_0_1_2
          (broadcastInDim S1x1x2048 ![2] bcast_S2048_S1x1x2048_2
            (shapeCast S2048 (extractStridedSlice S1x2048 ![0, 0] G slices_S2x2048_S1x2048_0_0) shapeCasts_S1x2048_S2048))))
        (broadcastInDim S2x8192x2048 ![0, 1, 2] bcast_S2x1x2048_S2x8192x2048_0_1_2
          (addf (broadcastInDim S2x1x2048 ![] bcast_S_S2x1x2048 (constant S_ .f32 0x3F800000#32))
            (extractStridedSlice S2x1x2048 ![0, 4, 0] M slices_S2x6x2048_S2x1x2048_0_4_0))))
        (broadcastInDim S2x8192x2048 ![0, 1, 2] bcast_S2x1x2048_S2x8192x2048_0_1_2
          (extractStridedSlice S2x1x2048 ![0, 3, 0] M slices_S2x6x2048_S2x1x2048_0_3_0))

/-- The reference's norm of a token. -/
theorem norm_at (X : FVec Ideal S2x8192x2048 .f32) (G : FVec Ideal S2x2048 .f32) (M : FVec Ideal S2x6x2048 .f32) (r : Fin 16384) (k : Fin 2048) :
    hostH X G M (ix3 (rb r) (rs r) k) = hRow X G M r k := by
  unfold hostH hRow hval root
  pointwise

/-- The first layer of an array of weights. -/
theorem layer_at (W : FVec Ideal S2x2048x5632 .fp8e4m3) (k : Fin 2048) (e : Fin 5632) :
    (shapeCast S2048x5632 (extractStridedSlice S1x2048x5632 ![0, 0, 0] W slices_S2x2048x5632_S1x2048x5632_0_0_0) shapeCasts_S1x2048x5632_S2048x5632
      : FVec Ideal S2048x5632 .fp8e4m3) (ix2 k e) = W (ix3 (0 : Fin 2) k e) := by
  pointwise

/-- The first layer of an array of scales. -/
theorem scale_at (S : FVec Ideal S2x1x5632 .f32) (e : Fin 5632) :
    (shapeCast S1x5632 (extractStridedSlice S1x1x5632 ![0, 0, 0] S slices_S2x1x5632_S1x1x5632_0_0_0) shapeCasts_S1x1x5632_S1x5632
      : FVec Ideal S1x5632 .f32) (ix2 (0 : Fin 1) e) = S (ix3 (0 : Fin 2) (0 : Fin 1) e) := by
  pointwise

variable (m : (ℓ : Loc nD τ sig) → Buf (Elt Ideal) ℓ) (c : Dev nD)

/-- The residual stream. -/
abbrev X : FVec Ideal S2x8192x2048 .f32 := m ((c : Thread nD τ).loc main_arg0)
/-- The norms' gains. -/
abbrev G : FVec Ideal S2x2048 .f32 := m ((c : Thread nD τ).loc main_arg1)
/-- The modulation's six rows. -/
abbrev M : FVec Ideal S2x6x2048 .f32 := m ((c : Thread nD τ).loc main_arg2)
/-- The first weights. -/
abbrev W1 : FVec Ideal S2x2048x5632 .fp8e4m3 := m ((c : Thread nD τ).loc main_arg3)
/-- The second weights. -/
abbrev W3 : FVec Ideal S2x2048x5632 .fp8e4m3 := m ((c : Thread nD τ).loc main_arg4)
/-- The first weights' scales. -/
abbrev S1 : FVec Ideal S2x1x5632 .f32 := m ((c : Thread nD τ).loc main_arg5)
/-- The second weights' scales. -/
abbrev S3 : FVec Ideal S2x1x5632 .f32 := m ((c : Thread nD τ).loc main_arg6)

/-- The call reads its first operand from the start. -/
theorem idx0 : ∀ t : Fin grid0.N, win0_0.index t (0 : Fin 2) = 0 ∧ win0_0.index t (1 : Fin 2) = 0 := by decide +kernel
/-- The call reads its second operand from the start. -/
theorem idx1 : ∀ t : Fin grid0.N, win0_1.index t (0 : Fin 2) = 0 ∧ win0_1.index t (1 : Fin 2) = 0 := by decide +kernel
/-- The call reads its third operand from the start. -/
theorem idx2 : ∀ t : Fin grid0.N, win0_2.index t (0 : Fin 2) = 0 ∧ win0_2.index t (1 : Fin 2) = 0 := by decide +kernel
/-- The call reads its fourth operand from the start. -/
theorem idx3 : ∀ t : Fin grid0.N, win0_3.index t (0 : Fin 2) = 0 ∧ win0_3.index t (1 : Fin 2) = 0 := by decide +kernel
/-- The call reads its fifth operand from the start. -/
theorem idx4 : ∀ t : Fin grid0.N, win0_4.index t (0 : Fin 2) = 0 ∧ win0_4.index t (1 : Fin 2) = 0 := by decide +kernel
/-- The call writes its result from the start. -/
theorem idx5 : ∀ t : Fin grid0.N, win0_5.index t (0 : Fin 2) = 0 ∧ win0_5.index t (1 : Fin 2) = 0 := by decide +kernel

/-- The tokens that the call reads. -/
theorem blk0 (t : Fin cfg0.N) (r : Fin 16384) (k : Fin 2048) : (iblk m c 0 t : Vec Ideal S16384x2048 .f32) (ix2 r k)
    = hRow (X m c) (G m c) (M m c) r k := by
  obtain ⟨e0, e1⟩ := idx0 t
  have hi : ((cfg0.win 0).blk t).view.emb (ix2 r k) = (ix2 r k : S16384x2048.Idx) := by
    funext a
    apply Fin.ext
    fin_cases a
    all_goals blk_simp [e0, e1, Nat.zero_mul, Nat.zero_add]
  show V m c main_v23 (((cfg0.win 0).blk t).view.emb (ix2 r k)) = _
  rw [hi]
  have hV : V m c main_v23 = shapeCast S16384x2048 (hostH (X m c) (G m c) (M m c)) shapeCasts_S2x8192x2048_S16384x2048 := by
    unfold hostH; entry_read; rfl
  rw [hV]
  exact (merge_at (hostH (X m c) (G m c) (M m c)) shapeCasts_S2x8192x2048_S16384x2048 r k).trans (norm_at (X m c) (G m c) (M m c) r k)

/-- The first weights that the call reads. -/
theorem blk1 (t : Fin cfg0.N) (k : Fin 2048) (e : Fin 5632) : (iblk m c 1 t : Vec Ideal S2048x5632 .fp8e4m3) (ix2 k e)
    = W1 m c (ix3 (0 : Fin 2) k e) := by
  obtain ⟨e0, e1⟩ := idx1 t
  have hi : ((cfg0.win 1).blk t).view.emb (ix2 k e) = (ix2 k e : S2048x5632.Idx) := by
    funext a
    apply Fin.ext
    fin_cases a
    all_goals blk_simp [e0, e1, Nat.zero_mul, Nat.zero_add]
  have hV : V m c main_v25 = shapeCast S2048x5632 (extractStridedSlice S1x2048x5632 ![0, 0, 0] (W1 m c) slices_S2x2048x5632_S1x2048x5632_0_0_0)
      shapeCasts_S1x2048x5632_S2048x5632 := by entry_read; rfl
  show V m c main_v25 (((cfg0.win 1).blk t).view.emb (ix2 k e)) = _
  rw [hi, hV]
  exact layer_at (W1 m c) k e

/-- The second weights that the call reads. -/
theorem blk3 (t : Fin cfg0.N) (k : Fin 2048) (e : Fin 5632) : (iblk m c 3 t : Vec Ideal S2048x5632 .fp8e4m3) (ix2 k e)
    = W3 m c (ix3 (0 : Fin 2) k e) := by
  obtain ⟨e0, e1⟩ := idx3 t
  have hi : ((cfg0.win 3).blk t).view.emb (ix2 k e) = (ix2 k e : S2048x5632.Idx) := by
    funext a
    apply Fin.ext
    fin_cases a
    all_goals blk_simp [e0, e1, Nat.zero_mul, Nat.zero_add]
  have hV : V m c main_v29 = shapeCast S2048x5632 (extractStridedSlice S1x2048x5632 ![0, 0, 0] (W3 m c) slices_S2x2048x5632_S1x2048x5632_0_0_0)
      shapeCasts_S1x2048x5632_S2048x5632 := by entry_read; rfl
  show V m c main_v29 (((cfg0.win 3).blk t).view.emb (ix2 k e)) = _
  rw [hi, hV]
  exact layer_at (W3 m c) k e

/-- The first weights' scales that the call reads. -/
theorem blk2 (t : Fin cfg0.N) (e : Fin 5632) : (iblk m c 2 t : Vec Ideal S1x5632 .f32) (ix2 (0 : Fin 1) e)
    = S1 m c (ix3 (0 : Fin 2) (0 : Fin 1) e) := by
  obtain ⟨e0, e1⟩ := idx2 t
  have hi : ((cfg0.win 2).blk t).view.emb (ix2 (0 : Fin 1) e) = (ix2 (0 : Fin 1) e : S1x5632.Idx) := by
    funext a
    apply Fin.ext
    fin_cases a
    all_goals blk_simp [e0, e1, Nat.zero_mul, Nat.zero_add]
  have hV : V m c main_v27 = shapeCast S1x5632 (extractStridedSlice S1x1x5632 ![0, 0, 0] (S1 m c) slices_S2x1x5632_S1x1x5632_0_0_0)
      shapeCasts_S1x1x5632_S1x5632 := by entry_read; rfl
  show V m c main_v27 (((cfg0.win 2).blk t).view.emb (ix2 (0 : Fin 1) e)) = _
  rw [hi, hV]
  exact scale_at (S1 m c) e

/-- The second weights' scales that the call reads. -/
theorem blk4 (t : Fin cfg0.N) (e : Fin 5632) : (iblk m c 4 t : Vec Ideal S1x5632 .f32) (ix2 (0 : Fin 1) e)
    = S3 m c (ix3 (0 : Fin 2) (0 : Fin 1) e) := by
  obtain ⟨e0, e1⟩ := idx4 t
  have hi : ((cfg0.win 4).blk t).view.emb (ix2 (0 : Fin 1) e) = (ix2 (0 : Fin 1) e : S1x5632.Idx) := by
    funext a
    apply Fin.ext
    fin_cases a
    all_goals blk_simp [e0, e1, Nat.zero_mul, Nat.zero_add]
  have hV : V m c main_v31 = shapeCast S1x5632 (extractStridedSlice S1x1x5632 ![0, 0, 0] (S3 m c) slices_S2x1x5632_S1x1x5632_0_0_0)
      shapeCasts_S1x1x5632_S1x5632 := by entry_read; rfl
  show V m c main_v31 (((cfg0.win 4).blk t).view.emb (ix2 (0 : Fin 1) e)) = _
  rw [hi, hV]
  exact scale_at (S3 m c) e

/-- What the call computes. -/
theorem out_at (t : Fin cfg0.N) (r : Fin 16384) (e : Fin 5632) :
    out0_5 (iblk m c 0 t) (iblk m c 1 t) (iblk m c 2 t) (iblk m c 3 t) (iblk m c 4 t) (ix2 r e)
      = val (X m c) (G m c) (M m c) (W1 m c) (W3 m c) (S1 m c) (S3 m c) r e := by
  unfold out0_5
  rw [View.canon_unit_zero off2, View.ld_unit_zero (S := S16384x2048) off2 _ (iblk m c 0 t), View.ld_unit_zero (S := S2048x5632) off2 _ (iblk m c 1 t),
    View.ld_unit_zero (S := S1x5632) off2 _ (iblk m c 2 t), View.ld_unit_zero (S := S2048x5632) off2 _ (iblk m c 3 t),
    View.ld_unit_zero (S := S1x5632) off2 _ (iblk m c 4 t)]
  exact pay1_of (iblk m c 0 t) (iblk m c 1 t) (iblk m c 3 t) (iblk m c 2 t) (iblk m c 4 t) r e (hRow (X m c) (G m c) (M m c) r)
    (fun k => W1 m c (ix3 (0 : Fin 2) k e)) (fun k => W3 m c (ix3 (0 : Fin 2) k e)) (S1 m c (ix3 (0 : Fin 2) (0 : Fin 1) e))
    (S3 m c (ix3 (0 : Fin 2) (0 : Fin 1) e)) (fun k => blk0 m c t r k) (fun k => blk1 m c t k e) (fun k => blk3 m c t k e)
    (blk2 m c t e) (blk4 m c t e)

set_option maxRecDepth 65536 in
/-- The result, row by row, as its only point leaves it. -/
theorem final_of (t : Fin cfg0.N) (r : Fin 16384) (e : Fin 5632) : ((dats m 0 c).arrAt 5 cfg0.N : FVec Ideal S16384x5632 .bf16) (ix2 r e)
    = val (X m c) (G m c) (M m c) (W1 m c) (W3 m c) (S1 m c) (S3 m c) r e := by
  obtain ⟨e0, e1⟩ := idx5 t
  have hemb : ((cfg0.win 5).blk t).view.emb (ix2 r e) = (ix2 r e : S16384x5632.Idx) := by
    funext a
    apply Fin.ext
    fin_cases a
    all_goals blk_simp [e0, e1, Nat.zero_mul, Nat.zero_add]
  have h := congrFun (blocks5 m c t (flush0_5 t)) (ix2 r e)
  rw [flushed5] at h
  have h' : ((dats m 0 c).arrAt 5 cfg0.N) (((cfg0.win 5).blk t).view.emb (ix2 r e))
      = out0_5 (iblk m c 0 t) (iblk m c 1 t) (iblk m c 2 t) (iblk m c 3 t) (iblk m c 4 t) (ix2 r e) := h
  rw [hemb, out_at] at h'
  exact h'

/-- The result, row by row. -/
theorem final_at (r : Fin 16384) (e : Fin 5632) : ((dats m 0 c).arrAt 5 cfg0.N : FVec Ideal S16384x5632 .bf16) (ix2 r e)
    = val (X m c) (G m c) (M m c) (W1 m c) (W3 m c) (S1 m c) (S3 m c) r e :=
  final_of m c t0_0 r e

end Cert.Proof.UpRef

end
-- ==== Proof.Up.lean ====
/- The feed-forward's first half: `silu(h @ w1) * (h @ w3)` of the normed tokens `h`. The kernel scales a tile of normed rows to the
   narrow format at the first of the tile's eleven points, keeps the scaled rows and their scales in two scratches, and at every
   point multiplies them with a block of the two weights' columns. -/
module

public import proofs.«01_k».proof.Proof.Rows
public import proofs.«01_k».proof.Proof.UpBody
public import proofs.«01_k».proof.Proof.UpReal
public import proofs.«01_k».proof.Proof.PreScaled
public import proofs.«01_k».proof.Proof.UpRef
public import Idealize.ShloMosaic.Lib.Claim

@[expose] public section

set_option maxRecDepth 16384

noncomputable section

namespace Cert.Proof.Up

open Idealize.ShloMosaic Idealize.ShloMosaic.TcCoe Idealize.SL.Sem Cert.Kernel2Ideal Cert.Kernel2Ideal.Gen Cert.Kernel2Ideal.Value
open Cert.Proof.Rows Cert.Proof.Norm Cert.Proof.UpTile Cert.Proof.UpBody Cert.Proof.UpVal

variable (m : (ℓ : Loc nD τ sig) → Buf (Elt Ideal) ℓ) (c : Dev nD)

/-- The residual stream. -/
abbrev X : FVec Ideal S2x8192x2048 .f32 := m ((c : Thread nD τ).loc main_arg0)
/-- The norms' gains. -/
abbrev G : FVec Ideal S2x2048 .f32 := m ((c : Thread nD τ).loc main_arg1)
/-- The modulation's six rows. -/
abbrev M : FVec Ideal S2x6x2048 .f32 := m ((c : Thread nD τ).loc main_arg2)
/-- The first weights. -/
abbrev W1 : FVec Ideal S2x2048x5632 .fp8e4m3 := m ((c : Thread nD τ).loc main_arg3)
/-- The second weights. -/
abbrev W3 : FVec Ideal S2x2048x5632 .fp8e4m3 := m ((c : Thread nD τ).loc main_arg4)
/-- The first weights' scales. -/
abbrev S1 : FVec Ideal S2x1x5632 .f32 := m ((c : Thread nD τ).loc main_arg5)
/-- The second weights' scales. -/
abbrev S3 : FVec Ideal S2x1x5632 .f32 := m ((c : Thread nD τ).loc main_arg6)

/-- The kernel's result of a row and a column, before the scaling is undone. -/
def kval (X : FVec Ideal S2x8192x2048 .f32) (G : FVec Ideal S2x2048 .f32) (M : FVec Ideal S2x6x2048 .f32)
    (W1 W3 : FVec Ideal S2x2048x5632 .fp8e4m3) (S1 S3 : FVec Ideal S2x1x5632 .f32) (r : Fin 16384) (e : Fin 5632) : EReal :=
  gate (prod (h8val (hRow X G M r)) (rsval (hRow X G M r)) (fun k => W1 (ix3 (0 : Fin 2) k e)) (S1 (ix3 (0 : Fin 2) (0 : Fin 1) e)))
    (prod (h8val (hRow X G M r)) (rsval (hRow X G M r)) (fun k => W3 (ix3 (0 : Fin 2) k e)) (S3 (ix3 (0 : Fin 2) (0 : Fin 1) e)))

/-- With real gains and modulation and nonnegative finite scales, the kernel's result is the plain one. -/
theorem kval_eq {G : FVec Ideal S2x2048 .f32} {M : FVec Ideal S2x6x2048 .f32} {S1 S3 : FVec Ideal S2x1x5632 .f32}
    (H : PreScaled.Scaled G M S1 S3) (X : FVec Ideal S2x8192x2048 .f32) (W1 W3 : FVec Ideal S2x2048x5632 .fp8e4m3)
    (r : Fin 16384) (e : Fin 5632) : kval X G M W1 W3 S1 S3 r e = val X G M W1 W3 S1 S3 r e := by
  obtain ⟨R, hR⟩ := UpReal.hval_real (fun e => X (ix3 (rb r) (rs r) e)) (fun e => G (ix2 (0 : Fin 2) e))
    (fun e => M (ix3 (rb r) (4 : Fin 6) e)) (fun e => M (ix3 (rb r) (3 : Fin 6) e)) (fun e => H.gain _) (fun e => H.mod _) (fun e => H.mod _)
  have hh : hRow X G M r = fun e => (R e : EReal) := hR
  unfold kval val
  rw [hh, UpReal.prod_real R _ _ (H.one _).1 (H.one _).2, UpReal.prod_real R _ _ (H.three _).1 (H.three _).2]

/-- Block indices of the residual stream. -/
theorem idx0 : ∀ t : Fin grid0.N, win0_0.index t (0 : Fin 2) = t.val / 11 ∧ win0_0.index t (1 : Fin 2) = 0 := by decide +kernel
/-- Block indices of the gain. -/
theorem idx1 : ∀ t : Fin grid0.N, win0_1.index t (0 : Fin 2) = 0 ∧ win0_1.index t (1 : Fin 2) = 0 := by decide +kernel
/-- Block indices of the modulation. -/
theorem idx2 : ∀ t : Fin grid0.N, win0_2.index t (0 : Fin 3) = t.val / 88 ∧ win0_2.index t (1 : Fin 3) = 0 ∧ win0_2.index t (2 : Fin 3) = 0 := by
  decide +kernel
/-- Block indices of the first weights. -/
theorem idx3 : ∀ t : Fin grid0.N, win0_3.index t (0 : Fin 3) = 0 ∧ win0_3.index t (1 : Fin 3) = 0 ∧ win0_3.index t (2 : Fin 3) = t.val % 11 := by
  decide +kernel
/-- Block indices of the second weights. -/
theorem idx4 : ∀ t : Fin grid0.N, win0_4.index t (0 : Fin 3) = 0 ∧ win0_4.index t (1 : Fin 3) = 0 ∧ win0_4.index t (2 : Fin 3) = t.val % 11 := by
  decide +kernel
/-- Block indices of the first weights' scales. -/
theorem idx5 : ∀ t : Fin grid0.N, win0_5.index t (0 : Fin 3) = 0 ∧ win0_5.index t (1 : Fin 3) = 0 ∧ win0_5.index t (2 : Fin 3) = t.val % 11 := by
  decide +kernel
/-- Block indices of the second weights' scales. -/
theorem idx6 : ∀ t : Fin grid0.N, win0_6.index t (0 : Fin 3) = 0 ∧ win0_6.index t (1 : Fin 3) = 0 ∧ win0_6.index t (2 : Fin 3) = t.val % 11 := by
  decide +kernel

/-- A row of a point's tile. -/
def row (t : Fin cfg0.N) (y : Fin 1024) : Fin 16384 := ⟨1024 * (t.val / 11) + y.val, by
  have := lt_of_lt_of_eq t.isLt (show cfg0.N = 176 from N_0); omega⟩

/-- A column of a point's block of weights. -/
def col (t : Fin cfg0.N) (e : Fin 512) : Fin 5632 := ⟨512 * (t.val % 11) + e.val, by omega⟩

/-- The residual stream that a point reads. -/
theorem blk0 (t : Fin cfg0.N) (y : Fin 1024) (e : Fin 2048) : (iblk m c 0 t : Vec Ideal S1024x2048 .f32) (ix2 y e)
    = X m c (ix3 (rb (row t y)) (rs (row t y)) e) := by
  obtain ⟨e0, e1⟩ := idx0 t
  have hV : V m c main_v0 = shapeCast S16384x2048 (X m c) shapeCasts_S2x8192x2048_S16384x2048 := by entry_read; rfl
  show V m c main_v0 (((cfg0.win 0).blk t).view.emb (ix2 y e)) = _
  rw [hV, ← merge_at (X m c) shapeCasts_S2x8192x2048_S16384x2048]
  congr 1
  funext a
  apply Fin.ext
  fin_cases a
  all_goals blk_simp [e0, e1]
  · show t.val / 11 * 1024 + y.val = 1024 * (t.val / 11) + y.val
    omega
  · rfl

/-- The gain that a point reads. -/
theorem blk1 (t : Fin cfg0.N) (e : Fin 2048) : (iblk m c 1 t : Vec Ideal S1x2048 .f32) (ix2 (0 : Fin 1) e) = G m c (ix2 (0 : Fin 2) e) := by
  obtain ⟨e0, e1⟩ := idx1 t
  have hV : V m c main_v3 = shapeCast S1x2048 (shapeCast S2048 (extractStridedSlice S1x2048 ![0, 0] (G m c) slices_S2x2048_S1x2048_0_0)
      shapeCasts_S1x2048_S2048) shapeCasts_S2048_S1x2048 := by entry_read; rfl
  have hi : ((cfg0.win 1).blk t).view.emb (ix2 (0 : Fin 1) e) = (ix2 (0 : Fin 1) e : S1x2048.Idx) := by
    funext a
    apply Fin.ext
    fin_cases a
    all_goals blk_simp [e0, e1]
    all_goals rfl
  show V m c main_v3 (((cfg0.win 1).blk t).view.emb (ix2 (0 : Fin 1) e)) = _
  rw [hi, hV]
  unfold S1x2048
  pointwise

/-- The modulation that a point reads. -/
theorem blk2 (t : Fin cfg0.N) (y : Fin 1024) (j : Fin 6) (e : Fin 2048) : (iblk m c 2 t : Vec Ideal S1x6x2048 .f32) (ix3 (0 : Fin 1) j e)
    = M m c (ix3 (rb (row t y)) j e) := by
  obtain ⟨e0, e1, e2⟩ := idx2 t
  show V m c main_arg2 (((cfg0.win 2).blk t).view.emb (ix3 (0 : Fin 1) j e)) = _
  rw [V_main_arg2]
  show M m c _ = _
  congr 1
  funext a
  apply Fin.ext
  fin_cases a
  all_goals blk_simp [e0, e1, e2]
  · show t.val / 88 = (1024 * (t.val / 11) + y.val) / 8192
    omega
  all_goals rfl

/-- The first weights that a point reads. -/
theorem blk3 (t : Fin cfg0.N) (k : Fin 2048) (e : Fin 512) : (iblk m c 3 t : Vec Ideal S1x2048x512 .fp8e4m3) (ix3 (0 : Fin 1) k e)
    = W1 m c (ix3 (0 : Fin 2) k (col t e)) := by
  obtain ⟨e0, e1, e2⟩ := idx3 t
  show V m c main_arg3 (((cfg0.win 3).blk t).view.emb (ix3 (0 : Fin 1) k e)) = _
  rw [V_main_arg3]
  show W1 m c _ = _
  congr 1
  funext a
  apply Fin.ext
  fin_cases a
  all_goals blk_simp [e0, e1, e2]
  · rfl
  · rfl
  · show t.val % 11 * 512 + e.val = 512 * (t.val % 11) + e.val
    omega

/-- The second weights that a point reads. -/
theorem blk4 (t : Fin cfg0.N) (k : Fin 2048) (e : Fin 512) : (iblk m c 4 t : Vec Ideal S1x2048x512 .fp8e4m3) (ix3 (0 : Fin 1) k e)
    = W3 m c (ix3 (0 : Fin 2) k (col t e)) := by
  obtain ⟨e0, e1, e2⟩ := idx4 t
  show V m c main_arg4 (((cfg0.win 4).blk t).view.emb (ix3 (0 : Fin 1) k e)) = _
  rw [V_main_arg4]
  show W3 m c _ = _
  congr 1
  funext a
  apply Fin.ext
  fin_cases a
  all_goals blk_simp [e0, e1, e2]
  · rfl
  · rfl
  · show t.val % 11 * 512 + e.val = 512 * (t.val % 11) + e.val
    omega

/-- The first weights' scales that a point reads. -/
theorem blk5 (t : Fin cfg0.N) (e : Fin 512) : (iblk m c 5 t : Vec Ideal S1x1x512 .f32) (ix3 (0 : Fin 1) (0 : Fin 1) e)
    = S1 m c (ix3 (0 : Fin 2) (0 : Fin 1) (col t e)) := by
  obtain ⟨e0, e1, e2⟩ := idx5 t
  show V m c main_arg5 (((cfg0.win 5).blk t).view.emb (ix3 (0 : Fin 1) (0 : Fin 1) e)) = _
  rw [V_main_arg5]
  show S1 m c _ = _
  congr 1
  funext a
  apply Fin.ext
  fin_cases a
  all_goals blk_simp [e0, e1, e2]
  · rfl
  · show t.val % 11 * 512 + e.val = 512 * (t.val % 11) + e.val
    omega

/-- The second weights' scales that a point reads. -/
theorem blk6 (t : Fin cfg0.N) (e : Fin 512) : (iblk m c 6 t : Vec Ideal S1x1x512 .f32) (ix3 (0 : Fin 1) (0 : Fin 1) e)
    = S3 m c (ix3 (0 : Fin 2) (0 : Fin 1) (col t e)) := by
  obtain ⟨e0, e1, e2⟩ := idx6 t
  show V m c main_arg6 (((cfg0.win 6).blk t).view.emb (ix3 (0 : Fin 1) (0 : Fin 1) e)) = _
  rw [V_main_arg6]
  show S3 m c _ = _
  congr 1
  funext a
  apply Fin.ext
  fin_cases a
  all_goals blk_simp [e0, e1, e2]
  · rfl
  · show t.val % 11 * 512 + e.val = 512 * (t.val % 11) + e.val
    omega

/-- The normed rows of a point are its rows' normed tokens. -/
theorem nRow_at (t : Fin cfg0.N) (y : Fin 1024) :
    nRow (iblk m c 0 t) (iblk m c 1 t) (iblk m c 2 t) y = hRow (X m c) (G m c) (M m c) (row t y) := by
  funext e
  have h0 : (fun e => (iblk m c 0 t : Vec Ideal S1024x2048 .f32) (ix2 y e)) = fun e => X m c (ix3 (rb (row t y)) (rs (row t y)) e) :=
    funext fun e => blk0 m c t y e
  have h1 : (fun e => (iblk m c 1 t : Vec Ideal S1x2048 .f32) (ix2 (0 : Fin 1) e)) = fun e => G m c (ix2 (0 : Fin 2) e) :=
    funext fun e => blk1 m c t e
  have h2 : ∀ j : Fin 6, (fun e => (iblk m c 2 t : Vec Ideal S1x6x2048 .f32) (ix3 (0 : Fin 1) j e)) = fun e => M m c (ix3 (rb (row t y)) j e) :=
    fun j => funext fun e => blk2 m c t y j e
  unfold nRow hRow
  rw [h0, h1, h2, h2]

/-- The scaled tile of a point: its rows' scaled tokens. -/
def hPt (t : Fin cfg0.N) : Vec Ideal S1024x2048 .fp8e4m3 := fun i => h8val (hRow (X m c) (G m c) (M m c) (row t (i 0))) (i 1)

/-- The row scales of a point. -/
def rPt (t : Fin cfg0.N) : Vec Ideal S1024x1 .f32 := fun i => rsval (hRow (X m c) (G m c) (M m c) (row t (i 0)))

/-- What a first point scales. -/
theorem h8Tile_at (t : Fin cfg0.N) : h8Tile (iblk m c 0 t) (iblk m c 1 t) (iblk m c 2 t) = hPt m c t :=
  funext fun i => congrArg (fun H => h8val H (i 1)) (nRow_at m c t (i 0))

/-- The scales a first point keeps. -/
theorem rsTile_at (t : Fin cfg0.N) : rsTile (iblk m c 0 t) (iblk m c 1 t) (iblk m c 2 t) = rPt m c t :=
  funext fun i => congrArg rsval (nRow_at m c t (i 0))

/-- Two points of one tile have the same rows. -/
theorem row_congr (s t : Fin cfg0.N) (h : s.val / 11 = t.val / 11) : row s = row t :=
  funext fun y => Fin.ext (by show 1024 * (s.val / 11) + y.val = 1024 * (t.val / 11) + y.val; rw [h])

/-- Two points of one tile scale the same rows. -/
theorem hPt_congr (s t : Fin cfg0.N) (h : s.val / 11 = t.val / 11) : hPt m c s = hPt m c t := by
  unfold hPt
  rw [row_congr s t h]

/-- Two points of one tile have the same row scales. -/
theorem rPt_congr (s t : Fin cfg0.N) (h : s.val / 11 = t.val / 11) : rPt m c s = rPt m c t := by
  unfold rPt
  rw [row_congr s t h]

/-- After every point the output block holds the gated products of the tile's scaled rows, and the scratches hold these and their scales. -/
theorem after (n : ℕ) (hn : n < cfg0.N) :
    outsAt0 m c n hn = (oTile (hPt m c ⟨n, hn⟩) (rPt m c ⟨n, hn⟩) (iblk m c 3 ⟨n, hn⟩) (iblk m c 4 ⟨n, hn⟩) (iblk m c 5 ⟨n, hn⟩) (iblk m c 6 ⟨n, hn⟩),
      hPt m c ⟨n, hn⟩, rPt m c ⟨n, hn⟩) := by
  induction n with
  | zero =>
    rw [outsAt0_A m c ⟨0, hn⟩ (Nat.zero_mod _) (by show ¬1 ≤ 0 % 11; omega), out0_A_7_at, sout0_A_0_at, sout0_A_1_at, h8Tile_at, rsTile_at]
  | succ n ih =>
    by_cases h0 : (n + 1) % 11 = 0
    · rw [outsAt0_A m c ⟨n + 1, hn⟩ h0 (by show ¬1 ≤ (n + 1) % 11; omega), out0_A_7_at, sout0_A_0_at, sout0_A_1_at, h8Tile_at, rsTile_at]
    · have hc := hPt_congr m c ⟨n, Nat.lt_of_succ_lt hn⟩ ⟨n + 1, hn⟩ (by show n / 11 = (n + 1) / 11; omega)
      have hd := rPt_congr m c ⟨n, Nat.lt_of_succ_lt hn⟩ ⟨n + 1, hn⟩ (by show n / 11 = (n + 1) / 11; omega)
      rw [outsAt0_B m c ⟨n + 1, hn⟩ h0 (by show 1 ≤ (n + 1) % 11; omega), out0_B_7_at]
      unfold sout0_B_0 sout0_B_1
      show (oTile (outsAt0 m c n (Nat.lt_of_succ_lt hn)).2.1 (outsAt0 m c n (Nat.lt_of_succ_lt hn)).2.2 _ _ _ _,
        (outsAt0 m c n (Nat.lt_of_succ_lt hn)).2.1, (outsAt0 m c n (Nat.lt_of_succ_lt hn)).2.2) = _
      rw [ih, hc, hd]

/-- The gated products of a point, over what its blocks hold. -/
theorem oTile_of (h : Vec Ideal S1024x2048 .fp8e4m3) (r : Vec Ideal S1024x1 .f32) (w1 w3 : Vec Ideal S1x2048x512 .fp8e4m3)
    (s1 s3 : Vec Ideal S1x1x512 .f32) (y : Fin 1024) (e : Fin 512) (H : Fin 2048 → EReal) (R : EReal) (V1 V3 : Fin 2048 → EReal) (A1 A3 : EReal)
    (hh : ∀ k, h (ix2 y k) = H k) (hr : r (ix2 y (0 : Fin 1)) = R) (h1 : ∀ k, w1 (ix3 (0 : Fin 1) k e) = V1 k)
    (h3 : ∀ k, w3 (ix3 (0 : Fin 1) k e) = V3 k) (a1 : s1 (ix3 (0 : Fin 1) (0 : Fin 1) e) = A1) (a3 : s3 (ix3 (0 : Fin 1) (0 : Fin 1) e) = A3) :
    oTile h r w1 w3 s1 s3 (ix2 y e) = gate (prod H R V1 A1) (prod H R V3 A3) := by
  obtain rfl : (fun k => h (ix2 y k)) = H := funext hh
  obtain rfl : (fun k => w1 (ix3 (0 : Fin 1) k e)) = V1 := funext h1
  obtain rfl : (fun k => w3 (ix3 (0 : Fin 1) k e)) = V3 := funext h3
  subst hr a1 a3
  rfl

/-- The result, row by row. -/
theorem G7_at (r : Fin 16384) (e : Fin 5632) :
    (G7 m c : FVec Ideal S16384x5632 .bf16) (ix2 r e) = kval (X m c) (G m c) (M m c) (W1 m c) (W3 m c) (S1 m c) (S3 m c) r e := by
  have hN : cfg0.N = 176 := N_0
  have hp : pt7Of (ix2 r e) = 11 * (r.val / 1024) + e.val / 512 := by
    show 11 * (r.val / 1024 - 0) + 1 * (e.val / 512 - 0) = _
    omega
  have hlt : 11 * (r.val / 1024) + e.val / 512 < cfg0.N := by rw [hN]; omega
  have hl : loc7Of (ix2 r e) = ix2 (⟨r.val % 1024, Nat.mod_lt _ (by omega)⟩ : Fin 1024) (⟨e.val % 512, Nat.mod_lt _ (by omega)⟩ : Fin 512) := by
    funext a
    apply Fin.ext
    fin_cases a <;> rfl
  unfold G7
  rw [dif_pos (by rw [hp]; exact hlt), ← outsAt0_sweep m c _ (by rw [hp]; exact hlt), hl]
  have hg : ∀ (p : ℕ) (hp' : p < cfg0.N), p = 11 * (r.val / 1024) + e.val / 512 →
      (outsAt0 m c p hp').1 (ix2 (⟨r.val % 1024, Nat.mod_lt _ (by omega)⟩ : Fin 1024) (⟨e.val % 512, Nat.mod_lt _ (by omega)⟩ : Fin 512))
        = kval (X m c) (G m c) (M m c) (W1 m c) (W3 m c) (S1 m c) (S3 m c) r e := by
    intro p hp' hpe
    rw [after m c p hp']
    have hr : row ⟨p, hp'⟩ (⟨r.val % 1024, Nat.mod_lt _ (by omega)⟩ : Fin 1024) = r :=
      Fin.ext (by show 1024 * (p / 11) + r.val % 1024 = r.val; omega)
    have he : col ⟨p, hp'⟩ (⟨e.val % 512, Nat.mod_lt _ (by omega)⟩ : Fin 512) = e :=
      Fin.ext (by show 512 * (p % 11) + e.val % 512 = e.val; omega)
    refine oTile_of _ _ _ _ _ _ _ _ _ _ _ _ _ _ (fun k => ?_) ?_ (fun k => (blk3 m c ⟨p, hp'⟩ k _).trans (by rw [he]))
      (fun k => (blk4 m c ⟨p, hp'⟩ k _).trans (by rw [he])) ((blk5 m c ⟨p, hp'⟩ _).trans (by rw [he])) ((blk6 m c ⟨p, hp'⟩ _).trans (by rw [he]))
    · exact congrArg (fun r => h8val (hRow (X m c) (G m c) (M m c) r) k) hr
    · exact congrArg (fun r => rsval (hRow (X m c) (G m c) (M m c) r)) hr
  exact hg _ _ hp

/-- The value claim: where the precondition holds, both programs end with `val` at every row and column. -/
theorem algebraic : Cert.algebraic_Kernel2Ideal_Reference2Ideal_pre_scaled (hKernel2Ideal := Cert.Kernel2Ideal.Gen.facts)
    (hReference2Ideal := Cert.Reference2Ideal.Gen.facts) (hPre_scaled := PreScaled.facts) := by
  intro m g m' g' hpre hagree
  refine ⟨fun c => G7 m c, run (F := Ideal) m g, ?_⟩
  refine (θ_run _ _ _).mono (fun _ h c => ⟨(h c).1.trans ?_, (h c).2⟩) (Cert.Reference2Ideal.Value.run_blocks (F := Ideal) m' g')
  haveI := PreScaled.facts
  have H : PreScaled.Scaled (G m c) (M m c) (S1 m c) (S3 m c) := PreScaled.scaled (hpre c)
  obtain ⟨h0, h1, h2, h3, h4, h5, h6⟩ := hagree c
  refine rows_ext _ _ fun r e => (UpRef.final_at m' c r e).trans ?_
  refine Eq.trans ?_ ((G7_at m c r e).trans (kval_eq H _ _ _ r e)).symm
  have k0 : UpRef.X m' c = X m c := h0
  have k1 : UpRef.G m' c = G m c := h1
  have k2 : UpRef.M m' c = M m c := h2
  have k3 : UpRef.W1 m' c = W1 m c := h3
  have k4 : UpRef.W3 m' c = W3 m c := h4
  have k5 : UpRef.S1 m' c = S1 m c := h5
  have k6 : UpRef.S3 m' c = S3 m c := h6
  rw [k0, k1, k2, k3, k4, k5, k6]

end Cert.Proof.Up

end
-- ==== Proof.InProj.lean ====
/- The norm and the mixers' input projection: `(rmsnorm(x) * g * (1 + sc) + sh) @ w`. The kernel norms a tile of rows at the first
   of its three points, keeps it in a scratch, and multiplies it with a third of the weights' columns at every point. -/
module

public import proofs.«01_k».proof.Defs
public import proofs.«01_k».proof.Proof.Gen.Kernel3Ideal
public import proofs.«01_k».proof.Proof.Gen.Reference3Ideal
public import proofs.«01_k».proof.Proof.Rows
public import proofs.«01_k».proof.Proof.Norm
public import proofs.«01_k».proof.Proof.Gen.Kernel3Ideal.Value
public import proofs.«01_k».proof.Proof.Gen.Reference3Ideal.Run
public import Idealize.ShloMosaic.Lib.Pointwise
public import Idealize.ShloMosaic.Lib.Pipeline.ReadBack
public import Idealize.ShloMosaic.Lib.Claim

@[expose] public section

set_option maxRecDepth 16384

noncomputable section

namespace Cert.Proof.InProj

open Idealize.ShloMosaic Idealize.ShloMosaic.TcCoe Idealize.SL.Sem Cert.Kernel3Ideal Cert.Kernel3Ideal.Gen Cert.Kernel3Ideal.Value
open Cert.Proof.Rows Cert.Proof.Norm

section Body

variable (x0 : Vec Ideal S1024x2048 .f32) (x1 : Vec Ideal S1x2048 .f32) (x2 : Vec Ideal S1x6x2048 .f32) (x3 : Vec Ideal S1x2048x2048 .bf16)

/-- The normed tile. -/
def hTile (x0 : Vec Ideal S1024x2048 .f32) (x1 : Vec Ideal S1x2048 .f32) (x2 : Vec Ideal S1x6x2048 .f32) : Vec Ideal S1024x2048 .bf16 := fun i =>
  hval (fun e => x0 (ix2 (i 0) e)) (fun e => x1 (ix2 (0 : Fin 1) e)) (fun e => x2 (ix3 (0 : Fin 1) (1 : Fin 6) e))
    (fun e => x2 (ix3 (0 : Fin 1) (0 : Fin 6) e)) (i 1)

/-- The product of a tile with a block of weights. -/
def oTile (h : Vec Ideal S1024x2048 .bf16) (w : Vec Ideal S1x2048x2048 .bf16) : Vec Ideal S1024x2048 .bf16 := fun i =>
  ∑ k : Fin 2048, (h (ix2 (i 0) k) : EReal) * w (ix3 (0 : Fin 1) k (i 1))

/-- The product of a tile with a block of weights, over what the two hold. -/
theorem oTile_of (h : Vec Ideal S1024x2048 .bf16) (w : Vec Ideal S1x2048x2048 .bf16) (y : Fin 1024) (e : Fin 2048) (H V : Fin 2048 → EReal)
    (hh : ∀ k, h (ix2 y k) = H k) (hw : ∀ k, w (ix3 (0 : Fin 1) k e) = V k) : oTile h w (ix2 y e) = ∑ k : Fin 2048, H k * V k :=
  Finset.sum_congr rfl fun k _ => congrArg₂ (· * ·) (hh k) (hw k)

/-- The product over a whole tile. -/
theorem pay4_at (h : Vec Ideal S1024x2048 .bf16) : k0_pay4 h x3 = oTile h x3 := by
  funext i
  rw [eq_ix2 i]
  unfold k0_pay4 oTile
  pointwise

/-- The second quarter's norm is the last quarter's. -/
theorem pay9_eq (a : Vec Ideal S256x2048 .f32) (g : Vec Ideal S1x2048 .f32) (u v : Vec Ideal S1x1x2048 .f32) :
    k0_pay9 a g u v = k0_pay2 a g u v := rfl
/-- The third quarter's norm is the last quarter's. -/
theorem pay12_eq (a : Vec Ideal S256x2048 .f32) (g : Vec Ideal S1x2048 .f32) (u v : Vec Ideal S1x1x2048 .f32) :
    k0_pay12 a g u v = k0_pay2 a g u v := rfl
/-- The first quarter's norm is the last quarter's. -/
theorem pay6_eq (a : Vec Ideal S256x2048 .f32) (g : Vec Ideal S1x2048 .f32) (u v : Vec Ideal S1x1x2048 .f32) :
    k0_pay6 a g u v = k0_pay2 a g u v := rfl
/-- The second quarter's product is the last quarter's. -/
theorem pay10_eq (a : Vec Ideal S256x2048 .f32) (g : Vec Ideal S1x2048 .f32) (u v : Vec Ideal S1x1x2048 .f32) :
    k0_pay10 a g u v x3 = k0_pay3 a g u v x3 := rfl
/-- The third quarter's product is the last quarter's. -/
theorem pay13_eq (a : Vec Ideal S256x2048 .f32) (g : Vec Ideal S1x2048 .f32) (u v : Vec Ideal S1x1x2048 .f32) :
    k0_pay13 a g u v x3 = k0_pay3 a g u v x3 := rfl
/-- The first quarter's product is the last quarter's. -/
theorem pay7_eq (a : Vec Ideal S256x2048 .f32) (g : Vec Ideal S1x2048 .f32) (u v : Vec Ideal S1x1x2048 .f32) :
    k0_pay7 a g u v x3 = k0_pay3 a g u v x3 := rfl

/-- A quarter of the tile, normed. -/
theorem piece_h (o : ℕ) (hb : ∀ a, (![o, 0] : Fin 2 → ℕ) a + (![256, 2048] : Fin 2 → ℕ) a ≤ S1024x2048.size a) (y : S256x2048.Idx) :
    k0_pay2 (View.ld x0 (Rect.unit (s := S1024x2048) ![o, 0] ![256, 2048] hb))
      (View.ld x1 (Rect.unit (s := S1x2048) ![0, 0] ![1, 2048] inb_S1x2048_S1x2048_0_0))
      (View.ld x2 (Rect.unit (s := S1x6x2048) ![0, 1, 0] ![1, 1, 2048] inb_S1x6x2048_S1x1x2048_0_1_0))
      (View.ld x2 (Rect.unit (s := S1x6x2048) ![0, 0, 0] ![1, 1, 2048] inb_S1x6x2048_S1x1x2048_0_0_0)) y
      = hTile x0 x1 x2 ((Rect.unit (s := S1024x2048) ![o, 0] ![256, 2048] hb).emb y) := by
  rw [emb_row, eq_ix2 y]
  unfold k0_pay2 k0_pay1 hTile hval root
  pointwise

/-- A quarter of the first product. -/
theorem piece_o (o : ℕ) (hb : ∀ a, (![o, 0] : Fin 2 → ℕ) a + (![256, 2048] : Fin 2 → ℕ) a ≤ S1024x2048.size a) (y : S256x2048.Idx) :
    k0_pay3 (View.ld x0 (Rect.unit (s := S1024x2048) ![o, 0] ![256, 2048] hb))
      (View.ld x1 (Rect.unit (s := S1x2048) ![0, 0] ![1, 2048] inb_S1x2048_S1x2048_0_0))
      (View.ld x2 (Rect.unit (s := S1x6x2048) ![0, 1, 0] ![1, 1, 2048] inb_S1x6x2048_S1x1x2048_0_1_0))
      (View.ld x2 (Rect.unit (s := S1x6x2048) ![0, 0, 0] ![1, 1, 2048] inb_S1x6x2048_S1x1x2048_0_0_0)) x3 y
      = oTile (hTile x0 x1 x2) x3 ((Rect.unit (s := S1024x2048) ![o, 0] ![256, 2048] hb).emb y) := by
  rw [emb_row, eq_ix2 y]
  unfold k0_pay3 k0_pay1 oTile hTile hval root
  pointwise

/-- The four stores into the scratch at the first point of a tile, last first. -/
def piecesH (x0 : Vec Ideal S1024x2048 .f32) (x1 : Vec Ideal S1x2048 .f32) (x2 : Vec Ideal S1x6x2048 .f32) : List (View.Piece (Elt Ideal) S1024x2048 .bf16) :=
  [⟨Rect.unit (s := S1024x2048) ![768, 0] S256x2048.size inb_S1024x2048_S256x2048_768_0,
        k0_pay2 (View.ld x0 (Rect.unit (s := S1024x2048) ![768, 0] S256x2048.size inb_S1024x2048_S256x2048_768_0)) (View.ld x1 (Rect.unit (s := S1x2048) ![0, 0] S1x2048.size inb_S1x2048_S1x2048_0_0)) (View.ld x2 (Rect.unit (s := S1x6x2048) ![0, 1, 0] S1x1x2048.size inb_S1x6x2048_S1x1x2048_0_1_0)) (View.ld x2 (Rect.unit (s := S1x6x2048) ![0, 0, 0] S1x1x2048.size inb_S1x6x2048_S1x1x2048_0_0_0))⟩,
      ⟨Rect.unit (s := S1024x2048) ![512, 0] S256x2048.size inb_S1024x2048_S256x2048_512_0,
        k0_pay2 (View.ld x0 (Rect.unit (s := S1024x2048) ![512, 0] S256x2048.size inb_S1024x2048_S256x2048_512_0)) (View.ld x1 (Rect.unit (s := S1x2048) ![0, 0] S1x2048.size inb_S1x2048_S1x2048_0_0)) (View.ld x2 (Rect.unit (s := S1x6x2048) ![0, 1, 0] S1x1x2048.size inb_S1x6x2048_S1x1x2048_0_1_0)) (View.ld x2 (Rect.unit (s := S1x6x2048) ![0, 0, 0] S1x1x2048.size inb_S1x6x2048_S1x1x2048_0_0_0))⟩,
      ⟨Rect.unit (s := S1024x2048) ![256, 0] S256x2048.size inb_S1024x2048_S256x2048_256_0,
        k0_pay2 (View.ld x0 (Rect.unit (s := S1024x2048) ![256, 0] S256x2048.size inb_S1024x2048_S256x2048_256_0)) (View.ld x1 (Rect.unit (s := S1x2048) ![0, 0] S1x2048.size inb_S1x2048_S1x2048_0_0)) (View.ld x2 (Rect.unit (s := S1x6x2048) ![0, 1, 0] S1x1x2048.size inb_S1x6x2048_S1x1x2048_0_1_0)) (View.ld x2 (Rect.unit (s := S1x6x2048) ![0, 0, 0] S1x1x2048.size inb_S1x6x2048_S1x1x2048_0_0_0))⟩,
      ⟨Rect.unit (s := S1024x2048) ![0, 0] S256x2048.size inb_S1024x2048_S256x2048_0_0,
        k0_pay2 (View.ld x0 (Rect.unit (s := S1024x2048) ![0, 0] S256x2048.size inb_S1024x2048_S256x2048_0_0)) (View.ld x1 (Rect.unit (s := S1x2048) ![0, 0] S1x2048.size inb_S1x2048_S1x2048_0_0)) (View.ld x2 (Rect.unit (s := S1x6x2048) ![0, 1, 0] S1x1x2048.size inb_S1x6x2048_S1x1x2048_0_1_0)) (View.ld x2 (Rect.unit (s := S1x6x2048) ![0, 0, 0] S1x1x2048.size inb_S1x6x2048_S1x1x2048_0_0_0))⟩]

/-- The stores into the scratch hold their quarters of the tile. -/
theorem piecesH_of : View.PiecesOf (hTile x0 x1 x2) (piecesH x0 x1 x2) := by
  refine ⟨fun (y : S256x2048.Idx) => ?_, fun (y : S256x2048.Idx) => ?_, fun (y : S256x2048.Idx) => ?_, fun (y : S256x2048.Idx) => ?_, trivial⟩
  · exact piece_h x0 x1 x2 768 inb_S1024x2048_S256x2048_768_0 y
  · exact piece_h x0 x1 x2 512 inb_S1024x2048_S256x2048_512_0 y
  · exact piece_h x0 x1 x2 256 inb_S1024x2048_S256x2048_256_0 y
  · exact piece_h x0 x1 x2 0 inb_S1024x2048_S256x2048_0_0 y

/-- The first point of a tile: the scratch after the body is the normed tile. -/
theorem sout0_A_0_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2048 .bf16) (harg5 : arg5.IsWhole) (arg6 : Memref sig .tc .vmem S1024x2048 .bf16) (harg6 : arg6.IsWhole) (arg7 : Memref sig .tc .vmem S1024x2048 .bf16) (harg7 : arg7.IsWhole) (hc0 : cond0_0 i) (hc1 : ¬cond0_1 i) :
    sout0_A_0 c i arg2 harg2 arg3 harg3 arg4 harg4 arg5 harg5 arg6 harg6 arg7 harg7 hc0 hc1 x0 x1 x2 x3 = hTile x0 x1 x2 := by
  refine (View.read_writes_eq_canon _ _ _ (scover0_A_0 c i arg2 harg2 arg3 harg3 arg4 harg4 arg5 harg5 arg6 harg6 arg7 harg7 hc0 hc1 x0 x1 x2 x3)).trans ?_
  have key : (kernelRun0_A (F := Ideal) c i arg2 harg2 arg3 harg3 arg4 harg4 arg5 harg5 arg6 harg6 arg7 harg7 hc0 hc1 x0 x1 x2 x3).2.1 =
      [⟨Rect.unit (s := S1024x2048) ![768, 0] S256x2048.size inb_S1024x2048_S256x2048_768_0,
        k0_pay2 (View.readAt (Elt Ideal) arg2.view (Rect.unit (s := S1024x2048) ![768, 0] S256x2048.size inb_S1024x2048_S256x2048_768_0).toLoadRect (harg2.unread x0)) (View.readAt (Elt Ideal) arg3.view (Rect.unit (s := S1x2048) ![0, 0] S1x2048.size inb_S1x2048_S1x2048_0_0).toLoadRect (harg3.unread x1)) (View.readAt (Elt Ideal) arg4.view (Rect.unit (s := S1x6x2048) ![0, 1, 0] S1x1x2048.size inb_S1x6x2048_S1x1x2048_0_1_0).toLoadRect (harg4.unread x2)) (View.readAt (Elt Ideal) arg4.view (Rect.unit (s := S1x6x2048) ![0, 0, 0] S1x1x2048.size inb_S1x6x2048_S1x1x2048_0_0_0).toLoadRect (harg4.unread x2))⟩,
      ⟨Rect.unit (s := S1024x2048) ![512, 0] S256x2048.size inb_S1024x2048_S256x2048_512_0,
        k0_pay2 (View.readAt (Elt Ideal) arg2.view (Rect.unit (s := S1024x2048) ![512, 0] S256x2048.size inb_S1024x2048_S256x2048_512_0).toLoadRect (harg2.unread x0)) (View.readAt (Elt Ideal) arg3.view (Rect.unit (s := S1x2048) ![0, 0] S1x2048.size inb_S1x2048_S1x2048_0_0).toLoadRect (harg3.unread x1)) (View.readAt (Elt Ideal) arg4.view (Rect.unit (s := S1x6x2048) ![0, 1, 0] S1x1x2048.size inb_S1x6x2048_S1x1x2048_0_1_0).toLoadRect (harg4.unread x2)) (View.readAt (Elt Ideal) arg4.view (Rect.unit (s := S1x6x2048) ![0, 0, 0] S1x1x2048.size inb_S1x6x2048_S1x1x2048_0_0_0).toLoadRect (harg4.unread x2))⟩,
      ⟨Rect.unit (s := S1024x2048) ![256, 0] S256x2048.size inb_S1024x2048_S256x2048_256_0,
        k0_pay2 (View.readAt (Elt Ideal) arg2.view (Rect.unit (s := S1024x2048) ![256, 0] S256x2048.size inb_S1024x2048_S256x2048_256_0).toLoadRect (harg2.unread x0)) (View.readAt (Elt Ideal) arg3.view (Rect.unit (s := S1x2048) ![0, 0] S1x2048.size inb_S1x2048_S1x2048_0_0).toLoadRect (harg3.unread x1)) (View.readAt (Elt Ideal) arg4.view (Rect.unit (s := S1x6x2048) ![0, 1, 0] S1x1x2048.size inb_S1x6x2048_S1x1x2048_0_1_0).toLoadRect (harg4.unread x2)) (View.readAt (Elt Ideal) arg4.view (Rect.unit (s := S1x6x2048) ![0, 0, 0] S1x1x2048.size inb_S1x6x2048_S1x1x2048_0_0_0).toLoadRect (harg4.unread x2))⟩,
      ⟨Rect.unit (s := S1024x2048) ![0, 0] S256x2048.size inb_S1024x2048_S256x2048_0_0,
        k0_pay2 (View.readAt (Elt Ideal) arg2.view (Rect.unit (s := S1024x2048) ![0, 0] S256x2048.size inb_S1024x2048_S256x2048_0_0).toLoadRect (harg2.unread x0)) (View.readAt (Elt Ideal) arg3.view (Rect.unit (s := S1x2048) ![0, 0] S1x2048.size inb_S1x2048_S1x2048_0_0).toLoadRect (harg3.unread x1)) (View.readAt (Elt Ideal) arg4.view (Rect.unit (s := S1x6x2048) ![0, 1, 0] S1x1x2048.size inb_S1x6x2048_S1x1x2048_0_1_0).toLoadRect (harg4.unread x2)) (View.readAt (Elt Ideal) arg4.view (Rect.unit (s := S1x6x2048) ![0, 0, 0] S1x1x2048.size inb_S1x6x2048_S1x1x2048_0_0_0).toLoadRect (harg4.unread x2))⟩] := rfl
  have hk : (kernelRun0_A (F := Ideal) c i arg2 harg2 arg3 harg3 arg4 harg4 arg5 harg5 arg6 harg6 arg7 harg7 hc0 hc1 x0 x1 x2 x3).2.1 = piecesH x0 x1 x2 := by
    rw [key]
    simp only [View.readAt_eq_ld, Memref.IsWhole.read_unread]
    rfl
  funext y
  refine View.canon_apply_of_pieces _ _ ?_ y (scover0_A_0 c i arg2 harg2 arg3 harg3 arg4 harg4 arg5 harg5 arg6 harg6 arg7 harg7 hc0 hc1 x0 x1 x2 x3 y)
  rw [hk]
  exact (piecesH_of x0 x1 x2).mem

/-- The four stores into the output block at the first point of a tile, last first. -/
def piecesO (x0 : Vec Ideal S1024x2048 .f32) (x1 : Vec Ideal S1x2048 .f32) (x2 : Vec Ideal S1x6x2048 .f32) (x3 : Vec Ideal S1x2048x2048 .bf16) : List (View.Piece (Elt Ideal) S1024x2048 .bf16) :=
  [⟨Rect.unit (s := S1024x2048) ![768, 0] S256x2048.size inb_S1024x2048_S256x2048_768_0,
        k0_pay3 (View.ld x0 (Rect.unit (s := S1024x2048) ![768, 0] S256x2048.size inb_S1024x2048_S256x2048_768_0)) (View.ld x1 (Rect.unit (s := S1x2048) ![0, 0] S1x2048.size inb_S1x2048_S1x2048_0_0)) (View.ld x2 (Rect.unit (s := S1x6x2048) ![0, 1, 0] S1x1x2048.size inb_S1x6x2048_S1x1x2048_0_1_0)) (View.ld x2 (Rect.unit (s := S1x6x2048) ![0, 0, 0] S1x1x2048.size inb_S1x6x2048_S1x1x2048_0_0_0)) (View.ld x3 (Rect.unit (s := S1x2048x2048) ![0, 0, 0] S1x2048x2048.size inb_S1x2048x2048_S1x2048x2048_0_0_0))⟩,
      ⟨Rect.unit (s := S1024x2048) ![512, 0] S256x2048.size inb_S1024x2048_S256x2048_512_0,
        k0_pay3 (View.ld x0 (Rect.unit (s := S1024x2048) ![512, 0] S256x2048.size inb_S1024x2048_S256x2048_512_0)) (View.ld x1 (Rect.unit (s := S1x2048) ![0, 0] S1x2048.size inb_S1x2048_S1x2048_0_0)) (View.ld x2 (Rect.unit (s := S1x6x2048) ![0, 1, 0] S1x1x2048.size inb_S1x6x2048_S1x1x2048_0_1_0)) (View.ld x2 (Rect.unit (s := S1x6x2048) ![0, 0, 0] S1x1x2048.size inb_S1x6x2048_S1x1x2048_0_0_0)) (View.ld x3 (Rect.unit (s := S1x2048x2048) ![0, 0, 0] S1x2048x2048.size inb_S1x2048x2048_S1x2048x2048_0_0_0))⟩,
      ⟨Rect.unit (s := S1024x2048) ![256, 0] S256x2048.size inb_S1024x2048_S256x2048_256_0,
        k0_pay3 (View.ld x0 (Rect.unit (s := S1024x2048) ![256, 0] S256x2048.size inb_S1024x2048_S256x2048_256_0)) (View.ld x1 (Rect.unit (s := S1x2048) ![0, 0] S1x2048.size inb_S1x2048_S1x2048_0_0)) (View.ld x2 (Rect.unit (s := S1x6x2048) ![0, 1, 0] S1x1x2048.size inb_S1x6x2048_S1x1x2048_0_1_0)) (View.ld x2 (Rect.unit (s := S1x6x2048) ![0, 0, 0] S1x1x2048.size inb_S1x6x2048_S1x1x2048_0_0_0)) (View.ld x3 (Rect.unit (s := S1x2048x2048) ![0, 0, 0] S1x2048x2048.size inb_S1x2048x2048_S1x2048x2048_0_0_0))⟩,
      ⟨Rect.unit (s := S1024x2048) ![0, 0] S256x2048.size inb_S1024x2048_S256x2048_0_0,
        k0_pay3 (View.ld x0 (Rect.unit (s := S1024x2048) ![0, 0] S256x2048.size inb_S1024x2048_S256x2048_0_0)) (View.ld x1 (Rect.unit (s := S1x2048) ![0, 0] S1x2048.size inb_S1x2048_S1x2048_0_0)) (View.ld x2 (Rect.unit (s := S1x6x2048) ![0, 1, 0] S1x1x2048.size inb_S1x6x2048_S1x1x2048_0_1_0)) (View.ld x2 (Rect.unit (s := S1x6x2048) ![0, 0, 0] S1x1x2048.size inb_S1x6x2048_S1x1x2048_0_0_0)) (View.ld x3 (Rect.unit (s := S1x2048x2048) ![0, 0, 0] S1x2048x2048.size inb_S1x2048x2048_S1x2048x2048_0_0_0))⟩]

/-- The stores into the output block hold their quarters of the tile. -/
theorem piecesO_of : View.PiecesOf (oTile (hTile x0 x1 x2) x3) (piecesO x0 x1 x2 x3) := by
  have hw : View.ld x3 (Rect.unit (s := S1x2048x2048) ![0, 0, 0] S1x2048x2048.size inb_S1x2048x2048_S1x2048x2048_0_0_0) = x3 :=
    View.ld_unit_zero (S := S1x2048x2048) off3 _ x3
  refine ⟨fun (y : S256x2048.Idx) => ?_, fun (y : S256x2048.Idx) => ?_, fun (y : S256x2048.Idx) => ?_, fun (y : S256x2048.Idx) => ?_, trivial⟩
  · exact (congrArg (fun w => k0_pay3 _ _ _ _ w y) hw).trans (piece_o x0 x1 x2 x3 768 inb_S1024x2048_S256x2048_768_0 y)
  · exact (congrArg (fun w => k0_pay3 _ _ _ _ w y) hw).trans (piece_o x0 x1 x2 x3 512 inb_S1024x2048_S256x2048_512_0 y)
  · exact (congrArg (fun w => k0_pay3 _ _ _ _ w y) hw).trans (piece_o x0 x1 x2 x3 256 inb_S1024x2048_S256x2048_256_0 y)
  · exact (congrArg (fun w => k0_pay3 _ _ _ _ w y) hw).trans (piece_o x0 x1 x2 x3 0 inb_S1024x2048_S256x2048_0_0 y)

/-- The first point of a tile: the output block after the body is the product of the normed tile. -/
theorem out0_A_4_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2048 .bf16) (harg5 : arg5.IsWhole) (arg6 : Memref sig .tc .vmem S1024x2048 .bf16) (harg6 : arg6.IsWhole) (arg7 : Memref sig .tc .vmem S1024x2048 .bf16) (harg7 : arg7.IsWhole) (hc0 : cond0_0 i) (hc1 : ¬cond0_1 i) :
    out0_A_4 c i arg2 harg2 arg3 harg3 arg4 harg4 arg5 harg5 arg6 harg6 arg7 harg7 hc0 hc1 x0 x1 x2 x3 = oTile (hTile x0 x1 x2) x3 := by
  refine (View.read_writes_eq_canon _ _ _ (cover0_A_4 c i arg2 harg2 arg3 harg3 arg4 harg4 arg5 harg5 arg6 harg6 arg7 harg7 hc0 hc1 x0 x1 x2 x3)).trans ?_
  have key : (kernelRun0_A (F := Ideal) c i arg2 harg2 arg3 harg3 arg4 harg4 arg5 harg5 arg6 harg6 arg7 harg7 hc0 hc1 x0 x1 x2 x3).1 =
      [⟨Rect.unit (s := S1024x2048) ![768, 0] S256x2048.size inb_S1024x2048_S256x2048_768_0,
        k0_pay3 (View.readAt (Elt Ideal) arg2.view (Rect.unit (s := S1024x2048) ![768, 0] S256x2048.size inb_S1024x2048_S256x2048_768_0).toLoadRect (harg2.unread x0)) (View.readAt (Elt Ideal) arg3.view (Rect.unit (s := S1x2048) ![0, 0] S1x2048.size inb_S1x2048_S1x2048_0_0).toLoadRect (harg3.unread x1)) (View.readAt (Elt Ideal) arg4.view (Rect.unit (s := S1x6x2048) ![0, 1, 0] S1x1x2048.size inb_S1x6x2048_S1x1x2048_0_1_0).toLoadRect (harg4.unread x2)) (View.readAt (Elt Ideal) arg4.view (Rect.unit (s := S1x6x2048) ![0, 0, 0] S1x1x2048.size inb_S1x6x2048_S1x1x2048_0_0_0).toLoadRect (harg4.unread x2)) (View.readAt (Elt Ideal) arg5.view (Rect.unit (s := S1x2048x2048) ![0, 0, 0] S1x2048x2048.size inb_S1x2048x2048_S1x2048x2048_0_0_0).toLoadRect (harg5.unread x3))⟩,
      ⟨Rect.unit (s := S1024x2048) ![512, 0] S256x2048.size inb_S1024x2048_S256x2048_512_0,
        k0_pay3 (View.readAt (Elt Ideal) arg2.view (Rect.unit (s := S1024x2048) ![512, 0] S256x2048.size inb_S1024x2048_S256x2048_512_0).toLoadRect (harg2.unread x0)) (View.readAt (Elt Ideal) arg3.view (Rect.unit (s := S1x2048) ![0, 0] S1x2048.size inb_S1x2048_S1x2048_0_0).toLoadRect (harg3.unread x1)) (View.readAt (Elt Ideal) arg4.view (Rect.unit (s := S1x6x2048) ![0, 1, 0] S1x1x2048.size inb_S1x6x2048_S1x1x2048_0_1_0).toLoadRect (harg4.unread x2)) (View.readAt (Elt Ideal) arg4.view (Rect.unit (s := S1x6x2048) ![0, 0, 0] S1x1x2048.size inb_S1x6x2048_S1x1x2048_0_0_0).toLoadRect (harg4.unread x2)) (View.readAt (Elt Ideal) arg5.view (Rect.unit (s := S1x2048x2048) ![0, 0, 0] S1x2048x2048.size inb_S1x2048x2048_S1x2048x2048_0_0_0).toLoadRect (harg5.unread x3))⟩,
      ⟨Rect.unit (s := S1024x2048) ![256, 0] S256x2048.size inb_S1024x2048_S256x2048_256_0,
        k0_pay3 (View.readAt (Elt Ideal) arg2.view (Rect.unit (s := S1024x2048) ![256, 0] S256x2048.size inb_S1024x2048_S256x2048_256_0).toLoadRect (harg2.unread x0)) (View.readAt (Elt Ideal) arg3.view (Rect.unit (s := S1x2048) ![0, 0] S1x2048.size inb_S1x2048_S1x2048_0_0).toLoadRect (harg3.unread x1)) (View.readAt (Elt Ideal) arg4.view (Rect.unit (s := S1x6x2048) ![0, 1, 0] S1x1x2048.size inb_S1x6x2048_S1x1x2048_0_1_0).toLoadRect (harg4.unread x2)) (View.readAt (Elt Ideal) arg4.view (Rect.unit (s := S1x6x2048) ![0, 0, 0] S1x1x2048.size inb_S1x6x2048_S1x1x2048_0_0_0).toLoadRect (harg4.unread x2)) (View.readAt (Elt Ideal) arg5.view (Rect.unit (s := S1x2048x2048) ![0, 0, 0] S1x2048x2048.size inb_S1x2048x2048_S1x2048x2048_0_0_0).toLoadRect (harg5.unread x3))⟩,
      ⟨Rect.unit (s := S1024x2048) ![0, 0] S256x2048.size inb_S1024x2048_S256x2048_0_0,
        k0_pay3 (View.readAt (Elt Ideal) arg2.view (Rect.unit (s := S1024x2048) ![0, 0] S256x2048.size inb_S1024x2048_S256x2048_0_0).toLoadRect (harg2.unread x0)) (View.readAt (Elt Ideal) arg3.view (Rect.unit (s := S1x2048) ![0, 0] S1x2048.size inb_S1x2048_S1x2048_0_0).toLoadRect (harg3.unread x1)) (View.readAt (Elt Ideal) arg4.view (Rect.unit (s := S1x6x2048) ![0, 1, 0] S1x1x2048.size inb_S1x6x2048_S1x1x2048_0_1_0).toLoadRect (harg4.unread x2)) (View.readAt (Elt Ideal) arg4.view (Rect.unit (s := S1x6x2048) ![0, 0, 0] S1x1x2048.size inb_S1x6x2048_S1x1x2048_0_0_0).toLoadRect (harg4.unread x2)) (View.readAt (Elt Ideal) arg5.view (Rect.unit (s := S1x2048x2048) ![0, 0, 0] S1x2048x2048.size inb_S1x2048x2048_S1x2048x2048_0_0_0).toLoadRect (harg5.unread x3))⟩] := rfl
  have hk : (kernelRun0_A (F := Ideal) c i arg2 harg2 arg3 harg3 arg4 harg4 arg5 harg5 arg6 harg6 arg7 harg7 hc0 hc1 x0 x1 x2 x3).1 = piecesO x0 x1 x2 x3 := by
    rw [key]
    simp only [View.readAt_eq_ld, Memref.IsWhole.read_unread]
    rfl
  funext y
  refine View.canon_apply_of_pieces _ _ ?_ y (cover0_A_4 c i arg2 harg2 arg3 harg3 arg4 harg4 arg5 harg5 arg6 harg6 arg7 harg7 hc0 hc1 x0 x1 x2 x3 y)
  rw [hk]
  exact (piecesO_of x0 x1 x2 x3).mem

/-- A later point of a tile: the output block after the body is the product of the scratch. -/
theorem out0_B_4_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2048 .bf16) (harg5 : arg5.IsWhole) (arg6 : Memref sig .tc .vmem S1024x2048 .bf16) (harg6 : arg6.IsWhole) (arg7 : Memref sig .tc .vmem S1024x2048 .bf16) (harg7 : arg7.IsWhole) (hc0 : ¬cond0_0 i) (hc1 : cond0_1 i) (h : Vec Ideal S1024x2048 .bf16) :
    out0_B_4 c i arg2 harg2 arg3 harg3 arg4 harg4 arg5 harg5 arg6 harg6 arg7 harg7 hc0 hc1 x0 x1 x2 x3 h = oTile h x3 := by
  refine (View.read_writes_eq_canon _ _ _ (cover0_B_4 c i arg2 harg2 arg3 harg3 arg4 harg4 arg5 harg5 arg6 harg6 arg7 harg7 hc0 hc1 x0 x1 x2 x3 h)).trans ?_
  have key : (kernelRun0_B (F := Ideal) c i arg2 harg2 arg3 harg3 arg4 harg4 arg5 harg5 arg6 harg6 arg7 harg7 hc0 hc1 x0 x1 x2 x3 h).1
      = [⟨Rect.unit (s := S1024x2048) ![0, 0] S1024x2048.size inb_S1024x2048_S1024x2048_0_0,
          k0_pay4 (View.readAt (Elt Ideal) arg7.view (Rect.unit (s := S1024x2048) ![0, 0] S1024x2048.size inb_S1024x2048_S1024x2048_0_0).toLoadRect (harg7.unread h))
            (View.readAt (Elt Ideal) arg5.view (Rect.unit (s := S1x2048x2048) ![0, 0, 0] S1x2048x2048.size inb_S1x2048x2048_S1x2048x2048_0_0_0).toLoadRect (harg5.unread x3))⟩] := rfl
  rw [key, View.canon_unit_zero (by funext a; fin_cases a <;> rfl)]
  simp only [View.readAt_eq_ld, Memref.IsWhole.read_unread]
  rw [View.ld_unit_zero (S := S1024x2048) off2 _ h, View.ld_unit_zero (S := S1x2048x2048) off3 _ x3, pay4_at]

end Body

variable (m : (ℓ : Loc nD τ sig) → Buf (Elt Ideal) ℓ) (c : Dev nD)

/-- The residual stream. -/
abbrev X : FVec Ideal S2x8192x2048 .f32 := m ((c : Thread nD τ).loc main_arg0)
/-- The norms' gains. -/
abbrev G : FVec Ideal S2x2048 .f32 := m ((c : Thread nD τ).loc main_arg1)
/-- The modulation's six rows. -/
abbrev M : FVec Ideal S2x6x2048 .f32 := m ((c : Thread nD τ).loc main_arg2)
/-- The weights. -/
abbrev W : FVec Ideal S1x2048x6144 .f32 := m ((c : Thread nD τ).loc main_arg3)

/-- The normed and modulated token of a row, at a column. -/
def hRow (X : FVec Ideal S2x8192x2048 .f32) (G : FVec Ideal S2x2048 .f32) (M : FVec Ideal S2x6x2048 .f32) (r : Fin 16384) (e : Fin 2048) : EReal :=
  hval (fun e => X (ix3 (rb r) (rs r) e)) (fun e => G (ix2 (0 : Fin 2) e)) (fun e => M (ix3 (rb r) (1 : Fin 6) e))
    (fun e => M (ix3 (rb r) (0 : Fin 6) e)) e

/-- The result of a row and a column. -/
def val (X : FVec Ideal S2x8192x2048 .f32) (G : FVec Ideal S2x2048 .f32) (M : FVec Ideal S2x6x2048 .f32) (W : FVec Ideal S1x2048x6144 .f32)
    (r : Fin 16384) (e : Fin 6144) : EReal :=
  ∑ k : Fin 2048, hRow X G M r k * W (ix3 (0 : Fin 1) k e)

/-- Block indices of the residual stream. -/
theorem idx0 : ∀ t : Fin grid0.N, win0_0.index t (0 : Fin 2) = t.val / 3 ∧ win0_0.index t (1 : Fin 2) = 0 := by decide +kernel
/-- Block indices of the gain. -/
theorem idx1 : ∀ t : Fin grid0.N, win0_1.index t (0 : Fin 2) = 0 ∧ win0_1.index t (1 : Fin 2) = 0 := by decide +kernel
/-- Block indices of the modulation. -/
theorem idx2 : ∀ t : Fin grid0.N, win0_2.index t (0 : Fin 3) = t.val / 24 ∧ win0_2.index t (1 : Fin 3) = 0 ∧ win0_2.index t (2 : Fin 3) = 0 := by
  decide +kernel
/-- Block indices of the weights. -/
theorem idx3 : ∀ t : Fin grid0.N, win0_3.index t (0 : Fin 3) = 0 ∧ win0_3.index t (1 : Fin 3) = 0 ∧ win0_3.index t (2 : Fin 3) = t.val % 3 := by
  decide +kernel

/-- A row of a point's tile. -/
def row (t : Fin cfg0.N) (y : Fin 1024) : Fin 16384 := ⟨1024 * (t.val / 3) + y.val, by
  have := lt_of_lt_of_eq t.isLt (show cfg0.N = 48 from N_0); omega⟩

/-- A column of a point's block of weights. -/
def col (t : Fin cfg0.N) (e : Fin 2048) : Fin 6144 := ⟨2048 * (t.val % 3) + e.val, by omega⟩

/-- The residual stream that a point reads. -/
theorem blk0 (t : Fin cfg0.N) (y : Fin 1024) (e : Fin 2048) : (iblk m c 0 t : Vec Ideal S1024x2048 .f32) (ix2 y e)
    = X m c (ix3 (rb (row t y)) (rs (row t y)) e) := by
  obtain ⟨e0, e1⟩ := idx0 t
  have hV : V m c main_v0 = shapeCast S16384x2048 (X m c) shapeCasts_S2x8192x2048_S16384x2048 := by entry_read; rfl
  show V m c main_v0 (((cfg0.win 0).blk t).view.emb (ix2 y e)) = _
  rw [hV, ← merge_at (X m c) shapeCasts_S2x8192x2048_S16384x2048]
  congr 1
  funext a
  apply Fin.ext
  fin_cases a
  all_goals blk_simp [e0, e1]
  · show t.val / 3 * 1024 + y.val = 1024 * (t.val / 3) + y.val
    omega
  · rfl

/-- The gain that a point reads. -/
theorem blk1 (t : Fin cfg0.N) (e : Fin 2048) : (iblk m c 1 t : Vec Ideal S1x2048 .f32) (ix2 (0 : Fin 1) e) = G m c (ix2 (0 : Fin 2) e) := by
  obtain ⟨e0, e1⟩ := idx1 t
  have hV : V m c main_v4 = shapeCast S1x2048 (shapeCast S2048 (extractStridedSlice S1x2048 ![0, 0] (G m c) slices_S2x2048_S1x2048_0_0)
      shapeCasts_S1x2048_S2048) shapeCasts_S2048_S1x2048 := by entry_read; rfl
  have hi : ((cfg0.win 1).blk t).view.emb (ix2 (0 : Fin 1) e) = (ix2 (0 : Fin 1) e : S1x2048.Idx) := by
    funext a
    apply Fin.ext
    fin_cases a
    all_goals blk_simp [e0, e1]
    all_goals rfl
  show V m c main_v4 (((cfg0.win 1).blk t).view.emb (ix2 (0 : Fin 1) e)) = _
  rw [hi, hV]
  unfold S1x2048
  pointwise

/-- The modulation that a point reads. -/
theorem blk2 (t : Fin cfg0.N) (y : Fin 1024) (j : Fin 6) (e : Fin 2048) : (iblk m c 2 t : Vec Ideal S1x6x2048 .f32) (ix3 (0 : Fin 1) j e)
    = M m c (ix3 (rb (row t y)) j e) := by
  obtain ⟨e0, e1, e2⟩ := idx2 t
  show V m c main_arg2 (((cfg0.win 2).blk t).view.emb (ix3 (0 : Fin 1) j e)) = _
  rw [V_main_arg2]
  show M m c _ = _
  congr 1
  funext a
  apply Fin.ext
  fin_cases a
  all_goals blk_simp [e0, e1, e2]
  · show t.val / 24 = (1024 * (t.val / 3) + y.val) / 8192
    omega
  all_goals rfl

/-- The weights that a point reads. -/
theorem blk3 (t : Fin cfg0.N) (k : Fin 2048) (e : Fin 2048) : (iblk m c 3 t : Vec Ideal S1x2048x2048 .bf16) (ix3 (0 : Fin 1) k e)
    = W m c (ix3 (0 : Fin 1) k (col t e)) := by
  obtain ⟨e0, e1, e2⟩ := idx3 t
  have hV : V m c main_v3 = (truncf .bf16 (W m c) bitsLt_bf16_f32 : FVec Ideal S1x2048x6144 .bf16) := by entry_read; rfl
  show V m c main_v3 (((cfg0.win 3).blk t).view.emb (ix3 (0 : Fin 1) k e)) = _
  rw [hV]
  show W m c (((cfg0.win 3).blk t).view.emb (ix3 (0 : Fin 1) k e)) = _
  congr 1
  funext a
  apply Fin.ext
  fin_cases a
  all_goals blk_simp [e0, e1, e2]
  · rfl
  · show t.val % 3 * 2048 + e.val = 2048 * (t.val % 3) + e.val
    omega

/-- The normed tile of a point: its rows' normed tokens. -/
def hPt (t : Fin cfg0.N) : Vec Ideal S1024x2048 .bf16 := fun i => hRow (X m c) (G m c) (M m c) (row t (i 0)) (i 1)

/-- What a first point norms. -/
theorem hTile_at (t : Fin cfg0.N) : hTile (iblk m c 0 t) (iblk m c 1 t) (iblk m c 2 t) = hPt m c t := by
  funext i
  have h0 : (fun e => (iblk m c 0 t : Vec Ideal S1024x2048 .f32) (ix2 (i 0) e)) = fun e => X m c (ix3 (rb (row t (i 0))) (rs (row t (i 0))) e) :=
    funext fun e => blk0 m c t (i 0) e
  have h1 : (fun e => (iblk m c 1 t : Vec Ideal S1x2048 .f32) (ix2 (0 : Fin 1) e)) = fun e => G m c (ix2 (0 : Fin 2) e) :=
    funext fun e => blk1 m c t e
  have h2 : ∀ j : Fin 6, (fun e => (iblk m c 2 t : Vec Ideal S1x6x2048 .f32) (ix3 (0 : Fin 1) j e)) = fun e => M m c (ix3 (rb (row t (i 0))) j e) :=
    fun j => funext fun e => blk2 m c t (i 0) j e
  unfold hTile hPt hRow
  rw [h0, h1, h2, h2]

/-- Two points of one tile norm the same rows. -/
theorem hPt_congr (s t : Fin cfg0.N) (h : s.val / 3 = t.val / 3) : hPt m c s = hPt m c t := by
  have hr : row s = row t := funext fun y => Fin.ext (by show 1024 * (s.val / 3) + y.val = 1024 * (t.val / 3) + y.val; rw [h])
  unfold hPt
  rw [hr]

/-- After every point the output block is the product of the tile's normed rows, and the scratch holds these. -/
theorem after (n : ℕ) (hn : n < cfg0.N) :
    outsAt0 m c n hn = (oTile (hPt m c ⟨n, hn⟩) (iblk m c 3 ⟨n, hn⟩), hPt m c ⟨n, hn⟩) := by
  induction n with
  | zero =>
    rw [outsAt0_A m c ⟨0, hn⟩ (Nat.zero_mod _) (by show ¬1 ≤ 0 % 3; omega), out0_A_4_at, sout0_A_0_at, hTile_at]
  | succ n ih =>
    by_cases h0 : (n + 1) % 3 = 0
    · rw [outsAt0_A m c ⟨n + 1, hn⟩ h0 (by show ¬1 ≤ (n + 1) % 3; omega), out0_A_4_at, sout0_A_0_at, hTile_at]
    · have hc := hPt_congr m c ⟨n, Nat.lt_of_succ_lt hn⟩ ⟨n + 1, hn⟩ (by show n / 3 = (n + 1) / 3; omega)
      rw [outsAt0_B m c ⟨n + 1, hn⟩ h0 (by show 1 ≤ (n + 1) % 3; omega), out0_B_4_at]
      unfold sout0_B_0
      show (oTile (outsAt0 m c n (Nat.lt_of_succ_lt hn)).2 _, (outsAt0 m c n (Nat.lt_of_succ_lt hn)).2) = _
      rw [ih, hc]

/-- The result, row by row. -/
theorem G4_at (r : Fin 16384) (e : Fin 6144) :
    (G4 m c : FVec Ideal S16384x6144 .bf16) (ix2 r e) = val (X m c) (G m c) (M m c) (W m c) r e := by
  have hN : cfg0.N = 48 := N_0
  have hp : pt4Of (ix2 r e) = 3 * (r.val / 1024) + e.val / 2048 := by
    show 3 * (r.val / 1024 - 0) + 1 * (e.val / 2048 - 0) = _
    omega
  have hlt : 3 * (r.val / 1024) + e.val / 2048 < cfg0.N := by rw [hN]; omega
  have hl : loc4Of (ix2 r e) = ix2 (⟨r.val % 1024, Nat.mod_lt _ (by omega)⟩ : Fin 1024) (⟨e.val % 2048, Nat.mod_lt _ (by omega)⟩ : Fin 2048) := by
    funext a
    apply Fin.ext
    fin_cases a <;> rfl
  unfold G4
  rw [dif_pos (by rw [hp]; exact hlt), ← outsAt0_sweep m c _ (by rw [hp]; exact hlt), hl]
  have hg : ∀ (p : ℕ) (hp' : p < cfg0.N), p = 3 * (r.val / 1024) + e.val / 2048 →
      (outsAt0 m c p hp').1 (ix2 (⟨r.val % 1024, Nat.mod_lt _ (by omega)⟩ : Fin 1024) (⟨e.val % 2048, Nat.mod_lt _ (by omega)⟩ : Fin 2048))
        = val (X m c) (G m c) (M m c) (W m c) r e := by
    intro p hp' hpe
    rw [after m c p hp']
    have hr : row ⟨p, hp'⟩ (⟨r.val % 1024, Nat.mod_lt _ (by omega)⟩ : Fin 1024) = r :=
      Fin.ext (by show 1024 * (p / 3) + r.val % 1024 = r.val; omega)
    have he : col ⟨p, hp'⟩ (⟨e.val % 2048, Nat.mod_lt _ (by omega)⟩ : Fin 2048) = e :=
      Fin.ext (by show 2048 * (p % 3) + e.val % 2048 = e.val; omega)
    refine oTile_of _ _ _ _ _ _ (fun k => ?_) (fun k => (blk3 m c ⟨p, hp'⟩ k _).trans (by rw [he]))
    exact congrArg (fun r => hRow (X m c) (G m c) (M m c) r k) hr
  exact hg _ _ hp

/-- The reference's norm at a token. -/
theorem ref_h (X : FVec Ideal Cert.Reference3Ideal.S2x8192x2048 .f32) (G : FVec Ideal Cert.Reference3Ideal.S2x2048 .f32)
    (M : FVec Ideal Cert.Reference3Ideal.S2x6x2048 .f32) (r : Fin 16384) (k : Fin 2048) :
    (addf (mulf (mulf (mulf X (broadcastInDim Cert.Reference3Ideal.S2x8192x2048 ![0, 1, 2] Cert.Reference3Ideal.Gen.facts.bcast_S2x8192x1_S2x8192x2048_0_1_2
        (Host.rsqrt (addf (Host.divf (broadcastInDim Cert.Reference3Ideal.S2x8192x1 ![0, 1] Cert.Reference3Ideal.Gen.facts.bcast_S2x8192_S2x8192x1_0_1
            (Host.reduceAdd (mulf X X) (constant Cert.Reference3Ideal.S_ .f32 0x00000000#32) Cert.Reference3Ideal.Gen.facts.reducesTo_S2x8192x2048_S2x8192_d2 Cert.Reference3Ideal.Gen.facts.h_S_))
            (broadcastInDim Cert.Reference3Ideal.S2x8192x1 ![] Cert.Reference3Ideal.Gen.facts.bcast_S_S2x8192x1 (constant Cert.Reference3Ideal.S_ .f32 0x45000000#32)))
          (broadcastInDim Cert.Reference3Ideal.S2x8192x1 ![] Cert.Reference3Ideal.Gen.facts.bcast_S_S2x8192x1 (constant Cert.Reference3Ideal.S_ .f32 0x358637BD#32))))))
        (broadcastInDim Cert.Reference3Ideal.S2x8192x2048 ![0, 1, 2] Cert.Reference3Ideal.Gen.facts.bcast_S1x1x2048_S2x8192x2048_0_1_2
          (broadcastInDim Cert.Reference3Ideal.S1x1x2048 ![2] Cert.Reference3Ideal.Gen.facts.bcast_S2048_S1x1x2048_2
            (shapeCast Cert.Reference3Ideal.S2048 (extractStridedSlice Cert.Reference3Ideal.S1x2048 ![0, 0] G Cert.Reference3Ideal.Gen.facts.slices_S2x2048_S1x2048_0_0) Cert.Reference3Ideal.Gen.facts.shapeCasts_S1x2048_S2048))))
        (broadcastInDim Cert.Reference3Ideal.S2x8192x2048 ![0, 1, 2] Cert.Reference3Ideal.Gen.facts.bcast_S2x1x2048_S2x8192x2048_0_1_2
          (addf (broadcastInDim Cert.Reference3Ideal.S2x1x2048 ![] Cert.Reference3Ideal.Gen.facts.bcast_S_S2x1x2048 (constant Cert.Reference3Ideal.S_ .f32 0x3F800000#32))
            (extractStridedSlice Cert.Reference3Ideal.S2x1x2048 ![0, 1, 0] M Cert.Reference3Ideal.Gen.facts.slices_S2x6x2048_S2x1x2048_0_1_0))))
        (broadcastInDim Cert.Reference3Ideal.S2x8192x2048 ![0, 1, 2] Cert.Reference3Ideal.Gen.facts.bcast_S2x1x2048_S2x8192x2048_0_1_2
          (extractStridedSlice Cert.Reference3Ideal.S2x1x2048 ![0, 0, 0] M Cert.Reference3Ideal.Gen.facts.slices_S2x6x2048_S2x1x2048_0_0_0)) : FVec Ideal Cert.Reference3Ideal.S2x8192x2048 .f32) (ix3 (rb r) (rs r) k) = hRow X G M r k := by
  unfold hRow hval root
  pointwise

/-- The reference's product at a token. -/
theorem ref_dot (H : FVec Ideal Cert.Reference3Ideal.S2x8192x2048 .f32) (W : FVec Ideal Cert.Reference3Ideal.S1x2048x6144 .f32)
    (b : Fin 2) (s : Fin 8192) (e : Fin 6144) :
    (Host.dotGeneral Cert.Reference3Ideal.dot_S2x8192x2048_S2048x6144_S2x8192x6144_2_0_01_1_n_n none H
      (shapeCast Cert.Reference3Ideal.S2048x6144 W Cert.Reference3Ideal.Gen.facts.shapeCasts_S1x2048x6144_S2048x6144)
        : FVec Ideal Cert.Reference3Ideal.S2x8192x6144 .f32) (ix3 b s e)
      = ∑ k : Fin 2048, H (ix3 b s k) * W (ix3 (0 : Fin 1) k e) := by
  pointwise

/-- The reference's frame: its run read at the arguments; it has no semaphore. -/
theorem frame_ref : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The value claim: both programs end with `val` at every row and column. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => G4 m c, run (F := Ideal) m g, ?_⟩
  refine (θ_run _ _ _).mono (fun _ h c => ⟨(h c).1.trans ?_, (h c).2⟩) (Cert.Reference3Ideal.Value.run (F := Ideal) m' g')
  obtain ⟨h0, h1, h2, h3⟩ := hagree c
  rw [h0, h1, h2, h3]
  refine rows_ext _ _ fun r e => Eq.trans ?_ (G4_at m c r e).symm
  refine (merge_trunc_at _ _ _ r e).trans ((ref_dot _ (W m c) (rb r) (rs r) e).trans ?_)
  exact Finset.sum_congr rfl fun k _ => congrArg₂ (· * ·) (ref_h (X m c) (G m c) (M m c) r k) rfl

end Cert.Proof.InProj

end
-- ==== Proof.Down.lean ====
/- The feed-forward's second product with its residual: `x + g * (u @ w2)`. -/
module

public import proofs.«01_k».proof.Defs
public import proofs.«01_k».proof.Proof.Gen.Kernel5Ideal
public import proofs.«01_k».proof.Proof.Gen.Reference5Ideal
public import proofs.«01_k».proof.Proof.Rows
public import proofs.«01_k».proof.Proof.Gen.Kernel5Ideal.Value
public import proofs.«01_k».proof.Proof.Gen.Reference5Ideal.Run
public import Idealize.ShloMosaic.Lib.Pointwise
public import Idealize.ShloMosaic.Lib.Claim

@[expose] public section

set_option maxRecDepth 16384

noncomputable section

namespace Cert.Proof.Down

open Idealize.ShloMosaic Idealize.ShloMosaic.TcCoe Idealize.SL.Sem Cert.Kernel5Ideal Cert.Kernel5Ideal.Gen Cert.Kernel5Ideal.Value
open Cert.Proof.Rows

variable (m : (ℓ : Loc nD τ sig) → Buf (Elt Ideal) ℓ) (c : Dev nD)

/-- The hidden activations. -/
abbrev U : FVec Ideal S2x8192x5632 .bf16 := m ((c : Thread nD τ).loc main_arg0)
/-- The residual stream. -/
abbrev X : FVec Ideal S2x8192x2048 .f32 := m ((c : Thread nD τ).loc main_arg1)
/-- The modulation's six rows. -/
abbrev M : FVec Ideal S2x6x2048 .f32 := m ((c : Thread nD τ).loc main_arg2)
/-- The weights of both layers. -/
abbrev W : FVec Ideal S2x5632x2048 .f32 := m ((c : Thread nD τ).loc main_arg3)

/-- The result of a row and a column with the weights of layer `l`. -/
def val (U : FVec Ideal S2x8192x5632 .bf16) (X : FVec Ideal S2x8192x2048 .f32) (M : FVec Ideal S2x6x2048 .f32)
    (W : FVec Ideal S2x5632x2048 .f32) (l : Fin 2) (r : Fin 16384) (e : Fin 2048) : EReal :=
  X (ix3 (rb r) (rs r) e) + M (ix3 (rb r) (5 : Fin 6) e) * ∑ k : Fin 5632, U (ix3 (rb r) (rs r) k) * W (ix3 l k e)

/-- Block indices of the hidden activations. -/
theorem idx0 : ∀ t : Fin grid0.N, win0_0.index t (0 : Fin 2) = t.val ∧ win0_0.index t (1 : Fin 2) = 0 := by decide +kernel
/-- Block indices of the weights. -/
theorem idx1 : ∀ t : Fin grid0.N, win0_1.index t (0 : Fin 3) = 0 ∧ win0_1.index t (1 : Fin 3) = 0 ∧ win0_1.index t (2 : Fin 3) = 0 := by
  decide +kernel
/-- Block indices of the residual stream. -/
theorem idx2 : ∀ t : Fin grid0.N, win0_2.index t (0 : Fin 2) = t.val ∧ win0_2.index t (1 : Fin 2) = 0 := by decide +kernel
/-- Block indices of the modulation. -/
theorem idx3 : ∀ t : Fin grid0.N, win0_3.index t (0 : Fin 3) = t.val / 16 ∧ win0_3.index t (1 : Fin 3) = 0 ∧ win0_3.index t (2 : Fin 3) = 0 := by
  decide +kernel
/-- Block indices of the result. -/
theorem idx4 : ∀ t : Fin grid0.N, win0_4.index t (0 : Fin 2) = t.val ∧ win0_4.index t (1 : Fin 2) = 0 := by decide +kernel
/-- Every point writes its block back. -/
theorem flush4 : ∀ t : Fin grid0.N, win0_4.flush t = true := by decide +kernel

/-- A row of a point's block. -/
def row (t : Fin cfg0.N) (y : Fin 512) : Fin 16384 := ⟨512 * t.val + y.val, by
  have := lt_of_lt_of_eq t.isLt (show cfg0.N = 32 from N_0); omega⟩

/-- The hidden activations that a point reads. -/
theorem blk0 (t : Fin cfg0.N) (y : Fin 512) (k : Fin 5632) : (iblk m c 0 t : Vec Ideal S512x5632 .bf16) (ix2 y k)
    = U m c (ix3 (rb (row t y)) (rs (row t y)) k) := by
  obtain ⟨e0, e1⟩ := idx0 t
  have hV : V m c main_v0 = shapeCast S16384x5632 (U m c) shapeCasts_S2x8192x5632_S16384x5632 := by entry_read; rfl
  show V m c main_v0 (((cfg0.win 0).blk t).view.emb (ix2 y k)) = _
  rw [hV, ← merge_at (U m c) shapeCasts_S2x8192x5632_S16384x5632]
  congr 1
  funext a
  apply Fin.ext
  fin_cases a
  all_goals blk_simp [e0, e1]
  · show t.val * 512 + y.val = 512 * t.val + y.val
    omega
  · rfl

/-- The weights that a point reads. -/
theorem blk1 (t : Fin cfg0.N) (k : Fin 5632) (e : Fin 2048) : (iblk m c 1 t : Vec Ideal S1x5632x2048 .bf16) (ix3 (0 : Fin 1) k e)
    = W m c (ix3 (0 : Fin 2) k e) := by
  obtain ⟨e0, e1, e2⟩ := idx1 t
  have hV : V m c main_v2 = (truncf .bf16 (W m c) bitsLt_bf16_f32 : FVec Ideal S2x5632x2048 .bf16) := by entry_read; rfl
  show V m c main_v2 (((cfg0.win 1).blk t).view.emb (ix3 (0 : Fin 1) k e)) = _
  rw [hV]
  show W m c (((cfg0.win 1).blk t).view.emb (ix3 (0 : Fin 1) k e)) = _
  congr 1
  funext a
  apply Fin.ext
  fin_cases a
  all_goals blk_simp [e0, e1, e2]
  all_goals rfl

/-- The residual stream that a point reads. -/
theorem blk2 (t : Fin cfg0.N) (y : Fin 512) (e : Fin 2048) : (iblk m c 2 t : Vec Ideal S512x2048 .f32) (ix2 y e)
    = X m c (ix3 (rb (row t y)) (rs (row t y)) e) := by
  obtain ⟨e0, e1⟩ := idx2 t
  have hV : V m c main_v1 = shapeCast S16384x2048 (X m c) shapeCasts_S2x8192x2048_S16384x2048 := by entry_read; rfl
  show V m c main_v1 (((cfg0.win 2).blk t).view.emb (ix2 y e)) = _
  rw [hV, ← merge_at (X m c) shapeCasts_S2x8192x2048_S16384x2048]
  congr 1
  funext a
  apply Fin.ext
  fin_cases a
  all_goals blk_simp [e0, e1]
  · show t.val * 512 + y.val = 512 * t.val + y.val
    omega
  · rfl

/-- The modulation that a point reads. -/
theorem blk3 (t : Fin cfg0.N) (y : Fin 512) (j : Fin 6) (e : Fin 2048) : (iblk m c 3 t : Vec Ideal S1x6x2048 .f32) (ix3 (0 : Fin 1) j e)
    = M m c (ix3 (rb (row t y)) j e) := by
  obtain ⟨e0, e1, e2⟩ := idx3 t
  show V m c main_arg2 (((cfg0.win 3).blk t).view.emb (ix3 (0 : Fin 1) j e)) = _
  rw [V_main_arg2]
  show M m c _ = _
  congr 1
  funext a
  apply Fin.ext
  fin_cases a
  all_goals blk_simp [e0, e1, e2]
  · show t.val / 16 = (512 * t.val + y.val) / 8192
    omega
  all_goals rfl

/-- What a point computes. -/
theorem out_at (t : Fin cfg0.N) (y : Fin 512) (e : Fin 2048) :
    out0_4 (iblk m c 0 t) (iblk m c 1 t) (iblk m c 2 t) (iblk m c 3 t) (ix2 y e)
      = val (U m c) (X m c) (M m c) (W m c) 0 (row t y) e := by
  unfold out0_4
  rw [View.canon_unit_zero (by funext a; fin_cases a <;> rfl)]
  unfold k0_pay1 val
  pointwise
  rw [blk2, blk3]
  exact congrArg (fun z => _ + _ * z) (Finset.sum_congr rfl fun k _ => by rw [blk0, blk1])

/-- The result, row by row. -/
theorem final_at (r : Fin 16384) (e : Fin 2048) :
    ((dats m 0 c).arrAt 4 cfg0.N : FVec Ideal S16384x2048 .f32) (ix2 r e) = val (U m c) (X m c) (M m c) (W m c) 0 r e := by
  have hN : cfg0.N = 32 := N_0
  let t : Fin cfg0.N := ⟨r.val / 512, by rw [hN]; omega⟩
  let y : Fin 512 := ⟨r.val % 512, by omega⟩
  have hr : row t y = r := Fin.ext (by show 512 * (r.val / 512) + r.val % 512 = r.val; omega)
  obtain ⟨e0, e1⟩ := idx4 t
  have h := congrFun (blocks4 m c t (flush4 t)) (ix2 y e)
  rw [flushed4] at h
  have hemb : ((cfg0.win 4).blk t).view.emb (ix2 y e) = (ix2 r e : S16384x2048.Idx) := by
    funext a
    apply Fin.ext
    fin_cases a
    all_goals blk_simp [e0, e1]
    · show r.val / 512 * 512 + r.val % 512 = r.val
      omega
    · rfl
  have h' : ((dats m 0 c).arrAt 4 cfg0.N) (((cfg0.win 4).blk t).view.emb (ix2 y e))
      = out0_4 (iblk m c 0 t) (iblk m c 1 t) (iblk m c 2 t) (iblk m c 3 t) (ix2 y e) := h
  rw [hemb, out_at, hr] at h'
  exact h'

/-- The reference's term, row by row. -/
theorem ref_at (U : FVec Ideal S2x8192x5632 .bf16) (X : FVec Ideal S2x8192x2048 .f32) (M : FVec Ideal S2x6x2048 .f32)
    (W : FVec Ideal S2x5632x2048 .f32) (r : Fin 16384) (e : Fin 2048) :
    shapeCast Cert.Reference5Ideal.S16384x2048 (addf X (mulf (broadcastInDim Cert.Reference5Ideal.S2x8192x2048 ![0, 1, 2]
        Cert.Reference5Ideal.Gen.facts.bcast_S2x1x2048_S2x8192x2048_0_1_2 (extractStridedSlice Cert.Reference5Ideal.S2x1x2048 ![0, 5, 0] M
          Cert.Reference5Ideal.Gen.facts.slices_S2x6x2048_S2x1x2048_0_5_0))
      (Host.dotGeneral Cert.Reference5Ideal.dot_S2x8192x5632_S5632x2048_S2x8192x2048_2_0_01_1_n_n none
        (extf .f32 U Cert.Reference5Ideal.Gen.facts.bitsLt_bf16_f32)
        (shapeCast Cert.Reference5Ideal.S5632x2048 (extractStridedSlice Cert.Reference5Ideal.S1x5632x2048 ![0, 0, 0] W
          Cert.Reference5Ideal.Gen.facts.slices_S2x5632x2048_S1x5632x2048_0_0_0)
          Cert.Reference5Ideal.Gen.facts.shapeCasts_S1x5632x2048_S5632x2048))))
      Cert.Reference5Ideal.Gen.facts.shapeCasts_S2x8192x2048_S16384x2048 (ix2 r e) = val U X M W 0 r e := by
  refine (merge_at _ _ r e).trans ?_
  unfold val
  pointwise

/-- The reference's frame: its run read at the arguments; it has no semaphore. -/
theorem frame_ref : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

/-- The value claim: both programs end with `val` at every row and column. -/
theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => (dats m 0 c).arrAt 4 cfg0.N, run_blocks (F := Ideal) m g, ?_⟩
  refine (θ_run _ _ _).mono (fun _ h c => ⟨(h c).1.trans ?_, (h c).2⟩) (Cert.Reference5Ideal.Value.run (F := Ideal) m' g')
  obtain ⟨h0, h1, h2, h3⟩ := hagree c
  rw [h0, h1, h2, h3]
  exact rows_ext _ _ fun r e => (ref_at (U m c) (X m c) (M m c) (W m c) r e).trans (final_at m c r e).symm

end Cert.Proof.Down

end
-- ==== Proof.DownFinal.lean ====
/- The last feed-forward's second product with its residual and the final norm: `rmsnorm(x + g * (u @ w2))`. -/
module

public import proofs.«01_k».proof.Defs
public import proofs.«01_k».proof.Proof.Gen.Kernel6Ideal
public import proofs.«01_k».proof.Proof.Gen.Reference6Ideal
public import proofs.«01_k».proof.Proof.Down
public import proofs.«01_k».proof.Proof.Gen.Kernel6Ideal.Value
public import proofs.«01_k».proof.Proof.Gen.Reference6Ideal.Run
public import Idealize.ShloMosaic.Lib.Pointwise
public import Idealize.ShloMosaic.Lib.Claim

@[expose] public section

set_option maxRecDepth 16384

noncomputable section

namespace Cert.Proof.DownFinal

open Idealize.ShloMosaic Idealize.ShloMosaic.TcCoe Idealize.SL.Sem Cert.Kernel6Ideal Cert.Kernel6Ideal.Gen Cert.Kernel6Ideal.Value
open Cert.Proof.Rows

variable (m : (ℓ : Loc nD τ sig) → Buf (Elt Ideal) ℓ) (c : Dev nD)

/-- The hidden activations. -/
abbrev U : FVec Ideal S2x8192x5632 .bf16 := m ((c : Thread nD τ).loc main_arg0)
/-- The residual stream. -/
abbrev X : FVec Ideal S2x8192x2048 .f32 := m ((c : Thread nD τ).loc main_arg1)
/-- The modulation's six rows. -/
abbrev M : FVec Ideal S2x6x2048 .f32 := m ((c : Thread nD τ).loc main_arg2)
/-- The weights of both layers. -/
abbrev W : FVec Ideal S2x5632x2048 .f32 := m ((c : Thread nD τ).loc main_arg3)

/-- The final norm's gain. -/
abbrev Gf : FVec Ideal S2048 .f32 := m ((c : Thread nD τ).loc main_arg4)

/-- The norm's root at a row: the reciprocal root of the mean square plus a small constant. -/
def root (U : FVec Ideal S2x8192x5632 .bf16) (X : FVec Ideal S2x8192x2048 .f32) (M : FVec Ideal S2x6x2048 .f32)
    (W : FVec Ideal S2x5632x2048 .f32) (r : Fin 16384) : EReal :=
  Ideal.rsqrt (Ideal.div (∑ e : Fin 2048, Down.val U X M W 1 r e * Down.val U X M W 1 r e) (Ideal.ofBits .f32 0x45000000#32)
    + Ideal.ofBits .f32 0x358637BD#32)

/-- The result of a row and a column. -/
def val (U : FVec Ideal S2x8192x5632 .bf16) (X : FVec Ideal S2x8192x2048 .f32) (M : FVec Ideal S2x6x2048 .f32)
    (W : FVec Ideal S2x5632x2048 .f32) (Gf : FVec Ideal S2048 .f32) (r : Fin 16384) (e : Fin 2048) : EReal :=
  Down.val U X M W 1 r e * root U X M W r * Gf (ix1 e)

/-- Block indices of the hidden activations. -/
theorem idx0 : ∀ t : Fin grid0.N, win0_0.index t (0 : Fin 2) = t.val ∧ win0_0.index t (1 : Fin 2) = 0 := by decide +kernel
/-- Block indices of the weights. -/
theorem idx1 : ∀ t : Fin grid0.N, win0_1.index t (0 : Fin 3) = 1 ∧ win0_1.index t (1 : Fin 3) = 0 ∧ win0_1.index t (2 : Fin 3) = 0 := by
  decide +kernel
/-- Block indices of the residual stream. -/
theorem idx2 : ∀ t : Fin grid0.N, win0_2.index t (0 : Fin 2) = t.val ∧ win0_2.index t (1 : Fin 2) = 0 := by decide +kernel
/-- Block indices of the modulation. -/
theorem idx3 : ∀ t : Fin grid0.N, win0_3.index t (0 : Fin 3) = t.val / 16 ∧ win0_3.index t (1 : Fin 3) = 0 ∧ win0_3.index t (2 : Fin 3) = 0 := by
  decide +kernel
/-- Block indices of the final norm's gain. -/
theorem idx4 : ∀ t : Fin grid0.N, win0_4.index t (0 : Fin 2) = 0 ∧ win0_4.index t (1 : Fin 2) = 0 := by decide +kernel
/-- Block indices of the result. -/
theorem idx5 : ∀ t : Fin grid0.N, win0_5.index t (0 : Fin 2) = t.val ∧ win0_5.index t (1 : Fin 2) = 0 := by decide +kernel
/-- Every point writes its block back. -/
theorem flush5 : ∀ t : Fin grid0.N, win0_5.flush t = true := by decide +kernel

/-- A row of a point's block. -/
def row (t : Fin cfg0.N) (y : Fin 512) : Fin 16384 := ⟨512 * t.val + y.val, by
  have := lt_of_lt_of_eq t.isLt (show cfg0.N = 32 from N_0); omega⟩

/-- The hidden activations that a point reads. -/
theorem blk0 (t : Fin cfg0.N) (y : Fin 512) (k : Fin 5632) : (iblk m c 0 t : Vec Ideal S512x5632 .bf16) (ix2 y k)
    = U m c (ix3 (rb (row t y)) (rs (row t y)) k) := by
  obtain ⟨e0, e1⟩ := idx0 t
  have hV : V m c main_v0 = shapeCast S16384x5632 (U m c) shapeCasts_S2x8192x5632_S16384x5632 := by entry_read; rfl
  show V m c main_v0 (((cfg0.win 0).blk t).view.emb (ix2 y k)) = _
  rw [hV, ← merge_at (U m c) shapeCasts_S2x8192x5632_S16384x5632]
  congr 1
  funext a
  apply Fin.ext
  fin_cases a
  all_goals blk_simp [e0, e1]
  · show t.val * 512 + y.val = 512 * t.val + y.val
    omega
  · rfl

/-- The weights that a point reads. -/
theorem blk1 (t : Fin cfg0.N) (k : Fin 5632) (e : Fin 2048) : (iblk m c 1 t : Vec Ideal S1x5632x2048 .bf16) (ix3 (0 : Fin 1) k e)
    = W m c (ix3 (1 : Fin 2) k e) := by
  obtain ⟨e0, e1, e2⟩ := idx1 t
  have hV : V m c main_v2 = (truncf .bf16 (W m c) bitsLt_bf16_f32 : FVec Ideal S2x5632x2048 .bf16) := by entry_read; rfl
  show V m c main_v2 (((cfg0.win 1).blk t).view.emb (ix3 (0 : Fin 1) k e)) = _
  rw [hV]
  show W m c (((cfg0.win 1).blk t).view.emb (ix3 (0 : Fin 1) k e)) = _
  congr 1
  funext a
  apply Fin.ext
  fin_cases a
  all_goals blk_simp [e0, e1, e2]
  all_goals rfl

/-- The residual stream that a point reads. -/
theorem blk2 (t : Fin cfg0.N) (y : Fin 512) (e : Fin 2048) : (iblk m c 2 t : Vec Ideal S512x2048 .f32) (ix2 y e)
    = X m c (ix3 (rb (row t y)) (rs (row t y)) e) := by
  obtain ⟨e0, e1⟩ := idx2 t
  have hV : V m c main_v1 = shapeCast S16384x2048 (X m c) shapeCasts_S2x8192x2048_S16384x2048 := by entry_read; rfl
  show V m c main_v1 (((cfg0.win 2).blk t).view.emb (ix2 y e)) = _
  rw [hV, ← merge_at (X m c) shapeCasts_S2x8192x2048_S16384x2048]
  congr 1
  funext a
  apply Fin.ext
  fin_cases a
  all_goals blk_simp [e0, e1]
  · show t.val * 512 + y.val = 512 * t.val + y.val
    omega
  · rfl

/-- The modulation that a point reads. -/
theorem blk3 (t : Fin cfg0.N) (y : Fin 512) (j : Fin 6) (e : Fin 2048) : (iblk m c 3 t : Vec Ideal S1x6x2048 .f32) (ix3 (0 : Fin 1) j e)
    = M m c (ix3 (rb (row t y)) j e) := by
  obtain ⟨e0, e1, e2⟩ := idx3 t
  show V m c main_arg2 (((cfg0.win 3).blk t).view.emb (ix3 (0 : Fin 1) j e)) = _
  rw [V_main_arg2]
  show M m c _ = _
  congr 1
  funext a
  apply Fin.ext
  fin_cases a
  all_goals blk_simp [e0, e1, e2]
  · show t.val / 16 = (512 * t.val + y.val) / 8192
    omega
  all_goals rfl

/-- The final norm's gain that a point reads. -/
theorem blk4 (t : Fin cfg0.N) (e : Fin 2048) : (iblk m c 4 t : Vec Ideal S1x2048 .f32) (ix2 (0 : Fin 1) e) = Gf m c (ix1 e) := by
  obtain ⟨e0, e1⟩ := idx4 t
  have hV : V m c main_v3 = shapeCast S1x2048 (Gf m c) shapeCasts_S2048_S1x2048 := by entry_read; rfl
  have hi : ((cfg0.win 4).blk t).view.emb (ix2 (0 : Fin 1) e) = (ix2 (0 : Fin 1) e : S1x2048.Idx) := by
    funext a
    apply Fin.ext
    fin_cases a
    all_goals blk_simp [e0, e1]
    all_goals rfl
  show V m c main_v3 (((cfg0.win 4).blk t).view.emb (ix2 (0 : Fin 1) e)) = _
  rw [hi, hV]
  unfold S1x2048
  pointwise

/-- The residual sum before the norm, from a point's blocks. -/
def tile (u : FVec Ideal S512x5632 .bf16) (w : FVec Ideal S1x5632x2048 .bf16) (x : FVec Ideal S512x2048 .f32)
    (md : FVec Ideal S1x6x2048 .f32) (y : Fin 512) (e : Fin 2048) : EReal :=
  x (ix2 y e) + md (ix3 (0 : Fin 1) (5 : Fin 6) e) * ∑ k : Fin 5632, u (ix2 y k) * w (ix3 (0 : Fin 1) k e)

/-- The residual sum from a point's blocks is that of its row. -/
theorem tile_at (t : Fin cfg0.N) (y : Fin 512) (e : Fin 2048) : tile (iblk m c 0 t) (iblk m c 1 t) (iblk m c 2 t) (iblk m c 3 t) y e
    = Down.val (U m c) (X m c) (M m c) (W m c) 1 (row t y) e := by
  unfold tile Down.val
  rw [blk2, blk3]
  exact congrArg (fun z => _ + _ * z) (Finset.sum_congr rfl fun k _ => by rw [blk0, blk1])

/-- What a point computes. -/
theorem out_at (t : Fin cfg0.N) (y : Fin 512) (e : Fin 2048) :
    out0_5 (iblk m c 0 t) (iblk m c 1 t) (iblk m c 2 t) (iblk m c 3 t) (iblk m c 4 t) (ix2 y e)
      = val (U m c) (X m c) (M m c) (W m c) (Gf m c) (row t y) e := by
  unfold out0_5
  rw [View.canon_unit_zero (by funext a; fin_cases a <;> rfl)]
  unfold k0_pay1 val
  pointwise
  exact congrArg₂ (· * ·) (congrArg₂ (· * ·) (tile_at m c t y e) (congrArg (fun z => Ideal.rsqrt (Ideal.div z _ + _))
    (Finset.sum_congr rfl fun k _ => congrArg₂ (· * ·) (tile_at m c t y k) (tile_at m c t y k)))) (blk4 m c t e)

/-- The result, row by row. -/
theorem final_at (r : Fin 16384) (e : Fin 2048) :
    ((dats m 0 c).arrAt 5 cfg0.N : FVec Ideal S16384x2048 .f32) (ix2 r e) = val (U m c) (X m c) (M m c) (W m c) (Gf m c) r e := by
  have hN : cfg0.N = 32 := N_0
  let t : Fin cfg0.N := ⟨r.val / 512, by rw [hN]; omega⟩
  let y : Fin 512 := ⟨r.val % 512, by omega⟩
  have hr : row t y = r := Fin.ext (by show 512 * (r.val / 512) + r.val % 512 = r.val; omega)
  obtain ⟨e0, e1⟩ := idx5 t
  have h := congrFun (blocks5 m c t (flush5 t)) (ix2 y e)
  rw [flushed5] at h
  have hemb : ((cfg0.win 5).blk t).view.emb (ix2 y e) = (ix2 r e : S16384x2048.Idx) := by
    funext a
    apply Fin.ext
    fin_cases a
    all_goals blk_simp [e0, e1]
    · show r.val / 512 * 512 + r.val % 512 = r.val
      omega
    · rfl
  have h' : ((dats m 0 c).arrAt 5 cfg0.N) (((cfg0.win 5).blk t).view.emb (ix2 y e))
      = out0_5 (iblk m c 0 t) (iblk m c 1 t) (iblk m c 2 t) (iblk m c 3 t) (iblk m c 4 t) (ix2 y e) := h
  rw [hemb, out_at, hr] at h'
  exact h'

/-- The reference's frame: its run read at the arguments; it has no semaphore. -/
theorem frame_ref : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

/-- The value claim: both programs end with `val` at every row and column. -/
theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => (dats m 0 c).arrAt 5 cfg0.N, run_blocks (F := Ideal) m g, ?_⟩
  refine (θ_run _ _ _).mono (fun _ h c => ⟨(h c).1.trans ?_, (h c).2⟩) (Cert.Reference6Ideal.Value.run (F := Ideal) m' g')
  obtain ⟨h0, h1, h2, h3, h4⟩ := hagree c
  rw [h0, h1, h2, h3, h4]
  refine rows_ext _ _ fun r e => Eq.trans ?_ (final_at m c r e).symm
  refine (merge_at _ _ r e).trans ?_
  unfold val root Down.val
  pointwise

end Cert.Proof.DownFinal

end
-- ==== Proof.OutProj.lean ====
/- The mixers' output projection with its residual: `x + g * ([a, b] @ w)`. -/
module

public import proofs.«01_k».proof.Defs
public import proofs.«01_k».proof.Proof.Gen.Kernel7Ideal
public import proofs.«01_k».proof.Proof.Gen.Reference7Ideal
public import proofs.«01_k».proof.Proof.Rows
public import proofs.«01_k».proof.Proof.Gen.Kernel7Ideal.Value
public import proofs.«01_k».proof.Proof.Gen.Reference7Ideal.Run
public import Idealize.ShloMosaic.Lib.Pointwise
public import Idealize.ShloMosaic.Lib.Claim

@[expose] public section

set_option maxRecDepth 16384

noncomputable section

namespace Cert.Proof.OutProj

open Idealize.ShloMosaic Idealize.ShloMosaic.TcCoe Idealize.SL.Sem Cert.Kernel7Ideal Cert.Kernel7Ideal.Gen Cert.Kernel7Ideal.Value
open Cert.Proof.Rows

variable (m : (ℓ : Loc nD τ sig) → Buf (Elt Ideal) ℓ) (c : Dev nD)

/-- The first mixer's output. -/
abbrev A : FVec Ideal S2x8192x1024 .bf16 := m ((c : Thread nD τ).loc main_arg0)
/-- The second mixer's output. -/
abbrev B : FVec Ideal S2x8192x1024 .bf16 := m ((c : Thread nD τ).loc main_arg1)
/-- The residual stream. -/
abbrev X : FVec Ideal S2x8192x2048 .f32 := m ((c : Thread nD τ).loc main_arg2)
/-- The modulation's six rows. -/
abbrev M : FVec Ideal S2x6x2048 .f32 := m ((c : Thread nD τ).loc main_arg3)
/-- The weights. -/
abbrev W : FVec Ideal S1x2048x2048 .f32 := m ((c : Thread nD τ).loc main_arg4)

/-- An index of the first half. -/
def lo (k : Fin 1024) : Fin 2048 := ⟨k.val, by omega⟩
/-- An index of the second half. -/
def hi (k : Fin 1024) : Fin 2048 := ⟨1024 + k.val, by omega⟩

/-- The result of a row and a column: the two halves of the product apart. -/
def val (A B : FVec Ideal S2x8192x1024 .bf16) (X : FVec Ideal S2x8192x2048 .f32) (M : FVec Ideal S2x6x2048 .f32)
    (W : FVec Ideal S1x2048x2048 .f32) (r : Fin 16384) (e : Fin 2048) : EReal :=
  X (ix3 (rb r) (rs r) e) + M (ix3 (rb r) (2 : Fin 6) e)
    * (∑ k : Fin 1024, A (ix3 (rb r) (rs r) k) * W (ix3 (0 : Fin 1) (lo k) e)
      + ∑ k : Fin 1024, B (ix3 (rb r) (rs r) k) * W (ix3 (0 : Fin 1) (hi k) e))

/-- Block indices of the first mixer's output. -/
theorem idx0 : ∀ t : Fin grid0.N, win0_0.index t (0 : Fin 2) = t.val ∧ win0_0.index t (1 : Fin 2) = 0 := by decide +kernel
/-- Block indices of the second mixer's output. -/
theorem idx1 : ∀ t : Fin grid0.N, win0_1.index t (0 : Fin 2) = t.val ∧ win0_1.index t (1 : Fin 2) = 0 := by decide +kernel
/-- Block indices of the weights. -/
theorem idx2 : ∀ t : Fin grid0.N, win0_2.index t (0 : Fin 3) = 0 ∧ win0_2.index t (1 : Fin 3) = 0 ∧ win0_2.index t (2 : Fin 3) = 0 := by
  decide +kernel
/-- Block indices of the residual stream. -/
theorem idx3 : ∀ t : Fin grid0.N, win0_3.index t (0 : Fin 2) = t.val ∧ win0_3.index t (1 : Fin 2) = 0 := by decide +kernel
/-- Block indices of the modulation. -/
theorem idx4 : ∀ t : Fin grid0.N, win0_4.index t (0 : Fin 3) = t.val / 16 ∧ win0_4.index t (1 : Fin 3) = 0 ∧ win0_4.index t (2 : Fin 3) = 0 := by
  decide +kernel
/-- Block indices of the result. -/
theorem idx5 : ∀ t : Fin grid0.N, win0_5.index t (0 : Fin 2) = t.val ∧ win0_5.index t (1 : Fin 2) = 0 := by decide +kernel
/-- Every point writes its block back. -/
theorem flush5 : ∀ t : Fin grid0.N, win0_5.flush t = true := by decide +kernel

/-- A row of a point's block. -/
def row (t : Fin cfg0.N) (y : Fin 512) : Fin 16384 := ⟨512 * t.val + y.val, by
  have := lt_of_lt_of_eq t.isLt (show cfg0.N = 32 from N_0); omega⟩

/-- The first mixer's output that a point reads. -/
theorem blk0 (t : Fin cfg0.N) (y : Fin 512) (k : Fin 1024) : (iblk m c 0 t : Vec Ideal S512x1024 .bf16) (ix2 y k)
    = A m c (ix3 (rb (row t y)) (rs (row t y)) k) := by
  obtain ⟨e0, e1⟩ := idx0 t
  have hV : V m c main_v0 = shapeCast S16384x1024 (A m c) shapeCasts_S2x8192x1024_S16384x1024 := by entry_read; rfl
  show V m c main_v0 (((cfg0.win 0).blk t).view.emb (ix2 y k)) = _
  rw [hV, ← merge_at (A m c) shapeCasts_S2x8192x1024_S16384x1024]
  congr 1
  funext a
  apply Fin.ext
  fin_cases a
  all_goals blk_simp [e0, e1]
  · show t.val * 512 + y.val = 512 * t.val + y.val
    omega
  · rfl

/-- The second mixer's output that a point reads. -/
theorem blk1 (t : Fin cfg0.N) (y : Fin 512) (k : Fin 1024) : (iblk m c 1 t : Vec Ideal S512x1024 .bf16) (ix2 y k)
    = B m c (ix3 (rb (row t y)) (rs (row t y)) k) := by
  obtain ⟨e0, e1⟩ := idx1 t
  have hV : V m c main_v1 = shapeCast S16384x1024 (B m c) shapeCasts_S2x8192x1024_S16384x1024 := by entry_read; rfl
  show V m c main_v1 (((cfg0.win 1).blk t).view.emb (ix2 y k)) = _
  rw [hV, ← merge_at (B m c) shapeCasts_S2x8192x1024_S16384x1024]
  congr 1
  funext a
  apply Fin.ext
  fin_cases a
  all_goals blk_simp [e0, e1]
  · show t.val * 512 + y.val = 512 * t.val + y.val
    omega
  · rfl

/-- The weights that a point reads. -/
theorem blk2 (t : Fin cfg0.N) (k : Fin 2048) (e : Fin 2048) : (iblk m c 2 t : Vec Ideal S1x2048x2048 .bf16) (ix3 (0 : Fin 1) k e)
    = W m c (ix3 (0 : Fin 1) k e) := by
  obtain ⟨e0, e1, e2⟩ := idx2 t
  have hV : V m c main_v2 = (truncf .bf16 (W m c) bitsLt_bf16_f32 : FVec Ideal S1x2048x2048 .bf16) := by entry_read; rfl
  show V m c main_v2 (((cfg0.win 2).blk t).view.emb (ix3 (0 : Fin 1) k e)) = _
  rw [hV]
  show W m c (((cfg0.win 2).blk t).view.emb (ix3 (0 : Fin 1) k e)) = _
  congr 1
  funext a
  apply Fin.ext
  fin_cases a
  all_goals blk_simp [e0, e1, e2]
  all_goals rfl

/-- The residual stream that a point reads. -/
theorem blk3 (t : Fin cfg0.N) (y : Fin 512) (e : Fin 2048) : (iblk m c 3 t : Vec Ideal S512x2048 .f32) (ix2 y e)
    = X m c (ix3 (rb (row t y)) (rs (row t y)) e) := by
  obtain ⟨e0, e1⟩ := idx3 t
  have hV : V m c main_v3 = shapeCast S16384x2048 (X m c) shapeCasts_S2x8192x2048_S16384x2048 := by entry_read; rfl
  show V m c main_v3 (((cfg0.win 3).blk t).view.emb (ix2 y e)) = _
  rw [hV, ← merge_at (X m c) shapeCasts_S2x8192x2048_S16384x2048]
  congr 1
  funext a
  apply Fin.ext
  fin_cases a
  all_goals blk_simp [e0, e1]
  · show t.val * 512 + y.val = 512 * t.val + y.val
    omega
  · rfl

/-- The modulation that a point reads. -/
theorem blk4 (t : Fin cfg0.N) (y : Fin 512) (j : Fin 6) (e : Fin 2048) : (iblk m c 4 t : Vec Ideal S1x6x2048 .f32) (ix3 (0 : Fin 1) j e)
    = M m c (ix3 (rb (row t y)) j e) := by
  obtain ⟨e0, e1, e2⟩ := idx4 t
  show V m c main_arg3 (((cfg0.win 4).blk t).view.emb (ix3 (0 : Fin 1) j e)) = _
  rw [V_main_arg3]
  show M m c _ = _
  congr 1
  funext a
  apply Fin.ext
  fin_cases a
  all_goals blk_simp [e0, e1, e2]
  · show t.val / 16 = (512 * t.val + y.val) / 8192
    omega
  all_goals rfl

/-- What a point computes. -/
theorem out_at (t : Fin cfg0.N) (y : Fin 512) (e : Fin 2048) :
    out0_5 (iblk m c 0 t) (iblk m c 1 t) (iblk m c 2 t) (iblk m c 3 t) (iblk m c 4 t) (ix2 y e)
      = val (A m c) (B m c) (X m c) (M m c) (W m c) (row t y) e := by
  unfold out0_5
  rw [View.canon_unit_zero (by funext a; fin_cases a <;> rfl)]
  unfold k0_pay1 val
  pointwise
  exact congrArg₂ (· + ·) (blk3 m c t y e) (congrArg₂ (· * ·) (blk4 m c t y 2 e) (congrArg₂ (· + ·)
    (Finset.sum_congr rfl fun k _ => congrArg₂ (· * ·) (blk0 m c t y k) (blk2 m c t (lo k) e))
    (Finset.sum_congr rfl fun k _ => congrArg₂ (· * ·) (blk1 m c t y k) (blk2 m c t (hi k) e))))

/-- The result, row by row. -/
theorem final_at (r : Fin 16384) (e : Fin 2048) :
    ((dats m 0 c).arrAt 5 cfg0.N : FVec Ideal S16384x2048 .f32) (ix2 r e) = val (A m c) (B m c) (X m c) (M m c) (W m c) r e := by
  have hN : cfg0.N = 32 := N_0
  let t : Fin cfg0.N := ⟨r.val / 512, by rw [hN]; omega⟩
  let y : Fin 512 := ⟨r.val % 512, by omega⟩
  have hr : row t y = r := Fin.ext (by show 512 * (r.val / 512) + r.val % 512 = r.val; omega)
  obtain ⟨e0, e1⟩ := idx5 t
  have h := congrFun (blocks5 m c t (flush5 t)) (ix2 y e)
  rw [flushed5] at h
  have hemb : ((cfg0.win 5).blk t).view.emb (ix2 y e) = (ix2 r e : S16384x2048.Idx) := by
    funext a
    apply Fin.ext
    fin_cases a
    all_goals blk_simp [e0, e1]
    · show r.val / 512 * 512 + r.val % 512 = r.val
      omega
    · rfl
  have h' : ((dats m 0 c).arrAt 5 cfg0.N) (((cfg0.win 5).blk t).view.emb (ix2 y e))
      = out0_5 (iblk m c 0 t) (iblk m c 1 t) (iblk m c 2 t) (iblk m c 3 t) (iblk m c 4 t) (ix2 y e) := h
  rw [hemb, out_at, hr] at h'
  exact h'

/-- A sum over both halves. -/
theorem sum_halves (f : Fin 2048 → EReal) : ∑ k, f k = ∑ k : Fin 1024, f (lo k) + ∑ k : Fin 1024, f (hi k) :=
  Fin.sum_univ_add (a := 1024) (b := 1024) f

/-- The two mixers' outputs side by side, in the first half. -/
theorem cat_lo (A B : FVec Ideal S2x8192x1024 .bf16)
    (h : Shape.Concatenates [S2x8192x1024, S2x8192x1024] S2x8192x2048 2) (b : Fin 2) (s : Fin 8192) (k : Fin 1024) :
    concatenate S2x8192x2048 2 [⟨S2x8192x1024, A⟩, ⟨S2x8192x1024, B⟩] h (ix3 b s (lo k)) = A (ix3 b s k) :=
  concatenate_pair_apply_left _ A B h _ rfl _ (by intro a; fin_cases a <;> rfl)

/-- The two mixers' outputs side by side, in the second half. -/
theorem cat_hi (A B : FVec Ideal S2x8192x1024 .bf16)
    (h : Shape.Concatenates [S2x8192x1024, S2x8192x1024] S2x8192x2048 2) (b : Fin 2) (s : Fin 8192) (k : Fin 1024) :
    concatenate S2x8192x2048 2 [⟨S2x8192x1024, A⟩, ⟨S2x8192x1024, B⟩] h (ix3 b s (hi k)) = B (ix3 b s k) :=
  concatenate_pair_apply_right _ A B h _ rfl rfl _ (by intro a ha; fin_cases a <;> first | rfl | exact absurd rfl ha)
    (by show k.val + 1024 = 1024 + k.val; omega)

/-- The reference's term, row by row, of the outputs side by side. -/
theorem ref_at (C : FVec Ideal Cert.Reference7Ideal.S2x8192x2048 .bf16) (X : FVec Ideal Cert.Reference7Ideal.S2x8192x2048 .f32)
    (M : FVec Ideal Cert.Reference7Ideal.S2x6x2048 .f32) (W : FVec Ideal Cert.Reference7Ideal.S1x2048x2048 .f32) (r : Fin 16384) (e : Fin 2048) :
    shapeCast Cert.Reference7Ideal.S16384x2048 (addf X (mulf (broadcastInDim Cert.Reference7Ideal.S2x8192x2048 ![0, 1, 2]
        Cert.Reference7Ideal.Gen.facts.bcast_S2x1x2048_S2x8192x2048_0_1_2 (extractStridedSlice Cert.Reference7Ideal.S2x1x2048 ![0, 2, 0] M
          Cert.Reference7Ideal.Gen.facts.slices_S2x6x2048_S2x1x2048_0_2_0))
      (Host.dotGeneral Cert.Reference7Ideal.dot_S2x8192x2048_S2048x2048_S2x8192x2048_2_0_01_1_n_n none
        (extf .f32 C Cert.Reference7Ideal.Gen.facts.bitsLt_bf16_f32)
        (shapeCast Cert.Reference7Ideal.S2048x2048 W Cert.Reference7Ideal.Gen.facts.shapeCasts_S1x2048x2048_S2048x2048))))
      Cert.Reference7Ideal.Gen.facts.shapeCasts_S2x8192x2048_S16384x2048 (ix2 r e)
      = X (ix3 (rb r) (rs r) e) + M (ix3 (rb r) (2 : Fin 6) e) * ∑ k : Fin 2048, C (ix3 (rb r) (rs r) k) * W (ix3 (0 : Fin 1) k e) := by
  refine (merge_at _ _ r e).trans ?_
  pointwise

/-- The reference's frame: its run read at the arguments; it has no semaphore. -/
theorem frame_ref : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

/-- The value claim: both programs end with `val` at every row and column. -/
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => (dats m 0 c).arrAt 5 cfg0.N, run_blocks (F := Ideal) m g, ?_⟩
  refine (θ_run _ _ _).mono (fun _ h c => ⟨(h c).1.trans ?_, (h c).2⟩) (Cert.Reference7Ideal.Value.run (F := Ideal) m' g')
  obtain ⟨h0, h1, h2, h3, h4⟩ := hagree c
  rw [h0, h1, h2, h3, h4]
  refine rows_ext _ _ fun r e => Eq.trans ?_ (final_at m c r e).symm
  refine (ref_at _ (X m c) (M m c) (W m c) r e).trans ?_
  unfold val
  rw [sum_halves]
  refine congrArg₂ (· + ·) rfl (congrArg₂ (· * ·) rfl (congrArg₂ (· + ·)
    (Finset.sum_congr rfl fun k _ => congrArg₂ (· * ·) ?_ rfl) (Finset.sum_congr rfl fun k _ => congrArg₂ (· * ·) ?_ rfl)))
  · exact cat_lo (A m c) (B m c) _ (rb r) (rs r) k
  · exact cat_hi (A m c) (B m c) _ (rb r) (rs r) k

end Cert.Proof.OutProj

end
-- ==== Proof.OutConvBody.lean ====
/- The output projection with the gated convolution fused in, one grid point: what the kernel's body leaves in its output block. -/
module

public import proofs.«01_k».proof.Defs
public import proofs.«01_k».proof.Proof.OutProj
public import proofs.«01_k».proof.Proof.Gen.Kernel8Ideal
public import proofs.«01_k».proof.Proof.Gen.Kernel8Ideal.Value
public import Idealize.ShloMosaic.Lib.Pointwise

@[expose] public section

set_option maxRecDepth 16384

noncomputable section

namespace Cert.Proof.OutConvBody

open Idealize.ShloMosaic Idealize.ShloMosaic.TcCoe Idealize.SL.Sem Cert.Kernel8Ideal Cert.Kernel8Ideal.Gen Cert.Kernel8Ideal.Value
open Cert.Proof.OutProj (lo hi)

/-- A zero offset, of a matrix. -/
theorem off2 : (![0, 0] : Fin 2 → Nat) = fun _ => 0 := by funext a; fin_cases a <;> rfl

/-- The scratch is the halo's eight rows and then the tile's 512. -/
abbrev scratch (P : Vec Ideal S512x1024 .f32) (Q : Vec Ideal S8x1024 .f32) : List (View.Piece (Elt Ideal) S520x1024 .f32) :=
  [⟨Rect.unit (s := S520x1024) ![8, 0] S512x1024.size inb_S520x1024_S512x1024_8_0, P⟩,
    ⟨Rect.unit (s := S520x1024) ![0, 0] S8x1024.size inb_S520x1024_S8x1024_0_0, Q⟩]

/-- A row of the tile. -/
theorem scratch_tile (P : Vec Ideal S512x1024 .f32) (Q : Vec Ideal S8x1024 .f32) (j : S520x1024.Idx) (y : Fin 512) (k : Fin 1024)
    (h0 : (j 0).val = 8 + y.val) (h1 : (j 1).val = k.val) : View.canon (scratch P Q) j = P (ix2 y k) := by
  have e : j = (Rect.unit (s := S520x1024) ![8, 0] S512x1024.size inb_S520x1024_S512x1024_8_0).emb (ix2 y k) := by
    funext a
    apply Fin.ext
    fin_cases a
    · show (j 0).val = 8 + 1 * y.val
      omega
    · show (j 1).val = 0 + 1 * k.val
      omega
  rw [e]
  exact View.canon_cons_emb _ _ _ _

/-- A row of the halo. -/
theorem scratch_halo (P : Vec Ideal S512x1024 .f32) (Q : Vec Ideal S8x1024 .f32) (j : S520x1024.Idx) (y : Fin 8) (k : Fin 1024)
    (h0 : (j 0).val = y.val) (h1 : (j 1).val = k.val) : View.canon (scratch P Q) j = Q (ix2 y k) := by
  have e : j = (Rect.unit (s := S520x1024) ![0, 0] S8x1024.size inb_S520x1024_S8x1024_0_0).emb (ix2 y k) := by
    funext a
    apply Fin.ext
    fin_cases a
    · show (j 0).val = 0 + 1 * y.val
      omega
    · show (j 1).val = 0 + 1 * k.val
      omega
  refine (View.canon_cons_of_not_mem _ _ ?_).trans ?_
  · intro hm
    have h8 : 8 ≤ (j 0).val := ((Rect.mem_set_unit (s := S520x1024) (inb := inb_S520x1024_S512x1024_8_0)).mp hm (0 : Fin 2)).1
    omega
  · rw [e]
    exact View.canon_cons_emb _ _ _ _

/-- The scratch `d` rows back from a row of the tile: of the tile, or of the halo. -/
def shifted (P : Vec Ideal S512x1024 .f32) (Q : Vec Ideal S8x1024 .f32) (d : Fin 3) (y : Fin 512) (k : Fin 1024) : EReal :=
  if h : d.val ≤ y.val then P (ix2 ⟨y.val - d.val, by omega⟩ k) else Q (ix2 ⟨8 + y.val - d.val, by omega⟩ k)

/-- An element of the scratch, found by its row and its column. -/
theorem scratch_at (P : Vec Ideal S512x1024 .f32) (Q : Vec Ideal S8x1024 .f32) (d : Fin 3) (y : Fin 512) (k : Fin 1024) (j : S520x1024.Idx)
    (h0 : (j 0).val + d.val = 8 + y.val) (h1 : (j 1).val = k.val) : View.canon (scratch P Q) j = shifted P Q d y k := by
  unfold shifted
  split
  · exact scratch_tile P Q j _ k (by show (j 0).val = 8 + (y.val - d.val); omega) h1
  · exact scratch_halo P Q j _ k (by show (j 0).val = 8 + y.val - d.val; omega) h1

/-- The read of the scratch that starts two rows early. -/
theorem read_two (v : View sig .tc .vmem S520x1024 .f32) (P : Vec Ideal S512x1024 .f32) (Q : Vec Ideal S8x1024 .f32) (y : Fin 512) (k : Fin 1024) :
    (v.readCov (scratch P Q) (Rect.unit (s := S520x1024) ![6, 0] S512x1024.size inb_S520x1024_S512x1024_6_0).toLoadRect : Vec Ideal S512x1024 .f32)
      (ix2 y k) = shifted P Q 2 y k := by
  rw [View.readCov_eq_canon']
  refine scratch_at P Q 2 y k _ ?_ ?_
  · show 6 + 1 * y.val + 2 = 8 + y.val
    omega
  · show 0 + 1 * k.val = k.val
    omega

/-- The read of the scratch that starts one row early. -/
theorem read_one (v : View sig .tc .vmem S520x1024 .f32) (P : Vec Ideal S512x1024 .f32) (Q : Vec Ideal S8x1024 .f32) (y : Fin 512) (k : Fin 1024) :
    (v.readCov (scratch P Q) (Rect.unit (s := S520x1024) ![7, 0] S512x1024.size inb_S520x1024_S512x1024_7_0).toLoadRect : Vec Ideal S512x1024 .f32)
      (ix2 y k) = shifted P Q 1 y k := by
  rw [View.readCov_eq_canon']
  refine scratch_at P Q 1 y k _ ?_ ?_
  · show 7 + 1 * y.val + 1 = 8 + y.val
    omega
  · show 0 + 1 * k.val = k.val
    omega

/-- The body's test for the first tile of a sequence, as it computes it. -/
def test (n : Fin 32) : BitVec 1 :=
  let v6 : BitVec 32 := Scalar.select (Scalar.cmpi .eq 16#32 0#32) 1#32 16#32
  let v7 : BitVec 32 := Scalar.remsi (BitVec.ofNat 32 n.val) v6
  Scalar.cmpi .eq (Scalar.select (Scalar.andi (Scalar.xori (Scalar.cmpi .slt v7 0#32) (Scalar.cmpi .slt v6 0#32)) (Scalar.cmpi .ne v7 0#32))
    (Scalar.addi v7 v6) v7) 0#32

/-- A sequence is sixteen tiles. -/
theorem test_eq : ∀ n : Fin 32, test n = if n.val % 16 = 0 then 1#1 else 0#1 := by decide +kernel

/-- The halo's rows: zero before a sequence's first row, else the gate times the input. -/
theorem pay2_at (i : grid0.Coords) (v w : Vec Ideal S8x1024 .bf16) (y : Fin 8) (k : Fin 1024) :
    k0_pay2 i v w (ix2 y k) = if (i 0).val % 16 = 0 then 0 else v (ix2 y k) * w (ix2 y k) := by
  have h : k0_pay2 i v w = shapeCast S8x1024 (Scalar.select (test (i 0)) (broadcast S8x1024 (Scalar.ofBits (F := Ideal) .f32 0x00000000#32))
      (mulf (extf .f32 (shapeCast S8x1024 v shapeCasts_S8x1024_S8x1024) bitsLt_bf16_f32)
        (extf .f32 (shapeCast S8x1024 w shapeCasts_S8x1024_S8x1024) bitsLt_bf16_f32)) : FVec Ideal S8x1024 .f32)
      shapeCasts_S8x1024_S8x1024 := rfl
  rw [h, test_eq (i 0)]
  by_cases h0 : (i 0).val % 16 = 0
  · rw [if_pos h0, if_pos h0]
    show shapeCast S8x1024 (broadcast S8x1024 (Scalar.ofBits (F := Ideal) .f32 0x00000000#32) : FVec Ideal S8x1024 .f32)
      shapeCasts_S8x1024_S8x1024 (ix2 y k) = 0
    pointwise
  · rw [if_neg h0, if_neg h0]
    show shapeCast S8x1024 (mulf (extf .f32 (shapeCast S8x1024 v shapeCasts_S8x1024_S8x1024) bitsLt_bf16_f32)
        (extf .f32 (shapeCast S8x1024 w shapeCasts_S8x1024_S8x1024) bitsLt_bf16_f32) : FVec Ideal S8x1024 .f32)
      shapeCasts_S8x1024_S8x1024 (ix2 y k) = v (ix2 y k) * w (ix2 y k)
    pointwise

/-- The tile's rows: the gate times the input. -/
theorem pay6_at (v w : Vec Ideal S512x1024 .bf16) (y : Fin 512) (k : Fin 1024) :
    k0_pay6 (k0_pay3 v) (k0_pay4 w) (ix2 y k) = v (ix2 y k) * w (ix2 y k) := by
  unfold k0_pay6 k0_pay5 k0_pay3 k0_pay4
  pointwise

/-- The first mixer's half of the product. -/
theorem pay1_at (v : Vec Ideal S512x1024 .bf16) (w : Vec Ideal S1x1024x2048 .bf16) (y : Fin 512) (e : Fin 2048) :
    k0_pay1 v w (ix2 y e) = ∑ k : Fin 1024, v (ix2 y k) * w (ix3 (0 : Fin 1) k e) := by
  unfold k0_pay1
  pointwise

/-- The block that the body stores. -/
theorem pay7_at (v4 : FVec Ideal S512x2048 .f32) (a b : Vec Ideal S512x1024 .bf16) (cw : Vec Ideal S3x1024 .f32) (u2 u1 : Vec Ideal S512x1024 .f32)
    (g : Vec Ideal S512x1024 .bf16) (w : Vec Ideal S1x1024x2048 .bf16) (x : Vec Ideal S512x2048 .f32) (gm : Vec Ideal S1x1x2048 .f32)
    (y : Fin 512) (e : Fin 2048) :
    k0_pay7 v4 (k0_pay3 a) (k0_pay4 b) cw u2 u1 g w x gm (ix2 y e)
      = x (ix2 y e) + gm (ix3 (0 : Fin 1) (0 : Fin 1) e) * (v4 (ix2 y e) + ∑ k : Fin 1024,
          (g (ix2 y k) * (cw (ix2 (2 : Fin 3) k) * (a (ix2 y k) * b (ix2 y k)) + cw (ix2 (0 : Fin 3) k) * u2 (ix2 y k)
            + cw (ix2 (1 : Fin 3) k) * u1 (ix2 y k))) * w (ix3 (0 : Fin 1) k e)) := by
  unfold k0_pay7 k0_pay5 k0_pay3 k0_pay4
  pointwise

variable (x0 : Vec Ideal S512x1024 .bf16) (x1 : Vec Ideal S512x1024 .bf16) (x2 : Vec Ideal S512x1024 .bf16) (x3 : Vec Ideal S512x1024 .bf16) (x4 : Vec Ideal S8x1024 .bf16) (x5 : Vec Ideal S8x1024 .bf16) (x6 : Vec Ideal S3x1024 .f32) (x7 : Vec Ideal S1x2048x2048 .bf16) (x8 : Vec Ideal S512x2048 .f32) (x9 : Vec Ideal S1x6x2048 .f32)

/-- The gate times the input, `d` rows back from a row of the tile. -/
def back (n : Fin 32) (x2 x3 : Vec Ideal S512x1024 .bf16) (x4 x5 : Vec Ideal S8x1024 .bf16) (d : Fin 3) (y : Fin 512) (k : Fin 1024) : EReal :=
  if h : d.val ≤ y.val then x2 (ix2 ⟨y.val - d.val, by omega⟩ k) * x3 (ix2 ⟨y.val - d.val, by omega⟩ k)
  else if n.val % 16 = 0 then 0
  else x4 (ix2 ⟨8 + y.val - d.val, by omega⟩ k) * x5 (ix2 ⟨8 + y.val - d.val, by omega⟩ k)

/-- The scratch's two pieces, as the body computes them. -/
theorem shifted_eq (i : grid0.Coords) (d : Fin 3) (y : Fin 512) (k : Fin 1024) :
    shifted (k0_pay6 (k0_pay3 x2) (k0_pay4 x3)) (k0_pay2 i x4 x5) d y k = back (i 0) x2 x3 x4 x5 d y k := by
  unfold shifted back
  split
  · exact pay6_at _ _ _ _
  · exact pay2_at _ _ _ _ _

/-- The element of the output block at a row and a column. -/
def tile (n : Fin 32) (y : Fin 512) (e : Fin 2048) : EReal :=
  x8 (ix2 y e) + x9 (ix3 (0 : Fin 1) (2 : Fin 6) e) * (∑ k : Fin 1024, x0 (ix2 y k) * x7 (ix3 (0 : Fin 1) (lo k) e)
    + ∑ k : Fin 1024, (x1 (ix2 y k) * (x6 (ix2 (2 : Fin 3) k) * (x2 (ix2 y k) * x3 (ix2 y k)) + x6 (ix2 (0 : Fin 3) k) * back n x2 x3 x4 x5 2 y k
      + x6 (ix2 (1 : Fin 3) k) * back n x2 x3 x4 x5 1 y k)) * x7 (ix3 (0 : Fin 1) (hi k) e))

/-- The output block after the body. -/
theorem out_at (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S8x1024 .bf16) (harg5 : arg5.IsWhole) (arg6 : Memref sig .tc .vmem S8x1024 .bf16) (harg6 : arg6.IsWhole) (arg7 : Memref sig .tc .vmem S3x1024 .f32) (harg7 : arg7.IsWhole) (arg8 : Memref sig .tc .vmem S1x2048x2048 .bf16) (harg8 : arg8.IsWhole) (arg9 : Memref sig .tc .vmem S512x2048 .f32) (harg9 : arg9.IsWhole) (arg10 : Memref sig .tc .vmem S1x6x2048 .f32) (harg10 : arg10.IsWhole) (arg11 : Memref sig .tc .vmem S512x2048 .f32) (harg11 : arg11.IsWhole) (arg12 : Memref sig .tc .vmem S520x1024 .f32) (harg12 : arg12.IsWhole) (y : Fin 512) (e : Fin 2048) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 (ix2 y e) = tile x0 x1 x2 x3 x4 x5 x6 x7 x8 x9 (i 0) y e := by
  refine (congrFun (View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)) (ix2 y e)).trans ?_
  have key : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).1
      = [⟨Rect.unit (s := S512x2048) ![0, 0] S512x2048.size inb_S512x2048_S512x2048_0_0,
          k0_pay7 (k0_pay1 (View.readAt (Elt Ideal) arg1.view (Rect.unit (s := S512x1024) ![0, 0] S512x1024.size inb_S512x1024_S512x1024_0_0).toLoadRect (harg1.unread x0)) (View.readAt (Elt Ideal) arg8.view (Rect.unit (s := S1x2048x2048) ![0, 0, 0] S1x1024x2048.size inb_S1x2048x2048_S1x1024x2048_0_0_0).toLoadRect (harg8.unread x7)))
            (k0_pay3 (View.readAt (Elt Ideal) arg3.view (Rect.unit (s := S512x1024) ![0, 0] S512x1024.size inb_S512x1024_S512x1024_0_0).toLoadRect (harg3.unread x2))) (k0_pay4 (View.readAt (Elt Ideal) arg4.view (Rect.unit (s := S512x1024) ![0, 0] S512x1024.size inb_S512x1024_S512x1024_0_0).toLoadRect (harg4.unread x3))) (View.readAt (Elt Ideal) arg7.view (Rect.unit (s := S3x1024) ![0, 0] S3x1024.size inb_S3x1024_S3x1024_0_0).toLoadRect (harg7.unread x6))
            (arg12.view.readCov (scratch (k0_pay6 (k0_pay3 (View.readAt (Elt Ideal) arg3.view (Rect.unit (s := S512x1024) ![0, 0] S512x1024.size inb_S512x1024_S512x1024_0_0).toLoadRect (harg3.unread x2))) (k0_pay4 (View.readAt (Elt Ideal) arg4.view (Rect.unit (s := S512x1024) ![0, 0] S512x1024.size inb_S512x1024_S512x1024_0_0).toLoadRect (harg4.unread x3)))) (k0_pay2 i (View.readAt (Elt Ideal) arg5.view (Rect.unit (s := S8x1024) ![0, 0] S8x1024.size inb_S8x1024_S8x1024_0_0).toLoadRect (harg5.unread x4)) (View.readAt (Elt Ideal) arg6.view (Rect.unit (s := S8x1024) ![0, 0] S8x1024.size inb_S8x1024_S8x1024_0_0).toLoadRect (harg6.unread x5))))
              (Rect.unit (s := S520x1024) ![6, 0] S512x1024.size inb_S520x1024_S512x1024_6_0).toLoadRect)
            (arg12.view.readCov (scratch (k0_pay6 (k0_pay3 (View.readAt (Elt Ideal) arg3.view (Rect.unit (s := S512x1024) ![0, 0] S512x1024.size inb_S512x1024_S512x1024_0_0).toLoadRect (harg3.unread x2))) (k0_pay4 (View.readAt (Elt Ideal) arg4.view (Rect.unit (s := S512x1024) ![0, 0] S512x1024.size inb_S512x1024_S512x1024_0_0).toLoadRect (harg4.unread x3)))) (k0_pay2 i (View.readAt (Elt Ideal) arg5.view (Rect.unit (s := S8x1024) ![0, 0] S8x1024.size inb_S8x1024_S8x1024_0_0).toLoadRect (harg5.unread x4)) (View.readAt (Elt Ideal) arg6.view (Rect.unit (s := S8x1024) ![0, 0] S8x1024.size inb_S8x1024_S8x1024_0_0).toLoadRect (harg6.unread x5))))
              (Rect.unit (s := S520x1024) ![7, 0] S512x1024.size inb_S520x1024_S512x1024_7_0).toLoadRect)
            (View.readAt (Elt Ideal) arg2.view (Rect.unit (s := S512x1024) ![0, 0] S512x1024.size inb_S512x1024_S512x1024_0_0).toLoadRect (harg2.unread x1))
            (View.readAt (Elt Ideal) arg8.view (Rect.unit (s := S1x2048x2048) ![0, 1024, 0] S1x1024x2048.size inb_S1x2048x2048_S1x1024x2048_0_1024_0).toLoadRect (harg8.unread x7))
            (View.readAt (Elt Ideal) arg9.view (Rect.unit (s := S512x2048) ![0, 0] S512x2048.size inb_S512x2048_S512x2048_0_0).toLoadRect (harg9.unread x8))
            (View.readAt (Elt Ideal) arg10.view (Rect.unit (s := S1x6x2048) ![0, 2, 0] S1x1x2048.size inb_S1x6x2048_S1x1x2048_0_2_0).toLoadRect (harg10.unread x9))⟩] := rfl
  rw [key, View.canon_unit_zero off2]
  simp only [View.readAt_eq_ld, Memref.IsWhole.read_unread]
  rw [View.ld_unit_zero (S := S512x1024) off2 _ x0, View.ld_unit_zero (S := S512x1024) off2 _ x1, View.ld_unit_zero (S := S512x1024) off2 _ x2,
    View.ld_unit_zero (S := S512x1024) off2 _ x3, View.ld_unit_zero (S := S8x1024) off2 _ x4, View.ld_unit_zero (S := S8x1024) off2 _ x5,
    View.ld_unit_zero (S := S3x1024) off2 _ x6, View.ld_unit_zero (S := S512x2048) off2 _ x8]
  refine (pay7_at _ x2 x3 x6 _ _ x1 _ x8 _ y e).trans ?_
  unfold tile
  refine congrArg₂ (· + ·) rfl (congrArg₂ (· * ·) (congrArg x9 ?_) (congrArg₂ (· + ·) ((pay1_at _ _ y e).trans ?_) ?_))
  · funext a
    apply Fin.ext
    fin_cases a
    · rfl
    · rfl
    · show 0 + 1 * e.val = e.val
      omega
  · refine Finset.sum_congr rfl fun k _ => congrArg₂ (· * ·) rfl (congrArg x7 ?_)
    funext a
    apply Fin.ext
    fin_cases a
    · rfl
    · show 0 + 1 * k.val = k.val
      omega
    · show 0 + 1 * e.val = e.val
      omega
  · refine Finset.sum_congr rfl fun k _ => congrArg₂ (· * ·) (congrArg₂ (· * ·) rfl (congrArg₂ (· + ·) (congrArg₂ (· + ·) rfl
      (congrArg₂ (· * ·) rfl ((read_two _ _ _ y k).trans (shifted_eq x2 x3 x4 x5 i 2 y k))))
      (congrArg₂ (· * ·) rfl ((read_one _ _ _ y k).trans (shifted_eq x2 x3 x4 x5 i 1 y k))))) (congrArg x7 ?_)
    funext a
    apply Fin.ext
    fin_cases a
    · rfl
    · show 1024 + 1 * k.val = 1024 + k.val
      omega
    · show 0 + 1 * e.val = e.val
      omega

end Cert.Proof.OutConvBody

end
-- ==== Proof.OutConv.lean ====
/- The output projection with the gated convolution fused in: `x + g * ([a, conv] @ w)`. -/
module

public import proofs.«01_k».proof.Defs
public import proofs.«01_k».proof.Proof.Gen.Kernel8Ideal
public import proofs.«01_k».proof.Proof.Gen.Reference8Ideal
public import proofs.«01_k».proof.Proof.Rows
public import proofs.«01_k».proof.Proof.OutConvBody
public import proofs.«01_k».proof.Proof.Gen.Kernel8Ideal.Value
public import proofs.«01_k».proof.Proof.Gen.Reference8Ideal.Run
public import Idealize.ShloMosaic.Lib.Pointwise
public import Idealize.ShloMosaic.Lib.Claim

@[expose] public section

set_option maxRecDepth 16384

noncomputable section

namespace Cert.Proof.OutConv

open Idealize.ShloMosaic Idealize.ShloMosaic.TcCoe Idealize.SL.Sem Cert.Kernel8Ideal Cert.Kernel8Ideal.Gen Cert.Kernel8Ideal.Value
open Cert.Proof.Rows Cert.Proof.OutConvBody
open Cert.Proof.OutProj (lo hi sum_halves)

variable (m : (ℓ : Loc nD τ sig) → Buf (Elt Ideal) ℓ) (c : Dev nD)

/-- The first mixer's output. -/
abbrev A : FVec Ideal S2x8192x1024 .bf16 := m ((c : Thread nD τ).loc main_arg0)
/-- The input projection, whose last three blocks of columns are the convolution's gate, its input gate and its input. -/
abbrev P : FVec Ideal S2x8192x6144 .bf16 := m ((c : Thread nD τ).loc main_arg1)
/-- The residual stream. -/
abbrev X : FVec Ideal S2x8192x2048 .f32 := m ((c : Thread nD τ).loc main_arg2)
/-- The modulation's six rows. -/
abbrev M : FVec Ideal S2x6x2048 .f32 := m ((c : Thread nD τ).loc main_arg3)
/-- The weights. -/
abbrev W : FVec Ideal S1x2048x2048 .f32 := m ((c : Thread nD τ).loc main_arg4)
/-- The convolution's three taps. -/
abbrev T : FVec Ideal S1x3x1024 .f32 := m ((c : Thread nD τ).loc main_arg5)

/-- The gate's column. -/
def cb (k : Fin 1024) : Fin 6144 := ⟨3072 + k.val, by omega⟩
/-- The input gate's column. -/
def cc (k : Fin 1024) : Fin 6144 := ⟨4096 + k.val, by omega⟩
/-- The input's column. -/
def cx (k : Fin 1024) : Fin 6144 := ⟨5120 + k.val, by omega⟩

/-- The gated input `d` positions back: zero before the sequence's first. -/
def past (P : FVec Ideal S2x8192x6144 .bf16) (b : Fin 2) (s : Fin 8192) (d : Fin 3) (k : Fin 1024) : EReal :=
  if d.val ≤ s.val then P (ix3 b (⟨s.val - d.val, by omega⟩ : Fin 8192) (cc k)) * P (ix3 b (⟨s.val - d.val, by omega⟩ : Fin 8192) (cx k)) else 0

/-- The gated convolution at a position: the gate times the three taps' sum. -/
def conv (P : FVec Ideal S2x8192x6144 .bf16) (T : FVec Ideal S1x3x1024 .f32) (b : Fin 2) (s : Fin 8192) (k : Fin 1024) : EReal :=
  P (ix3 b s (cb k)) * (T (ix3 (0 : Fin 1) (2 : Fin 3) k) * past P b s 0 k + T (ix3 (0 : Fin 1) (0 : Fin 3) k) * past P b s 2 k
    + T (ix3 (0 : Fin 1) (1 : Fin 3) k) * past P b s 1 k)

/-- The result of a row and a column: the two halves of the product apart. -/
def val (A : FVec Ideal S2x8192x1024 .bf16) (P : FVec Ideal S2x8192x6144 .bf16) (X : FVec Ideal S2x8192x2048 .f32)
    (M : FVec Ideal S2x6x2048 .f32) (W : FVec Ideal S1x2048x2048 .f32) (T : FVec Ideal S1x3x1024 .f32) (r : Fin 16384) (e : Fin 2048) : EReal :=
  X (ix3 (rb r) (rs r) e) + M (ix3 (rb r) (2 : Fin 6) e)
    * (∑ k : Fin 1024, A (ix3 (rb r) (rs r) k) * W (ix3 (0 : Fin 1) (lo k) e)
      + ∑ k : Fin 1024, conv P T (rb r) (rs r) k * W (ix3 (0 : Fin 1) (hi k) e))

/-- A point's coordinate is its number. -/
theorem coord : ∀ t : Fin grid0.N, (grid0.coords t 0).val = t.val := by decide +kernel
/-- Block indices of the first mixer's output. -/
theorem idx0 : ∀ t : Fin grid0.N, win0_0.index t (0 : Fin 2) = t.val ∧ win0_0.index t (1 : Fin 2) = 0 := by decide +kernel
/-- Block indices of the gate. -/
theorem idx1 : ∀ t : Fin grid0.N, win0_1.index t (0 : Fin 2) = t.val ∧ win0_1.index t (1 : Fin 2) = 3 := by decide +kernel
/-- Block indices of the input gate. -/
theorem idx2 : ∀ t : Fin grid0.N, win0_2.index t (0 : Fin 2) = t.val ∧ win0_2.index t (1 : Fin 2) = 4 := by decide +kernel
/-- Block indices of the input. -/
theorem idx3 : ∀ t : Fin grid0.N, win0_3.index t (0 : Fin 2) = t.val ∧ win0_3.index t (1 : Fin 2) = 5 := by decide +kernel
/-- Block indices of the input gate's halo: the eight rows before the tile. -/
theorem idx4 : ∀ t : Fin grid0.N, win0_4.index t (0 : Fin 2) = 64 * t.val - 1 ∧ win0_4.index t (1 : Fin 2) = 4 := by decide +kernel
/-- Block indices of the input's halo. -/
theorem idx5 : ∀ t : Fin grid0.N, win0_5.index t (0 : Fin 2) = 64 * t.val - 1 ∧ win0_5.index t (1 : Fin 2) = 5 := by decide +kernel
/-- Block indices of the taps. -/
theorem idx6 : ∀ t : Fin grid0.N, win0_6.index t (0 : Fin 2) = 0 ∧ win0_6.index t (1 : Fin 2) = 0 := by decide +kernel
/-- Block indices of the weights. -/
theorem idx7 : ∀ t : Fin grid0.N, win0_7.index t (0 : Fin 3) = 0 ∧ win0_7.index t (1 : Fin 3) = 0 ∧ win0_7.index t (2 : Fin 3) = 0 := by
  decide +kernel
/-- Block indices of the residual stream. -/
theorem idx8 : ∀ t : Fin grid0.N, win0_8.index t (0 : Fin 2) = t.val ∧ win0_8.index t (1 : Fin 2) = 0 := by decide +kernel
/-- Block indices of the modulation. -/
theorem idx9 : ∀ t : Fin grid0.N, win0_9.index t (0 : Fin 3) = t.val / 16 ∧ win0_9.index t (1 : Fin 3) = 0 ∧ win0_9.index t (2 : Fin 3) = 0 := by
  decide +kernel
/-- Block indices of the result. -/
theorem idx10 : ∀ t : Fin grid0.N, win0_10.index t (0 : Fin 2) = t.val ∧ win0_10.index t (1 : Fin 2) = 0 := by decide +kernel
/-- Every point writes its block back. -/
theorem flush10 : ∀ t : Fin grid0.N, win0_10.flush t = true := by decide +kernel

/-- A row of a point's block. -/
def row (t : Fin cfg0.N) (y : Fin 512) : Fin 16384 := ⟨512 * t.val + y.val, by
  have := lt_of_lt_of_eq t.isLt (show cfg0.N = 32 from N_0); omega⟩
/-- A row of a point's halo. -/
def before (t : Fin cfg0.N) (y : Fin 8) : Fin 16384 := ⟨512 * t.val + y.val - 8, by
  have := lt_of_lt_of_eq t.isLt (show cfg0.N = 32 from N_0); omega⟩

/-- The first mixer's output that a point reads. -/
theorem blk0 (t : Fin cfg0.N) (y : Fin 512) (k : Fin 1024) : (iblk m c 0 t : Vec Ideal S512x1024 .bf16) (ix2 y k)
    = A m c (ix3 (rb (row t y)) (rs (row t y)) k) := by
  obtain ⟨e0, e1⟩ := idx0 t
  have hV : V m c main_v0 = shapeCast S16384x1024 (A m c) shapeCasts_S2x8192x1024_S16384x1024 := by entry_read; rfl
  show V m c main_v0 (((cfg0.win 0).blk t).view.emb (ix2 y k)) = _
  rw [hV, ← merge_at (A m c) shapeCasts_S2x8192x1024_S16384x1024]
  congr 1
  funext a
  apply Fin.ext
  fin_cases a
  all_goals blk_simp [e0, e1]
  · show t.val * 512 + y.val = 512 * t.val + y.val
    omega
  · rfl

/-- The gate that a point reads. -/
theorem blk1 (t : Fin cfg0.N) (y : Fin 512) (k : Fin 1024) : (iblk m c 1 t : Vec Ideal S512x1024 .bf16) (ix2 y k)
    = P m c (ix3 (rb (row t y)) (rs (row t y)) (cb k)) := by
  obtain ⟨e0, e1⟩ := idx1 t
  have hV : V m c main_v1 = shapeCast S16384x6144 (P m c) shapeCasts_S2x8192x6144_S16384x6144 := by entry_read; rfl
  show V m c main_v1 (((cfg0.win 1).blk t).view.emb (ix2 y k)) = _
  rw [hV, ← merge_at (P m c) shapeCasts_S2x8192x6144_S16384x6144]
  congr 1
  funext a
  apply Fin.ext
  fin_cases a
  all_goals blk_simp [e0, e1]
  · show t.val * 512 + y.val = 512 * t.val + y.val
    omega
  · show 3 * 1024 + k.val = 3072 + k.val
    omega

/-- The input gate that a point reads. -/
theorem blk2 (t : Fin cfg0.N) (y : Fin 512) (k : Fin 1024) : (iblk m c 2 t : Vec Ideal S512x1024 .bf16) (ix2 y k)
    = P m c (ix3 (rb (row t y)) (rs (row t y)) (cc k)) := by
  obtain ⟨e0, e1⟩ := idx2 t
  have hV : V m c main_v1 = shapeCast S16384x6144 (P m c) shapeCasts_S2x8192x6144_S16384x6144 := by entry_read; rfl
  show V m c main_v1 (((cfg0.win 2).blk t).view.emb (ix2 y k)) = _
  rw [hV, ← merge_at (P m c) shapeCasts_S2x8192x6144_S16384x6144]
  congr 1
  funext a
  apply Fin.ext
  fin_cases a
  all_goals blk_simp [e0, e1]
  · show t.val * 512 + y.val = 512 * t.val + y.val
    omega
  · show 4 * 1024 + k.val = 4096 + k.val
    omega

/-- The input that a point reads. -/
theorem blk3 (t : Fin cfg0.N) (y : Fin 512) (k : Fin 1024) : (iblk m c 3 t : Vec Ideal S512x1024 .bf16) (ix2 y k)
    = P m c (ix3 (rb (row t y)) (rs (row t y)) (cx k)) := by
  obtain ⟨e0, e1⟩ := idx3 t
  have hV : V m c main_v1 = shapeCast S16384x6144 (P m c) shapeCasts_S2x8192x6144_S16384x6144 := by entry_read; rfl
  show V m c main_v1 (((cfg0.win 3).blk t).view.emb (ix2 y k)) = _
  rw [hV, ← merge_at (P m c) shapeCasts_S2x8192x6144_S16384x6144]
  congr 1
  funext a
  apply Fin.ext
  fin_cases a
  all_goals blk_simp [e0, e1]
  · show t.val * 512 + y.val = 512 * t.val + y.val
    omega
  · show 5 * 1024 + k.val = 5120 + k.val
    omega

/-- The input gate of the eight rows before, where there are any. -/
theorem blk4 (t : Fin cfg0.N) (ht : t.val ≠ 0) (y : Fin 8) (k : Fin 1024) : (iblk m c 4 t : Vec Ideal S8x1024 .bf16) (ix2 y k)
    = P m c (ix3 (rb (before t y)) (rs (before t y)) (cc k)) := by
  obtain ⟨e0, e1⟩ := idx4 t
  have hV : V m c main_v1 = shapeCast S16384x6144 (P m c) shapeCasts_S2x8192x6144_S16384x6144 := by entry_read; rfl
  show V m c main_v1 (((cfg0.win 4).blk t).view.emb (ix2 y k)) = _
  rw [hV, ← merge_at (P m c) shapeCasts_S2x8192x6144_S16384x6144]
  congr 1
  funext a
  apply Fin.ext
  fin_cases a
  all_goals blk_simp [e0, e1]
  · show (64 * t.val - 1) * 8 + y.val = 512 * t.val + y.val - 8
    omega
  · show 4 * 1024 + k.val = 4096 + k.val
    omega

/-- The input of the eight rows before, where there are any. -/
theorem blk5 (t : Fin cfg0.N) (ht : t.val ≠ 0) (y : Fin 8) (k : Fin 1024) : (iblk m c 5 t : Vec Ideal S8x1024 .bf16) (ix2 y k)
    = P m c (ix3 (rb (before t y)) (rs (before t y)) (cx k)) := by
  obtain ⟨e0, e1⟩ := idx5 t
  have hV : V m c main_v1 = shapeCast S16384x6144 (P m c) shapeCasts_S2x8192x6144_S16384x6144 := by entry_read; rfl
  show V m c main_v1 (((cfg0.win 5).blk t).view.emb (ix2 y k)) = _
  rw [hV, ← merge_at (P m c) shapeCasts_S2x8192x6144_S16384x6144]
  congr 1
  funext a
  apply Fin.ext
  fin_cases a
  all_goals blk_simp [e0, e1]
  · show (64 * t.val - 1) * 8 + y.val = 512 * t.val + y.val - 8
    omega
  · show 5 * 1024 + k.val = 5120 + k.val
    omega

/-- The taps that a point reads. -/
theorem blk6 (t : Fin cfg0.N) (j : Fin 3) (k : Fin 1024) : (iblk m c 6 t : Vec Ideal S3x1024 .f32) (ix2 j k)
    = T m c (ix3 (0 : Fin 1) j k) := by
  obtain ⟨e0, e1⟩ := idx6 t
  have hV : V m c main_v4 = shapeCast S3x1024 (T m c) shapeCasts_S1x3x1024_S3x1024 := by entry_read; rfl
  have hT : shapeCast S3x1024 (T m c) shapeCasts_S1x3x1024_S3x1024 (ix2 j k) = T m c (ix3 (0 : Fin 1) j k) := by pointwise
  show V m c main_v4 (((cfg0.win 6).blk t).view.emb (ix2 j k)) = _
  rw [hV, ← hT]
  congr 1
  funext a
  apply Fin.ext
  fin_cases a
  all_goals blk_simp [e0, e1]
  all_goals rfl

/-- The weights that a point reads. -/
theorem blk7 (t : Fin cfg0.N) (k : Fin 2048) (e : Fin 2048) : (iblk m c 7 t : Vec Ideal S1x2048x2048 .bf16) (ix3 (0 : Fin 1) k e)
    = W m c (ix3 (0 : Fin 1) k e) := by
  obtain ⟨e0, e1, e2⟩ := idx7 t
  have hV : V m c main_v2 = (truncf .bf16 (W m c) bitsLt_bf16_f32 : FVec Ideal S1x2048x2048 .bf16) := by entry_read; rfl
  show V m c main_v2 (((cfg0.win 7).blk t).view.emb (ix3 (0 : Fin 1) k e)) = _
  rw [hV]
  show W m c (((cfg0.win 7).blk t).view.emb (ix3 (0 : Fin 1) k e)) = _
  congr 1
  funext a
  apply Fin.ext
  fin_cases a
  all_goals blk_simp [e0, e1, e2]
  all_goals rfl

/-- The residual stream that a point reads. -/
theorem blk8 (t : Fin cfg0.N) (y : Fin 512) (e : Fin 2048) : (iblk m c 8 t : Vec Ideal S512x2048 .f32) (ix2 y e)
    = X m c (ix3 (rb (row t y)) (rs (row t y)) e) := by
  obtain ⟨e0, e1⟩ := idx8 t
  have hV : V m c main_v3 = shapeCast S16384x2048 (X m c) shapeCasts_S2x8192x2048_S16384x2048 := by entry_read; rfl
  show V m c main_v3 (((cfg0.win 8).blk t).view.emb (ix2 y e)) = _
  rw [hV, ← merge_at (X m c) shapeCasts_S2x8192x2048_S16384x2048]
  congr 1
  funext a
  apply Fin.ext
  fin_cases a
  all_goals blk_simp [e0, e1]
  · show t.val * 512 + y.val = 512 * t.val + y.val
    omega
  · rfl

/-- The modulation that a point reads. -/
theorem blk9 (t : Fin cfg0.N) (y : Fin 512) (j : Fin 6) (e : Fin 2048) : (iblk m c 9 t : Vec Ideal S1x6x2048 .f32) (ix3 (0 : Fin 1) j e)
    = M m c (ix3 (rb (row t y)) j e) := by
  obtain ⟨e0, e1, e2⟩ := idx9 t
  show V m c main_arg3 (((cfg0.win 9).blk t).view.emb (ix3 (0 : Fin 1) j e)) = _
  rw [V_main_arg3]
  show M m c _ = _
  congr 1
  funext a
  apply Fin.ext
  fin_cases a
  all_goals blk_simp [e0, e1, e2]
  · show t.val / 16 = (512 * t.val + y.val) / 8192
    omega
  all_goals rfl

/-- The gated input `d` rows back, of the tile or of its halo, is the one `d` positions back. -/
theorem back_at (t : Fin cfg0.N) (d : Fin 3) (y : Fin 512) (k : Fin 1024) :
    back (grid0.coords t 0) (iblk m c 2 t) (iblk m c 3 t) (iblk m c 4 t) (iblk m c 5 t) d y k
      = past (P m c) (rb (row t y)) (rs (row t y)) d k := by
  have hN := lt_of_lt_of_eq t.isLt (show cfg0.N = 32 from N_0)
  have ec : (grid0.coords t 0).val = t.val := coord t
  have hs : (rs (row t y)).val = (512 * t.val + y.val) % 8192 := rfl
  have spot : ∀ (q : Fin 16384) (h : q.val + d.val = 512 * t.val + y.val) (hd : d.val ≤ (rs (row t y)).val) (x : Fin 6144),
      ix3 (rb q) (rs q) x = ix3 (rb (row t y)) (⟨(rs (row t y)).val - d.val, by omega⟩ : Fin 8192) x := by
    intro q h hd x
    have e0 : rb q = rb (row t y) := Fin.ext (by show q.val / 8192 = (512 * t.val + y.val) / 8192; omega)
    have e1 : rs q = (⟨(rs (row t y)).val - d.val, by omega⟩ : Fin 8192) :=
      Fin.ext (by show q.val % 8192 = (512 * t.val + y.val) % 8192 - d.val; omega)
    rw [e0, e1]
  unfold back past
  by_cases h : d.val ≤ y.val
  · have hd : d.val ≤ (rs (row t y)).val := by omega
    rw [dif_pos h, if_pos hd]
    have hq : (row t (⟨y.val - d.val, by omega⟩ : Fin 512)).val + d.val = 512 * t.val + y.val := by
      show 512 * t.val + (y.val - d.val) + d.val = _
      omega
    exact congrArg₂ (· * ·) ((blk2 m c t _ k).trans (congrArg (P m c) (spot _ hq hd (cc k))))
      ((blk3 m c t _ k).trans (congrArg (P m c) (spot _ hq hd (cx k))))
  · rw [dif_neg h]
    by_cases h0 : t.val % 16 = 0
    · rw [if_pos (by omega), if_neg (by omega)]
    · have hd : d.val ≤ (rs (row t y)).val := by omega
      have ht : t.val ≠ 0 := by omega
      rw [if_neg (by omega), if_pos hd]
      have hq : (before t (⟨8 + y.val - d.val, by omega⟩ : Fin 8)).val + d.val = 512 * t.val + y.val := by
        show 512 * t.val + (8 + y.val - d.val) - 8 + d.val = _
        omega
      exact congrArg₂ (· * ·) ((blk4 m c t ht _ k).trans (congrArg (P m c) (spot _ hq hd (cc k))))
        ((blk5 m c t ht _ k).trans (congrArg (P m c) (spot _ hq hd (cx k))))

/-- What a point computes. -/
theorem tile_at (t : Fin cfg0.N) (y : Fin 512) (e : Fin 2048) :
    tile (iblk m c 0 t) (iblk m c 1 t) (iblk m c 2 t) (iblk m c 3 t) (iblk m c 4 t) (iblk m c 5 t) (iblk m c 6 t) (iblk m c 7 t) (iblk m c 8 t)
        (iblk m c 9 t) (grid0.coords t 0) y e
      = val (A m c) (P m c) (X m c) (M m c) (W m c) (T m c) (row t y) e := by
  unfold tile val conv
  refine congrArg₂ (· + ·) (blk8 m c t y e) (congrArg₂ (· * ·) (blk9 m c t y 2 e) (congrArg₂ (· + ·)
    (Finset.sum_congr rfl fun k _ => congrArg₂ (· * ·) (blk0 m c t y k) (blk7 m c t (lo k) e))
    (Finset.sum_congr rfl fun k _ => congrArg₂ (· * ·) (congrArg₂ (· * ·) (blk1 m c t y k) (congrArg₂ (· + ·) (congrArg₂ (· + ·)
      (congrArg₂ (· * ·) (blk6 m c t 2 k) ?_) (congrArg₂ (· * ·) (blk6 m c t 0 k) (back_at m c t 2 y k)))
      (congrArg₂ (· * ·) (blk6 m c t 1 k) (back_at m c t 1 y k)))) (blk7 m c t (hi k) e))))
  exact back_at m c t 0 y k

/-- The result, row by row. -/
theorem final_at (r : Fin 16384) (e : Fin 2048) :
    ((dats m 0 c).arrAt 10 cfg0.N : FVec Ideal S16384x2048 .f32) (ix2 r e)
      = val (A m c) (P m c) (X m c) (M m c) (W m c) (T m c) r e := by
  have hN : cfg0.N = 32 := N_0
  let t : Fin cfg0.N := ⟨r.val / 512, by rw [hN]; omega⟩
  let y : Fin 512 := ⟨r.val % 512, by omega⟩
  have hr : row t y = r := Fin.ext (by show 512 * (r.val / 512) + r.val % 512 = r.val; omega)
  obtain ⟨e0, e1⟩ := idx10 t
  have h := congrFun (blocks10 m c t (flush10 t)) (ix2 y e)
  rw [flushed10] at h
  have hemb : ((cfg0.win 10).blk t).view.emb (ix2 y e) = (ix2 r e : S16384x2048.Idx) := by
    funext a
    apply Fin.ext
    fin_cases a
    all_goals blk_simp [e0, e1]
    · show r.val / 512 * 512 + r.val % 512 = r.val
      omega
    · rfl
  have h' : ((dats m 0 c).arrAt 10 cfg0.N) (((cfg0.win 10).blk t).view.emb (ix2 y e)) = outsAt0 m c t (ix2 y e) := h
  have ho : outsAt0 m c t (ix2 y e) = val (A m c) (P m c) (X m c) (M m c) (W m c) (T m c) (row t y) e := by
    unfold outsAt0
    exact (out_at _ _ _ _ _ _ _ _ _ _ _ _ _ _ _ _ _ _ _ _ _ _ _ _ _ _ _ _ _ _ _ _ _ _ _ _ y e).trans (tile_at m c t y e)
  rw [hemb, ho, hr] at h'
  exact h'

/-- The two halves side by side, in the first. -/
theorem cat_lo (A B : FVec Ideal S2x8192x1024 .f32)
    (h : Shape.Concatenates [S2x8192x1024, S2x8192x1024] S2x8192x2048 2) (b : Fin 2) (s : Fin 8192) (k : Fin 1024) :
    concatenate S2x8192x2048 2 [⟨S2x8192x1024, A⟩, ⟨S2x8192x1024, B⟩] h (ix3 b s (lo k)) = A (ix3 b s k) :=
  concatenate_pair_apply_left _ A B h _ rfl _ (by intro a; fin_cases a <;> rfl)

/-- The two halves side by side, in the second. -/
theorem cat_hi (A B : FVec Ideal S2x8192x1024 .f32)
    (h : Shape.Concatenates [S2x8192x1024, S2x8192x1024] S2x8192x2048 2) (b : Fin 2) (s : Fin 8192) (k : Fin 1024) :
    concatenate S2x8192x2048 2 [⟨S2x8192x1024, A⟩, ⟨S2x8192x1024, B⟩] h (ix3 b s (hi k)) = B (ix3 b s k) :=
  concatenate_pair_apply_right _ A B h _ rfl rfl _ (by intro a ha; fin_cases a <;> first | rfl | exact absurd rfl ha)
    (by show k.val + 1024 = 1024 + k.val; omega)

/-- The reference's term, row by row, of the halves side by side. -/
theorem ref_at (C : FVec Ideal Cert.Reference8Ideal.S2x8192x2048 .f32) (X : FVec Ideal Cert.Reference8Ideal.S2x8192x2048 .f32)
    (M : FVec Ideal Cert.Reference8Ideal.S2x6x2048 .f32) (W : FVec Ideal Cert.Reference8Ideal.S1x2048x2048 .f32) (r : Fin 16384) (e : Fin 2048) :
    shapeCast Cert.Reference8Ideal.S16384x2048 (addf X (mulf (broadcastInDim Cert.Reference8Ideal.S2x8192x2048 ![0, 1, 2]
        Cert.Reference8Ideal.Gen.facts.bcast_S2x1x2048_S2x8192x2048_0_1_2 (extractStridedSlice Cert.Reference8Ideal.S2x1x2048 ![0, 2, 0] M
          Cert.Reference8Ideal.Gen.facts.slices_S2x6x2048_S2x1x2048_0_2_0))
      (Host.dotGeneral Cert.Reference8Ideal.dot_S2x8192x2048_S2048x2048_S2x8192x2048_2_0_01_1_n_n none C
        (shapeCast Cert.Reference8Ideal.S2048x2048 W Cert.Reference8Ideal.Gen.facts.shapeCasts_S1x2048x2048_S2048x2048))))
      Cert.Reference8Ideal.Gen.facts.shapeCasts_S2x8192x2048_S16384x2048 (ix2 r e)
      = X (ix3 (rb r) (rs r) e) + M (ix3 (rb r) (2 : Fin 6) e) * ∑ k : Fin 2048, C (ix3 (rb r) (rs r) k) * W (ix3 (0 : Fin 1) k e) := by
  refine (merge_at _ _ r e).trans ?_
  pointwise

/-- The reference's gated input. -/
abbrev refU (P : FVec Ideal Cert.Reference8Ideal.S2x8192x6144 .bf16) : FVec Ideal Cert.Reference8Ideal.S2x8192x1024 .f32 :=
  mulf (extf .f32 (extractStridedSlice Cert.Reference8Ideal.S2x8192x1024 ![0, 0, 4096] P
      Cert.Reference8Ideal.Gen.facts.slices_S2x8192x6144_S2x8192x1024_0_0_4096) Cert.Reference8Ideal.Gen.facts.bitsLt_bf16_f32)
    (extf .f32 (extractStridedSlice Cert.Reference8Ideal.S2x8192x1024 ![0, 0, 5120] P
      Cert.Reference8Ideal.Gen.facts.slices_S2x8192x6144_S2x8192x1024_0_0_5120) Cert.Reference8Ideal.Gen.facts.bitsLt_bf16_f32)

/-- The reference's gated input after two positions of zeros. -/
abbrev refPad (P : FVec Ideal Cert.Reference8Ideal.S2x8192x6144 .bf16) : FVec Ideal Cert.Reference8Ideal.S2x8194x1024 .f32 :=
  concatenate Cert.Reference8Ideal.S2x8194x1024 1 [⟨Cert.Reference8Ideal.S2x2x1024,
      (broadcastInDim Cert.Reference8Ideal.S2x2x1024 ![] Cert.Reference8Ideal.Gen.facts.bcast_S_S2x2x1024
        (constant (F := Ideal) Cert.Reference8Ideal.S_ .f32 0x00000000#32))⟩, ⟨Cert.Reference8Ideal.S2x8192x1024, refU P⟩]
    Cert.Reference8Ideal.Gen.facts.concatenates_S2x2x1024_S2x8192x1024_S2x8194x1024_d1

/-- The gated input at a position. -/
theorem refU_at (P : FVec Ideal Cert.Reference8Ideal.S2x8192x6144 .bf16) (b : Fin 2) (s : Fin 8192) (k : Fin 1024) :
    refU P (ix3 b s k) = P (ix3 b s (cc k)) * P (ix3 b s (cx k)) := by
  unfold refU
  pointwise
  rfl

/-- Two positions of padding before a sequence: the padding. -/
theorem pad_lo (Z : FVec Ideal Cert.Reference8Ideal.S2x2x1024 .f32) (U : FVec Ideal Cert.Reference8Ideal.S2x8192x1024 .f32)
    (h : Shape.Concatenates [Cert.Reference8Ideal.S2x2x1024, Cert.Reference8Ideal.S2x8192x1024] Cert.Reference8Ideal.S2x8194x1024 1)
    (b : Fin 2) (j : Fin 8194) (q : Fin 2) (hq : q.val = j.val) (k : Fin 1024) :
    concatenate Cert.Reference8Ideal.S2x8194x1024 1 [⟨Cert.Reference8Ideal.S2x2x1024, Z⟩, ⟨Cert.Reference8Ideal.S2x8192x1024, U⟩] h (ix3 b j k)
      = Z (ix3 b q k) :=
  concatenate_pair_apply_left _ Z U h (ix3 b j k) rfl (ix3 b q k) (by intro a; fin_cases a <;> first | rfl | exact hq)

/-- Two positions of padding before a sequence: the sequence. -/
theorem pad_hi (Z : FVec Ideal Cert.Reference8Ideal.S2x2x1024 .f32) (U : FVec Ideal Cert.Reference8Ideal.S2x8192x1024 .f32)
    (h : Shape.Concatenates [Cert.Reference8Ideal.S2x2x1024, Cert.Reference8Ideal.S2x8192x1024] Cert.Reference8Ideal.S2x8194x1024 1)
    (b : Fin 2) (j : Fin 8194) (q : Fin 8192) (hq : q.val + 2 = j.val) (k : Fin 1024) :
    concatenate Cert.Reference8Ideal.S2x8194x1024 1 [⟨Cert.Reference8Ideal.S2x2x1024, Z⟩, ⟨Cert.Reference8Ideal.S2x8192x1024, U⟩] h (ix3 b j k)
      = U (ix3 b q k) :=
  concatenate_pair_apply_right _ Z U h (ix3 b j k) rfl rfl (ix3 b q k) (by intro a ha; fin_cases a <;> first | rfl | exact absurd rfl ha) hq

/-- The padded input, two positions on: the gated input `d` positions back. -/
theorem refPad_at (P : FVec Ideal Cert.Reference8Ideal.S2x8192x6144 .bf16) (b : Fin 2) (s : Fin 8192) (d : Fin 3) (k : Fin 1024) :
    refPad P (ix3 b (⟨s.val + 2 - d.val, by omega⟩ : Fin 8194) k) = past P b s d k := by
  unfold refPad past
  by_cases h : d.val ≤ s.val
  · rw [if_pos h]
    exact (pad_hi _ (refU P) _ b _ (⟨s.val - d.val, by omega⟩ : Fin 8192) (by show s.val - d.val + 2 = s.val + 2 - d.val; omega) k).trans
      (refU_at P b _ k)
  · rw [if_neg h]
    refine (pad_lo _ (refU P) _ b _ (⟨s.val + 2 - d.val, by omega⟩ : Fin 2) rfl k).trans ?_
    pointwise

/-- A tap of the reference's, at every position. -/
abbrev refTap (o : Fin 2 → Nat) (h : Cert.Reference8Ideal.S3x1024.Slices o Cert.Reference8Ideal.S1x1024)
    (T : FVec Ideal Cert.Reference8Ideal.S1x3x1024 .f32) : FVec Ideal Cert.Reference8Ideal.S2x8192x1024 .f32 :=
  broadcastInDim Cert.Reference8Ideal.S2x8192x1024 ![0, 1, 2] Cert.Reference8Ideal.Gen.facts.bcast_S1x1x1024_S2x8192x1024_0_1_2
    (broadcastInDim Cert.Reference8Ideal.S1x1x1024 ![2] Cert.Reference8Ideal.Gen.facts.bcast_S1024_S1x1x1024_2
      (shapeCast Cert.Reference8Ideal.S1024 (extractStridedSlice Cert.Reference8Ideal.S1x1024 o
        (shapeCast Cert.Reference8Ideal.S3x1024 T Cert.Reference8Ideal.Gen.facts.shapeCasts_S1x3x1024_S3x1024) h)
        Cert.Reference8Ideal.Gen.facts.shapeCasts_S1x1024_S1024))

/-- The reference's gated convolution, as its run leaves it. -/
abbrev refConv (P : FVec Ideal Cert.Reference8Ideal.S2x8192x6144 .bf16) (T : FVec Ideal Cert.Reference8Ideal.S1x3x1024 .f32) :
    FVec Ideal Cert.Reference8Ideal.S2x8192x1024 .f32 :=
  mulf (extf .f32 (extractStridedSlice Cert.Reference8Ideal.S2x8192x1024 ![0, 0, 3072] P
      Cert.Reference8Ideal.Gen.facts.slices_S2x8192x6144_S2x8192x1024_0_0_3072) Cert.Reference8Ideal.Gen.facts.bitsLt_bf16_f32)
    (addf (addf
      (mulf (extractStridedSlice Cert.Reference8Ideal.S2x8192x1024 ![0, 0, 0] (refPad P)
        Cert.Reference8Ideal.Gen.facts.slices_S2x8194x1024_S2x8192x1024_0_0_0) (refTap ![0, 0] Cert.Reference8Ideal.Gen.facts.slices_S3x1024_S1x1024_0_0 T))
      (mulf (extractStridedSlice Cert.Reference8Ideal.S2x8192x1024 ![0, 1, 0] (refPad P)
        Cert.Reference8Ideal.Gen.facts.slices_S2x8194x1024_S2x8192x1024_0_1_0) (refTap ![1, 0] Cert.Reference8Ideal.Gen.facts.slices_S3x1024_S1x1024_1_0 T)))
      (mulf (extractStridedSlice Cert.Reference8Ideal.S2x8192x1024 ![0, 2, 0] (refPad P)
        Cert.Reference8Ideal.Gen.facts.slices_S2x8194x1024_S2x8192x1024_0_2_0) (refTap ![2, 0] Cert.Reference8Ideal.Gen.facts.slices_S3x1024_S1x1024_2_0 T)))

/-- The first tap's value. -/
theorem tap0 (T : FVec Ideal Cert.Reference8Ideal.S1x3x1024 .f32) (b : Fin 2) (s : Fin 8192) (k : Fin 1024) :
    refTap ![0, 0] Cert.Reference8Ideal.Gen.facts.slices_S3x1024_S1x1024_0_0 T (ix3 b s k) = T (ix3 (0 : Fin 1) (0 : Fin 3) k) := by
  unfold refTap
  pointwise
/-- The second tap's value. -/
theorem tap1 (T : FVec Ideal Cert.Reference8Ideal.S1x3x1024 .f32) (b : Fin 2) (s : Fin 8192) (k : Fin 1024) :
    refTap ![1, 0] Cert.Reference8Ideal.Gen.facts.slices_S3x1024_S1x1024_1_0 T (ix3 b s k) = T (ix3 (0 : Fin 1) (1 : Fin 3) k) := by
  unfold refTap
  pointwise
/-- The third tap's value. -/
theorem tap2 (T : FVec Ideal Cert.Reference8Ideal.S1x3x1024 .f32) (b : Fin 2) (s : Fin 8192) (k : Fin 1024) :
    refTap ![2, 0] Cert.Reference8Ideal.Gen.facts.slices_S3x1024_S1x1024_2_0 T (ix3 b s k) = T (ix3 (0 : Fin 1) (2 : Fin 3) k) := by
  unfold refTap
  pointwise

/-- The padded input cut at an offset. -/
theorem cut_at (U : FVec Ideal Cert.Reference8Ideal.S2x8194x1024 .f32) (o : Fin 3 → Nat) (d : Fin 3) (ho : o = ![0, 2 - d.val, 0])
    (h : Cert.Reference8Ideal.S2x8194x1024.Slices o Cert.Reference8Ideal.S2x8192x1024) (b : Fin 2) (s : Fin 8192) (k : Fin 1024) :
    extractStridedSlice Cert.Reference8Ideal.S2x8192x1024 o U h (ix3 b s k) = U (ix3 b (⟨s.val + 2 - d.val, by omega⟩ : Fin 8194) k) := by
  subst ho
  refine congrArg U ?_
  funext a
  apply Fin.ext
  fin_cases a
  · show 0 + b.val = b.val
    omega
  · show 2 - d.val + s.val = s.val + 2 - d.val
    omega
  · show 0 + k.val = k.val
    omega

/-- The reference's gated convolution is the kernel's: the same products, added in another order. -/
theorem refConv_at (P : FVec Ideal Cert.Reference8Ideal.S2x8192x6144 .bf16) (T : FVec Ideal Cert.Reference8Ideal.S1x3x1024 .f32)
    (b : Fin 2) (s : Fin 8192) (k : Fin 1024) : refConv P T (ix3 b s k) = conv P T b s k := by
  have hg : (extf .f32 (extractStridedSlice Cert.Reference8Ideal.S2x8192x1024 ![0, 0, 3072] P
      Cert.Reference8Ideal.Gen.facts.slices_S2x8192x6144_S2x8192x1024_0_0_3072) Cert.Reference8Ideal.Gen.facts.bitsLt_bf16_f32
      : FVec Ideal Cert.Reference8Ideal.S2x8192x1024 .f32) (ix3 b s k) = P (ix3 b s (cb k)) := by
    pointwise
    rfl
  refine Eq.trans (congrArg₂ (· * ·) hg (congrArg₂ (· + ·) (congrArg₂ (· + ·)
    (congrArg₂ (· * ·) ((cut_at _ _ 2 rfl _ b s k).trans (refPad_at P b s 2 k)) (tap0 T b s k))
    (congrArg₂ (· * ·) ((cut_at _ _ 1 rfl _ b s k).trans (refPad_at P b s 1 k)) (tap1 T b s k)))
    (congrArg₂ (· * ·) ((cut_at _ _ 0 rfl _ b s k).trans (refPad_at P b s 0 k)) (tap2 T b s k)))) ?_
  unfold conv
  refine congrArg₂ (· * ·) rfl ?_
  rw [mul_comm (past P b s 2 k), mul_comm (past P b s 1 k), mul_comm (past P b s 0 k), add_comm, ← add_assoc]

/-- The reference's frame: its run read at the arguments; it has no semaphore. -/
theorem frame_ref : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run (F := Ideal) m g)

/-- The value claim: both programs end with `val` at every row and column. -/
theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => (dats m 0 c).arrAt 10 cfg0.N, run_blocks (F := Ideal) m g, ?_⟩
  refine (θ_run _ _ _).mono (fun _ h c => ⟨(h c).1.trans ?_, (h c).2⟩) (Cert.Reference8Ideal.Value.run (F := Ideal) m' g')
  obtain ⟨h0, h1, h2, h3, h4, h5⟩ := hagree c
  rw [h0, h1, h2, h3, h4, h5]
  refine rows_ext _ _ fun r e => Eq.trans ?_ (final_at m c r e).symm
  refine (ref_at _ (X m c) (M m c) (W m c) r e).trans ?_
  unfold val
  rw [sum_halves]
  refine congrArg₂ (· + ·) rfl (congrArg₂ (· * ·) rfl (congrArg₂ (· + ·)
    (Finset.sum_congr rfl fun k _ => congrArg₂ (· * ·) ?_ rfl) (Finset.sum_congr rfl fun k _ => congrArg₂ (· * ·) ?_ rfl)))
  · exact cat_lo (A m c) _ _ (rb r) (rs r) k
  · exact (cat_hi _ (refConv (P m c) (T m c)) _ (rb r) (rs r) k).trans (refConv_at (P m c) (T m c) (rb r) (rs r) k)

end Cert.Proof.OutConv

end
-- ==== Proof.Modulation.lean ====
/- The modulation of every layer: `silu(c) @ w + b`, on eight rows. -/
module

public import proofs.«01_k».proof.Defs
public import proofs.«01_k».proof.Proof.Gen.Kernel9Ideal
public import proofs.«01_k».proof.Proof.Gen.Reference9Ideal
public import proofs.«01_k».proof.Proof.Gen.Kernel9Ideal.Value
public import proofs.«01_k».proof.Proof.Gen.Reference9Ideal.Run
public import Idealize.ShloMosaic.Lib.Pointwise
public import Idealize.ShloMosaic.Lib.Claim
public import Idealize.ShloMosaic.Lib.Pipeline.ValueKit

@[expose] public section

set_option maxRecDepth 16384

noncomputable section

namespace Cert.Proof.Modulation

open Idealize.ShloMosaic Idealize.ShloMosaic.TcCoe Idealize.SL.Sem Cert.Kernel9Ideal Cert.Kernel9Ideal.Gen Cert.Kernel9Ideal.Value

variable (m : (ℓ : Loc nD τ sig) → Buf (Elt Ideal) ℓ) (c : Dev nD)

/-- The conditioning, in eight rows. -/
abbrev C : FVec Ideal S8x2048 .f32 := m ((c : Thread nD τ).loc main_arg0)
/-- The weights of both layers. -/
abbrev W : FVec Ideal S2x2048x12288 .f32 := m ((c : Thread nD τ).loc main_arg1)
/-- The biases of both layers. -/
abbrev B : FVec Ideal S2x12288 .f32 := m ((c : Thread nD τ).loc main_arg2)

/-- The result of a layer, a row and a column. -/
def val (C : FVec Ideal S8x2048 .f32) (W : FVec Ideal S2x2048x12288 .f32) (B : FVec Ideal S2x12288 .f32) (l : Fin 2) (r : Fin 8)
    (e : Fin 12288) : EReal :=
  ∑ k : Fin 2048, C (ix2 r k) * Ideal.logistic (C (ix2 r k)) * W (ix3 l k e) + B (ix2 l e)

/-- Block indices of the conditioning. -/
theorem idx0 : ∀ t : Fin grid0.N, win0_0.index t (0 : Fin 2) = 0 ∧ win0_0.index t (1 : Fin 2) = 0 := by decide +kernel
/-- Block indices of the weights: the layer, and twelve blocks of columns. -/
theorem idx1 : ∀ t : Fin grid0.N, win0_1.index t (0 : Fin 3) = t.val / 12 ∧ win0_1.index t (1 : Fin 3) = 0
    ∧ win0_1.index t (2 : Fin 3) = t.val % 12 := by decide +kernel
/-- Block indices of the biases. -/
theorem idx2 : ∀ t : Fin grid0.N, win0_2.index t (0 : Fin 3) = t.val / 12 ∧ win0_2.index t (1 : Fin 3) = 0
    ∧ win0_2.index t (2 : Fin 3) = t.val % 12 := by decide +kernel
/-- Block indices of the result. -/
theorem idx3 : ∀ t : Fin grid0.N, win0_3.index t (0 : Fin 3) = t.val / 12 ∧ win0_3.index t (1 : Fin 3) = 0
    ∧ win0_3.index t (2 : Fin 3) = t.val % 12 := by decide +kernel
/-- Every point writes its block back. -/
theorem flush3 : ∀ t : Fin grid0.N, win0_3.flush t = true := by decide +kernel

/-- A point's layer. -/
def layer (t : Fin cfg0.N) : Fin 2 := ⟨t.val / 12, by
  have := lt_of_lt_of_eq t.isLt (show cfg0.N = 24 from N_0); omega⟩
/-- A column of a point's block. -/
def col (t : Fin cfg0.N) (y : Fin 1024) : Fin 12288 := ⟨1024 * (t.val % 12) + y.val, by omega⟩

/-- The conditioning that a point reads. -/
theorem blk0 (t : Fin cfg0.N) (r : Fin 8) (k : Fin 2048) : (iblk m c 0 t : Vec Ideal S8x2048 .f32) (ix2 r k) = C m c (ix2 r k) := by
  obtain ⟨e0, e1⟩ := idx0 t
  show V m c main_arg0 (((cfg0.win 0).blk t).view.emb (ix2 r k)) = _
  rw [V_main_arg0]
  show C m c _ = _
  congr 1
  funext a
  apply Fin.ext
  fin_cases a
  all_goals blk_simp [e0, e1]
  all_goals rfl

/-- The weights that a point reads. -/
theorem blk1 (t : Fin cfg0.N) (k : Fin 2048) (y : Fin 1024) : (iblk m c 1 t : Vec Ideal S1x2048x1024 .f32) (ix3 (0 : Fin 1) k y)
    = W m c (ix3 (layer t) k (col t y)) := by
  obtain ⟨e0, e1, e2⟩ := idx1 t
  show V m c main_arg1 (((cfg0.win 1).blk t).view.emb (ix3 (0 : Fin 1) k y)) = _
  rw [V_main_arg1]
  show W m c _ = _
  congr 1
  funext a
  apply Fin.ext
  fin_cases a
  all_goals blk_simp [e0, e1, e2]
  · rfl
  · rfl
  · show t.val % 12 * 1024 + y.val = 1024 * (t.val % 12) + y.val
    omega

/-- The biases that a point reads. -/
theorem blk2 (t : Fin cfg0.N) (y : Fin 1024) : (iblk m c 2 t : Vec Ideal S1x1x1024 .f32) (ix3 (0 : Fin 1) (0 : Fin 1) y)
    = B m c (ix2 (layer t) (col t y)) := by
  obtain ⟨e0, e1, e2⟩ := idx2 t
  have hV : V m c main_v0 = shapeCast S2x1x12288 (B m c) shapeCasts_S2x12288_S2x1x12288 := by entry_read; rfl
  have hB : shapeCast S2x1x12288 (B m c) shapeCasts_S2x12288_S2x1x12288 (ix3 (layer t) (0 : Fin 1) (col t y))
      = B m c (ix2 (layer t) (col t y)) := by pointwise
  show V m c main_v0 (((cfg0.win 2).blk t).view.emb (ix3 (0 : Fin 1) (0 : Fin 1) y)) = _
  rw [hV, ← hB]
  congr 1
  funext a
  apply Fin.ext
  fin_cases a
  all_goals blk_simp [e0, e1, e2]
  · rfl
  · show t.val % 12 * 1024 + y.val = 1024 * (t.val % 12) + y.val
    omega

/-- What a point computes. -/
theorem out_at (t : Fin cfg0.N) (r : Fin 8) (y : Fin 1024) :
    out0_3 (iblk m c 0 t) (iblk m c 1 t) (iblk m c 2 t) (ix3 (0 : Fin 1) r y) = val (C m c) (W m c) (B m c) (layer t) r (col t y) := by
  unfold out0_3
  rw [View.canon_unit_zero (by funext a; fin_cases a <;> rfl)]
  unfold k0_pay1 val
  pointwise
  exact congrArg₂ (· + ·) (Finset.sum_congr rfl fun k _ => congrArg₂ (· * ·)
    (congrArg₂ (· * ·) (blk0 m c t r k) (congrArg Ideal.logistic (blk0 m c t r k))) (blk1 m c t k y)) (blk2 m c t y)

/-- The result, layer by layer and row by row. -/
theorem final_at (l : Fin 2) (r : Fin 8) (e : Fin 12288) :
    ((dats m 0 c).arrAt 3 cfg0.N : FVec Ideal S2x8x12288 .f32) (ix3 l r e) = val (C m c) (W m c) (B m c) l r e := by
  have hN : cfg0.N = 24 := N_0
  let t : Fin cfg0.N := ⟨12 * l.val + e.val / 1024, by rw [hN]; omega⟩
  let y : Fin 1024 := ⟨e.val % 1024, by omega⟩
  have ht : t.val = 12 * l.val + e.val / 1024 := rfl
  have hl : layer t = l := Fin.ext (by show (12 * l.val + e.val / 1024) / 12 = l.val; omega)
  have he : col t y = e := Fin.ext (by show 1024 * ((12 * l.val + e.val / 1024) % 12) + e.val % 1024 = e.val; omega)
  obtain ⟨e0, e1, e2⟩ := idx3 t
  have h := congrFun (blocks3 m c t (flush3 t)) (ix3 (0 : Fin 1) r y)
  rw [flushed3] at h
  have hemb : ((cfg0.win 3).blk t).view.emb (ix3 (0 : Fin 1) r y) = (ix3 l r e : S2x8x12288.Idx) := by
    funext a
    apply Fin.ext
    fin_cases a
    all_goals blk_simp [e0, e1, e2]
    · show (12 * l.val + e.val / 1024) / 12 = l.val
      omega
    · rfl
    · show (12 * l.val + e.val / 1024) % 12 * 1024 + e.val % 1024 = e.val
      omega
  have h' : ((dats m 0 c).arrAt 3 cfg0.N) (((cfg0.win 3).blk t).view.emb (ix3 (0 : Fin 1) r y))
      = out0_3 (iblk m c 0 t) (iblk m c 1 t) (iblk m c 2 t) (ix3 (0 : Fin 1) r y) := h
  rw [hemb, out_at, hl, he] at h'
  exact h'

/-- The conditioning's activation in the reference: `c * (1 / (1 + exp(-c)))`. -/
abbrev refCond (C : FVec Ideal Cert.Reference9Ideal.S8x2048 .f32) : FVec Ideal Cert.Reference9Ideal.S8x2048 .f32 :=
  mulf C (Host.divf (broadcastInDim Cert.Reference9Ideal.S8x2048 ![] Cert.Reference9Ideal.Gen.facts.bcast_S_S8x2048
      (constant (F := Ideal) Cert.Reference9Ideal.S_ .f32 0x3F800000#32))
    (addf (broadcastInDim Cert.Reference9Ideal.S8x2048 ![] Cert.Reference9Ideal.Gen.facts.bcast_S_S8x2048
      (constant (F := Ideal) Cert.Reference9Ideal.S_ .f32 0x3F800000#32)) (Host.exp (Host.negf C))))

/-- A layer of the reference's. -/
abbrev refLayer (o : Nat) (hw : Cert.Reference9Ideal.S2x2048x12288.Slices ![o, 0, 0] Cert.Reference9Ideal.S1x2048x12288)
    (hb : Cert.Reference9Ideal.S2x12288.Slices ![o, 0] Cert.Reference9Ideal.S1x12288) (C : FVec Ideal Cert.Reference9Ideal.S8x2048 .f32)
    (W : FVec Ideal Cert.Reference9Ideal.S2x2048x12288 .f32) (B : FVec Ideal Cert.Reference9Ideal.S2x12288 .f32) :
    FVec Ideal Cert.Reference9Ideal.S1x8x12288 .f32 :=
  broadcastInDim Cert.Reference9Ideal.S1x8x12288 ![1, 2] Cert.Reference9Ideal.Gen.facts.bcast_S8x12288_S1x8x12288_1_2
    (addf (Host.dotGeneral Cert.Reference9Ideal.dot_S8x2048_S2048x12288_S8x12288_1_0_0_1_n_n none (refCond C)
        (shapeCast Cert.Reference9Ideal.S2048x12288 (extractStridedSlice Cert.Reference9Ideal.S1x2048x12288 ![o, 0, 0] W hw)
          Cert.Reference9Ideal.Gen.facts.shapeCasts_S1x2048x12288_S2048x12288))
      (broadcastInDim Cert.Reference9Ideal.S8x12288 ![0, 1] Cert.Reference9Ideal.Gen.facts.bcast_S1x12288_S8x12288_0_1
        (broadcastInDim Cert.Reference9Ideal.S1x12288 ![1] Cert.Reference9Ideal.Gen.facts.bcast_S12288_S1x12288_1
          (shapeCast Cert.Reference9Ideal.S12288 (extractStridedSlice Cert.Reference9Ideal.S1x12288 ![o, 0] B hb)
            Cert.Reference9Ideal.Gen.facts.shapeCasts_S1x12288_S12288))))

/-- The reference's activation of an element is the kernel's. -/
theorem act (x : EReal) : x * Ideal.div 1 (1 + Ideal.exp (-x)) = x * Ideal.logistic x := rfl

/-- The first layer of the reference's. -/
theorem ref0 (C : FVec Ideal Cert.Reference9Ideal.S8x2048 .f32) (W : FVec Ideal Cert.Reference9Ideal.S2x2048x12288 .f32)
    (B : FVec Ideal Cert.Reference9Ideal.S2x12288 .f32) (r : Fin 8) (e : Fin 12288) :
    refLayer 0 Cert.Reference9Ideal.Gen.facts.slices_S2x2048x12288_S1x2048x12288_0_0_0
      Cert.Reference9Ideal.Gen.facts.slices_S2x12288_S1x12288_0_0 C W B (ix3 (0 : Fin 1) r e) = val C W B 0 r e := by
  unfold refLayer val
  pointwise
  exact congrArg₂ (· + ·) (Finset.sum_congr rfl fun k _ => congrArg₂ (· * ·) (act (C (ix2 r k))) rfl) rfl

/-- The second layer of the reference's. -/
theorem ref1 (C : FVec Ideal Cert.Reference9Ideal.S8x2048 .f32) (W : FVec Ideal Cert.Reference9Ideal.S2x2048x12288 .f32)
    (B : FVec Ideal Cert.Reference9Ideal.S2x12288 .f32) (r : Fin 8) (e : Fin 12288) :
    refLayer 1 Cert.Reference9Ideal.Gen.facts.slices_S2x2048x12288_S1x2048x12288_1_0_0
      Cert.Reference9Ideal.Gen.facts.slices_S2x12288_S1x12288_1_0 C W B (ix3 (0 : Fin 1) r e) = val C W B 1 r e := by
  unfold refLayer val
  pointwise
  exact congrArg₂ (· + ·) (Finset.sum_congr rfl fun k _ => congrArg₂ (· * ·) (act (C (ix2 r k))) rfl) rfl

/-- Two layers stacked: the first. -/
theorem stack0 (Y Z : FVec Ideal Cert.Reference9Ideal.S1x8x12288 .f32)
    (h : Shape.Concatenates [Cert.Reference9Ideal.S1x8x12288, Cert.Reference9Ideal.S1x8x12288] Cert.Reference9Ideal.S2x8x12288 0)
    (r : Fin 8) (e : Fin 12288) :
    concatenate Cert.Reference9Ideal.S2x8x12288 0 [⟨Cert.Reference9Ideal.S1x8x12288, Y⟩, ⟨Cert.Reference9Ideal.S1x8x12288, Z⟩] h
      (ix3 (0 : Fin 2) r e) = Y (ix3 (0 : Fin 1) r e) :=
  concatenate_pair_apply_left _ Y Z h (ix3 (0 : Fin 2) r e) rfl (ix3 (0 : Fin 1) r e) (by intro a; fin_cases a <;> rfl)

/-- Two layers stacked: the second. -/
theorem stack1 (Y Z : FVec Ideal Cert.Reference9Ideal.S1x8x12288 .f32)
    (h : Shape.Concatenates [Cert.Reference9Ideal.S1x8x12288, Cert.Reference9Ideal.S1x8x12288] Cert.Reference9Ideal.S2x8x12288 0)
    (r : Fin 8) (e : Fin 12288) :
    concatenate Cert.Reference9Ideal.S2x8x12288 0 [⟨Cert.Reference9Ideal.S1x8x12288, Y⟩, ⟨Cert.Reference9Ideal.S1x8x12288, Z⟩] h
      (ix3 (1 : Fin 2) r e) = Z (ix3 (0 : Fin 1) r e) :=
  concatenate_pair_apply_right _ Y Z h (ix3 (1 : Fin 2) r e) rfl rfl (ix3 (0 : Fin 1) r e)
    (by intro a ha; fin_cases a <;> first | rfl | exact absurd rfl ha) rfl

/-- The reference's frame: its run read at the arguments; it has no semaphore. -/
theorem frame_ref : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run (F := Ideal) m g)

/-- The value claim: both programs end with `val` at every layer, row and column. -/
theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => (dats m 0 c).arrAt 3 cfg0.N, run_blocks (F := Ideal) m g, ?_⟩
  refine (θ_run _ _ _).mono (fun _ h c => ⟨(h c).1.trans ?_, (h c).2⟩) (Cert.Reference9Ideal.Value.run (F := Ideal) m' g')
  obtain ⟨h0, h1, h2⟩ := hagree c
  rw [h0, h1, h2]
  funext i
  rw [eq_ix3 i]
  refine Eq.trans ?_ (final_at m c (i 0) (i 1) (i 2)).symm
  have hi : i 0 = (0 : Fin 2) ∨ i 0 = (1 : Fin 2) := by
    have h : (i 0).val < 2 := (i 0).isLt
    rcases Nat.lt_or_ge (i 0).val 1 with h1 | h1
    · exact Or.inl (Fin.ext (by show (i 0).val = 0; omega))
    · exact Or.inr (Fin.ext (by show (i 0).val = 1; omega))
  rcases hi with hi | hi
  · rw [hi]
    exact (stack0 _ _ _ (i 1) (i 2)).trans (ref0 (C m c) (W m c) (B m c) (i 1) (i 2))
  · rw [hi]
    exact (stack1 _ _ _ (i 1) (i 2)).trans (ref1 (C m c) (W m c) (B m c) (i 1) (i 2))

end Cert.Proof.Modulation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelInv
public import proofs.«01_k».proof.Proof.RefInv
public import proofs.«01_k».proof.Proof.PreFinite
public import proofs.«01_k».proof.Proof.PreScaled
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Frame
public import proofs.«01_k».proof.Proof.Gen.Reference2Ideal.Value
public import proofs.«01_k».proof.Proof.Up
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.InProj
public import proofs.«01_k».proof.Proof.Down
public import proofs.«01_k».proof.Proof.DownFinal
public import proofs.«01_k».proof.Proof.OutProj
public import proofs.«01_k».proof.Proof.OutConv
public import proofs.«01_k».proof.Proof.Modulation
public import Idealize.ShloMosaic.Adequacy
public import Idealize.ShloMosaic.Init

@[expose] public section

noncomputable section

namespace Cert.Proof

open Idealize.ShloMosaic Idealize.SL.Sem

/-- The reference's frame: its run read at the arguments; it has no semaphore. -/
theorem frame_ref : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's states, trip by trip, on one device. -/
def refState (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => RefRun.initState m c
  | n + 1 => Cert.ReferenceIdeal.Step.step n (refState m c n)

/-- Two result arrays that agree at every token, head and column are equal. -/
theorem result_ext (x y : FVec Ideal ⟨3, ![2, 8192, 1024]⟩ .bf16)
    (h : ∀ (b : Fin 2) (t : Fin 8192) (n : Fin 4) (e : Fin 256),
      x (ix3 b t (⟨256 * n.val + e.val, by omega⟩ : Fin 1024)) = y (ix3 b t (⟨256 * n.val + e.val, by omega⟩ : Fin 1024))) :
    x = y := by
  funext i
  rw [eq_ix3 i]
  have hk : (i 2).val < 1024 := (i 2).isLt
  have e2 : (⟨256 * ((i 2).val / 256) + (i 2).val % 256, by omega⟩ : Fin 1024) = i 2 := Fin.ext (by
    show 256 * ((i 2).val / 256) + (i 2).val % 256 = (i 2).val
    omega)
  have := h (i 0) (i 1) ⟨(i 2).val / 256, by omega⟩ ⟨(i 2).val % 256, by omega⟩
  rw [e2] at this
  exact this

/-- The value claim: the shared result is the kernel's, and the reference's equals it at every index. -/
theorem algebraic : Cert.algebraic_KernelIdeal_ReferenceIdeal_pre_finite (hKernelIdeal := Cert.KernelIdeal.Gen.facts)
    (hReferenceIdeal := Cert.ReferenceIdeal.Gen.facts) (hPre_finite := PreFinite.facts) := by
  intro m g m' g' hpre hagree
  refine ⟨fun c => Cert.KernelIdeal.Value.G5 m c, Cert.KernelIdeal.Value.run (F := Ideal) m g, ?_⟩
  have hrun := RefRun.run_iter (F := Ideal) m' g' (refState m') (fun c => rfl) (fun c n => rfl)
  refine (θ_run _ _ _).mono (fun _ h c => ⟨(h c).1.trans ?_, (h c).2⟩) hrun
  haveI := PreFinite.facts
  have H : Seqs.IsReal (KInv.PP m c) (KInv.GG m c) := PreFinite.isReal (hpre c)
  have hinit : refState m' c 0 = Cert.ReferenceIdeal.Step.init (KInv.PP m c) (KInv.GG m c) := by
    show Cert.ReferenceIdeal.Step.init _ _ = _
    rw [(hagree c).1, (hagree c).2]
  have hA := RefInv.after_all H (refState m' c) hinit (fun n => rfl) 128 le_rfl
  rw [(hagree c).1]
  refine result_ext _ _ fun b t n e => ?_
  exact (RefInv.result_at H _ hA b t n e).trans (KInv.G5_at H b t n e).symm

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  PreFinite.facts, PreScaled.facts,
  fun m g _ => Cert.Kernel.Gen.frame m g,
  fun m g _ => Cert.KernelIdeal.Gen.frame m g,
  fun m g _ => Cert.KernelIdeal.Gen.frame m g,
  frame_ref,
  fun m g _ => frame_ref m g trivial,
  fun m g _ => Cert.Kernel2.Gen.frame m g,
  fun m g _ => Cert.Kernel2Ideal.Gen.frame m g,
  fun m g _ => Cert.Kernel2Ideal.Gen.frame m g,
  fun m g _ => Cert.Reference2Ideal.Gen.frame m g,
  fun m g _ => Cert.Reference2Ideal.Gen.frame m g,
  fun m g _ => Cert.Kernel3.Gen.frame m g,
  fun m g _ => Cert.Kernel3Ideal.Gen.frame m g,
  InProj.frame_ref,
  fun m g _ => Cert.Kernel5.Gen.frame m g,
  fun m g _ => Cert.Kernel5Ideal.Gen.frame m g,
  Down.frame_ref,
  fun m g _ => Cert.Kernel6.Gen.frame m g,
  fun m g _ => Cert.Kernel6Ideal.Gen.frame m g,
  DownFinal.frame_ref,
  fun m g _ => Cert.Kernel7.Gen.frame m g,
  fun m g _ => Cert.Kernel7Ideal.Gen.frame m g,
  OutProj.frame_ref,
  fun m g _ => Cert.Kernel8.Gen.frame m g,
  fun m g _ => Cert.Kernel8Ideal.Gen.frame m g,
  OutConv.frame_ref,
  fun m g _ => Cert.Kernel9.Gen.frame m g,
  fun m g _ => Cert.Kernel9Ideal.Gen.frame m g,
  Modulation.frame_ref,
  IdealRules.named_const.statement Cert.KernelIdeal.κ "mask" .f32 0xF149F2CA#32 ⊥ rfl,
  algebraic,
  IdealRules.named_const.statement Cert.Kernel2Ideal.κ "inv448" .f32 0x3B124925#32 ((448⁻¹ : ℝ) : EReal) rfl,
  Up.algebraic,
  trivial,
  InProj.algebraic,
  trivial,
  Down.algebraic,
  trivial,
  DownFinal.algebraic,
  trivial,
  OutProj.algebraic,
  trivial,
  OutConv.algebraic,
  trivial,
  Modulation.algebraic⟩

end Cert.Proof

end
